-- ==== Defs.lean ====
def Pre_Kernel [hPre_plan : Cert.Pre_plan.Facts] (m : (ℓ : Loc Cert.Kernel.nD Cert.Kernel.τ Cert.Kernel.sig) → Buf (Elt Bits) ℓ) : Prop :=
  ∀ c : Dev Cert.Kernel.nD,
    (Cert.Pre_plan.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_plan : Cert.Pre_plan.Facts] (m : (ℓ : Loc Cert.KernelIdeal.nD Cert.KernelIdeal.τ Cert.KernelIdeal.sig) → Buf (Elt Ideal) ℓ) : Prop :=
  ∀ c : Dev Cert.KernelIdeal.nD,
    (Cert.Pre_plan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_RefIdeal (m : (ℓ : Loc Cert.RefIdeal.nD Cert.RefIdeal.τ Cert.RefIdeal.sig) → Buf (Elt Ideal) ℓ) : Prop :=
  True

def Pre_RefIdeal_plan [hPre_plan : Cert.Pre_plan.Facts] (m : (ℓ : Loc Cert.RefIdeal.nD Cert.RefIdeal.τ Cert.RefIdeal.sig) → Buf (Elt Ideal) ℓ) : Prop :=
  ∀ c : Dev Cert.RefIdeal.nD,
    (Cert.Pre_plan.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_FfnTwo (m : (ℓ : Loc Cert.FfnTwo.nD Cert.FfnTwo.τ Cert.FfnTwo.sig) → Buf (Elt Bits) ℓ) : Prop :=
  True

def Pre_FfnTwoIdeal (m : (ℓ : Loc Cert.FfnTwoIdeal.nD Cert.FfnTwoIdeal.τ Cert.FfnTwoIdeal.sig) → Buf (Elt Ideal) ℓ) : Prop :=
  True

def Pre_FfnTwoRefIdeal (m : (ℓ : Loc Cert.FfnTwoRefIdeal.nD Cert.FfnTwoRefIdeal.τ Cert.FfnTwoRefIdeal.sig) → Buf (Elt Ideal) ℓ) : Prop :=
  True

def Pre_ExpertThree [hPre_plan : Cert.Pre_plan.Facts] (m : (ℓ : Loc Cert.ExpertThree.nD Cert.ExpertThree.τ Cert.ExpertThree.sig) → Buf (Elt Bits) ℓ) : Prop :=
  ∀ c : Dev Cert.ExpertThree.nD,
    (Cert.Pre_plan.fn (F := Bits) (m ((c.tc : Thread Cert.ExpertThree.nD Cert.ExpertThree.τ).loc Cert.ExpertThree.main_arg0)) (m ((c.tc : Thread Cert.ExpertThree.nD Cert.ExpertThree.τ).loc Cert.ExpertThree.main_arg1)) (m ((c.tc : Thread Cert.ExpertThree.nD Cert.ExpertThree.τ).loc Cert.ExpertThree.main_arg2)) (m ((c.tc : Thread Cert.ExpertThree.nD Cert.ExpertThree.τ).loc Cert.ExpertThree.main_arg3)) (m ((c.tc : Thread Cert.ExpertThree.nD Cert.ExpertThree.τ).loc Cert.ExpertThree.main_arg4)) (m ((c.tc : Thread Cert.ExpertThree.nD Cert.ExpertThree.τ).loc Cert.ExpertThree.main_arg5))) = (fun _ => 1#1)

def Pre_ExpertThreeIdeal [hPre_plan : Cert.Pre_plan.Facts] (m : (ℓ : Loc Cert.ExpertThreeIdeal.nD Cert.ExpertThreeIdeal.τ Cert.ExpertThreeIdeal.sig) → Buf (Elt Ideal) ℓ) : Prop :=
  ∀ c : Dev Cert.ExpertThreeIdeal.nD,
    (Cert.Pre_plan.fn (F := Ideal) (m ((c.tc : Thread Cert.ExpertThreeIdeal.nD Cert.ExpertThreeIdeal.τ).loc Cert.ExpertThreeIdeal.main_arg0)) (m ((c.tc : Thread Cert.ExpertThreeIdeal.nD Cert.ExpertThreeIdeal.τ).loc Cert.ExpertThreeIdeal.main_arg1)) (m ((c.tc : Thread Cert.ExpertThreeIdeal.nD Cert.ExpertThreeIdeal.τ).loc Cert.ExpertThreeIdeal.main_arg2)) (m ((c.tc : Thread Cert.ExpertThreeIdeal.nD Cert.ExpertThreeIdeal.τ).loc Cert.ExpertThreeIdeal.main_arg3)) (m ((c.tc : Thread Cert.ExpertThreeIdeal.nD Cert.ExpertThreeIdeal.τ).loc Cert.ExpertThreeIdeal.main_arg4)) (m ((c.tc : Thread Cert.ExpertThreeIdeal.nD Cert.ExpertThreeIdeal.τ).loc Cert.ExpertThreeIdeal.main_arg5))) = (fun _ => 1#1)

def Pre_ExpertThreeRefIdeal (m : (ℓ : Loc Cert.ExpertThreeRefIdeal.nD Cert.ExpertThreeRefIdeal.τ Cert.ExpertThreeRefIdeal.sig) → Buf (Elt Ideal) ℓ) : Prop :=
  True

def Pre_ExpertThreeRefIdeal_plan [hPre_plan : Cert.Pre_plan.Facts] (m : (ℓ : Loc Cert.ExpertThreeRefIdeal.nD Cert.ExpertThreeRefIdeal.τ Cert.ExpertThreeRefIdeal.sig) → Buf (Elt Ideal) ℓ) : Prop :=
  ∀ c : Dev Cert.ExpertThreeRefIdeal.nD,
    (Cert.Pre_plan.fn (F := Ideal) (m ((c.tc : Thread Cert.ExpertThreeRefIdeal.nD Cert.ExpertThreeRefIdeal.τ).loc Cert.ExpertThreeRefIdeal.main_arg0)) (m ((c.tc : Thread Cert.ExpertThreeRefIdeal.nD Cert.ExpertThreeRefIdeal.τ).loc Cert.ExpertThreeRefIdeal.main_arg1)) (m ((c.tc : Thread Cert.ExpertThreeRefIdeal.nD Cert.ExpertThreeRefIdeal.τ).loc Cert.ExpertThreeRefIdeal.main_arg2)) (m ((c.tc : Thread Cert.ExpertThreeRefIdeal.nD Cert.ExpertThreeRefIdeal.τ).loc Cert.ExpertThreeRefIdeal.main_arg3)) (m ((c.tc : Thread Cert.ExpertThreeRefIdeal.nD Cert.ExpertThreeRefIdeal.τ).loc Cert.ExpertThreeRefIdeal.main_arg4)) (m ((c.tc : Thread Cert.ExpertThreeRefIdeal.nD Cert.ExpertThreeRefIdeal.τ).loc Cert.ExpertThreeRefIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Kernel [hKernel : Cert.Kernel.Facts] [hPre_plan : Cert.Pre_plan.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_plan : Cert.Pre_plan.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5))
      ∧ r.2.sem = fun _ => 0)

def quiescent_RefIdeal_pre_plan [hRefIdeal : Cert.RefIdeal.Facts] [hPre_plan : Cert.Pre_plan.Facts] : Prop :=
  ∀ (m : (ℓ : Loc Cert.RefIdeal.nD Cert.RefIdeal.τ Cert.RefIdeal.sig) → Buf (Elt Ideal) ℓ) (g : Dev Cert.RefIdeal.nD → PrngReg), Pre_RefIdeal_plan m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_FfnTwo [hFfnTwo : Cert.FfnTwo.Facts] : Prop :=
  ∀ (m : (ℓ : Loc Cert.FfnTwo.nD Cert.FfnTwo.τ Cert.FfnTwo.sig) → Buf (Elt Bits) ℓ) (g : Dev Cert.FfnTwo.nD → PrngReg), Pre_FfnTwo m →
    θ_run (Cert.FfnTwo.defs (F := Bits)) (onTc (τ := Cert.FfnTwo.τ) (Cert.FfnTwo.main (F := Bits))) ⟨m, fun _ => 0, g⟩ (fun r => (∀ c : Dev Cert.FfnTwo.nD,
      r.2.mem ((c.tc : Thread Cert.FfnTwo.nD Cert.FfnTwo.τ).loc Cert.FfnTwo.main_arg0) = m ((c.tc : Thread Cert.FfnTwo.nD Cert.FfnTwo.τ).loc Cert.FfnTwo.main_arg0)
      ∧ r.2.mem ((c.tc : Thread Cert.FfnTwo.nD Cert.FfnTwo.τ).loc Cert.FfnTwo.main_arg1) = m ((c.tc : Thread Cert.FfnTwo.nD Cert.FfnTwo.τ).loc Cert.FfnTwo.main_arg1)
      ∧ r.2.mem ((c.tc : Thread Cert.FfnTwo.nD Cert.FfnTwo.τ).loc Cert.FfnTwo.main_arg2) = m ((c.tc : Thread Cert.FfnTwo.nD Cert.FfnTwo.τ).loc Cert.FfnTwo.main_arg2)
      ∧ r.2.mem ((c.tc : Thread Cert.FfnTwo.nD Cert.FfnTwo.τ).loc Cert.FfnTwo.main_arg3) = m ((c.tc : Thread Cert.FfnTwo.nD Cert.FfnTwo.τ).loc Cert.FfnTwo.main_arg3)
      ∧ r.2.mem ((c.tc : Thread Cert.FfnTwo.nD Cert.FfnTwo.τ).loc Cert.FfnTwo.main_arg4) = m ((c.tc : Thread Cert.FfnTwo.nD Cert.FfnTwo.τ).loc Cert.FfnTwo.main_arg4))
      ∧ r.2.sem = fun _ => 0)

def quiescent_FfnTwoIdeal [hFfnTwoIdeal : Cert.FfnTwoIdeal.Facts] : Prop :=
  ∀ (m : (ℓ : Loc Cert.FfnTwoIdeal.nD Cert.FfnTwoIdeal.τ Cert.FfnTwoIdeal.sig) → Buf (Elt Ideal) ℓ) (g : Dev Cert.FfnTwoIdeal.nD → PrngReg), Pre_FfnTwoIdeal m →
    θ_run (Cert.FfnTwoIdeal.defs (F := Ideal)) (onTc (τ := Cert.FfnTwoIdeal.τ) (Cert.FfnTwoIdeal.main (F := Ideal))) ⟨m, fun _ => 0, g⟩ (fun r => (∀ c : Dev Cert.FfnTwoIdeal.nD,
      r.2.mem ((c.tc : Thread Cert.FfnTwoIdeal.nD Cert.FfnTwoIdeal.τ).loc Cert.FfnTwoIdeal.main_arg0) = m ((c.tc : Thread Cert.FfnTwoIdeal.nD Cert.FfnTwoIdeal.τ).loc Cert.FfnTwoIdeal.main_arg0)
      ∧ r.2.mem ((c.tc : Thread Cert.FfnTwoIdeal.nD Cert.FfnTwoIdeal.τ).loc Cert.FfnTwoIdeal.main_arg1) = m ((c.tc : Thread Cert.FfnTwoIdeal.nD Cert.FfnTwoIdeal.τ).loc Cert.FfnTwoIdeal.main_arg1)
      ∧ r.2.mem ((c.tc : Thread Cert.FfnTwoIdeal.nD Cert.FfnTwoIdeal.τ).loc Cert.FfnTwoIdeal.main_arg2) = m ((c.tc : Thread Cert.FfnTwoIdeal.nD Cert.FfnTwoIdeal.τ).loc Cert.FfnTwoIdeal.main_arg2)
      ∧ r.2.mem ((c.tc : Thread Cert.FfnTwoIdeal.nD Cert.FfnTwoIdeal.τ).loc Cert.FfnTwoIdeal.main_arg3) = m ((c.tc : Thread Cert.FfnTwoIdeal.nD Cert.FfnTwoIdeal.τ).loc Cert.FfnTwoIdeal.main_arg3)
      ∧ r.2.mem ((c.tc : Thread Cert.FfnTwoIdeal.nD Cert.FfnTwoIdeal.τ).loc Cert.FfnTwoIdeal.main_arg4) = m ((c.tc : Thread Cert.FfnTwoIdeal.nD Cert.FfnTwoIdeal.τ).loc Cert.FfnTwoIdeal.main_arg4))
      ∧ r.2.sem = fun _ => 0)

def quiescent_FfnTwoRefIdeal [hFfnTwoRefIdeal : Cert.FfnTwoRefIdeal.Facts] : Prop :=
  ∀ (m : (ℓ : Loc Cert.FfnTwoRefIdeal.nD Cert.FfnTwoRefIdeal.τ Cert.FfnTwoRefIdeal.sig) → Buf (Elt Ideal) ℓ) (g : Dev Cert.FfnTwoRefIdeal.nD → PrngReg), Pre_FfnTwoRefIdeal m →
    θ_run (Cert.FfnTwoRefIdeal.defs (F := Ideal)) (onTc (τ := Cert.FfnTwoRefIdeal.τ) (Cert.FfnTwoRefIdeal.main (F := Ideal))) ⟨m, fun _ => 0, g⟩ (fun r => (∀ c : Dev Cert.FfnTwoRefIdeal.nD,
      r.2.mem ((c.tc : Thread Cert.FfnTwoRefIdeal.nD Cert.FfnTwoRefIdeal.τ).loc Cert.FfnTwoRefIdeal.main_arg0) = m ((c.tc : Thread Cert.FfnTwoRefIdeal.nD Cert.FfnTwoRefIdeal.τ).loc Cert.FfnTwoRefIdeal.main_arg0)
      ∧ r.2.mem ((c.tc : Thread Cert.FfnTwoRefIdeal.nD Cert.FfnTwoRefIdeal.τ).loc Cert.FfnTwoRefIdeal.main_arg1) = m ((c.tc : Thread Cert.FfnTwoRefIdeal.nD Cert.FfnTwoRefIdeal.τ).loc Cert.FfnTwoRefIdeal.main_arg1)
      ∧ r.2.mem ((c.tc : Thread Cert.FfnTwoRefIdeal.nD Cert.FfnTwoRefIdeal.τ).loc Cert.FfnTwoRefIdeal.main_arg2) = m ((c.tc : Thread Cert.FfnTwoRefIdeal.nD Cert.FfnTwoRefIdeal.τ).loc Cert.FfnTwoRefIdeal.main_arg2)
      ∧ r.2.mem ((c.tc : Thread Cert.FfnTwoRefIdeal.nD Cert.FfnTwoRefIdeal.τ).loc Cert.FfnTwoRefIdeal.main_arg3) = m ((c.tc : Thread Cert.FfnTwoRefIdeal.nD Cert.FfnTwoRefIdeal.τ).loc Cert.FfnTwoRefIdeal.main_arg3)
      ∧ r.2.mem ((c.tc : Thread Cert.FfnTwoRefIdeal.nD Cert.FfnTwoRefIdeal.τ).loc Cert.FfnTwoRefIdeal.main_arg4) = m ((c.tc : Thread Cert.FfnTwoRefIdeal.nD Cert.FfnTwoRefIdeal.τ).loc Cert.FfnTwoRefIdeal.main_arg4))
      ∧ r.2.sem = fun _ => 0)

def quiescent_ExpertThree [hExpertThree : Cert.ExpertThree.Facts] [hPre_plan : Cert.Pre_plan.Facts] : Prop :=
  ∀ (m : (ℓ : Loc Cert.ExpertThree.nD Cert.ExpertThree.τ Cert.ExpertThree.sig) → Buf (Elt Bits) ℓ) (g : Dev Cert.ExpertThree.nD → PrngReg), Pre_ExpertThree m →
    θ_run (Cert.ExpertThree.defs (F := Bits)) (onTc (τ := Cert.ExpertThree.τ) (Cert.ExpertThree.main (F := Bits))) ⟨m, fun _ => 0, g⟩ (fun r => (∀ c : Dev Cert.ExpertThree.nD,
      r.2.mem ((c.tc : Thread Cert.ExpertThree.nD Cert.ExpertThree.τ).loc Cert.ExpertThree.main_arg0) = m ((c.tc : Thread Cert.ExpertThree.nD Cert.ExpertThree.τ).loc Cert.ExpertThree.main_arg0)
      ∧ r.2.mem ((c.tc : Thread Cert.ExpertThree.nD Cert.ExpertThree.τ).loc Cert.ExpertThree.main_arg1) = m ((c.tc : Thread Cert.ExpertThree.nD Cert.ExpertThree.τ).loc Cert.ExpertThree.main_arg1)
      ∧ r.2.mem ((c.tc : Thread Cert.ExpertThree.nD Cert.ExpertThree.τ).loc Cert.ExpertThree.main_arg2) = m ((c.tc : Thread Cert.ExpertThree.nD Cert.ExpertThree.τ).loc Cert.ExpertThree.main_arg2)
      ∧ r.2.mem ((c.tc : Thread Cert.ExpertThree.nD Cert.ExpertThree.τ).loc Cert.ExpertThree.main_arg3) = m ((c.tc : Thread Cert.ExpertThree.nD Cert.ExpertThree.τ).loc Cert.ExpertThree.main_arg3)
      ∧ r.2.mem ((c.tc : Thread Cert.ExpertThree.nD Cert.ExpertThree.τ).loc Cert.ExpertThree.main_arg4) = m ((c.tc : Thread Cert.ExpertThree.nD Cert.ExpertThree.τ).loc Cert.ExpertThree.main_arg4)
      ∧ r.2.mem ((c.tc : Thread Cert.ExpertThree.nD Cert.ExpertThree.τ).loc Cert.ExpertThree.main_arg5) = m ((c.tc : Thread Cert.ExpertThree.nD Cert.ExpertThree.τ).loc Cert.ExpertThree.main_arg5))
      ∧ r.2.sem = fun _ => 0)

def quiescent_ExpertThreeIdeal [hExpertThreeIdeal : Cert.ExpertThreeIdeal.Facts] [hPre_plan : Cert.Pre_plan.Facts] : Prop :=
  ∀ (m : (ℓ : Loc Cert.ExpertThreeIdeal.nD Cert.ExpertThreeIdeal.τ Cert.ExpertThreeIdeal.sig) → Buf (Elt Ideal) ℓ) (g : Dev Cert.ExpertThreeIdeal.nD → PrngReg), Pre_ExpertThreeIdeal m →
    θ_run (Cert.ExpertThreeIdeal.defs (F := Ideal)) (onTc (τ := Cert.ExpertThreeIdeal.τ) (Cert.ExpertThreeIdeal.main (F := Ideal))) ⟨m, fun _ => 0, g⟩ (fun r => (∀ c : Dev Cert.ExpertThreeIdeal.nD,
      r.2.mem ((c.tc : Thread Cert.ExpertThreeIdeal.nD Cert.ExpertThreeIdeal.τ).loc Cert.ExpertThreeIdeal.main_arg0) = m ((c.tc : Thread Cert.ExpertThreeIdeal.nD Cert.ExpertThreeIdeal.τ).loc Cert.ExpertThreeIdeal.main_arg0)
      ∧ r.2.mem ((c.tc : Thread Cert.ExpertThreeIdeal.nD Cert.ExpertThreeIdeal.τ).loc Cert.ExpertThreeIdeal.main_arg1) = m ((c.tc : Thread Cert.ExpertThreeIdeal.nD Cert.ExpertThreeIdeal.τ).loc Cert.ExpertThreeIdeal.main_arg1)
      ∧ r.2.mem ((c.tc : Thread Cert.ExpertThreeIdeal.nD Cert.ExpertThreeIdeal.τ).loc Cert.ExpertThreeIdeal.main_arg2) = m ((c.tc : Thread Cert.ExpertThreeIdeal.nD Cert.ExpertThreeIdeal.τ).loc Cert.ExpertThreeIdeal.main_arg2)
      ∧ r.2.mem ((c.tc : Thread Cert.ExpertThreeIdeal.nD Cert.ExpertThreeIdeal.τ).loc Cert.ExpertThreeIdeal.main_arg3) = m ((c.tc : Thread Cert.ExpertThreeIdeal.nD Cert.ExpertThreeIdeal.τ).loc Cert.ExpertThreeIdeal.main_arg3)
      ∧ r.2.mem ((c.tc : Thread Cert.ExpertThreeIdeal.nD Cert.ExpertThreeIdeal.τ).loc Cert.ExpertThreeIdeal.main_arg4) = m ((c.tc : Thread Cert.ExpertThreeIdeal.nD Cert.ExpertThreeIdeal.τ).loc Cert.ExpertThreeIdeal.main_arg4)
      ∧ r.2.mem ((c.tc : Thread Cert.ExpertThreeIdeal.nD Cert.ExpertThreeIdeal.τ).loc Cert.ExpertThreeIdeal.main_arg5) = m ((c.tc : Thread Cert.ExpertThreeIdeal.nD Cert.ExpertThreeIdeal.τ).loc Cert.ExpertThreeIdeal.main_arg5))
      ∧ r.2.sem = fun _ => 0)

def quiescent_ExpertThreeRefIdeal [hExpertThreeRefIdeal : Cert.ExpertThreeRefIdeal.Facts] : Prop :=
  ∀ (m : (ℓ : Loc Cert.ExpertThreeRefIdeal.nD Cert.ExpertThreeRefIdeal.τ Cert.ExpertThreeRefIdeal.sig) → Buf (Elt Ideal) ℓ) (g : Dev Cert.ExpertThreeRefIdeal.nD → PrngReg), Pre_ExpertThreeRefIdeal m →
    θ_run (Cert.ExpertThreeRefIdeal.defs (F := Ideal)) (onTc (τ := Cert.ExpertThreeRefIdeal.τ) (Cert.ExpertThreeRefIdeal.main (F := Ideal))) ⟨m, fun _ => 0, g⟩ (fun r => (∀ c : Dev Cert.ExpertThreeRefIdeal.nD,
      r.2.mem ((c.tc : Thread Cert.ExpertThreeRefIdeal.nD Cert.ExpertThreeRefIdeal.τ).loc Cert.ExpertThreeRefIdeal.main_arg0) = m ((c.tc : Thread Cert.ExpertThreeRefIdeal.nD Cert.ExpertThreeRefIdeal.τ).loc Cert.ExpertThreeRefIdeal.main_arg0)
      ∧ r.2.mem ((c.tc : Thread Cert.ExpertThreeRefIdeal.nD Cert.ExpertThreeRefIdeal.τ).loc Cert.ExpertThreeRefIdeal.main_arg1) = m ((c.tc : Thread Cert.ExpertThreeRefIdeal.nD Cert.ExpertThreeRefIdeal.τ).loc Cert.ExpertThreeRefIdeal.main_arg1)
      ∧ r.2.mem ((c.tc : Thread Cert.ExpertThreeRefIdeal.nD Cert.ExpertThreeRefIdeal.τ).loc Cert.ExpertThreeRefIdeal.main_arg2) = m ((c.tc : Thread Cert.ExpertThreeRefIdeal.nD Cert.ExpertThreeRefIdeal.τ).loc Cert.ExpertThreeRefIdeal.main_arg2)
      ∧ r.2.mem ((c.tc : Thread Cert.ExpertThreeRefIdeal.nD Cert.ExpertThreeRefIdeal.τ).loc Cert.ExpertThreeRefIdeal.main_arg3) = m ((c.tc : Thread Cert.ExpertThreeRefIdeal.nD Cert.ExpertThreeRefIdeal.τ).loc Cert.ExpertThreeRefIdeal.main_arg3)
      ∧ r.2.mem ((c.tc : Thread Cert.ExpertThreeRefIdeal.nD Cert.ExpertThreeRefIdeal.τ).loc Cert.ExpertThreeRefIdeal.main_arg4) = m ((c.tc : Thread Cert.ExpertThreeRefIdeal.nD Cert.ExpertThreeRefIdeal.τ).loc Cert.ExpertThreeRefIdeal.main_arg4)
      ∧ r.2.mem ((c.tc : Thread Cert.ExpertThreeRefIdeal.nD Cert.ExpertThreeRefIdeal.τ).loc Cert.ExpertThreeRefIdeal.main_arg5) = m ((c.tc : Thread Cert.ExpertThreeRefIdeal.nD Cert.ExpertThreeRefIdeal.τ).loc Cert.ExpertThreeRefIdeal.main_arg5))
      ∧ r.2.sem = fun _ => 0)

def quiescent_ExpertThreeRefIdeal_pre_plan [hExpertThreeRefIdeal : Cert.ExpertThreeRefIdeal.Facts] [hPre_plan : Cert.Pre_plan.Facts] : Prop :=
  ∀ (m : (ℓ : Loc Cert.ExpertThreeRefIdeal.nD Cert.ExpertThreeRefIdeal.τ Cert.ExpertThreeRefIdeal.sig) → Buf (Elt Ideal) ℓ) (g : Dev Cert.ExpertThreeRefIdeal.nD → PrngReg), Pre_ExpertThreeRefIdeal_plan m →
    θ_run (Cert.ExpertThreeRefIdeal.defs (F := Ideal)) (onTc (τ := Cert.ExpertThreeRefIdeal.τ) (Cert.ExpertThreeRefIdeal.main (F := Ideal))) ⟨m, fun _ => 0, g⟩ (fun r => (∀ c : Dev Cert.ExpertThreeRefIdeal.nD,
      r.2.mem ((c.tc : Thread Cert.ExpertThreeRefIdeal.nD Cert.ExpertThreeRefIdeal.τ).loc Cert.ExpertThreeRefIdeal.main_arg0) = m ((c.tc : Thread Cert.ExpertThreeRefIdeal.nD Cert.ExpertThreeRefIdeal.τ).loc Cert.ExpertThreeRefIdeal.main_arg0)
      ∧ r.2.mem ((c.tc : Thread Cert.ExpertThreeRefIdeal.nD Cert.ExpertThreeRefIdeal.τ).loc Cert.ExpertThreeRefIdeal.main_arg1) = m ((c.tc : Thread Cert.ExpertThreeRefIdeal.nD Cert.ExpertThreeRefIdeal.τ).loc Cert.ExpertThreeRefIdeal.main_arg1)
      ∧ r.2.mem ((c.tc : Thread Cert.ExpertThreeRefIdeal.nD Cert.ExpertThreeRefIdeal.τ).loc Cert.ExpertThreeRefIdeal.main_arg2) = m ((c.tc : Thread Cert.ExpertThreeRefIdeal.nD Cert.ExpertThreeRefIdeal.τ).loc Cert.ExpertThreeRefIdeal.main_arg2)
      ∧ r.2.mem ((c.tc : Thread Cert.ExpertThreeRefIdeal.nD Cert.ExpertThreeRefIdeal.τ).loc Cert.ExpertThreeRefIdeal.main_arg3) = m ((c.tc : Thread Cert.ExpertThreeRefIdeal.nD Cert.ExpertThreeRefIdeal.τ).loc Cert.ExpertThreeRefIdeal.main_arg3)
      ∧ r.2.mem ((c.tc : Thread Cert.ExpertThreeRefIdeal.nD Cert.ExpertThreeRefIdeal.τ).loc Cert.ExpertThreeRefIdeal.main_arg4) = m ((c.tc : Thread Cert.ExpertThreeRefIdeal.nD Cert.ExpertThreeRefIdeal.τ).loc Cert.ExpertThreeRefIdeal.main_arg4)
      ∧ r.2.mem ((c.tc : Thread Cert.ExpertThreeRefIdeal.nD Cert.ExpertThreeRefIdeal.τ).loc Cert.ExpertThreeRefIdeal.main_arg5) = m ((c.tc : Thread Cert.ExpertThreeRefIdeal.nD Cert.ExpertThreeRefIdeal.τ).loc Cert.ExpertThreeRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def preserves_Kernel_KernelIdeal : Prop :=
  True

def algebraic_KernelIdeal_RefIdeal_on_token_rows [hKernelIdeal : Cert.KernelIdeal.Facts] [hRefIdeal : Cert.RefIdeal.Facts] [hPre_plan : Cert.Pre_plan.Facts] [hOn_token_rows : Cert.On_token_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)
      ∧ m' ((c.tc : Thread Cert.RefIdeal.nD Cert.RefIdeal.τ).loc Cert.RefIdeal.main_arg4) = m ((c.tc : Thread Cert.KernelIdeal.nD Cert.KernelIdeal.τ).loc Cert.KernelIdeal.main_arg4)
      ∧ m' ((c.tc : Thread Cert.RefIdeal.nD Cert.RefIdeal.τ).loc Cert.RefIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![262144, 128]⟩ : Shape).Idx, (Cert.On_token_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          (∀ i : (⟨2, ![262144, 128]⟩ : Shape).Idx, (Cert.On_token_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.RefIdeal.nD Cert.RefIdeal.τ).loc Cert.RefIdeal.main_v109) i = v0 c i)
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v92) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v20_0)) (v1 : (c : Dev Cert.QkvIdeal.nD) → Buf (Elt Ideal) ((c.tc : Thread Cert.QkvIdeal.nD Cert.QkvIdeal.τ).loc Cert.QkvIdeal.main_v20_1)) (v2 : (c : Dev Cert.QkvIdeal.nD) → Buf (Elt Ideal) ((c.tc : Thread Cert.QkvIdeal.nD Cert.QkvIdeal.τ).loc Cert.QkvIdeal.main_v20_2)) (v3 : (c : Dev Cert.QkvIdeal.nD) → Buf (Elt Ideal) ((c.tc : Thread Cert.QkvIdeal.nD Cert.QkvIdeal.τ).loc Cert.QkvIdeal.main_v22)) (v4 : (c : Dev Cert.QkvIdeal.nD) → Buf (Elt Ideal) ((c.tc : Thread Cert.QkvIdeal.nD Cert.QkvIdeal.τ).loc Cert.QkvIdeal.main_v24)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v20_0) = v0 c
          ∧ r.2.mem ((c.tc : Thread Cert.QkvIdeal.nD Cert.QkvIdeal.τ).loc Cert.QkvIdeal.main_v20_1) = v1 c
          ∧ r.2.mem ((c.tc : Thread Cert.QkvIdeal.nD Cert.QkvIdeal.τ).loc Cert.QkvIdeal.main_v20_2) = v2 c
          ∧ r.2.mem ((c.tc : Thread Cert.QkvIdeal.nD Cert.QkvIdeal.τ).loc Cert.QkvIdeal.main_v22) = v3 c
          ∧ r.2.mem ((c.tc : Thread Cert.QkvIdeal.nD Cert.QkvIdeal.τ).loc Cert.QkvIdeal.main_v24) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v42) = v0 c
          ∧ r.2.mem ((c.tc : Thread Cert.QkvRefIdeal.nD Cert.QkvRefIdeal.τ).loc Cert.QkvRefIdeal.main_v46) = v1 c
          ∧ r.2.mem ((c.tc : Thread Cert.QkvRefIdeal.nD Cert.QkvRefIdeal.τ).loc Cert.QkvRefIdeal.main_v50) = v2 c
          ∧ r.2.mem ((c.tc : Thread Cert.QkvRefIdeal.nD Cert.QkvRefIdeal.τ).loc Cert.QkvRefIdeal.main_v51) = v3 c
          ∧ r.2.mem ((c.tc : Thread Cert.QkvRefIdeal.nD Cert.QkvRefIdeal.τ).loc Cert.QkvRefIdeal.main_v52) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_FfnTwo_FfnTwoIdeal : Prop :=
  True

def algebraic_FfnTwoIdeal_FfnTwoRefIdeal [hFfnTwoIdeal : Cert.FfnTwoIdeal.Facts] [hFfnTwoRefIdeal : Cert.FfnTwoRefIdeal.Facts] : Prop :=
  ∀ (m : (ℓ : Loc Cert.FfnTwoIdeal.nD Cert.FfnTwoIdeal.τ Cert.FfnTwoIdeal.sig) → Buf (Elt Ideal) ℓ) (g : Dev Cert.FfnTwoIdeal.nD → PrngReg)
    (m' : (ℓ : Loc Cert.FfnTwoRefIdeal.nD Cert.FfnTwoRefIdeal.τ Cert.FfnTwoRefIdeal.sig) → Buf (Elt Ideal) ℓ) (g' : Dev Cert.FfnTwoRefIdeal.nD → PrngReg), Pre_FfnTwoIdeal m →
    (∀ c : Dev Cert.FfnTwoIdeal.nD,
      m' ((c.tc : Thread Cert.FfnTwoRefIdeal.nD Cert.FfnTwoRefIdeal.τ).loc Cert.FfnTwoRefIdeal.main_arg0) = m ((c.tc : Thread Cert.FfnTwoIdeal.nD Cert.FfnTwoIdeal.τ).loc Cert.FfnTwoIdeal.main_arg0)
      ∧ m' ((c.tc : Thread Cert.FfnTwoRefIdeal.nD Cert.FfnTwoRefIdeal.τ).loc Cert.FfnTwoRefIdeal.main_arg1) = m ((c.tc : Thread Cert.FfnTwoIdeal.nD Cert.FfnTwoIdeal.τ).loc Cert.FfnTwoIdeal.main_arg1)
      ∧ m' ((c.tc : Thread Cert.FfnTwoRefIdeal.nD Cert.FfnTwoRefIdeal.τ).loc Cert.FfnTwoRefIdeal.main_arg2) = m ((c.tc : Thread Cert.FfnTwoIdeal.nD Cert.FfnTwoIdeal.τ).loc Cert.FfnTwoIdeal.main_arg2)
      ∧ m' ((c.tc : Thread Cert.FfnTwoRefIdeal.nD Cert.FfnTwoRefIdeal.τ).loc Cert.FfnTwoRefIdeal.main_arg3) = m ((c.tc : Thread Cert.FfnTwoIdeal.nD Cert.FfnTwoIdeal.τ).loc Cert.FfnTwoIdeal.main_arg3)
      ∧ m' ((c.tc : Thread Cert.FfnTwoRefIdeal.nD Cert.FfnTwoRefIdeal.τ).loc Cert.FfnTwoRefIdeal.main_arg4) = m ((c.tc : Thread Cert.FfnTwoIdeal.nD Cert.FfnTwoIdeal.τ).loc Cert.FfnTwoIdeal.main_arg4)) →
    ∃ (v0 : (c : Dev Cert.FfnTwoIdeal.nD) → Buf (Elt Ideal) ((c.tc : Thread Cert.FfnTwoIdeal.nD Cert.FfnTwoIdeal.τ).loc Cert.FfnTwoIdeal.main_v10)),
      θ_run (Cert.FfnTwoIdeal.defs (F := Ideal)) (onTc (τ := Cert.FfnTwoIdeal.τ) (Cert.FfnTwoIdeal.main (F := Ideal))) ⟨m, fun _ => 0, g⟩ (fun r => ∀ c : Dev Cert.FfnTwoIdeal.nD,
          r.2.mem ((c.tc : Thread Cert.FfnTwoIdeal.nD Cert.FfnTwoIdeal.τ).loc Cert.FfnTwoIdeal.main_v10) = v0 c
          ∧ r.2.mem ((c.tc : Thread Cert.FfnTwoIdeal.nD Cert.FfnTwoIdeal.τ).loc Cert.FfnTwoIdeal.main_arg0) = m ((c.tc : Thread Cert.FfnTwoIdeal.nD Cert.FfnTwoIdeal.τ).loc Cert.FfnTwoIdeal.main_arg0)
          ∧ r.2.mem ((c.tc : Thread Cert.FfnTwoIdeal.nD Cert.FfnTwoIdeal.τ).loc Cert.FfnTwoIdeal.main_arg1) = m ((c.tc : Thread Cert.FfnTwoIdeal.nD Cert.FfnTwoIdeal.τ).loc Cert.FfnTwoIdeal.main_arg1)
          ∧ r.2.mem ((c.tc : Thread Cert.FfnTwoIdeal.nD Cert.FfnTwoIdeal.τ).loc Cert.FfnTwoIdeal.main_arg2) = m ((c.tc : Thread Cert.FfnTwoIdeal.nD Cert.FfnTwoIdeal.τ).loc Cert.FfnTwoIdeal.main_arg2)
          ∧ r.2.mem ((c.tc : Thread Cert.FfnTwoIdeal.nD Cert.FfnTwoIdeal.τ).loc Cert.FfnTwoIdeal.main_arg3) = m ((c.tc : Thread Cert.FfnTwoIdeal.nD Cert.FfnTwoIdeal.τ).loc Cert.FfnTwoIdeal.main_arg3)
          ∧ r.2.mem ((c.tc : Thread Cert.FfnTwoIdeal.nD Cert.FfnTwoIdeal.τ).loc Cert.FfnTwoIdeal.main_arg4) = m ((c.tc : Thread Cert.FfnTwoIdeal.nD Cert.FfnTwoIdeal.τ).loc Cert.FfnTwoIdeal.main_arg4))
      ∧ θ_run (Cert.FfnTwoRefIdeal.defs (F := Ideal)) (onTc (τ := Cert.FfnTwoRefIdeal.τ) (Cert.FfnTwoRefIdeal.main (F := Ideal))) ⟨m', fun _ => 0, g'⟩ (fun r => ∀ c : Dev Cert.FfnTwoRefIdeal.nD,
          r.2.mem ((c.tc : Thread Cert.FfnTwoRefIdeal.nD Cert.FfnTwoRefIdeal.τ).loc Cert.FfnTwoRefIdeal.main_v92) = v0 c
          ∧ r.2.mem ((c.tc : Thread Cert.FfnTwoRefIdeal.nD Cert.FfnTwoRefIdeal.τ).loc Cert.FfnTwoRefIdeal.main_arg0) = m' ((c.tc : Thread Cert.FfnTwoRefIdeal.nD Cert.FfnTwoRefIdeal.τ).loc Cert.FfnTwoRefIdeal.main_arg0)
          ∧ r.2.mem ((c.tc : Thread Cert.FfnTwoRefIdeal.nD Cert.FfnTwoRefIdeal.τ).loc Cert.FfnTwoRefIdeal.main_arg1) = m' ((c.tc : Thread Cert.FfnTwoRefIdeal.nD Cert.FfnTwoRefIdeal.τ).loc Cert.FfnTwoRefIdeal.main_arg1)
          ∧ r.2.mem ((c.tc : Thread Cert.FfnTwoRefIdeal.nD Cert.FfnTwoRefIdeal.τ).loc Cert.FfnTwoRefIdeal.main_arg2) = m' ((c.tc : Thread Cert.FfnTwoRefIdeal.nD Cert.FfnTwoRefIdeal.τ).loc Cert.FfnTwoRefIdeal.main_arg2)
          ∧ r.2.mem ((c.tc : Thread Cert.FfnTwoRefIdeal.nD Cert.FfnTwoRefIdeal.τ).loc Cert.FfnTwoRefIdeal.main_arg3) = m' ((c.tc : Thread Cert.FfnTwoRefIdeal.nD Cert.FfnTwoRefIdeal.τ).loc Cert.FfnTwoRefIdeal.main_arg3)
          ∧ r.2.mem ((c.tc : Thread Cert.FfnTwoRefIdeal.nD Cert.FfnTwoRefIdeal.τ).loc Cert.FfnTwoRefIdeal.main_arg4) = m' ((c.tc : Thread Cert.FfnTwoRefIdeal.nD Cert.FfnTwoRefIdeal.τ).loc Cert.FfnTwoRefIdeal.main_arg4))

def preserves_ExpertThree_ExpertThreeIdeal : Prop :=
  True

def algebraic_ExpertThreeIdeal_ExpertThreeRefIdeal_on_token_rows [hExpertThreeIdeal : Cert.ExpertThreeIdeal.Facts] [hExpertThreeRefIdeal : Cert.ExpertThreeRefIdeal.Facts] [hPre_plan : Cert.Pre_plan.Facts] [hOn_token_rows : Cert.On_token_rows.Facts] : Prop :=
  ∀ (m : (ℓ : Loc Cert.ExpertThreeIdeal.nD Cert.ExpertThreeIdeal.τ Cert.ExpertThreeIdeal.sig) → Buf (Elt Ideal) ℓ) (g : Dev Cert.ExpertThreeIdeal.nD → PrngReg)
    (m' : (ℓ : Loc Cert.ExpertThreeRefIdeal.nD Cert.ExpertThreeRefIdeal.τ Cert.ExpertThreeRefIdeal.sig) → Buf (Elt Ideal) ℓ) (g' : Dev Cert.ExpertThreeRefIdeal.nD → PrngReg), Pre_ExpertThreeIdeal m →
    (∀ c : Dev Cert.ExpertThreeIdeal.nD,
      m' ((c.tc : Thread Cert.ExpertThreeRefIdeal.nD Cert.ExpertThreeRefIdeal.τ).loc Cert.ExpertThreeRefIdeal.main_arg0) = m ((c.tc : Thread Cert.ExpertThreeIdeal.nD Cert.ExpertThreeIdeal.τ).loc Cert.ExpertThreeIdeal.main_arg0)
      ∧ m' ((c.tc : Thread Cert.ExpertThreeRefIdeal.nD Cert.ExpertThreeRefIdeal.τ).loc Cert.ExpertThreeRefIdeal.main_arg1) = m ((c.tc : Thread Cert.ExpertThreeIdeal.nD Cert.ExpertThreeIdeal.τ).loc Cert.ExpertThreeIdeal.main_arg1)
      ∧ m' ((c.tc : Thread Cert.ExpertThreeRefIdeal.nD Cert.ExpertThreeRefIdeal.τ).loc Cert.ExpertThreeRefIdeal.main_arg2) = m ((c.tc : Thread Cert.ExpertThreeIdeal.nD Cert.ExpertThreeIdeal.τ).loc Cert.ExpertThreeIdeal.main_arg2)
      ∧ m' ((c.tc : Thread Cert.ExpertThreeRefIdeal.nD Cert.ExpertThreeRefIdeal.τ).loc Cert.ExpertThreeRefIdeal.main_arg3) = m ((c.tc : Thread Cert.ExpertThreeIdeal.nD Cert.ExpertThreeIdeal.τ).loc Cert.ExpertThreeIdeal.main_arg3)
      ∧ m' ((c.tc : Thread Cert.ExpertThreeRefIdeal.nD Cert.ExpertThreeRefIdeal.τ).loc Cert.ExpertThreeRefIdeal.main_arg4) = m ((c.tc : Thread Cert.ExpertThreeIdeal.nD Cert.ExpertThreeIdeal.τ).loc Cert.ExpertThreeIdeal.main_arg4)
      ∧ m' ((c.tc : Thread Cert.ExpertThreeRefIdeal.nD Cert.ExpertThreeRefIdeal.τ).loc Cert.ExpertThreeRefIdeal.main_arg5) = m ((c.tc : Thread Cert.ExpertThreeIdeal.nD Cert.ExpertThreeIdeal.τ).loc Cert.ExpertThreeIdeal.main_arg5)) →
    ∃ (v0 : (c : Dev Cert.ExpertThreeIdeal.nD) → Buf (Elt Ideal) ((c.tc : Thread Cert.ExpertThreeIdeal.nD Cert.ExpertThreeIdeal.τ).loc Cert.ExpertThreeIdeal.main_v0)),
      θ_run (Cert.ExpertThreeIdeal.defs (F := Ideal)) (onTc (τ := Cert.ExpertThreeIdeal.τ) (Cert.ExpertThreeIdeal.main (F := Ideal))) ⟨m, fun _ => 0, g⟩ (fun r => ∀ c : Dev Cert.ExpertThreeIdeal.nD,
          (∀ i : (⟨2, ![262144, 128]⟩ : Shape).Idx, (Cert.On_token_rows.fn (F := Ideal) (m ((c.tc : Thread Cert.ExpertThreeIdeal.nD Cert.ExpertThreeIdeal.τ).loc Cert.ExpertThreeIdeal.main_arg0)) (m ((c.tc : Thread Cert.ExpertThreeIdeal.nD Cert.ExpertThreeIdeal.τ).loc Cert.ExpertThreeIdeal.main_arg1)) (m ((c.tc : Thread Cert.ExpertThreeIdeal.nD Cert.ExpertThreeIdeal.τ).loc Cert.ExpertThreeIdeal.main_arg2)) (m ((c.tc : Thread Cert.ExpertThreeIdeal.nD Cert.ExpertThreeIdeal.τ).loc Cert.ExpertThreeIdeal.main_arg3)) (m ((c.tc : Thread Cert.ExpertThreeIdeal.nD Cert.ExpertThreeIdeal.τ).loc Cert.ExpertThreeIdeal.main_arg4)) (m ((c.tc : Thread Cert.ExpertThreeIdeal.nD Cert.ExpertThreeIdeal.τ).loc Cert.ExpertThreeIdeal.main_arg5))) i = 1#1 → r.2.mem ((c.tc : Thread Cert.ExpertThreeIdeal.nD Cert.ExpertThreeIdeal.τ).loc Cert.ExpertThreeIdeal.main_v0) i = v0 c i)
          ∧ r.2.mem ((c.tc : Thread Cert.ExpertThreeIdeal.nD Cert.ExpertThreeIdeal.τ).loc Cert.ExpertThreeIdeal.main_arg0) = m ((c.tc : Thread Cert.ExpertThreeIdeal.nD Cert.ExpertThreeIdeal.τ).loc Cert.ExpertThreeIdeal.main_arg0)
          ∧ r.2.mem ((c.tc : Thread Cert.ExpertThreeIdeal.nD Cert.ExpertThreeIdeal.τ).loc Cert.ExpertThreeIdeal.main_arg1) = m ((c.tc : Thread Cert.ExpertThreeIdeal.nD Cert.ExpertThreeIdeal.τ).loc Cert.ExpertThreeIdeal.main_arg1)
          ∧ r.2.mem ((c.tc : Thread Cert.ExpertThreeIdeal.nD Cert.ExpertThreeIdeal.τ).loc Cert.ExpertThreeIdeal.main_arg2) = m ((c.tc : Thread Cert.ExpertThreeIdeal.nD Cert.ExpertThreeIdeal.τ).loc Cert.ExpertThreeIdeal.main_arg2)
          ∧ r.2.mem ((c.tc : Thread Cert.ExpertThreeIdeal.nD Cert.ExpertThreeIdeal.τ).loc Cert.ExpertThreeIdeal.main_arg3) = m ((c.tc : Thread Cert.ExpertThreeIdeal.nD Cert.ExpertThreeIdeal.τ).loc Cert.ExpertThreeIdeal.main_arg3)
          ∧ r.2.mem ((c.tc : Thread Cert.ExpertThreeIdeal.nD Cert.ExpertThreeIdeal.τ).loc Cert.ExpertThreeIdeal.main_arg4) = m ((c.tc : Thread Cert.ExpertThreeIdeal.nD Cert.ExpertThreeIdeal.τ).loc Cert.ExpertThreeIdeal.main_arg4)
          ∧ r.2.mem ((c.tc : Thread Cert.ExpertThreeIdeal.nD Cert.ExpertThreeIdeal.τ).loc Cert.ExpertThreeIdeal.main_arg5) = m ((c.tc : Thread Cert.ExpertThreeIdeal.nD Cert.ExpertThreeIdeal.τ).loc Cert.ExpertThreeIdeal.main_arg5))
      ∧ θ_run (Cert.ExpertThreeRefIdeal.defs (F := Ideal)) (onTc (τ := Cert.ExpertThreeRefIdeal.τ) (Cert.ExpertThreeRefIdeal.main (F := Ideal))) ⟨m', fun _ => 0, g'⟩ (fun r => ∀ c : Dev Cert.ExpertThreeRefIdeal.nD,
          (∀ i : (⟨2, ![262144, 128]⟩ : Shape).Idx, (Cert.On_token_rows.fn (F := Ideal) (m ((c.tc : Thread Cert.ExpertThreeIdeal.nD Cert.ExpertThreeIdeal.τ).loc Cert.ExpertThreeIdeal.main_arg0)) (m ((c.tc : Thread Cert.ExpertThreeIdeal.nD Cert.ExpertThreeIdeal.τ).loc Cert.ExpertThreeIdeal.main_arg1)) (m ((c.tc : Thread Cert.ExpertThreeIdeal.nD Cert.ExpertThreeIdeal.τ).loc Cert.ExpertThreeIdeal.main_arg2)) (m ((c.tc : Thread Cert.ExpertThreeIdeal.nD Cert.ExpertThreeIdeal.τ).loc Cert.ExpertThreeIdeal.main_arg3)) (m ((c.tc : Thread Cert.ExpertThreeIdeal.nD Cert.ExpertThreeIdeal.τ).loc Cert.ExpertThreeIdeal.main_arg4)) (m ((c.tc : Thread Cert.ExpertThreeIdeal.nD Cert.ExpertThreeIdeal.τ).loc Cert.ExpertThreeIdeal.main_arg5))) i = 1#1 → r.2.mem ((c.tc : Thread Cert.ExpertThreeRefIdeal.nD Cert.ExpertThreeRefIdeal.τ).loc Cert.ExpertThreeRefIdeal.main_v109) i = v0 c i)
          ∧ r.2.mem ((c.tc : Thread Cert.ExpertThreeRefIdeal.nD Cert.ExpertThreeRefIdeal.τ).loc Cert.ExpertThreeRefIdeal.main_arg0) = m' ((c.tc : Thread Cert.ExpertThreeRefIdeal.nD Cert.ExpertThreeRefIdeal.τ).loc Cert.ExpertThreeRefIdeal.main_arg0)
          ∧ r.2.mem ((c.tc : Thread Cert.ExpertThreeRefIdeal.nD Cert.ExpertThreeRefIdeal.τ).loc Cert.ExpertThreeRefIdeal.main_arg1) = m' ((c.tc : Thread Cert.ExpertThreeRefIdeal.nD Cert.ExpertThreeRefIdeal.τ).loc Cert.ExpertThreeRefIdeal.main_arg1)
          ∧ r.2.mem ((c.tc : Thread Cert.ExpertThreeRefIdeal.nD Cert.ExpertThreeRefIdeal.τ).loc Cert.ExpertThreeRefIdeal.main_arg2) = m' ((c.tc : Thread Cert.ExpertThreeRefIdeal.nD Cert.ExpertThreeRefIdeal.τ).loc Cert.ExpertThreeRefIdeal.main_arg2)
          ∧ r.2.mem ((c.tc : Thread Cert.ExpertThreeRefIdeal.nD Cert.ExpertThreeRefIdeal.τ).loc Cert.ExpertThreeRefIdeal.main_arg3) = m' ((c.tc : Thread Cert.ExpertThreeRefIdeal.nD Cert.ExpertThreeRefIdeal.τ).loc Cert.ExpertThreeRefIdeal.main_arg3)
          ∧ r.2.mem ((c.tc : Thread Cert.ExpertThreeRefIdeal.nD Cert.ExpertThreeRefIdeal.τ).loc Cert.ExpertThreeRefIdeal.main_arg4) = m' ((c.tc : Thread Cert.ExpertThreeRefIdeal.nD Cert.ExpertThreeRefIdeal.τ).loc Cert.ExpertThreeRefIdeal.main_arg4)
          ∧ r.2.mem ((c.tc : Thread Cert.ExpertThreeRefIdeal.nD Cert.ExpertThreeRefIdeal.τ).loc Cert.ExpertThreeRefIdeal.main_arg5) = m' ((c.tc : Thread Cert.ExpertThreeRefIdeal.nD Cert.ExpertThreeRefIdeal.τ).loc Cert.ExpertThreeRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v38) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def Claim : Prop :=
  ∃ (hKernel : Cert.Kernel.Facts) (hKernelIdeal : Cert.KernelIdeal.Facts) (hRefIdeal : Cert.RefIdeal.Facts) (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hFfnTwo : Cert.FfnTwo.Facts) (hFfnTwoIdeal : Cert.FfnTwoIdeal.Facts) (hFfnTwoRefIdeal : Cert.FfnTwoRefIdeal.Facts) (hExpertThree : Cert.ExpertThree.Facts) (hExpertThreeIdeal : Cert.ExpertThreeIdeal.Facts) (hExpertThreeRefIdeal : Cert.ExpertThreeRefIdeal.Facts) (hProj : Cert.Proj.Facts) (hProjIdeal : Cert.ProjIdeal.Facts) (hProjRefIdeal : Cert.ProjRefIdeal.Facts) (hPre_plan : Cert.Pre_plan.Facts) (hOn_token_rows : Cert.On_token_rows.Facts),
    quiescent_Kernel (hKernel := hKernel) (hPre_plan := hPre_plan)
    ∧ quiescent_KernelIdeal (hKernelIdeal := hKernelIdeal) (hPre_plan := hPre_plan)
    ∧ quiescent_RefIdeal (hRefIdeal := hRefIdeal)
    ∧ quiescent_RefIdeal_pre_plan (hRefIdeal := hRefIdeal) (hPre_plan := hPre_plan)
    ∧ quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_FfnTwo (hFfnTwo := hFfnTwo)
    ∧ quiescent_FfnTwoIdeal (hFfnTwoIdeal := hFfnTwoIdeal)
    ∧ quiescent_FfnTwoRefIdeal (hFfnTwoRefIdeal := hFfnTwoRefIdeal)
    ∧ quiescent_ExpertThree (hExpertThree := hExpertThree) (hPre_plan := hPre_plan)
    ∧ quiescent_ExpertThreeIdeal (hExpertThreeIdeal := hExpertThreeIdeal) (hPre_plan := hPre_plan)
    ∧ quiescent_ExpertThreeRefIdeal (hExpertThreeRefIdeal := hExpertThreeRefIdeal)
    ∧ quiescent_ExpertThreeRefIdeal_pre_plan (hExpertThreeRefIdeal := hExpertThreeRefIdeal) (hPre_plan := hPre_plan)
    ∧ quiescent_Proj (hProj := hProj)
    ∧ quiescent_ProjIdeal (hProjIdeal := hProjIdeal)
    ∧ quiescent_ProjRefIdeal (hProjRefIdeal := hProjRefIdeal)
    ∧ preserves_Kernel_KernelIdeal
    ∧ algebraic_KernelIdeal_RefIdeal_on_token_rows (hKernelIdeal := hKernelIdeal) (hRefIdeal := hRefIdeal) (hPre_plan := hPre_plan) (hOn_token_rows := hOn_token_rows)
    ∧ preserves_Ffn_FfnIdeal
    ∧ algebraic_FfnIdeal_FfnRefIdeal (hFfnIdeal := hFfnIdeal) (hFfnRefIdeal := hFfnRefIdeal)
    ∧ preserves_Qkv_QkvIdeal
    ∧ algebraic_QkvIdeal_QkvRefIdeal (hQkvIdeal := hQkvIdeal) (hQkvRefIdeal := hQkvRefIdeal)
    ∧ preserves_FfnTwo_FfnTwoIdeal
    ∧ algebraic_FfnTwoIdeal_FfnTwoRefIdeal (hFfnTwoIdeal := hFfnTwoIdeal) (hFfnTwoRefIdeal := hFfnTwoRefIdeal)
    ∧ preserves_ExpertThree_ExpertThreeIdeal
    ∧ algebraic_ExpertThreeIdeal_ExpertThreeRefIdeal_on_token_rows (hExpertThreeIdeal := hExpertThreeIdeal) (hExpertThreeRefIdeal := hExpertThreeRefIdeal) (hPre_plan := hPre_plan) (hOn_token_rows := hOn_token_rows)
    ∧ preserves_Proj_ProjIdeal
    ∧ algebraic_ProjIdeal_ProjRefIdeal (hProjIdeal := hProjIdeal) (hProjRefIdeal := hProjRefIdeal)
-- ==== On_token_rows.lean ====
abbrev S32 : Shape := ⟨1, ![32]⟩
abbrev S1 : Shape := ⟨1, ![1]⟩
abbrev S262144x128 : Shape := ⟨2, ![262144, 128]⟩
abbrev S2x8x1024x7168 : Shape := ⟨4, ![2, 8, 1024, 7168]⟩
abbrev S2x8x3584x1024 : Shape := ⟨4, ![2, 8, 3584, 1024]⟩
abbrev S32x1024x8x128 : Shape := ⟨4, ![32, 1024, 8, 128]⟩
abbrev S_ : Shape := ⟨0, ![]⟩
abbrev S32x1x1x1 : Shape := ⟨4, ![32, 1, 1, 1]⟩

class Facts : Prop where
  shapeCasts_S1_S_ : S1.ShapeCasts S_
  bcast_S_S32x1024x8x128 : S_.BroadcastsInDim S32x1024x8x128 (![] : Fin 0 → Fin S32x1024x8x128.rank)
  bcast_S32_S32x1x1x1_0 : S32.BroadcastsInDim S32x1x1x1 (![0] : Fin 1 → Fin S32x1x1x1.rank)
  bcast_S32x1x1x1_S32x1024x8x128_0_1_2_3 : S32x1x1x1.BroadcastsInDim S32x1024x8x128 (![0, 1, 2, 3] : Fin 4 → Fin S32x1024x8x128.rank)
  shapeCasts_S32x1024x8x128_S262144x128 : S32x1024x8x128.ShapeCasts S262144x128

variable [Facts]

def fn {F : FTy → Type} [FloatOps F] (main_arg0 : IVec S32 32) (main_arg1 : IVec S1 32) (main_arg2 : IVec S32 32) (main_arg3 : FVec F S262144x128 .f32) (main_arg4 : FVec F S2x8x1024x7168 .f32) (main_arg5 : FVec F S2x8x3584x1024 .f32) : IVec S262144x128 1 :=
  let main_v0 : IVec S32x1024x8x128 32 := iotaInDim S32x1024x8x128 32 0
  let main_v1 : IVec S32x1024x8x128 32 := iotaInDim S32x1024x8x128 32 1
  let main_v2 : IVec S_ 32 := shapeCast S_ main_arg1 shapeCasts_S1_S_
  let main_v3 : IVec S32x1024x8x128 32 := broadcastInDim S32x1024x8x128 ![] bcast_S_S32x1024x8x128 main_v2
  let main_v4 : IVec S32x1024x8x128 1 := cmpi .slt main_v0 main_v3
  let main_v5 : IVec S32x1x1x1 32 := broadcastInDim S32x1x1x1 ![0] bcast_S32_S32x1x1x1_0 main_arg2
  let main_v6 : IVec S32x1024x8x128 32 := broadcastInDim S32x1024x8x128 ![0, 1, 2, 3] bcast_S32x1x1x1_S32x1024x8x128_0_1_2_3 main_v5
  let main_v7 : IVec S32x1024x8x128 1 := cmpi .slt main_v1 main_v6
  let main_v8 : IVec S32x1024x8x128 1 := andi main_v4 main_v7
  let main_v9 : IVec S262144x128 1 := shapeCast S262144x128 main_v8 shapeCasts_S32x1024x8x128_S262144x128
  main_v9
-- ==== Pre_plan.lean ====
abbrev S32 : Shape := ⟨1, ![32]⟩
abbrev S1 : Shape := ⟨1, ![1]⟩
abbrev S262144x128 : Shape := ⟨2, ![262144, 128]⟩
abbrev S2x8x1024x7168 : Shape := ⟨4, ![2, 8, 1024, 7168]⟩
abbrev S2x8x3584x1024 : Shape := ⟨4, ![2, 8, 3584, 1024]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S32 32) (main_arg1 : IVec S1 32) (main_arg2 : IVec S32 32) (main_arg3 : FVec F S262144x128 .f32) (main_arg4 : FVec F S2x8x1024x7168 .f32) (main_arg5 : FVec F S2x8x3584x1024 .f32) : IVec S_ 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 8#32
  let main_v2 : IVec S32 32 := broadcastInDim S32 ![] bcast_S_S32 main_c_0
  let main_v3 : IVec S32 1 := cmpi .slt main_arg0 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  let main_c_4 : IVec S_ 32 := constantI S_ 32 1024#32
  let main_v10 : IVec S32 32 := broadcastInDim S32 ![] bcast_S_S32 main_c_4
  let main_v11 : IVec S32 1 := cmpi .sle main_arg2 main_v10
  let main_c_5 : IVec S_ 1 := constantI S_ 1 1#1
  let main_v12 : IVec S_ 1 := (fun x v => Host.reduce IntOp.andi x v reducesTo_S32_S_d0 h_S_) main_v11 main_c_5
  let main_v13 : IVec S_ 1 := andi main_v9 main_v12
  main_v13
-- ==== Kernel.lean ====
abbrev S32 : Shape := ⟨1, ![32]⟩
abbrev S1 : Shape := ⟨1, ![1]⟩
abbrev S262144x128 : Shape := ⟨2, ![262144, 128]⟩
abbrev S2x8x1024x7168 : Shape := ⟨4, ![2, 8, 1024, 7168]⟩
abbrev S2x8x3584x1024 : Shape := ⟨4, ![2, 8, 3584, 1024]⟩
abbrev S8192x128 : Shape := ⟨2, ![8192, 128]⟩
abbrev S1x1x1024x512 : Shape := ⟨4, ![1, 1, 1024, 512]⟩
abbrev S1x1x512x1024 : Shape := ⟨4, ![1, 1, 512, 1024]⟩
abbrev S1024x1024 : Shape := ⟨2, ![1024, 1024]⟩
abbrev S256x128 : Shape := ⟨2, ![256, 128]⟩
abbrev S256x1024 : Shape := ⟨2, ![256, 1024]⟩
abbrev S1024x512 : Shape := ⟨2, ![1024, 512]⟩
abbrev S256x512 : Shape := ⟨2, ![256, 512]⟩
abbrev S512x1024 : Shape := ⟨2, ![512, 1024]⟩
abbrev S6144x128 : Shape := ⟨2, ![6144, 128]⟩
abbrev S512x128 : Shape := ⟨2, ![512, 128]⟩
abbrev S512x512 : Shape := ⟨2, ![512, 512]⟩
abbrev S4096x128 : Shape := ⟨2, ![4096, 128]⟩
abbrev S768x128 : Shape := ⟨2, ![768, 128]⟩
abbrev S768x1024 : Shape := ⟨2, ![768, 1024]⟩
abbrev S768x512 : Shape := ⟨2, ![768, 512]⟩
abbrev S2048x128 : Shape := ⟨2, ![2048, 128]⟩
abbrev S1024x128 : Shape := ⟨2, ![1024, 128]⟩

abbrev nBuf : Space → Nat
  | .hbm => 4
  | .vmem => 12
  | .smem => 3
  | _ => 0

abbrev bufTy : (tb : Table) → Fin (tcTables nBuf tb) → BufTy
  | .hbm, ⟨0, _⟩ => ⟨S262144x128, .f32⟩
  | .hbm, ⟨1, _⟩ => ⟨S2x8x1024x7168, .f32⟩
  | .hbm, ⟨2, _⟩ => ⟨S2x8x3584x1024, .f32⟩
  | .hbm, ⟨3, _⟩ => ⟨S262144x128, .f32⟩
  | .local _ .vmem, ⟨0, _⟩ => ⟨S8192x128, .f32⟩
  | .local _ .vmem, ⟨1, _⟩ => ⟨S8192x128, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S8192x128, .f32⟩
  | .local _ .vmem, ⟨9, _⟩ => ⟨S8192x128, .f32⟩
  | .local _ .vmem, ⟨10, _⟩ => ⟨S1024x1024, .bf16⟩
  | .local _ .vmem, ⟨11, _⟩ => ⟨S1024x1024, .f32⟩
  | .local _ .smem, ⟨0, _⟩ => ⟨S32, .i32⟩
  | .local _ .smem, ⟨1, _⟩ => ⟨S1, .i32⟩
  | .local _ .smem, ⟨2, _⟩ => ⟨S32, .i32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 7], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v0 : BitVec 32) (v2 : BitVec 32) : BitVec 1 :=
  let arg0 : BitVec 32 := BitVec.ofNat 32 (i 0).val
  let v27 : BitVec 1 := Scalar.cmpi .slt arg0 v0
  let c256_i32 : BitVec 32 := 256#32
  let v3 : BitVec 32 := Scalar.addi v2 c256_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c256_i32_0 : BitVec 32 := 256#32
  let c0_i32_2 : BitVec 32 := 0#32
  let v11 : BitVec 1 := Scalar.cmpi .sgt c256_i32_0 c0_i32_2
  let v12 : BitVec 32 := Scalar.extui v11
  let c0_i32_3 : BitVec 32 := 0#32
  let v13 : BitVec 1 := Scalar.cmpi .slt c256_i32_0 c0_i32_3
  let v14 : BitVec 32 := Scalar.extui v13
  let v15 : BitVec 32 := Scalar.subi v12 v14
  let v16 : BitVec 1 := Scalar.cmpi .ne v10 v15
  let v17 : BitVec 32 := Scalar.remsi v4 c256_i32_0
  let c0_i32_4 : BitVec 32 := 0#32
  let v18 : BitVec 1 := Scalar.cmpi .ne v17 c0_i32_4
  let v19 : BitVec 1 := Scalar.andi v16 v18
  let v5 : BitVec 32 := Scalar.divsi v4 c256_i32_0
  let c1_i32_5 : BitVec 32 := 1#32
  let v20 : BitVec 32 := Scalar.subi v5 c1_i32_5
  let v21 : BitVec 32 := Scalar.select v19 v20 v5
  let c1_i32_9 : BitVec 32 := 1#32
  let v28 : BitVec 1 := Scalar.cmpi .eq v21 c1_i32_9
  let v29 : BitVec 1 := Scalar.andi v27 v28
  let v30 : BitVec 32 := Scalar.extui v29
  let c0_i32_10 : BitVec 32 := 0#32
  let v31 : BitVec 1 := Scalar.cmpi .ne v30 c0_i32_10
  v31

def k0_cond4 (i : grid0.Coords) : BitVec 1 :=
  let arg1 : BitVec 32 := BitVec.ofNat 32 (i 1).val
  let c6_i32 : BitVec 32 := 6#32
  let v80 : BitVec 1 := Scalar.cmpi .eq arg1 c6_i32
  let v81 : BitVec 32 := Scalar.extui v80
  let c0_i32_40 : BitVec 32 := 0#32
  let v82 : BitVec 1 := Scalar.cmpi .ne v81 c0_i32_40
  v82

def k0_cond5 (i : grid0.Coords) (v0 : BitVec 32) (v2 : BitVec 32) : BitVec 1 :=
  let arg0 : BitVec 32 := BitVec.ofNat 32 (i 0).val
  let v32 : BitVec 1 := Scalar.cmpi .slt arg0 v0
  let c256_i32 : BitVec 32 := 256#32
  let v3 : BitVec 32 := Scalar.addi v2 c256_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c256_i32_0 : BitVec 32 := 256#32
  let c0_i32_2 : BitVec 32 := 0#32
  let v11 : BitVec 1 := Scalar.cmpi .sgt c256_i32_0 c0_i32_2
  let v12 : BitVec 32 := Scalar.extui v11
  let c0_i32_3 : BitVec 32 := 0#32
  let v13 : BitVec 1 := Scalar.cmpi .slt c256_i32_0 c0_i32_3
  let v14 : BitVec 32 := Scalar.extui v13
  let v15 : BitVec 32 := Scalar.subi v12 v14
  let v16 : BitVec 1 := Scalar.cmpi .ne v10 v15
  let v17 : BitVec 32 := Scalar.remsi v4 c256_i32_0
  let c0_i32_4 : BitVec 32 := 0#32
  let v18 : BitVec 1 := Scalar.cmpi .ne v17 c0_i32_4
  let v19 : BitVec 1 := Scalar.andi v16 v18
  let v5 : BitVec 32 := Scalar.divsi v4 c256_i32_0
  let c1_i32_5 : BitVec 32 := 1#32
  let v20 : BitVec 32 := Scalar.subi v5 c1_i32_5
  let v21 : BitVec 32 := Scalar.select v19 v20 v5
  let c2_i32 : BitVec 32 := 2#32
  let v33 : BitVec 1 := Scalar.cmpi .eq v21 c2_i32
  let v34 : BitVec 1 := Scalar.andi v32 v33
  let v35 : BitVec 32 := Scalar.extui v34
  let c0_i32_11 : BitVec 32 := 0#32
  let v36 : BitVec 1 := Scalar.cmpi .ne v35 c0_i32_11
  v36

def k0_cond7 (i : grid0.Coords) : BitVec 1 :=
  let arg1 : BitVec 32 := BitVec.ofNat 32 (i 1).val
  let c6_i32 : BitVec 32 := 6#32
  let v80 : BitVec 1 := Scalar.cmpi .eq arg1 c6_i32
  let v81 : BitVec 32 := Scalar.extui v80
  let c0_i32_40 : BitVec 32 := 0#32
  let v82 : BitVec 1 := Scalar.cmpi .ne v81 c0_i32_40
  v82

def k0_cond8 (i : grid0.Coords) (v0 : BitVec 32) (v2 : BitVec 32) : BitVec 1 :=
  let arg0 : BitVec 32 := BitVec.ofNat 32 (i 0).val
  let v37 : BitVec 1 := Scalar.cmpi .slt arg0 v0
  let c256_i32 : BitVec 32 := 256#32
  let v3 : BitVec 32 := Scalar.addi v2 c256_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c256_i32_0 : BitVec 32 := 256#32
  let c0_i32_2 : BitVec 32 := 0#32
  let v11 : BitVec 1 := Scalar.cmpi .sgt c256_i32_0 c0_i32_2
  let v12 : BitVec 32 := Scalar.extui v11
  let c0_i32_3 : BitVec 32 := 0#32
  let v13 : BitVec 1 := Scalar.cmpi .slt c256_i32_0 c0_i32_3
  let v14 : BitVec 32 := Scalar.extui v13
  let v15 : BitVec 32 := Scalar.subi v12 v14
  let v16 : BitVec 1 := Scalar.cmpi .ne v10 v15
  let v17 : BitVec 32 := Scalar.remsi v4 c256_i32_0
  let c0_i32_4 : BitVec 32 := 0#32
  let v18 : BitVec 1 := Scalar.cmpi .ne v17 c0_i32_4
  let v19 : BitVec 1 := Scalar.andi v16 v18
  let v5 : BitVec 32 := Scalar.divsi v4 c256_i32_0
  let c1_i32_5 : BitVec 32 := 1#32
  let v20 : BitVec 32 := Scalar.subi v5 c1_i32_5
  let v21 : BitVec 32 := Scalar.select v19 v20 v5
  let c3_i32 : BitVec 32 := 3#32
  let v38 : BitVec 1 := Scalar.cmpi .eq v21 c3_i32
  let v39 : BitVec 1 := Scalar.andi v37 v38
  let v40 : BitVec 32 := Scalar.extui v39
  let c0_i32_12 : BitVec 32 := 0#32
  let v41 : BitVec 1 := Scalar.cmpi .ne v40 c0_i32_12
  v41

def k0_cond10 (i : grid0.Coords) : BitVec 1 :=
  let arg1 : BitVec 32 := BitVec.ofNat 32 (i 1).val
  let c6_i32 : BitVec 32 := 6#32
  let v80 : BitVec 1 := Scalar.cmpi .eq arg1 c6_i32
  let v81 : BitVec 32 := Scalar.extui v80
  let c0_i32_40 : BitVec 32 := 0#32
  let v82 : BitVec 1 := Scalar.cmpi .ne v81 c0_i32_40
  v82

def k0_cond11 (i : grid0.Coords) (v0 : BitVec 32) (v2 : BitVec 32) : BitVec 1 :=
  let arg0 : BitVec 32 := BitVec.ofNat 32 (i 0).val
  let v42 : BitVec 1 := Scalar.cmpi .slt arg0 v0
  let c256_i32 : BitVec 32 := 256#32
  let v3 : BitVec 32 := Scalar.addi v2 c256_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c256_i32_0 : BitVec 32 := 256#32
  let c0_i32_2 : BitVec 32 := 0#32
  let v11 : BitVec 1 := Scalar.cmpi .sgt c256_i32_0 c0_i32_2
  let v12 : BitVec 32 := Scalar.extui v11
  let c0_i32_3 : BitVec 32 := 0#32
  let v13 : BitVec 1 := Scalar.cmpi .slt c256_i32_0 c0_i32_3
  let v14 : BitVec 32 := Scalar.extui v13
  let v15 : BitVec 32 := Scalar.subi v12 v14
  let v16 : BitVec 1 := Scalar.cmpi .ne v10 v15
  let v17 : BitVec 32 := Scalar.remsi v4 c256_i32_0
  let c0_i32_4 : BitVec 32 := 0#32
  let v18 : BitVec 1 := Scalar.cmpi .ne v17 c0_i32_4
  let v19 : BitVec 1 := Scalar.andi v16 v18
  let v5 : BitVec 32 := Scalar.divsi v4 c256_i32_0
  let c1_i32_5 : BitVec 32 := 1#32
  let v20 : BitVec 32 := Scalar.subi v5 c1_i32_5
  let v21 : BitVec 32 := Scalar.select v19 v20 v5
  let c4_i32 : BitVec 32 := 4#32
  let v43 : BitVec 1 := Scalar.cmpi .eq v21 c4_i32
  let v44 : BitVec 1 := Scalar.andi v42 v43
  let v45 : BitVec 32 := Scalar.extui v44
  let c0_i32_13 : BitVec 32 := 0#32
  let v46 : BitVec 1 := Scalar.cmpi .ne v45 c0_i32_13
  v46

def k0_cond13 (i : grid0.Coords) : BitVec 1 :=
  let arg1 : BitVec 32 := BitVec.ofNat 32 (i 1).val
  let c6_i32 : BitVec 32 := 6#32
  let v80 : BitVec 1 := Scalar.cmpi .eq arg1 c6_i32
  let v81 : BitVec 32 := Scalar.extui v80
  let c0_i32_40 : BitVec 32 := 0#32
  let v82 : BitVec 1 := Scalar.cmpi .ne v81 c0_i32_40
  v82

def k0_cond14 (i : grid0.Coords) (v0 : BitVec 32) : BitVec 1 :=
  let arg0 : BitVec 32 := BitVec.ofNat 32 (i 0).val
  let v47 : BitVec 1 := Scalar.cmpi .sge arg0 v0
  let arg1 : BitVec 32 := BitVec.ofNat 32 (i 1).val
  let c0_i32_14 : BitVec 32 := 0#32
  let v48 : BitVec 1 := Scalar.cmpi .eq arg1 c0_i32_14
  let v49 : BitVec 1 := Scalar.andi v47 v48
  let v50 : BitVec 32 := Scalar.extui v49
  let c0_i32_15 : BitVec 32 := 0#32
  let v51 : BitVec 1 := Scalar.cmpi .ne v50 c0_i32_15
  v51

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  let c0_i32_1 : BitVec 32 := 0#32
  ![c0_i32.toNat, v1.toNat, c0_i32_0.toNat, v4.toNat]

def cc0_transform_2 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c7_i32 : BitVec 32 := 7#32
  let v5 : BitVec 32 := Scalar.addi c7_i32 v4
  let c0_i32 : BitVec 32 := 0#32
  let c0_i32_0 : BitVec 32 := 0#32
  let c0_i32_1 : BitVec 32 := 0#32
  ![c0_i32.toNat, v1.toNat, c0_i32_0.toNat, v5.toNat]

def cc0_transform_3 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  let c0_i32_1 : BitVec 32 := 0#32
  ![c0_i32.toNat, v1.toNat, v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== RefIdeal.lean ====
abbrev S32 : Shape := ⟨1, ![32]⟩
abbrev S1 : Shape := ⟨1, ![1]⟩
abbrev S262144x128 : Shape := ⟨2, ![262144, 128]⟩
abbrev S2x8x1024x7168 : Shape := ⟨4, ![2, 8, 1024, 7168]⟩
abbrev S2x8x3584x1024 : Shape := ⟨4, ![2, 8, 3584, 1024]⟩
abbrev S32768x1024 : Shape := ⟨2, ![32768, 1024]⟩
abbrev S32x1024 : Shape := ⟨2, ![32, 1024]⟩
abbrev S32768 : Shape := ⟨1, ![32768]⟩
abbrev S32768x1 : Shape := ⟨2, ![32768, 1]⟩
abbrev S_ : Shape := ⟨0, ![]⟩
abbrev S1x1x1024x7168 : Shape := ⟨4, ![1, 1, 1024, 7168]⟩
abbrev S1024x7168 : Shape := ⟨2, ![1024, 7168]⟩
abbrev S1x1x3584x1024 : Shape := ⟨4, ![1, 1, 3584, 1024]⟩
abbrev S3584x1024 : Shape := ⟨2, ![3584, 1024]⟩
abbrev S32768x7168 : Shape := ⟨2, ![32768, 7168]⟩
abbrev S32768x3584 : Shape := ⟨2, ![32768, 3584]⟩

abbrev nBuf : Space → Nat
  | .hbm => 197
  | .vmem => 0
  | .smem => 0
  | _ => 0

abbrev hbmTy0_0 (i : Nat) : BufTy := match i % 128 with
  | 0 => ⟨S32, .i32⟩
  | 1 => ⟨S1, .i32⟩
  | 2 => ⟨S32, .i32⟩
  | 3 => ⟨S262144x128, .f32⟩
  | 4 => ⟨S2x8x1024x7168, .f32⟩
  | 5 => ⟨S2x8x3584x1024, .f32⟩
  | 6 => ⟨S32768x1024, .f32⟩
  | 7 => ⟨S32x1024, .i32⟩
  | 8 => ⟨S32768, .i32⟩
  | 9 => ⟨S32768x1, .i32⟩
  | 10 => ⟨S_, .f32⟩
  | 11 => ⟨S32768x1024, .f32⟩
  | 12 => ⟨S_, .i32⟩
  | 13 => ⟨S32768x1, .i32⟩
  | 14 => ⟨S32768x1, .i1⟩
  | 15 => ⟨S1x1x1024x7168, .f32⟩
  | 16 => ⟨S1024x7168, .f32⟩
  | 17 => ⟨S1x1x3584x1024, .f32⟩
  | 18 => ⟨S3584x1024, .f32⟩
  | 19 => ⟨S32768x7168, .f32⟩
  | 20 => ⟨S32768x3584, .f32⟩
  | 21 => ⟨S32768x3584, .f32⟩
  | 22 => ⟨S32768x3584, .f32⟩
  | 23 => ⟨S32768x3584, .f32⟩
  | 24 => ⟨S_, .f32⟩
  | 25 => ⟨S32768x3584, .f32⟩
  | 26 => ⟨S32768x3584, .f32⟩
  | 27 => ⟨S_, .f32⟩
  | 28 => ⟨S32768x3584, .f32⟩
  | 29 => ⟨S32768x3584, .f32⟩
  | 30 => ⟨S32768x3584, .f32⟩
  | 31 => ⟨S32768x3584, .f32⟩
  | 32 => ⟨S32768x1024, .f32⟩
  | 33 => ⟨S32768x1024, .i1⟩
  | 34 => ⟨S32768x1024, .f32⟩
  | 35 => ⟨S_, .i32⟩
  | 36 => ⟨S32768x1, .i32⟩
  | 37 => ⟨S32768x1, .i1⟩
  | 38 => ⟨S1x1x1024x7168, .f32⟩
  | 39 => ⟨S1024x7168, .f32⟩
  | 40 => ⟨S1x1x3584x1024, .f32⟩
  | 41 => ⟨S3584x1024, .f32⟩
  | 42 => ⟨S32768x7168, .f32⟩
  | 43 => ⟨S32768x3584, .f32⟩
  | 44 => ⟨S32768x3584, .f32⟩
  | 45 => ⟨S32768x3584, .f32⟩
  | 46 => ⟨S32768x3584, .f32⟩
  | 47 => ⟨S_, .f32⟩
  | 48 => ⟨S32768x3584, .f32⟩
  | 49 => ⟨S32768x3584, .f32⟩
  | 50 => ⟨S_, .f32⟩
  | 51 => ⟨S32768x3584, .f32⟩
  | 52 => ⟨S32768x3584, .f32⟩
  | 53 => ⟨S32768x3584, .f32⟩
  | 54 => ⟨S32768x3584, .f32⟩
  | 55 => ⟨S32768x1024, .f32⟩
  | 56 => ⟨S32768x1024, .i1⟩
  | 57 => ⟨S32768x1024, .f32⟩
  | 58 => ⟨S_, .i32⟩
  | 59 => ⟨S32768x1, .i32⟩
  | 60 => ⟨S32768x1, .i1⟩
  | 61 => ⟨S1x1x1024x7168, .f32⟩
  | 62 => ⟨S1024x7168, .f32⟩
  | 63 => ⟨S1x1x3584x1024, .f32⟩
  | 64 => ⟨S3584x1024, .f32⟩
  | 65 => ⟨S32768x7168, .f32⟩
  | 66 => ⟨S32768x3584, .f32⟩
  | 67 => ⟨S32768x3584, .f32⟩
  | 68 => ⟨S32768x3584, .f32⟩
  | 69 => ⟨S32768x3584, .f32⟩
  | 70 => ⟨S_, .f32⟩
  | 71 => ⟨S32768x3584, .f32⟩
  | 72 => ⟨S32768x3584, .f32⟩
  | 73 => ⟨S_, .f32⟩
  | 74 => ⟨S32768x3584, .f32⟩
  | 75 => ⟨S32768x3584, .f32⟩
  | 76 => ⟨S32768x3584, .f32⟩
  | 77 => ⟨S32768x3584, .f32⟩
  | 78 => ⟨S32768x1024, .f32⟩
  | 79 => ⟨S32768x1024, .i1⟩
  | 80 => ⟨S32768x1024, .f32⟩
  | 81 => ⟨S_, .i32⟩
  | 82 => ⟨S32768x1, .i32⟩
  | 83 => ⟨S32768x1, .i1⟩
  | 84 => ⟨S1x1x1024x7168, .f32⟩
  | 85 => ⟨S1024x7168, .f32⟩
  | 86 => ⟨S1x1x3584x1024, .f32⟩
  | 87 => ⟨S3584x1024, .f32⟩
  | 88 => ⟨S32768x7168, .f32⟩
  | 89 => ⟨S32768x3584, .f32⟩
  | 90 => ⟨S32768x3584, .f32⟩
  | 91 => ⟨S32768x3584, .f32⟩
  | 92 => ⟨S32768x3584, .f32⟩
  | 93 => ⟨S_, .f32⟩
  | 94 => ⟨S32768x3584, .f32⟩
  | 95 => ⟨S32768x3584, .f32⟩
  | 96 => ⟨S_, .f32⟩
  | 97 => ⟨S32768x3584, .f32⟩
  | 98 => ⟨S32768x3584, .f32⟩
  | 99 => ⟨S32768x3584, .f32⟩
  | 100 => ⟨S32768x3584, .f32⟩
  | 101 => ⟨S32768x1024, .f32⟩
  | 102 => ⟨S32768x1024, .i1⟩
  | 103 => ⟨S32768x1024, .f32⟩
  | 104 => ⟨S_, .i32⟩
  | 105 => ⟨S32768x1, .i32⟩
  | 106 => ⟨S32768x1, .i1⟩
  | 107 => ⟨S1x1x1024x7168, .f32⟩
  | 108 => ⟨S1024x7168, .f32⟩
  | 109 => ⟨S1x1x3584x1024, .f32⟩
  | 110 => ⟨S3584x1024, .f32⟩
  | 111 => ⟨S32768x7168, .f32⟩
  | 112 => ⟨S32768x3584, .f32⟩
  | 113 => ⟨S32768x3584, .f32⟩
  | 114 => ⟨S32768x3584, .f32⟩
  | 115 => ⟨S32768x3584, .f32⟩
  | 116 => ⟨S_, .f32⟩
  | 117 => ⟨S32768x3584, .f32⟩
  | 118 => ⟨S32768x3584, .f32⟩
  | 119 => ⟨S_, .f32⟩
  | 120 => ⟨S32768x3584, .f32⟩
  | 121 => ⟨S32768x3584, .f32⟩
  | 122 => ⟨S32768x3584, .f32⟩
  | 123 => ⟨S32768x3584, .f32⟩
  | 124 => ⟨S32768x1024, .f32⟩
  | 125 => ⟨S32768x1024, .i1⟩
  | 126 => ⟨S32768x1024, .f32⟩
  | 127 => ⟨S_, .i32⟩
  | _ => ⟨S32, .i32⟩

abbrev hbmTy0_1 (i : Nat) : BufTy := match i % 128 with
  | 0 => ⟨S32768x1, .i32⟩
  | 1 => ⟨S32768x1, .i1⟩
  | 2 => ⟨S1x1x1024x7168, .f32⟩
  | 3 => ⟨S1024x7168, .f32⟩
  | 4 => ⟨S1x1x3584x1024, .f32⟩
  | 5 => ⟨S3584x1024, .f32⟩
  | 6 => ⟨S32768x7168, .f32⟩
  | 7 => ⟨S32768x3584, .f32⟩
  | 8 => ⟨S32768x3584, .f32⟩
  | 9 => ⟨S32768x3584, .f32⟩
  | 10 => ⟨S32768x3584, .f32⟩
  | 11 => ⟨S_, .f32⟩
  | 12 => ⟨S32768x3584, .f32⟩
  | 13 => ⟨S32768x3584, .f32⟩
  | 14 => ⟨S_, .f32⟩
  | 15 => ⟨S32768x3584, .f32⟩
  | 16 => ⟨S32768x3584, .f32⟩
  | 17 => ⟨S32768x3584, .f32⟩
  | 18 => ⟨S32768x3584, .f32⟩
  | 19 => ⟨S32768x1024, .f32⟩
  | 20 => ⟨S32768x1024, .i1⟩
  | 21 => ⟨S32768x1024, .f32⟩
  | 22 => ⟨S_, .i32⟩
  | 23 => ⟨S32768x1, .i32⟩
  | 24 => ⟨S32768x1, .i1⟩
  | 25 => ⟨S1x1x1024x7168, .f32⟩
  | 26 => ⟨S1024x7168, .f32⟩
  | 27 => ⟨S1x1x3584x1024, .f32⟩
  | 28 => ⟨S3584x1024, .f32⟩
  | 29 => ⟨S32768x7168, .f32⟩
  | 30 => ⟨S32768x3584, .f32⟩
  | 31 => ⟨S32768x3584, .f32⟩
  | 32 => ⟨S32768x3584, .f32⟩
  | 33 => ⟨S32768x3584, .f32⟩
  | 34 => ⟨S_, .f32⟩
  | 35 => ⟨S32768x3584, .f32⟩
  | 36 => ⟨S32768x3584, .f32⟩
  | 37 => ⟨S_, .f32⟩
  | 38 => ⟨S32768x3584, .f32⟩
  | 39 => ⟨S32768x3584, .f32⟩
  | 40 => ⟨S32768x3584, .f32⟩
  | 41 => ⟨S32768x3584, .f32⟩
  | 42 => ⟨S32768x1024, .f32⟩
  | 43 => ⟨S32768x1024, .i1⟩
  | 44 => ⟨S32768x1024, .f32⟩
  | 45 => ⟨S_, .i32⟩
  | 46 => ⟨S32768x1, .i32⟩
  | 47 => ⟨S32768x1, .i1⟩
  | 48 => ⟨S1x1x1024x7168, .f32⟩
  | 49 => ⟨S1024x7168, .f32⟩
  | 50 => ⟨S1x1x3584x1024, .f32⟩
  | 51 => ⟨S3584x1024, .f32⟩
  | 52 => ⟨S32768x7168, .f32⟩
  | 53 => ⟨S32768x3584, .f32⟩
  | 54 => ⟨S32768x3584, .f32⟩
  | 55 => ⟨S32768x3584, .f32⟩
  | 56 => ⟨S32768x3584, .f32⟩
  | 57 => ⟨S_, .f32⟩
  | 58 => ⟨S32768x3584, .f32⟩
  | 59 => ⟨S32768x3584, .f32⟩
  | 60 => ⟨S_, .f32⟩
  | 61 => ⟨S32768x3584, .f32⟩
  | 62 => ⟨S32768x3584, .f32⟩
  | 63 => ⟨S32768x3584, .f32⟩
  | 64 => ⟨S32768x3584, .f32⟩
  | 65 => ⟨S32768x1024, .f32⟩
  | 66 => ⟨S32768x1024, .i1⟩
  | 67 => ⟨S32768x1024, .f32⟩
  | 68 => ⟨S262144x128, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_v0 : Ref sig .tc := ⟨.hbm, 33, rfl⟩
abbrev main_v17 : Ref sig .tc := ⟨.hbm, 34, rfl⟩
abbrev main_c_0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call3_v0 : Ref sig .tc := ⟨.hbm, 56, rfl⟩
abbrev main_v30 : Ref sig .tc := ⟨.hbm, 57, rfl⟩
abbrev main_c_1 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_call4_v0 : Ref sig .tc := ⟨.hbm, 68, rfl⟩
abbrev main_call4_v1 : Ref sig .tc := ⟨.hbm, 69, rfl⟩
abbrev main_call4_cst : Ref sig .tc := ⟨.hbm, 70, rfl⟩
abbrev main_call4_v2 : Ref sig .tc := ⟨.hbm, 71, rfl⟩
abbrev main_call4_v3 : Ref sig .tc := ⟨.hbm, 72, rfl⟩
abbrev main_call4_cst_0 : Ref sig .tc := ⟨.hbm, 73, rfl⟩
abbrev main_call4_v4 : Ref sig .tc := ⟨.hbm, 74, rfl⟩
abbrev main_call4_v5 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_call5_v0 : Ref sig .tc := ⟨.hbm, 79, rfl⟩
abbrev main_v43 : Ref sig .tc := ⟨.hbm, 80, rfl⟩
abbrev main_c_2 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_call6_v0 : Ref sig .tc := ⟨.hbm, 91, rfl⟩
abbrev main_call6_v1 : Ref sig .tc := ⟨.hbm, 92, rfl⟩
abbrev main_call6_cst : Ref sig .tc := ⟨.hbm, 93, rfl⟩
abbrev main_call6_v2 : Ref sig .tc := ⟨.hbm, 94, rfl⟩
abbrev main_call6_v3 : Ref sig .tc := ⟨.hbm, 95, rfl⟩
abbrev main_call6_cst_0 : Ref sig .tc := ⟨.hbm, 96, rfl⟩
abbrev main_call6_v4 : Ref sig .tc := ⟨.hbm, 97, rfl⟩
abbrev main_call6_v5 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_call7_v0 : Ref sig .tc := ⟨.hbm, 102, rfl⟩
abbrev main_v56 : Ref sig .tc := ⟨.hbm, 103, rfl⟩
abbrev main_c_3 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_call8_v0 : Ref sig .tc := ⟨.hbm, 114, rfl⟩
abbrev main_call8_v1 : Ref sig .tc := ⟨.hbm, 115, rfl⟩
abbrev main_call8_cst : Ref sig .tc := ⟨.hbm, 116, rfl⟩
abbrev main_call8_v2 : Ref sig .tc := ⟨.hbm, 117, rfl⟩
abbrev main_call8_v3 : Ref sig .tc := ⟨.hbm, 118, rfl⟩
abbrev main_call8_cst_0 : Ref sig .tc := ⟨.hbm, 119, rfl⟩
abbrev main_call8_v4 : Ref sig .tc := ⟨.hbm, 120, rfl⟩
abbrev main_call8_v5 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_call9_v0 : Ref sig .tc := ⟨.hbm, 125, rfl⟩
abbrev main_v69 : Ref sig .tc := ⟨.hbm, 126, rfl⟩
abbrev main_c_4 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_call10_v0 : Ref sig .tc := ⟨.hbm, 137, rfl⟩
abbrev main_call10_v1 : Ref sig .tc := ⟨.hbm, 138, rfl⟩
abbrev main_call10_cst : Ref sig .tc := ⟨.hbm, 139, rfl⟩
abbrev main_call10_v2 : Ref sig .tc := ⟨.hbm, 140, rfl⟩
abbrev main_call10_v3 : Ref sig .tc := ⟨.hbm, 141, rfl⟩
abbrev main_call10_cst_0 : Ref sig .tc := ⟨.hbm, 142, rfl⟩
abbrev main_call10_v4 : Ref sig .tc := ⟨.hbm, 143, rfl⟩
abbrev main_call10_v5 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_call11_v0 : Ref sig .tc := ⟨.hbm, 148, rfl⟩
abbrev main_v82 : Ref sig .tc := ⟨.hbm, 149, rfl⟩
abbrev main_c_5 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_call12_v0 : Ref sig .tc := ⟨.hbm, 160, rfl⟩
abbrev main_call12_v1 : Ref sig .tc := ⟨.hbm, 161, rfl⟩
abbrev main_call12_cst : Ref sig .tc := ⟨.hbm, 162, rfl⟩
abbrev main_call12_v2 : Ref sig .tc := ⟨.hbm, 163, rfl⟩
abbrev main_call12_v3 : Ref sig .tc := ⟨.hbm, 164, rfl⟩
abbrev main_call12_cst_0 : Ref sig .tc := ⟨.hbm, 165, rfl⟩
abbrev main_call12_v4 : Ref sig .tc := ⟨.hbm, 166, rfl⟩
abbrev main_call12_v5 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_call13_v0 : Ref sig .tc := ⟨.hbm, 171, rfl⟩
abbrev main_v95 : Ref sig .tc := ⟨.hbm, 172, rfl⟩
abbrev main_c_6 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_call14_v0 : Ref sig .tc := ⟨.hbm, 183, rfl⟩
abbrev main_call14_v1 : Ref sig .tc := ⟨.hbm, 184, rfl⟩
abbrev main_call14_cst : Ref sig .tc := ⟨.hbm, 185, rfl⟩
abbrev main_call14_v2 : Ref sig .tc := ⟨.hbm, 186, rfl⟩
abbrev main_call14_v3 : Ref sig .tc := ⟨.hbm, 187, rfl⟩
abbrev main_call14_cst_0 : Ref sig .tc := ⟨.hbm, 188, rfl⟩
abbrev main_call14_v4 : Ref sig .tc := ⟨.hbm, 189, rfl⟩
abbrev main_call14_v5 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_call15_v0 : Ref sig .tc := ⟨.hbm, 194, rfl⟩
abbrev main_v108 : Ref sig .tc := ⟨.hbm, 195, rfl⟩
abbrev main_v109 : Ref sig .tc := ⟨.hbm, 196, rfl⟩

abbrev nD : Nat := 1
abbrev τ : Topo := Topo.v7x

variable {F : FTy → Type} [FloatOps F]
-- ==== Ffn.lean ====
abbrev S12288x1024 : Shape := ⟨2, ![12288, 1024]⟩
abbrev S4x16x6144 : Shape := ⟨3, ![4, 16, 6144]⟩
abbrev S4x1024 : Shape := ⟨2, ![4, 1024]⟩
abbrev S2x1024x5632 : Shape := ⟨3, ![2, 1024, 5632]⟩
abbrev S2x2816x1024 : Shape := ⟨3, ![2, 2816, 1024]⟩
abbrev S4x16x1x6144 : Shape := ⟨4, ![4, 16, 1, 6144]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S512x1024 : Shape := ⟨2, ![512, 1024]⟩
abbrev S1x1x1x6144 : Shape := ⟨4, ![1, 1, 1, 6144]⟩
abbrev S1x1x1x1024 : Shape := ⟨4, ![1, 1, 1, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 16
  | .vmem => 9
  | .smem => 0
  | _ => 0

abbrev bufTy : (tb : Table) → Fin (tcTables nBuf tb) → BufTy
  | .hbm, ⟨0, _⟩ => ⟨S12288x1024, .f32⟩
  | .hbm, ⟨1, _⟩ => ⟨S4x16x6144, .f32⟩
  | .hbm, ⟨2, _⟩ => ⟨S4x1024, .f32⟩
  | .hbm, ⟨3, _⟩ => ⟨S2x1024x5632, .f32⟩
  | .hbm, ⟨4, _⟩ => ⟨S2x2816x1024, .f32⟩
  | .hbm, ⟨5, _⟩ => ⟨S4x16x1x6144, .f32⟩
  | .hbm, ⟨6, _⟩ => ⟨S1x1024, .f32⟩
  | .hbm, ⟨7, _⟩ => ⟨S1024, .f32⟩
  | .hbm, ⟨8, _⟩ => ⟨S1x1024x5632, .f32⟩
  | .hbm, ⟨9, _⟩ => ⟨S1024x5632, .f32⟩
  | .hbm, ⟨10, _⟩ => ⟨S1024x5632, .bf16⟩
  | .hbm, ⟨11, _⟩ => ⟨S1x2816x1024, .f32⟩
  | .hbm, ⟨12, _⟩ => ⟨S2816x1024, .f32⟩
  | .hbm, ⟨13, _⟩ => ⟨S2816x1024, .bf16⟩
  | .hbm, ⟨14, _⟩ => ⟨S1x1024, .f32⟩
  | .hbm, ⟨15, _⟩ => ⟨S12288x1024, .f32⟩
  | .local _ .vmem, ⟨0, _⟩ => ⟨S512x1024, .f32⟩
  | .local _ .vmem, ⟨1, _⟩ => ⟨S512x1024, .f32⟩
  | .local _ .vmem, ⟨2, _⟩ => ⟨S1x1x1x6144, .f32⟩
  | .local _ .vmem, ⟨3, _⟩ => ⟨S1x1x1x6144, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let v19 : BitVec 32 := Scalar.addi c8_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  let c0_i32_10 : BitVec 32 := 0#32
  ![c0_i32_7.toNat, v20.toNat, c0_i32_8.toNat, c0_i32_9.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S12288x1024 : Shape := ⟨2, ![12288, 1024]⟩
abbrev S4x16x6144 : Shape := ⟨3, ![4, 16, 6144]⟩
abbrev S4x1024 : Shape := ⟨2, ![4, 1024]⟩
abbrev S2x1024x5632 : Shape := ⟨3, ![2, 1024, 5632]⟩
abbrev S2x2816x1024 : Shape := ⟨3, ![2, 2816, 1024]⟩
abbrev S4096x1024 : Shape := ⟨2, ![4096, 1024]⟩
abbrev S16x256x1024 : Shape := ⟨3, ![16, 256, 1024]⟩
abbrev S8192x1024 : Shape := ⟨2, ![8192, 1024]⟩
abbrev S8x1024x1024 : Shape := ⟨3, ![8, 1024, 1024]⟩
abbrev S1x1x6144 : Shape := ⟨3, ![1, 1, 6144]⟩
abbrev S1x6144 : Shape := ⟨2, ![1, 6144]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S8x1024 : Shape := ⟨2, ![8, 1024]⟩
abbrev S8x1024x1 : Shape := ⟨3, ![8, 1024, 1]⟩
abbrev S8x1024x5632 : Shape := ⟨3, ![8, 1024, 5632]⟩
abbrev S8x1024x2816 : Shape := ⟨3, ![8, 1024, 2816]⟩

abbrev nBuf : Space → Nat
  | .hbm => 122
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S4x16x6144, .f32⟩
  | .hbm, ⟨2, _⟩ => ⟨S4x1024, .f32⟩
  | .hbm, ⟨3, _⟩ => ⟨S2x1024x5632, .f32⟩
  | .hbm, ⟨4, _⟩ => ⟨S2x2816x1024, .f32⟩
  | .hbm, ⟨5, _⟩ => ⟨S4096x1024, .f32⟩
  | .hbm, ⟨6, _⟩ => ⟨S16x256x1024, .f32⟩
  | .hbm, ⟨7, _⟩ => ⟨S8192x1024, .f32⟩
  | .hbm, ⟨8, _⟩ => ⟨S8x1024x1024, .f32⟩
  | .hbm, ⟨9, _⟩ => ⟨S1x1x6144, .f32⟩
  | .hbm, ⟨10, _⟩ => ⟨S1x6144, .f32⟩
  | .hbm, ⟨11, _⟩ => ⟨S1x1x6144, .f32⟩
  | .hbm, ⟨12, _⟩ => ⟨S1x1024, .f32⟩
  | .hbm, ⟨13, _⟩ => ⟨S1024, .f32⟩
  | .hbm, ⟨14, _⟩ => ⟨S1x1024x5632, .f32⟩
  | .hbm, ⟨15, _⟩ => ⟨S1024x5632, .f32⟩
  | .hbm, ⟨16, _⟩ => ⟨S1x2816x1024, .f32⟩
  | .hbm, ⟨17, _⟩ => ⟨S2816x1024, .f32⟩
  | .hbm, ⟨18, _⟩ => ⟨S1x1x1024, .f32⟩
  | .hbm, ⟨19, _⟩ => ⟨S1x1x1024, .f32⟩
  | .hbm, ⟨20, _⟩ => ⟨S1x1x1024, .f32⟩
  | .hbm, ⟨21, _⟩ => ⟨S1x1x1024, .f32⟩
  | .hbm, ⟨22, _⟩ => ⟨S1x1x1024, .f32⟩
  | .hbm, ⟨23, _⟩ => ⟨S1x1x1024, .f32⟩
  | .hbm, ⟨24, _⟩ => ⟨S16x256x1024, .f32⟩
  | .hbm, ⟨25, _⟩ => ⟨S_, .f32⟩
  | .hbm, ⟨26, _⟩ => ⟨S16x256, .f32⟩
  | .hbm, ⟨27, _⟩ => ⟨S16x256x1, .f32⟩
  | .hbm, ⟨28, _⟩ => ⟨S_, .f32⟩
  | .hbm, ⟨29, _⟩ => ⟨S16x256x1, .f32⟩
  | .hbm, ⟨30, _⟩ => ⟨S16x256x1, .f32⟩
  | .hbm, ⟨31, _⟩ => ⟨S_, .f32⟩
  | .hbm, ⟨32, _⟩ => ⟨S16x256x1, .f32⟩
  | .hbm, ⟨33, _⟩ => ⟨S16x256x1, .f32⟩
  | .hbm, ⟨34, _⟩ => ⟨S16x256x1, .f32⟩
  | .hbm, ⟨35, _⟩ => ⟨S16x256x1024, .f32⟩
  | .hbm, ⟨36, _⟩ => ⟨S16x256x1024, .f32⟩
  | .hbm, ⟨37, _⟩ => ⟨S1x1x1024, .f32⟩
  | .hbm, ⟨38, _⟩ => ⟨S16x256x1024, .f32⟩
  | .hbm, ⟨39, _⟩ => ⟨S16x256x1024, .f32⟩
  | .hbm, ⟨40, _⟩ => ⟨S_, .f32⟩
  | .hbm, ⟨41, _⟩ => ⟨S1x1x1024, .f32⟩
  | .hbm, ⟨42, _⟩ => ⟨S1x1x1024, .f32⟩
  | .hbm, ⟨43, _⟩ => ⟨S16x256x1024, .f32⟩
  | .hbm, ⟨44, _⟩ => ⟨S16x256x1024, .f32⟩
  | .hbm, ⟨45, _⟩ => ⟨S16x256x1024, .f32⟩
  | .hbm, ⟨46, _⟩ => ⟨S16x256x1024, .f32⟩
  | .hbm, ⟨47, _⟩ => ⟨S16x256x5632, .f32⟩
  | .hbm, ⟨48, _⟩ => ⟨S16x256x2816, .f32⟩
  | .hbm, ⟨49, _⟩ => ⟨S16x256x2816, .f32⟩
  | .hbm, ⟨50, _⟩ => ⟨S16x256x2816, .f32⟩
  | .hbm, ⟨51, _⟩ => ⟨S16x256x2816, .f32⟩
  | .hbm, ⟨52, _⟩ => ⟨S_, .f32⟩
  | .hbm, ⟨53, _⟩ => ⟨S16x256x2816, .f32⟩
  | .hbm, ⟨54, _⟩ => ⟨S16x256x2816, .f32⟩
  | .hbm, ⟨55, _⟩ => ⟨S_, .f32⟩
  | .hbm, ⟨56, _⟩ => ⟨S16x256x2816, .f32⟩
  | .hbm, ⟨57, _⟩ => ⟨S16x256x2816, .f32⟩
  | .hbm, ⟨58, _⟩ => ⟨S16x256x2816, .f32⟩
  | .hbm, ⟨59, _⟩ => ⟨S16x256x2816, .f32⟩
  | .hbm, ⟨60, _⟩ => ⟨S16x256x1024, .f32⟩
  | .hbm, ⟨61, _⟩ => ⟨S16x256x1024, .f32⟩
  | .hbm, ⟨62, _⟩ => ⟨S16x256x1024, .f32⟩
  | .hbm, ⟨63, _⟩ => ⟨S16x256x1024, .f32⟩
  | .hbm, ⟨64, _⟩ => ⟨S1x8x6144, .f32⟩
  | .hbm, ⟨65, _⟩ => ⟨S8x6144, .f32⟩
  | .hbm, ⟨66, _⟩ => ⟨S8x1x6144, .f32⟩
  | .hbm, ⟨67, _⟩ => ⟨S1x1024, .f32⟩
  | .hbm, ⟨68, _⟩ => ⟨S1024, .f32⟩
  | .hbm, ⟨69, _⟩ => ⟨S1x1024x5632, .f32⟩
  | .hbm, ⟨70, _⟩ => ⟨S1024x5632, .f32⟩
  | .hbm, ⟨71, _⟩ => ⟨S1x2816x1024, .f32⟩
  | .hbm, ⟨72, _⟩ => ⟨S2816x1024, .f32⟩
  | .hbm, ⟨73, _⟩ => ⟨S8x1x1024, .f32⟩
  | .hbm, ⟨74, _⟩ => ⟨S8x1x1024, .f32⟩
  | .hbm, ⟨75, _⟩ => ⟨S8x1x1024, .f32⟩
  | .hbm, ⟨76, _⟩ => ⟨S8x1x1024, .f32⟩
  | .hbm, ⟨77, _⟩ => ⟨S8x1x1024, .f32⟩
  | .hbm, ⟨78, _⟩ => ⟨S8x1x1024, .f32⟩
  | .hbm, ⟨79, _⟩ => ⟨S8x1024x1024, .f32⟩
  | .hbm, ⟨80, _⟩ => ⟨S_, .f32⟩
  | .hbm, ⟨81, _⟩ => ⟨S8x1024, .f32⟩
  | .hbm, ⟨82, _⟩ => ⟨S8x1024x1, .f32⟩
  | .hbm, ⟨83, _⟩ => ⟨S_, .f32⟩
  | .hbm, ⟨84, _⟩ => ⟨S8x1024x1, .f32⟩
  | .hbm, ⟨85, _⟩ => ⟨S8x1024x1, .f32⟩
  | .hbm, ⟨86, _⟩ => ⟨S_, .f32⟩
  | .hbm, ⟨87, _⟩ => ⟨S8x1024x1, .f32⟩
  | .hbm, ⟨88, _⟩ => ⟨S8x1024x1, .f32⟩
  | .hbm, ⟨89, _⟩ => ⟨S8x1024x1, .f32⟩
  | .hbm, ⟨90, _⟩ => ⟨S8x1024x1024, .f32⟩
  | .hbm, ⟨91, _⟩ => ⟨S8x1024x1024, .f32⟩
  | .hbm, ⟨92, _⟩ => ⟨S1x1x1024, .f32⟩
  | .hbm, ⟨93, _⟩ => ⟨S8x1024x1024, .f32⟩
  | .hbm, ⟨94, _⟩ => ⟨S8x1024x1024, .f32⟩
  | .hbm, ⟨95, _⟩ => ⟨S_, .f32⟩
  | .hbm, ⟨96, _⟩ => ⟨S8x1x1024, .f32⟩
  | .hbm, ⟨97, _⟩ => ⟨S8x1x1024, .f32⟩
  | .hbm, ⟨98, _⟩ => ⟨S8x1024x1024, .f32⟩
  | .hbm, ⟨99, _⟩ => ⟨S8x1024x1024, .f32⟩
  | .hbm, ⟨100, _⟩ => ⟨S8x1024x1024, .f32⟩
  | .hbm, ⟨101, _⟩ => ⟨S8x1024x1024, .f32⟩
  | .hbm, ⟨102, _⟩ => ⟨S8x1024x5632, .f32⟩
  | .hbm, ⟨103, _⟩ => ⟨S8x1024x2816, .f32⟩
  | .hbm, ⟨104, _⟩ => ⟨S8x1024x2816, .f32⟩
  | .hbm, ⟨105, _⟩ => ⟨S8x1024x2816, .f32⟩
  | .hbm, ⟨106, _⟩ => ⟨S8x1024x2816, .f32⟩
  | .hbm, ⟨107, _⟩ => ⟨S_, .f32⟩
  | .hbm, ⟨108, _⟩ => ⟨S8x1024x2816, .f32⟩
  | .hbm, ⟨109, _⟩ => ⟨S8x1024x2816, .f32⟩
  | .hbm, ⟨110, _⟩ => ⟨S_, .f32⟩
  | .hbm, ⟨111, _⟩ => ⟨S8x1024x2816, .f32⟩
  | .hbm, ⟨112, _⟩ => ⟨S8x1024x2816, .f32⟩
  | .hbm, ⟨113, _⟩ => ⟨S8x1024x2816, .f32⟩
  | .hbm, ⟨114, _⟩ => ⟨S8x1024x2816, .f32⟩
  | .hbm, ⟨115, _⟩ => ⟨S8x1024x1024, .f32⟩
  | .hbm, ⟨116, _⟩ => ⟨S8x1024x1024, .f32⟩
  | .hbm, ⟨117, _⟩ => ⟨S8x1024x1024, .f32⟩
  | .hbm, ⟨118, _⟩ => ⟨S8x1024x1024, .f32⟩
  | .hbm, ⟨119, _⟩ => ⟨S4096x1024, .f32⟩
  | .hbm, ⟨120, _⟩ => ⟨S8192x1024, .f32⟩
  | .hbm, ⟨121, _⟩ => ⟨S12288x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_3 : Ref sig .tc := ⟨.hbm, 80, rfl⟩
abbrev main_v63 : Ref sig .tc := ⟨.hbm, 81, rfl⟩
abbrev main_v64 : Ref sig .tc := ⟨.hbm, 82, rfl⟩
abbrev main_cst_4 : Ref sig .tc := ⟨.hbm, 83, rfl⟩
abbrev main_v65 : Ref sig .tc := ⟨.hbm, 84, rfl⟩
abbrev main_v66 : Ref sig .tc := ⟨.hbm, 85, rfl⟩
abbrev main_cst_5 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_6 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_call1_v0 : Ref sig .tc := ⟨.hbm, 105, rfl⟩
abbrev main_call1_v1 : Ref sig .tc := ⟨.hbm, 106, rfl⟩
abbrev main_call1_cst : Ref sig .tc := ⟨.hbm, 107, rfl⟩
abbrev main_call1_v2 : Ref sig .tc := ⟨.hbm, 108, rfl⟩
abbrev main_call1_v3 : Ref sig .tc := ⟨.hbm, 109, rfl⟩
abbrev main_call1_cst_0 : Ref sig .tc := ⟨.hbm, 110, rfl⟩
abbrev main_call1_v4 : Ref sig .tc := ⟨.hbm, 111, rfl⟩
abbrev main_call1_v5 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]
-- ==== Qkv.lean ====
abbrev S12288x1024 : Shape := ⟨2, ![12288, 1024]⟩
abbrev S4x16x6144 : Shape := ⟨3, ![4, 16, 6144]⟩
abbrev S4x1024 : Shape := ⟨2, ![4, 1024]⟩
abbrev S1x1024x1024 : Shape := ⟨3, ![1, 1024, 1024]⟩
abbrev S1x1024x512 : Shape := ⟨3, ![1, 1024, 512]⟩
abbrev S4x16x1x6144 : Shape := ⟨4, ![4, 16, 1, 6144]⟩
abbrev S1024x1024 : Shape := ⟨2, ![1024, 1024]⟩
abbrev S1024x512 : Shape := ⟨2, ![1024, 512]⟩
abbrev S1024x256 : Shape := ⟨2, ![1024, 256]⟩
abbrev S1024x4x1x64 : Shape := ⟨4, ![1024, 4, 1, 64]⟩
abbrev S1024x4x4x64 : Shape := ⟨4, ![1024, 4, 4, 64]⟩
abbrev S1x1024 : Shape := ⟨2, ![1, 1024]⟩
abbrev S1024 : Shape := ⟨1, ![1024]⟩
abbrev S4096x1024 : Shape := ⟨2, ![4096, 1024]⟩
abbrev S4096x512 : Shape := ⟨2, ![4096, 512]⟩
abbrev S512x1024 : Shape := ⟨2, ![512, 1024]⟩
abbrev S1x1x1x6144 : Shape := ⟨4, ![1, 1, 1, 6144]⟩
abbrev S512x512 : Shape := ⟨2, ![512, 512]⟩
abbrev S1x1x1x1024 : Shape := ⟨4, ![1, 1, 1, 1024]⟩
abbrev S512 : Shape := ⟨1, ![512]⟩
abbrev S512x1 : Shape := ⟨2, ![512, 1]⟩
abbrev S4096x256 : Shape := ⟨2, ![4096, 256]⟩
abbrev S16x1x256x4x64 : Shape := ⟨5, ![16, 1, 256, 4, 64]⟩

abbrev nBuf : Space → Nat
  | .hbm => 33
  | .vmem => 17
  | .smem => 0
  | _ => 0

abbrev bufTy : (tb : Table) → Fin (tcTables nBuf tb) → BufTy
  | .hbm, ⟨0, _⟩ => ⟨S12288x1024, .f32⟩
  | .hbm, ⟨1, _⟩ => ⟨S4x16x6144, .f32⟩
  | .hbm, ⟨2, _⟩ => ⟨S4x1024, .f32⟩
  | .hbm, ⟨3, _⟩ => ⟨S1x1024x1024, .f32⟩
  | .hbm, ⟨4, _⟩ => ⟨S1x1024x512, .f32⟩
  | .hbm, ⟨5, _⟩ => ⟨S4x16x1x6144, .f32⟩
  | .hbm, ⟨6, _⟩ => ⟨S1024x1024, .f32⟩
  | .hbm, ⟨7, _⟩ => ⟨S1024x512, .f32⟩
  | .hbm, ⟨8, _⟩ => ⟨S1024x256, .f32⟩
  | .hbm, ⟨9, _⟩ => ⟨S1024x4x1x64, .f32⟩
  | .hbm, ⟨10, _⟩ => ⟨S1024x4x4x64, .f32⟩
  | .hbm, ⟨11, _⟩ => ⟨S1024x1024, .f32⟩
  | .hbm, ⟨12, _⟩ => ⟨S1024x512, .f32⟩
  | .hbm, ⟨13, _⟩ => ⟨S1024x256, .f32⟩
  | .hbm, ⟨14, _⟩ => ⟨S1024x4x1x64, .f32⟩
  | .hbm, ⟨15, _⟩ => ⟨S1024x4x4x64, .f32⟩
  | .hbm, ⟨16, _⟩ => ⟨S1024x1024, .f32⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1x1024, .f32⟩
  | .hbm, ⟨21, _⟩ => ⟨S1024, .f32⟩
  | .hbm, ⟨22, _⟩ => ⟨S1024x512, .f32⟩
  | .hbm, ⟨23, _⟩ => ⟨S1024x512, .bf16⟩
  | .hbm, ⟨24, _⟩ => ⟨S1x1024, .f32⟩
  | .hbm, ⟨25, _⟩ => ⟨S4096x1024, .bf16⟩
  | .hbm, ⟨26, _⟩ => ⟨S4096x1024, .bf16⟩
  | .hbm, ⟨27, _⟩ => ⟨S4096x1024, .bf16⟩
  | .hbm, ⟨28, _⟩ => ⟨S4096x512, .f32⟩
  | .hbm, ⟨29, _⟩ => ⟨S4096x256, .f32⟩
  | .hbm, ⟨30, _⟩ => ⟨S16x1x256x4x64, .f32⟩
  | .hbm, ⟨31, _⟩ => ⟨S4096x256, .f32⟩
  | .hbm, ⟨32, _⟩ => ⟨S16x1x256x4x64, .f32⟩
  | .local _ .vmem, ⟨0, _⟩ => ⟨S512x1024, .f32⟩
  | .local _ .vmem, ⟨1, _⟩ => ⟨S512x1024, .f32⟩
  | .local _ .vmem, ⟨2, _⟩ => ⟨S1x1x1x6144, .f32⟩
  | .local _ .vmem, ⟨3, _⟩ => ⟨S1x1x1x6144, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x512, .f32⟩
  | .local _ .vmem, ⟨16, _⟩ => ⟨S512x512, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev main_v20_2 : Ref sig .tc := ⟨.hbm, 27, rfl⟩
abbrev main_v20_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let v19 : BitVec 32 := Scalar.addi c8_i32_5 v18
  let c0_i32_6 : BitVec 32 := 0#32
  let v20 : BitVec 32 := Scalar.select v0 c0_i32_6 v19
  let c2_i32_7 : BitVec 32 := 2#32
  let c0_i32_8 : BitVec 32 := 0#32
  let c0_i32_9 : BitVec 32 := 0#32
  let c0_i32_10 : BitVec 32 := 0#32
  ![c2_i32_7.toNat, v20.toNat, c0_i32_8.toNat, c0_i32_9.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== QkvRefIdeal.lean ====
abbrev S12288x1024 : Shape := ⟨2, ![12288, 1024]⟩
abbrev S4x16x6144 : Shape := ⟨3, ![4, 16, 6144]⟩
abbrev S4x1024 : Shape := ⟨2, ![4, 1024]⟩
abbrev S1x1024x1024 : Shape := ⟨3, ![1, 1024, 1024]⟩
abbrev S1x1024x512 : Shape := ⟨3, ![1, 1024, 512]⟩
abbrev S4096x1024 : Shape := ⟨2, ![4096, 1024]⟩
abbrev S16x256x1024 : Shape := ⟨3, ![16, 256, 1024]⟩
abbrev S1x1x6144 : Shape := ⟨3, ![1, 1, 6144]⟩
abbrev S1x6144 : Shape := ⟨2, ![1, 6144]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1024x1024 : Shape := ⟨2, ![1024, 1024]⟩
abbrev S1024x512 : Shape := ⟨2, ![1024, 512]⟩
abbrev S16x256x512 : Shape := ⟨3, ![16, 256, 512]⟩
abbrev S16x256x2x4x64 : Shape := ⟨5, ![16, 256, 2, 4, 64]⟩
abbrev S16x256x1x4x64 : Shape := ⟨5, ![16, 256, 1, 4, 64]⟩
abbrev S16x256x4x64 : Shape := ⟨4, ![16, 256, 4, 64]⟩
abbrev S16x256x4x1x64 : Shape := ⟨5, ![16, 256, 4, 1, 64]⟩
abbrev S16x256x4x4x64 : Shape := ⟨5, ![16, 256, 4, 4, 64]⟩
abbrev S16x1x256x4x64 : Shape := ⟨5, ![16, 1, 256, 4, 64]⟩

abbrev nBuf : Space → Nat
  | .hbm => 62
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S4x16x6144, .f32⟩
  | .hbm, ⟨2, _⟩ => ⟨S4x1024, .f32⟩
  | .hbm, ⟨3, _⟩ => ⟨S1x1024x1024, .f32⟩
  | .hbm, ⟨4, _⟩ => ⟨S1x1024x512, .f32⟩
  | .hbm, ⟨5, _⟩ => ⟨S4096x1024, .f32⟩
  | .hbm, ⟨6, _⟩ => ⟨S16x256x1024, .f32⟩
  | .hbm, ⟨7, _⟩ => ⟨S1x1x6144, .f32⟩
  | .hbm, ⟨8, _⟩ => ⟨S1x6144, .f32⟩
  | .hbm, ⟨9, _⟩ => ⟨S1x1x6144, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1024, .f32⟩
  | .hbm, ⟨17, _⟩ => ⟨S1024, .f32⟩
  | .hbm, ⟨18, _⟩ => ⟨S16x256x1024, .f32⟩
  | .hbm, ⟨19, _⟩ => ⟨S_, .f32⟩
  | .hbm, ⟨20, _⟩ => ⟨S16x256, .f32⟩
  | .hbm, ⟨21, _⟩ => ⟨S16x256x1, .f32⟩
  | .hbm, ⟨22, _⟩ => ⟨S_, .f32⟩
  | .hbm, ⟨23, _⟩ => ⟨S16x256x1, .f32⟩
  | .hbm, ⟨24, _⟩ => ⟨S16x256x1, .f32⟩
  | .hbm, ⟨25, _⟩ => ⟨S_, .f32⟩
  | .hbm, ⟨26, _⟩ => ⟨S16x256x1, .f32⟩
  | .hbm, ⟨27, _⟩ => ⟨S16x256x1, .f32⟩
  | .hbm, ⟨28, _⟩ => ⟨S16x256x1, .f32⟩
  | .hbm, ⟨29, _⟩ => ⟨S16x256x1024, .f32⟩
  | .hbm, ⟨30, _⟩ => ⟨S16x256x1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S_, .f32⟩
  | .hbm, ⟨35, _⟩ => ⟨S1x1x1024, .f32⟩
  | .hbm, ⟨36, _⟩ => ⟨S1x1x1024, .f32⟩
  | .hbm, ⟨37, _⟩ => ⟨S16x256x1024, .f32⟩
  | .hbm, ⟨38, _⟩ => ⟨S16x256x1024, .f32⟩
  | .hbm, ⟨39, _⟩ => ⟨S16x256x1024, .f32⟩
  | .hbm, ⟨40, _⟩ => ⟨S16x256x1024, .f32⟩
  | .hbm, ⟨41, _⟩ => ⟨S1024x1024, .f32⟩
  | .hbm, ⟨42, _⟩ => ⟨S16x256x1024, .f32⟩
  | .hbm, ⟨43, _⟩ => ⟨S1024x512, .f32⟩
  | .hbm, ⟨44, _⟩ => ⟨S16x256x512, .f32⟩
  | .hbm, ⟨45, _⟩ => ⟨S16x256x2x4x64, .f32⟩
  | .hbm, ⟨46, _⟩ => ⟨S16x256x1x4x64, .f32⟩
  | .hbm, ⟨47, _⟩ => ⟨S16x256x4x64, .f32⟩
  | .hbm, ⟨48, _⟩ => ⟨S16x256x1x4x64, .f32⟩
  | .hbm, ⟨49, _⟩ => ⟨S16x256x4x64, .f32⟩
  | .hbm, ⟨50, _⟩ => ⟨S4096x1024, .f32⟩
  | .hbm, ⟨51, _⟩ => ⟨S4096x1024, .bf16⟩
  | .hbm, ⟨52, _⟩ => ⟨S16x256x4x1x64, .f32⟩
  | .hbm, ⟨53, _⟩ => ⟨S16x256x4x4x64, .f32⟩
  | .hbm, ⟨54, _⟩ => ⟨S4096x1024, .f32⟩
  | .hbm, ⟨55, _⟩ => ⟨S4096x1024, .bf16⟩
  | .hbm, ⟨56, _⟩ => ⟨S16x256x4x1x64, .f32⟩
  | .hbm, ⟨57, _⟩ => ⟨S16x256x4x4x64, .f32⟩
  | .hbm, ⟨58, _⟩ => ⟨S4096x1024, .f32⟩
  | .hbm, ⟨59, _⟩ => ⟨S4096x1024, .bf16⟩
  | .hbm, ⟨60, _⟩ => ⟨S16x1x256x4x64, .f32⟩
  | .hbm, ⟨61, _⟩ => ⟨S16x1x256x4x64, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩

abbrev nD : Nat := 1
abbrev τ : Topo := Topo.v7x

variable {F : FTy → Type} [FloatOps F]
-- ==== FfnTwo.lean ====
abbrev S12288x1024 : Shape := ⟨2, ![12288, 1024]⟩
abbrev S4x16x6144 : Shape := ⟨3, ![4, 16, 6144]⟩
abbrev S4x1024 : Shape := ⟨2, ![4, 1024]⟩
abbrev S2x1024x5632 : Shape := ⟨3, ![2, 1024, 5632]⟩
abbrev S2x2816x1024 : Shape := ⟨3, ![2, 2816, 1024]⟩
abbrev S4x16x1x6144 : Shape := ⟨4, ![4, 16, 1, 6144]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S512x1024 : Shape := ⟨2, ![512, 1024]⟩
abbrev S1x1x1x6144 : Shape := ⟨4, ![1, 1, 1, 6144]⟩
abbrev S1x1x1x1024 : Shape := ⟨4, ![1, 1, 1, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 16
  | .vmem => 9
  | .smem => 0
  | _ => 0

abbrev bufTy : (tb : Table) → Fin (tcTables nBuf tb) → BufTy
  | .hbm, ⟨0, _⟩ => ⟨S12288x1024, .f32⟩
  | .hbm, ⟨1, _⟩ => ⟨S4x16x6144, .f32⟩
  | .hbm, ⟨2, _⟩ => ⟨S4x1024, .f32⟩
  | .hbm, ⟨3, _⟩ => ⟨S2x1024x5632, .f32⟩
  | .hbm, ⟨4, _⟩ => ⟨S2x2816x1024, .f32⟩
  | .hbm, ⟨5, _⟩ => ⟨S4x16x1x6144, .f32⟩
  | .hbm, ⟨6, _⟩ => ⟨S1x1024, .f32⟩
  | .hbm, ⟨7, _⟩ => ⟨S1024, .f32⟩
  | .hbm, ⟨8, _⟩ => ⟨S1x1024x5632, .f32⟩
  | .hbm, ⟨9, _⟩ => ⟨S1024x5632, .f32⟩
  | .hbm, ⟨10, _⟩ => ⟨S1024x5632, .bf16⟩
  | .hbm, ⟨11, _⟩ => ⟨S1x2816x1024, .f32⟩
  | .hbm, ⟨12, _⟩ => ⟨S2816x1024, .f32⟩
  | .hbm, ⟨13, _⟩ => ⟨S2816x1024, .bf16⟩
  | .hbm, ⟨14, _⟩ => ⟨S1x1024, .f32⟩
  | .hbm, ⟨15, _⟩ => ⟨S12288x1024, .f32⟩
  | .local _ .vmem, ⟨0, _⟩ => ⟨S512x1024, .f32⟩
  | .local _ .vmem, ⟨1, _⟩ => ⟨S512x1024, .f32⟩
  | .local _ .vmem, ⟨2, _⟩ => ⟨S1x1x1x6144, .f32⟩
  | .local _ .vmem, ⟨3, _⟩ => ⟨S1x1x1x6144, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let v19 : BitVec 32 := Scalar.addi c8_i32_5 v18
  let c0_i32_6 : BitVec 32 := 0#32
  let v20 : BitVec 32 := Scalar.select v0 c0_i32_6 v19
  let c2_i32_7 : BitVec 32 := 2#32
  let c0_i32_8 : BitVec 32 := 0#32
  let c0_i32_9 : BitVec 32 := 0#32
  let c0_i32_10 : BitVec 32 := 0#32
  ![c2_i32_7.toNat, v20.toNat, c0_i32_8.toNat, c0_i32_9.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnTwoRefIdeal.lean ====
abbrev S12288x1024 : Shape := ⟨2, ![12288, 1024]⟩
abbrev S4x16x6144 : Shape := ⟨3, ![4, 16, 6144]⟩
abbrev S4x1024 : Shape := ⟨2, ![4, 1024]⟩
abbrev S2x1024x5632 : Shape := ⟨3, ![2, 1024, 5632]⟩
abbrev S2x2816x1024 : Shape := ⟨3, ![2, 2816, 1024]⟩
abbrev S4096x1024 : Shape := ⟨2, ![4096, 1024]⟩
abbrev S16x256x1024 : Shape := ⟨3, ![16, 256, 1024]⟩
abbrev S8192x1024 : Shape := ⟨2, ![8192, 1024]⟩
abbrev S8x1024x1024 : Shape := ⟨3, ![8, 1024, 1024]⟩
abbrev S1x1x6144 : Shape := ⟨3, ![1, 1, 6144]⟩
abbrev S1x6144 : Shape := ⟨2, ![1, 6144]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S8x1024 : Shape := ⟨2, ![8, 1024]⟩
abbrev S8x1024x1 : Shape := ⟨3, ![8, 1024, 1]⟩
abbrev S8x1024x5632 : Shape := ⟨3, ![8, 1024, 5632]⟩
abbrev S8x1024x2816 : Shape := ⟨3, ![8, 1024, 2816]⟩

abbrev nBuf : Space → Nat
  | .hbm => 122
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S4x16x6144, .f32⟩
  | .hbm, ⟨2, _⟩ => ⟨S4x1024, .f32⟩
  | .hbm, ⟨3, _⟩ => ⟨S2x1024x5632, .f32⟩
  | .hbm, ⟨4, _⟩ => ⟨S2x2816x1024, .f32⟩
  | .hbm, ⟨5, _⟩ => ⟨S4096x1024, .f32⟩
  | .hbm, ⟨6, _⟩ => ⟨S16x256x1024, .f32⟩
  | .hbm, ⟨7, _⟩ => ⟨S8192x1024, .f32⟩
  | .hbm, ⟨8, _⟩ => ⟨S8x1024x1024, .f32⟩
  | .hbm, ⟨9, _⟩ => ⟨S1x1x6144, .f32⟩
  | .hbm, ⟨10, _⟩ => ⟨S1x6144, .f32⟩
  | .hbm, ⟨11, _⟩ => ⟨S1x1x6144, .f32⟩
  | .hbm, ⟨12, _⟩ => ⟨S1x1024, .f32⟩
  | .hbm, ⟨13, _⟩ => ⟨S1024, .f32⟩
  | .hbm, ⟨14, _⟩ => ⟨S1x1024x5632, .f32⟩
  | .hbm, ⟨15, _⟩ => ⟨S1024x5632, .f32⟩
  | .hbm, ⟨16, _⟩ => ⟨S1x2816x1024, .f32⟩
  | .hbm, ⟨17, _⟩ => ⟨S2816x1024, .f32⟩
  | .hbm, ⟨18, _⟩ => ⟨S1x1x1024, .f32⟩
  | .hbm, ⟨19, _⟩ => ⟨S1x1x1024, .f32⟩
  | .hbm, ⟨20, _⟩ => ⟨S1x1x1024, .f32⟩
  | .hbm, ⟨21, _⟩ => ⟨S1x1x1024, .f32⟩
  | .hbm, ⟨22, _⟩ => ⟨S1x1x1024, .f32⟩
  | .hbm, ⟨23, _⟩ => ⟨S1x1x1024, .f32⟩
  | .hbm, ⟨24, _⟩ => ⟨S16x256x1024, .f32⟩
  | .hbm, ⟨25, _⟩ => ⟨S_, .f32⟩
  | .hbm, ⟨26, _⟩ => ⟨S16x256, .f32⟩
  | .hbm, ⟨27, _⟩ => ⟨S16x256x1, .f32⟩
  | .hbm, ⟨28, _⟩ => ⟨S_, .f32⟩
  | .hbm, ⟨29, _⟩ => ⟨S16x256x1, .f32⟩
  | .hbm, ⟨30, _⟩ => ⟨S16x256x1, .f32⟩
  | .hbm, ⟨31, _⟩ => ⟨S_, .f32⟩
  | .hbm, ⟨32, _⟩ => ⟨S16x256x1, .f32⟩
  | .hbm, ⟨33, _⟩ => ⟨S16x256x1, .f32⟩
  | .hbm, ⟨34, _⟩ => ⟨S16x256x1, .f32⟩
  | .hbm, ⟨35, _⟩ => ⟨S16x256x1024, .f32⟩
  | .hbm, ⟨36, _⟩ => ⟨S16x256x1024, .f32⟩
  | .hbm, ⟨37, _⟩ => ⟨S1x1x1024, .f32⟩
  | .hbm, ⟨38, _⟩ => ⟨S16x256x1024, .f32⟩
  | .hbm, ⟨39, _⟩ => ⟨S16x256x1024, .f32⟩
  | .hbm, ⟨40, _⟩ => ⟨S_, .f32⟩
  | .hbm, ⟨41, _⟩ => ⟨S1x1x1024, .f32⟩
  | .hbm, ⟨42, _⟩ => ⟨S1x1x1024, .f32⟩
  | .hbm, ⟨43, _⟩ => ⟨S16x256x1024, .f32⟩
  | .hbm, ⟨44, _⟩ => ⟨S16x256x1024, .f32⟩
  | .hbm, ⟨45, _⟩ => ⟨S16x256x1024, .f32⟩
  | .hbm, ⟨46, _⟩ => ⟨S16x256x1024, .f32⟩
  | .hbm, ⟨47, _⟩ => ⟨S16x256x5632, .f32⟩
  | .hbm, ⟨48, _⟩ => ⟨S16x256x2816, .f32⟩
  | .hbm, ⟨49, _⟩ => ⟨S16x256x2816, .f32⟩
  | .hbm, ⟨50, _⟩ => ⟨S16x256x2816, .f32⟩
  | .hbm, ⟨51, _⟩ => ⟨S16x256x2816, .f32⟩
  | .hbm, ⟨52, _⟩ => ⟨S_, .f32⟩
  | .hbm, ⟨53, _⟩ => ⟨S16x256x2816, .f32⟩
  | .hbm, ⟨54, _⟩ => ⟨S16x256x2816, .f32⟩
  | .hbm, ⟨55, _⟩ => ⟨S_, .f32⟩
  | .hbm, ⟨56, _⟩ => ⟨S16x256x2816, .f32⟩
  | .hbm, ⟨57, _⟩ => ⟨S16x256x2816, .f32⟩
  | .hbm, ⟨58, _⟩ => ⟨S16x256x2816, .f32⟩
  | .hbm, ⟨59, _⟩ => ⟨S16x256x2816, .f32⟩
  | .hbm, ⟨60, _⟩ => ⟨S16x256x1024, .f32⟩
  | .hbm, ⟨61, _⟩ => ⟨S16x256x1024, .f32⟩
  | .hbm, ⟨62, _⟩ => ⟨S16x256x1024, .f32⟩
  | .hbm, ⟨63, _⟩ => ⟨S16x256x1024, .f32⟩
  | .hbm, ⟨64, _⟩ => ⟨S1x8x6144, .f32⟩
  | .hbm, ⟨65, _⟩ => ⟨S8x6144, .f32⟩
  | .hbm, ⟨66, _⟩ => ⟨S8x1x6144, .f32⟩
  | .hbm, ⟨67, _⟩ => ⟨S1x1024, .f32⟩
  | .hbm, ⟨68, _⟩ => ⟨S1024, .f32⟩
  | .hbm, ⟨69, _⟩ => ⟨S1x1024x5632, .f32⟩
  | .hbm, ⟨70, _⟩ => ⟨S1024x5632, .f32⟩
  | .hbm, ⟨71, _⟩ => ⟨S1x2816x1024, .f32⟩
  | .hbm, ⟨72, _⟩ => ⟨S2816x1024, .f32⟩
  | .hbm, ⟨73, _⟩ => ⟨S8x1x1024, .f32⟩
  | .hbm, ⟨74, _⟩ => ⟨S8x1x1024, .f32⟩
  | .hbm, ⟨75, _⟩ => ⟨S8x1x1024, .f32⟩
  | .hbm, ⟨76, _⟩ => ⟨S8x1x1024, .f32⟩
  | .hbm, ⟨77, _⟩ => ⟨S8x1x1024, .f32⟩
  | .hbm, ⟨78, _⟩ => ⟨S8x1x1024, .f32⟩
  | .hbm, ⟨79, _⟩ => ⟨S8x1024x1024, .f32⟩
  | .hbm, ⟨80, _⟩ => ⟨S_, .f32⟩
  | .hbm, ⟨81, _⟩ => ⟨S8x1024, .f32⟩
  | .hbm, ⟨82, _⟩ => ⟨S8x1024x1, .f32⟩
  | .hbm, ⟨83, _⟩ => ⟨S_, .f32⟩
  | .hbm, ⟨84, _⟩ => ⟨S8x1024x1, .f32⟩
  | .hbm, ⟨85, _⟩ => ⟨S8x1024x1, .f32⟩
  | .hbm, ⟨86, _⟩ => ⟨S_, .f32⟩
  | .hbm, ⟨87, _⟩ => ⟨S8x1024x1, .f32⟩
  | .hbm, ⟨88, _⟩ => ⟨S8x1024x1, .f32⟩
  | .hbm, ⟨89, _⟩ => ⟨S8x1024x1, .f32⟩
  | .hbm, ⟨90, _⟩ => ⟨S8x1024x1024, .f32⟩
  | .hbm, ⟨91, _⟩ => ⟨S8x1024x1024, .f32⟩
  | .hbm, ⟨92, _⟩ => ⟨S1x1x1024, .f32⟩
  | .hbm, ⟨93, _⟩ => ⟨S8x1024x1024, .f32⟩
  | .hbm, ⟨94, _⟩ => ⟨S8x1024x1024, .f32⟩
  | .hbm, ⟨95, _⟩ => ⟨S_, .f32⟩
  | .hbm, ⟨96, _⟩ => ⟨S8x1x1024, .f32⟩
  | .hbm, ⟨97, _⟩ => ⟨S8x1x1024, .f32⟩
  | .hbm, ⟨98, _⟩ => ⟨S8x1024x1024, .f32⟩
  | .hbm, ⟨99, _⟩ => ⟨S8x1024x1024, .f32⟩
  | .hbm, ⟨100, _⟩ => ⟨S8x1024x1024, .f32⟩
  | .hbm, ⟨101, _⟩ => ⟨S8x1024x1024, .f32⟩
  | .hbm, ⟨102, _⟩ => ⟨S8x1024x5632, .f32⟩
  | .hbm, ⟨103, _⟩ => ⟨S8x1024x2816, .f32⟩
  | .hbm, ⟨104, _⟩ => ⟨S8x1024x2816, .f32⟩
  | .hbm, ⟨105, _⟩ => ⟨S8x1024x2816, .f32⟩
  | .hbm, ⟨106, _⟩ => ⟨S8x1024x2816, .f32⟩
  | .hbm, ⟨107, _⟩ => ⟨S_, .f32⟩
  | .hbm, ⟨108, _⟩ => ⟨S8x1024x2816, .f32⟩
  | .hbm, ⟨109, _⟩ => ⟨S8x1024x2816, .f32⟩
  | .hbm, ⟨110, _⟩ => ⟨S_, .f32⟩
  | .hbm, ⟨111, _⟩ => ⟨S8x1024x2816, .f32⟩
  | .hbm, ⟨112, _⟩ => ⟨S8x1024x2816, .f32⟩
  | .hbm, ⟨113, _⟩ => ⟨S8x1024x2816, .f32⟩
  | .hbm, ⟨114, _⟩ => ⟨S8x1024x2816, .f32⟩
  | .hbm, ⟨115, _⟩ => ⟨S8x1024x1024, .f32⟩
  | .hbm, ⟨116, _⟩ => ⟨S8x1024x1024, .f32⟩
  | .hbm, ⟨117, _⟩ => ⟨S8x1024x1024, .f32⟩
  | .hbm, ⟨118, _⟩ => ⟨S8x1024x1024, .f32⟩
  | .hbm, ⟨119, _⟩ => ⟨S4096x1024, .f32⟩
  | .hbm, ⟨120, _⟩ => ⟨S8192x1024, .f32⟩
  | .hbm, ⟨121, _⟩ => ⟨S12288x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_3 : Ref sig .tc := ⟨.hbm, 80, rfl⟩
abbrev main_v63 : Ref sig .tc := ⟨.hbm, 81, rfl⟩
abbrev main_v64 : Ref sig .tc := ⟨.hbm, 82, rfl⟩
abbrev main_cst_4 : Ref sig .tc := ⟨.hbm, 83, rfl⟩
abbrev main_v65 : Ref sig .tc := ⟨.hbm, 84, rfl⟩
abbrev main_v66 : Ref sig .tc := ⟨.hbm, 85, rfl⟩
abbrev main_cst_5 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_6 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_call1_v0 : Ref sig .tc := ⟨.hbm, 105, rfl⟩
abbrev main_call1_v1 : Ref sig .tc := ⟨.hbm, 106, rfl⟩
abbrev main_call1_cst : Ref sig .tc := ⟨.hbm, 107, rfl⟩
abbrev main_call1_v2 : Ref sig .tc := ⟨.hbm, 108, rfl⟩
abbrev main_call1_v3 : Ref sig .tc := ⟨.hbm, 109, rfl⟩
abbrev main_call1_cst_0 : Ref sig .tc := ⟨.hbm, 110, rfl⟩
abbrev main_call1_v4 : Ref sig .tc := ⟨.hbm, 111, rfl⟩
abbrev main_call1_v5 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]
-- ==== ExpertThree.lean ====
abbrev S32 : Shape := ⟨1, ![32]⟩
abbrev S1 : Shape := ⟨1, ![1]⟩
abbrev S262144x128 : Shape := ⟨2, ![262144, 128]⟩
abbrev S2x8x1024x7168 : Shape := ⟨4, ![2, 8, 1024, 7168]⟩
abbrev S2x8x3584x1024 : Shape := ⟨4, ![2, 8, 3584, 1024]⟩
abbrev S8192x128 : Shape := ⟨2, ![8192, 128]⟩
abbrev S1x1x1024x512 : Shape := ⟨4, ![1, 1, 1024, 512]⟩
abbrev S1x1x512x1024 : Shape := ⟨4, ![1, 1, 512, 1024]⟩
abbrev S1024x1024 : Shape := ⟨2, ![1024, 1024]⟩
abbrev S256x128 : Shape := ⟨2, ![256, 128]⟩
abbrev S256x1024 : Shape := ⟨2, ![256, 1024]⟩
abbrev S1024x512 : Shape := ⟨2, ![1024, 512]⟩
abbrev S256x512 : Shape := ⟨2, ![256, 512]⟩
abbrev S512x1024 : Shape := ⟨2, ![512, 1024]⟩
abbrev S6144x128 : Shape := ⟨2, ![6144, 128]⟩
abbrev S512x128 : Shape := ⟨2, ![512, 128]⟩
abbrev S512x512 : Shape := ⟨2, ![512, 512]⟩
abbrev S4096x128 : Shape := ⟨2, ![4096, 128]⟩
abbrev S768x128 : Shape := ⟨2, ![768, 128]⟩
abbrev S768x1024 : Shape := ⟨2, ![768, 1024]⟩
abbrev S768x512 : Shape := ⟨2, ![768, 512]⟩
abbrev S2048x128 : Shape := ⟨2, ![2048, 128]⟩
abbrev S1024x128 : Shape := ⟨2, ![1024, 128]⟩

abbrev nBuf : Space → Nat
  | .hbm => 4
  | .vmem => 12
  | .smem => 3
  | _ => 0

abbrev bufTy : (tb : Table) → Fin (tcTables nBuf tb) → BufTy
  | .hbm, ⟨0, _⟩ => ⟨S262144x128, .f32⟩
  | .hbm, ⟨1, _⟩ => ⟨S2x8x1024x7168, .f32⟩
  | .hbm, ⟨2, _⟩ => ⟨S2x8x3584x1024, .f32⟩
  | .hbm, ⟨3, _⟩ => ⟨S262144x128, .f32⟩
  | .local _ .vmem, ⟨0, _⟩ => ⟨S8192x128, .f32⟩
  | .local _ .vmem, ⟨1, _⟩ => ⟨S8192x128, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S8192x128, .f32⟩
  | .local _ .vmem, ⟨9, _⟩ => ⟨S8192x128, .f32⟩
  | .local _ .vmem, ⟨10, _⟩ => ⟨S1024x1024, .bf16⟩
  | .local _ .vmem, ⟨11, _⟩ => ⟨S1024x1024, .f32⟩
  | .local _ .smem, ⟨0, _⟩ => ⟨S32, .i32⟩
  | .local _ .smem, ⟨1, _⟩ => ⟨S1, .i32⟩
  | .local _ .smem, ⟨2, _⟩ => ⟨S32, .i32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 7], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v0 : BitVec 32) (v2 : BitVec 32) : BitVec 1 :=
  let arg0 : BitVec 32 := BitVec.ofNat 32 (i 0).val
  let v27 : BitVec 1 := Scalar.cmpi .slt arg0 v0
  let c256_i32 : BitVec 32 := 256#32
  let v3 : BitVec 32 := Scalar.addi v2 c256_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c256_i32_0 : BitVec 32 := 256#32
  let c0_i32_2 : BitVec 32 := 0#32
  let v11 : BitVec 1 := Scalar.cmpi .sgt c256_i32_0 c0_i32_2
  let v12 : BitVec 32 := Scalar.extui v11
  let c0_i32_3 : BitVec 32 := 0#32
  let v13 : BitVec 1 := Scalar.cmpi .slt c256_i32_0 c0_i32_3
  let v14 : BitVec 32 := Scalar.extui v13
  let v15 : BitVec 32 := Scalar.subi v12 v14
  let v16 : BitVec 1 := Scalar.cmpi .ne v10 v15
  let v17 : BitVec 32 := Scalar.remsi v4 c256_i32_0
  let c0_i32_4 : BitVec 32 := 0#32
  let v18 : BitVec 1 := Scalar.cmpi .ne v17 c0_i32_4
  let v19 : BitVec 1 := Scalar.andi v16 v18
  let v5 : BitVec 32 := Scalar.divsi v4 c256_i32_0
  let c1_i32_5 : BitVec 32 := 1#32
  let v20 : BitVec 32 := Scalar.subi v5 c1_i32_5
  let v21 : BitVec 32 := Scalar.select v19 v20 v5
  let c1_i32_9 : BitVec 32 := 1#32
  let v28 : BitVec 1 := Scalar.cmpi .eq v21 c1_i32_9
  let v29 : BitVec 1 := Scalar.andi v27 v28
  let v30 : BitVec 32 := Scalar.extui v29
  let c0_i32_10 : BitVec 32 := 0#32
  let v31 : BitVec 1 := Scalar.cmpi .ne v30 c0_i32_10
  v31

def k0_cond4 (i : grid0.Coords) : BitVec 1 :=
  let arg1 : BitVec 32 := BitVec.ofNat 32 (i 1).val
  let c6_i32 : BitVec 32 := 6#32
  let v80 : BitVec 1 := Scalar.cmpi .eq arg1 c6_i32
  let v81 : BitVec 32 := Scalar.extui v80
  let c0_i32_40 : BitVec 32 := 0#32
  let v82 : BitVec 1 := Scalar.cmpi .ne v81 c0_i32_40
  v82

def k0_cond5 (i : grid0.Coords) (v0 : BitVec 32) (v2 : BitVec 32) : BitVec 1 :=
  let arg0 : BitVec 32 := BitVec.ofNat 32 (i 0).val
  let v32 : BitVec 1 := Scalar.cmpi .slt arg0 v0
  let c256_i32 : BitVec 32 := 256#32
  let v3 : BitVec 32 := Scalar.addi v2 c256_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c256_i32_0 : BitVec 32 := 256#32
  let c0_i32_2 : BitVec 32 := 0#32
  let v11 : BitVec 1 := Scalar.cmpi .sgt c256_i32_0 c0_i32_2
  let v12 : BitVec 32 := Scalar.extui v11
  let c0_i32_3 : BitVec 32 := 0#32
  let v13 : BitVec 1 := Scalar.cmpi .slt c256_i32_0 c0_i32_3
  let v14 : BitVec 32 := Scalar.extui v13
  let v15 : BitVec 32 := Scalar.subi v12 v14
  let v16 : BitVec 1 := Scalar.cmpi .ne v10 v15
  let v17 : BitVec 32 := Scalar.remsi v4 c256_i32_0
  let c0_i32_4 : BitVec 32 := 0#32
  let v18 : BitVec 1 := Scalar.cmpi .ne v17 c0_i32_4
  let v19 : BitVec 1 := Scalar.andi v16 v18
  let v5 : BitVec 32 := Scalar.divsi v4 c256_i32_0
  let c1_i32_5 : BitVec 32 := 1#32
  let v20 : BitVec 32 := Scalar.subi v5 c1_i32_5
  let v21 : BitVec 32 := Scalar.select v19 v20 v5
  let c2_i32 : BitVec 32 := 2#32
  let v33 : BitVec 1 := Scalar.cmpi .eq v21 c2_i32
  let v34 : BitVec 1 := Scalar.andi v32 v33
  let v35 : BitVec 32 := Scalar.extui v34
  let c0_i32_11 : BitVec 32 := 0#32
  let v36 : BitVec 1 := Scalar.cmpi .ne v35 c0_i32_11
  v36

def k0_cond7 (i : grid0.Coords) : BitVec 1 :=
  let arg1 : BitVec 32 := BitVec.ofNat 32 (i 1).val
  let c6_i32 : BitVec 32 := 6#32
  let v80 : BitVec 1 := Scalar.cmpi .eq arg1 c6_i32
  let v81 : BitVec 32 := Scalar.extui v80
  let c0_i32_40 : BitVec 32 := 0#32
  let v82 : BitVec 1 := Scalar.cmpi .ne v81 c0_i32_40
  v82

def k0_cond8 (i : grid0.Coords) (v0 : BitVec 32) (v2 : BitVec 32) : BitVec 1 :=
  let arg0 : BitVec 32 := BitVec.ofNat 32 (i 0).val
  let v37 : BitVec 1 := Scalar.cmpi .slt arg0 v0
  let c256_i32 : BitVec 32 := 256#32
  let v3 : BitVec 32 := Scalar.addi v2 c256_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c256_i32_0 : BitVec 32 := 256#32
  let c0_i32_2 : BitVec 32 := 0#32
  let v11 : BitVec 1 := Scalar.cmpi .sgt c256_i32_0 c0_i32_2
  let v12 : BitVec 32 := Scalar.extui v11
  let c0_i32_3 : BitVec 32 := 0#32
  let v13 : BitVec 1 := Scalar.cmpi .slt c256_i32_0 c0_i32_3
  let v14 : BitVec 32 := Scalar.extui v13
  let v15 : BitVec 32 := Scalar.subi v12 v14
  let v16 : BitVec 1 := Scalar.cmpi .ne v10 v15
  let v17 : BitVec 32 := Scalar.remsi v4 c256_i32_0
  let c0_i32_4 : BitVec 32 := 0#32
  let v18 : BitVec 1 := Scalar.cmpi .ne v17 c0_i32_4
  let v19 : BitVec 1 := Scalar.andi v16 v18
  let v5 : BitVec 32 := Scalar.divsi v4 c256_i32_0
  let c1_i32_5 : BitVec 32 := 1#32
  let v20 : BitVec 32 := Scalar.subi v5 c1_i32_5
  let v21 : BitVec 32 := Scalar.select v19 v20 v5
  let c3_i32 : BitVec 32 := 3#32
  let v38 : BitVec 1 := Scalar.cmpi .eq v21 c3_i32
  let v39 : BitVec 1 := Scalar.andi v37 v38
  let v40 : BitVec 32 := Scalar.extui v39
  let c0_i32_12 : BitVec 32 := 0#32
  let v41 : BitVec 1 := Scalar.cmpi .ne v40 c0_i32_12
  v41

def k0_cond10 (i : grid0.Coords) : BitVec 1 :=
  let arg1 : BitVec 32 := BitVec.ofNat 32 (i 1).val
  let c6_i32 : BitVec 32 := 6#32
  let v80 : BitVec 1 := Scalar.cmpi .eq arg1 c6_i32
  let v81 : BitVec 32 := Scalar.extui v80
  let c0_i32_40 : BitVec 32 := 0#32
  let v82 : BitVec 1 := Scalar.cmpi .ne v81 c0_i32_40
  v82

def k0_cond11 (i : grid0.Coords) (v0 : BitVec 32) (v2 : BitVec 32) : BitVec 1 :=
  let arg0 : BitVec 32 := BitVec.ofNat 32 (i 0).val
  let v42 : BitVec 1 := Scalar.cmpi .slt arg0 v0
  let c256_i32 : BitVec 32 := 256#32
  let v3 : BitVec 32 := Scalar.addi v2 c256_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c256_i32_0 : BitVec 32 := 256#32
  let c0_i32_2 : BitVec 32 := 0#32
  let v11 : BitVec 1 := Scalar.cmpi .sgt c256_i32_0 c0_i32_2
  let v12 : BitVec 32 := Scalar.extui v11
  let c0_i32_3 : BitVec 32 := 0#32
  let v13 : BitVec 1 := Scalar.cmpi .slt c256_i32_0 c0_i32_3
  let v14 : BitVec 32 := Scalar.extui v13
  let v15 : BitVec 32 := Scalar.subi v12 v14
  let v16 : BitVec 1 := Scalar.cmpi .ne v10 v15
  let v17 : BitVec 32 := Scalar.remsi v4 c256_i32_0
  let c0_i32_4 : BitVec 32 := 0#32
  let v18 : BitVec 1 := Scalar.cmpi .ne v17 c0_i32_4
  let v19 : BitVec 1 := Scalar.andi v16 v18
  let v5 : BitVec 32 := Scalar.divsi v4 c256_i32_0
  let c1_i32_5 : BitVec 32 := 1#32
  let v20 : BitVec 32 := Scalar.subi v5 c1_i32_5
  let v21 : BitVec 32 := Scalar.select v19 v20 v5
  let c4_i32 : BitVec 32 := 4#32
  let v43 : BitVec 1 := Scalar.cmpi .eq v21 c4_i32
  let v44 : BitVec 1 := Scalar.andi v42 v43
  let v45 : BitVec 32 := Scalar.extui v44
  let c0_i32_13 : BitVec 32 := 0#32
  let v46 : BitVec 1 := Scalar.cmpi .ne v45 c0_i32_13
  v46

def k0_cond13 (i : grid0.Coords) : BitVec 1 :=
  let arg1 : BitVec 32 := BitVec.ofNat 32 (i 1).val
  let c6_i32 : BitVec 32 := 6#32
  let v80 : BitVec 1 := Scalar.cmpi .eq arg1 c6_i32
  let v81 : BitVec 32 := Scalar.extui v80
  let c0_i32_40 : BitVec 32 := 0#32
  let v82 : BitVec 1 := Scalar.cmpi .ne v81 c0_i32_40
  v82

def k0_cond14 (i : grid0.Coords) (v0 : BitVec 32) : BitVec 1 :=
  let arg0 : BitVec 32 := BitVec.ofNat 32 (i 0).val
  let v47 : BitVec 1 := Scalar.cmpi .sge arg0 v0
  let arg1 : BitVec 32 := BitVec.ofNat 32 (i 1).val
  let c0_i32_14 : BitVec 32 := 0#32
  let v48 : BitVec 1 := Scalar.cmpi .eq arg1 c0_i32_14
  let v49 : BitVec 1 := Scalar.andi v47 v48
  let v50 : BitVec 32 := Scalar.extui v49
  let c0_i32_15 : BitVec 32 := 0#32
  let v51 : BitVec 1 := Scalar.cmpi .ne v50 c0_i32_15
  v51

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c1_i32 : BitVec 32 := 1#32
  let c0_i32 : BitVec 32 := 0#32
  let c0_i32_0 : BitVec 32 := 0#32
  ![c1_i32.toNat, v1.toNat, c0_i32.toNat, v4.toNat]

def cc0_transform_2 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c7_i32 : BitVec 32 := 7#32
  let v5 : BitVec 32 := Scalar.addi c7_i32 v4
  let c1_i32 : BitVec 32 := 1#32
  let c0_i32 : BitVec 32 := 0#32
  let c0_i32_0 : BitVec 32 := 0#32
  ![c1_i32.toNat, v1.toNat, c0_i32.toNat, v5.toNat]

def cc0_transform_3 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c1_i32 : BitVec 32 := 1#32
  let c0_i32 : BitVec 32 := 0#32
  let c0_i32_0 : BitVec 32 := 0#32
  ![c1_i32.toNat, v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertThreeRefIdeal.lean ====
abbrev S32 : Shape := ⟨1, ![32]⟩
abbrev S1 : Shape := ⟨1, ![1]⟩
abbrev S262144x128 : Shape := ⟨2, ![262144, 128]⟩
abbrev S2x8x1024x7168 : Shape := ⟨4, ![2, 8, 1024, 7168]⟩
abbrev S2x8x3584x1024 : Shape := ⟨4, ![2, 8, 3584, 1024]⟩
abbrev S32768x1024 : Shape := ⟨2, ![32768, 1024]⟩
abbrev S32x1024 : Shape := ⟨2, ![32, 1024]⟩
abbrev S32768 : Shape := ⟨1, ![32768]⟩
abbrev S32768x1 : Shape := ⟨2, ![32768, 1]⟩
abbrev S_ : Shape := ⟨0, ![]⟩
abbrev S1x1x1024x7168 : Shape := ⟨4, ![1, 1, 1024, 7168]⟩
abbrev S1024x7168 : Shape := ⟨2, ![1024, 7168]⟩
abbrev S1x1x3584x1024 : Shape := ⟨4, ![1, 1, 3584, 1024]⟩
abbrev S3584x1024 : Shape := ⟨2, ![3584, 1024]⟩
abbrev S32768x7168 : Shape := ⟨2, ![32768, 7168]⟩
abbrev S32768x3584 : Shape := ⟨2, ![32768, 3584]⟩

abbrev nBuf : Space → Nat
  | .hbm => 197
  | .vmem => 0
  | .smem => 0
  | _ => 0

abbrev hbmTy0_0 (i : Nat) : BufTy := match i % 128 with
  | 0 => ⟨S32, .i32⟩
  | 1 => ⟨S1, .i32⟩
  | 2 => ⟨S32, .i32⟩
  | 3 => ⟨S262144x128, .f32⟩
  | 4 => ⟨S2x8x1024x7168, .f32⟩
  | 5 => ⟨S2x8x3584x1024, .f32⟩
  | 6 => ⟨S32768x1024, .f32⟩
  | 7 => ⟨S32x1024, .i32⟩
  | 8 => ⟨S32768, .i32⟩
  | 9 => ⟨S32768x1, .i32⟩
  | 10 => ⟨S_, .f32⟩
  | 11 => ⟨S32768x1024, .f32⟩
  | 12 => ⟨S_, .i32⟩
  | 13 => ⟨S32768x1, .i32⟩
  | 14 => ⟨S32768x1, .i1⟩
  | 15 => ⟨S1x1x1024x7168, .f32⟩
  | 16 => ⟨S1024x7168, .f32⟩
  | 17 => ⟨S1x1x3584x1024, .f32⟩
  | 18 => ⟨S3584x1024, .f32⟩
  | 19 => ⟨S32768x7168, .f32⟩
  | 20 => ⟨S32768x3584, .f32⟩
  | 21 => ⟨S32768x3584, .f32⟩
  | 22 => ⟨S32768x3584, .f32⟩
  | 23 => ⟨S32768x3584, .f32⟩
  | 24 => ⟨S_, .f32⟩
  | 25 => ⟨S32768x3584, .f32⟩
  | 26 => ⟨S32768x3584, .f32⟩
  | 27 => ⟨S_, .f32⟩
  | 28 => ⟨S32768x3584, .f32⟩
  | 29 => ⟨S32768x3584, .f32⟩
  | 30 => ⟨S32768x3584, .f32⟩
  | 31 => ⟨S32768x3584, .f32⟩
  | 32 => ⟨S32768x1024, .f32⟩
  | 33 => ⟨S32768x1024, .i1⟩
  | 34 => ⟨S32768x1024, .f32⟩
  | 35 => ⟨S_, .i32⟩
  | 36 => ⟨S32768x1, .i32⟩
  | 37 => ⟨S32768x1, .i1⟩
  | 38 => ⟨S1x1x1024x7168, .f32⟩
  | 39 => ⟨S1024x7168, .f32⟩
  | 40 => ⟨S1x1x3584x1024, .f32⟩
  | 41 => ⟨S3584x1024, .f32⟩
  | 42 => ⟨S32768x7168, .f32⟩
  | 43 => ⟨S32768x3584, .f32⟩
  | 44 => ⟨S32768x3584, .f32⟩
  | 45 => ⟨S32768x3584, .f32⟩
  | 46 => ⟨S32768x3584, .f32⟩
  | 47 => ⟨S_, .f32⟩
  | 48 => ⟨S32768x3584, .f32⟩
  | 49 => ⟨S32768x3584, .f32⟩
  | 50 => ⟨S_, .f32⟩
  | 51 => ⟨S32768x3584, .f32⟩
  | 52 => ⟨S32768x3584, .f32⟩
  | 53 => ⟨S32768x3584, .f32⟩
  | 54 => ⟨S32768x3584, .f32⟩
  | 55 => ⟨S32768x1024, .f32⟩
  | 56 => ⟨S32768x1024, .i1⟩
  | 57 => ⟨S32768x1024, .f32⟩
  | 58 => ⟨S_, .i32⟩
  | 59 => ⟨S32768x1, .i32⟩
  | 60 => ⟨S32768x1, .i1⟩
  | 61 => ⟨S1x1x1024x7168, .f32⟩
  | 62 => ⟨S1024x7168, .f32⟩
  | 63 => ⟨S1x1x3584x1024, .f32⟩
  | 64 => ⟨S3584x1024, .f32⟩
  | 65 => ⟨S32768x7168, .f32⟩
  | 66 => ⟨S32768x3584, .f32⟩
  | 67 => ⟨S32768x3584, .f32⟩
  | 68 => ⟨S32768x3584, .f32⟩
  | 69 => ⟨S32768x3584, .f32⟩
  | 70 => ⟨S_, .f32⟩
  | 71 => ⟨S32768x3584, .f32⟩
  | 72 => ⟨S32768x3584, .f32⟩
  | 73 => ⟨S_, .f32⟩
  | 74 => ⟨S32768x3584, .f32⟩
  | 75 => ⟨S32768x3584, .f32⟩
  | 76 => ⟨S32768x3584, .f32⟩
  | 77 => ⟨S32768x3584, .f32⟩
  | 78 => ⟨S32768x1024, .f32⟩
  | 79 => ⟨S32768x1024, .i1⟩
  | 80 => ⟨S32768x1024, .f32⟩
  | 81 => ⟨S_, .i32⟩
  | 82 => ⟨S32768x1, .i32⟩
  | 83 => ⟨S32768x1, .i1⟩
  | 84 => ⟨S1x1x1024x7168, .f32⟩
  | 85 => ⟨S1024x7168, .f32⟩
  | 86 => ⟨S1x1x3584x1024, .f32⟩
  | 87 => ⟨S3584x1024, .f32⟩
  | 88 => ⟨S32768x7168, .f32⟩
  | 89 => ⟨S32768x3584, .f32⟩
  | 90 => ⟨S32768x3584, .f32⟩
  | 91 => ⟨S32768x3584, .f32⟩
  | 92 => ⟨S32768x3584, .f32⟩
  | 93 => ⟨S_, .f32⟩
  | 94 => ⟨S32768x3584, .f32⟩
  | 95 => ⟨S32768x3584, .f32⟩
  | 96 => ⟨S_, .f32⟩
  | 97 => ⟨S32768x3584, .f32⟩
  | 98 => ⟨S32768x3584, .f32⟩
  | 99 => ⟨S32768x3584, .f32⟩
  | 100 => ⟨S32768x3584, .f32⟩
  | 101 => ⟨S32768x1024, .f32⟩
  | 102 => ⟨S32768x1024, .i1⟩
  | 103 => ⟨S32768x1024, .f32⟩
  | 104 => ⟨S_, .i32⟩
  | 105 => ⟨S32768x1, .i32⟩
  | 106 => ⟨S32768x1, .i1⟩
  | 107 => ⟨S1x1x1024x7168, .f32⟩
  | 108 => ⟨S1024x7168, .f32⟩
  | 109 => ⟨S1x1x3584x1024, .f32⟩
  | 110 => ⟨S3584x1024, .f32⟩
  | 111 => ⟨S32768x7168, .f32⟩
  | 112 => ⟨S32768x3584, .f32⟩
  | 113 => ⟨S32768x3584, .f32⟩
  | 114 => ⟨S32768x3584, .f32⟩
  | 115 => ⟨S32768x3584, .f32⟩
  | 116 => ⟨S_, .f32⟩
  | 117 => ⟨S32768x3584, .f32⟩
  | 118 => ⟨S32768x3584, .f32⟩
  | 119 => ⟨S_, .f32⟩
  | 120 => ⟨S32768x3584, .f32⟩
  | 121 => ⟨S32768x3584, .f32⟩
  | 122 => ⟨S32768x3584, .f32⟩
  | 123 => ⟨S32768x3584, .f32⟩
  | 124 => ⟨S32768x1024, .f32⟩
  | 125 => ⟨S32768x1024, .i1⟩
  | 126 => ⟨S32768x1024, .f32⟩
  | 127 => ⟨S_, .i32⟩
  | _ => ⟨S32, .i32⟩

abbrev hbmTy0_1 (i : Nat) : BufTy := match i % 128 with
  | 0 => ⟨S32768x1, .i32⟩
  | 1 => ⟨S32768x1, .i1⟩
  | 2 => ⟨S1x1x1024x7168, .f32⟩
  | 3 => ⟨S1024x7168, .f32⟩
  | 4 => ⟨S1x1x3584x1024, .f32⟩
  | 5 => ⟨S3584x1024, .f32⟩
  | 6 => ⟨S32768x7168, .f32⟩
  | 7 => ⟨S32768x3584, .f32⟩
  | 8 => ⟨S32768x3584, .f32⟩
  | 9 => ⟨S32768x3584, .f32⟩
  | 10 => ⟨S32768x3584, .f32⟩
  | 11 => ⟨S_, .f32⟩
  | 12 => ⟨S32768x3584, .f32⟩
  | 13 => ⟨S32768x3584, .f32⟩
  | 14 => ⟨S_, .f32⟩
  | 15 => ⟨S32768x3584, .f32⟩
  | 16 => ⟨S32768x3584, .f32⟩
  | 17 => ⟨S32768x3584, .f32⟩
  | 18 => ⟨S32768x3584, .f32⟩
  | 19 => ⟨S32768x1024, .f32⟩
  | 20 => ⟨S32768x1024, .i1⟩
  | 21 => ⟨S32768x1024, .f32⟩
  | 22 => ⟨S_, .i32⟩
  | 23 => ⟨S32768x1, .i32⟩
  | 24 => ⟨S32768x1, .i1⟩
  | 25 => ⟨S1x1x1024x7168, .f32⟩
  | 26 => ⟨S1024x7168, .f32⟩
  | 27 => ⟨S1x1x3584x1024, .f32⟩
  | 28 => ⟨S3584x1024, .f32⟩
  | 29 => ⟨S32768x7168, .f32⟩
  | 30 => ⟨S32768x3584, .f32⟩
  | 31 => ⟨S32768x3584, .f32⟩
  | 32 => ⟨S32768x3584, .f32⟩
  | 33 => ⟨S32768x3584, .f32⟩
  | 34 => ⟨S_, .f32⟩
  | 35 => ⟨S32768x3584, .f32⟩
  | 36 => ⟨S32768x3584, .f32⟩
  | 37 => ⟨S_, .f32⟩
  | 38 => ⟨S32768x3584, .f32⟩
  | 39 => ⟨S32768x3584, .f32⟩
  | 40 => ⟨S32768x3584, .f32⟩
  | 41 => ⟨S32768x3584, .f32⟩
  | 42 => ⟨S32768x1024, .f32⟩
  | 43 => ⟨S32768x1024, .i1⟩
  | 44 => ⟨S32768x1024, .f32⟩
  | 45 => ⟨S_, .i32⟩
  | 46 => ⟨S32768x1, .i32⟩
  | 47 => ⟨S32768x1, .i1⟩
  | 48 => ⟨S1x1x1024x7168, .f32⟩
  | 49 => ⟨S1024x7168, .f32⟩
  | 50 => ⟨S1x1x3584x1024, .f32⟩
  | 51 => ⟨S3584x1024, .f32⟩
  | 52 => ⟨S32768x7168, .f32⟩
  | 53 => ⟨S32768x3584, .f32⟩
  | 54 => ⟨S32768x3584, .f32⟩
  | 55 => ⟨S32768x3584, .f32⟩
  | 56 => ⟨S32768x3584, .f32⟩
  | 57 => ⟨S_, .f32⟩
  | 58 => ⟨S32768x3584, .f32⟩
  | 59 => ⟨S32768x3584, .f32⟩
  | 60 => ⟨S_, .f32⟩
  | 61 => ⟨S32768x3584, .f32⟩
  | 62 => ⟨S32768x3584, .f32⟩
  | 63 => ⟨S32768x3584, .f32⟩
  | 64 => ⟨S32768x3584, .f32⟩
  | 65 => ⟨S32768x1024, .f32⟩
  | 66 => ⟨S32768x1024, .i1⟩
  | 67 => ⟨S32768x1024, .f32⟩
  | 68 => ⟨S262144x128, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_v0 : Ref sig .tc := ⟨.hbm, 33, rfl⟩
abbrev main_v17 : Ref sig .tc := ⟨.hbm, 34, rfl⟩
abbrev main_c_0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call3_v0 : Ref sig .tc := ⟨.hbm, 56, rfl⟩
abbrev main_v30 : Ref sig .tc := ⟨.hbm, 57, rfl⟩
abbrev main_c_1 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_call4_v0 : Ref sig .tc := ⟨.hbm, 68, rfl⟩
abbrev main_call4_v1 : Ref sig .tc := ⟨.hbm, 69, rfl⟩
abbrev main_call4_cst : Ref sig .tc := ⟨.hbm, 70, rfl⟩
abbrev main_call4_v2 : Ref sig .tc := ⟨.hbm, 71, rfl⟩
abbrev main_call4_v3 : Ref sig .tc := ⟨.hbm, 72, rfl⟩
abbrev main_call4_cst_0 : Ref sig .tc := ⟨.hbm, 73, rfl⟩
abbrev main_call4_v4 : Ref sig .tc := ⟨.hbm, 74, rfl⟩
abbrev main_call4_v5 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_call5_v0 : Ref sig .tc := ⟨.hbm, 79, rfl⟩
abbrev main_v43 : Ref sig .tc := ⟨.hbm, 80, rfl⟩
abbrev main_c_2 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_call6_v0 : Ref sig .tc := ⟨.hbm, 91, rfl⟩
abbrev main_call6_v1 : Ref sig .tc := ⟨.hbm, 92, rfl⟩
abbrev main_call6_cst : Ref sig .tc := ⟨.hbm, 93, rfl⟩
abbrev main_call6_v2 : Ref sig .tc := ⟨.hbm, 94, rfl⟩
abbrev main_call6_v3 : Ref sig .tc := ⟨.hbm, 95, rfl⟩
abbrev main_call6_cst_0 : Ref sig .tc := ⟨.hbm, 96, rfl⟩
abbrev main_call6_v4 : Ref sig .tc := ⟨.hbm, 97, rfl⟩
abbrev main_call6_v5 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_call7_v0 : Ref sig .tc := ⟨.hbm, 102, rfl⟩
abbrev main_v56 : Ref sig .tc := ⟨.hbm, 103, rfl⟩
abbrev main_c_3 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_call8_v0 : Ref sig .tc := ⟨.hbm, 114, rfl⟩
abbrev main_call8_v1 : Ref sig .tc := ⟨.hbm, 115, rfl⟩
abbrev main_call8_cst : Ref sig .tc := ⟨.hbm, 116, rfl⟩
abbrev main_call8_v2 : Ref sig .tc := ⟨.hbm, 117, rfl⟩
abbrev main_call8_v3 : Ref sig .tc := ⟨.hbm, 118, rfl⟩
abbrev main_call8_cst_0 : Ref sig .tc := ⟨.hbm, 119, rfl⟩
abbrev main_call8_v4 : Ref sig .tc := ⟨.hbm, 120, rfl⟩
abbrev main_call8_v5 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_call9_v0 : Ref sig .tc := ⟨.hbm, 125, rfl⟩
abbrev main_v69 : Ref sig .tc := ⟨.hbm, 126, rfl⟩
abbrev main_c_4 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_call10_v0 : Ref sig .tc := ⟨.hbm, 137, rfl⟩
abbrev main_call10_v1 : Ref sig .tc := ⟨.hbm, 138, rfl⟩
abbrev main_call10_cst : Ref sig .tc := ⟨.hbm, 139, rfl⟩
abbrev main_call10_v2 : Ref sig .tc := ⟨.hbm, 140, rfl⟩
abbrev main_call10_v3 : Ref sig .tc := ⟨.hbm, 141, rfl⟩
abbrev main_call10_cst_0 : Ref sig .tc := ⟨.hbm, 142, rfl⟩
abbrev main_call10_v4 : Ref sig .tc := ⟨.hbm, 143, rfl⟩
abbrev main_call10_v5 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_call11_v0 : Ref sig .tc := ⟨.hbm, 148, rfl⟩
abbrev main_v82 : Ref sig .tc := ⟨.hbm, 149, rfl⟩
abbrev main_c_5 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_call12_v0 : Ref sig .tc := ⟨.hbm, 160, rfl⟩
abbrev main_call12_v1 : Ref sig .tc := ⟨.hbm, 161, rfl⟩
abbrev main_call12_cst : Ref sig .tc := ⟨.hbm, 162, rfl⟩
abbrev main_call12_v2 : Ref sig .tc := ⟨.hbm, 163, rfl⟩
abbrev main_call12_v3 : Ref sig .tc := ⟨.hbm, 164, rfl⟩
abbrev main_call12_cst_0 : Ref sig .tc := ⟨.hbm, 165, rfl⟩
abbrev main_call12_v4 : Ref sig .tc := ⟨.hbm, 166, rfl⟩
abbrev main_call12_v5 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_call13_v0 : Ref sig .tc := ⟨.hbm, 171, rfl⟩
abbrev main_v95 : Ref sig .tc := ⟨.hbm, 172, rfl⟩
abbrev main_c_6 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_call14_v0 : Ref sig .tc := ⟨.hbm, 183, rfl⟩
abbrev main_call14_v1 : Ref sig .tc := ⟨.hbm, 184, rfl⟩
abbrev main_call14_cst : Ref sig .tc := ⟨.hbm, 185, rfl⟩
abbrev main_call14_v2 : Ref sig .tc := ⟨.hbm, 186, rfl⟩
abbrev main_call14_v3 : Ref sig .tc := ⟨.hbm, 187, rfl⟩
abbrev main_call14_cst_0 : Ref sig .tc := ⟨.hbm, 188, rfl⟩
abbrev main_call14_v4 : Ref sig .tc := ⟨.hbm, 189, rfl⟩
abbrev main_call14_v5 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_call15_v0 : Ref sig .tc := ⟨.hbm, 194, rfl⟩
abbrev main_v108 : Ref sig .tc := ⟨.hbm, 195, rfl⟩
abbrev main_v109 : Ref sig .tc := ⟨.hbm, 196, rfl⟩

abbrev nD : Nat := 1
abbrev τ : Topo := Topo.v7x

variable {F : FTy → Type} [FloatOps F]
-- ==== Proj.lean ====
abbrev S12288x1024 : Shape := ⟨2, ![12288, 1024]⟩
abbrev S4096x1024 : Shape := ⟨2, ![4096, 1024]⟩
abbrev S8192x1024 : Shape := ⟨2, ![8192, 1024]⟩
abbrev S4x16x6144 : Shape := ⟨3, ![4, 16, 6144]⟩
abbrev S1x1024x1024 : Shape := ⟨3, ![1, 1024, 1024]⟩
abbrev S4x16x1x6144 : Shape := ⟨4, ![4, 16, 1, 6144]⟩
abbrev S1024x1024 : Shape := ⟨2, ![1024, 1024]⟩
abbrev S1x1x1x6144 : Shape := ⟨4, ![1, 1, 1, 6144]⟩
abbrev S1x1x1x1024 : Shape := ⟨4, ![1, 1, 1, 1024]⟩
abbrev S1x1024 : Shape := ⟨2, ![1, 1024]⟩

abbrev nBuf : Space → Nat
  | .hbm => 9
  | .vmem => 11
  | .smem => 0
  | _ => 0

abbrev bufTy : (tb : Table) → Fin (tcTables nBuf tb) → BufTy
  | .hbm, ⟨0, _⟩ => ⟨S12288x1024, .f32⟩
  | .hbm, ⟨1, _⟩ => ⟨S4096x1024, .bf16⟩
  | .hbm, ⟨2, _⟩ => ⟨S8192x1024, .bf16⟩
  | .hbm, ⟨3, _⟩ => ⟨S4x16x6144, .f32⟩
  | .hbm, ⟨4, _⟩ => ⟨S1x1024x1024, .f32⟩
  | .hbm, ⟨5, _⟩ => ⟨S4x16x1x6144, .f32⟩
  | .hbm, ⟨6, _⟩ => ⟨S1024x1024, .f32⟩
  | .hbm, ⟨7, _⟩ => ⟨S1024x1024, .bf16⟩
  | .hbm, ⟨8, _⟩ => ⟨S12288x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1x1x6144, .f32⟩
  | .local _ .vmem, ⟨7, _⟩ => ⟨S1x1x1x6144, .f32⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 4 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32 : BitVec 32 := 8#32
  let v19 : BitVec 32 := Scalar.addi c8_i32 v18
  let c0_i32_6 : BitVec 32 := 0#32
  let v20 : BitVec 32 := Scalar.select v0 c0_i32_6 v19
  let c2_i32 : BitVec 32 := 2#32
  let c0_i32_7 : BitVec 32 := 0#32
  let c0_i32_8 : BitVec 32 := 0#32
  let c0_i32_9 : BitVec 32 := 0#32
  ![c2_i32.toNat, v20.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjRefIdeal.lean ====
abbrev S12288x1024 : Shape := ⟨2, ![12288, 1024]⟩
abbrev S4096x1024 : Shape := ⟨2, ![4096, 1024]⟩
abbrev S8192x1024 : Shape := ⟨2, ![8192, 1024]⟩
abbrev S4x16x6144 : Shape := ⟨3, ![4, 16, 6144]⟩
abbrev S1x1024x1024 : Shape := ⟨3, ![1, 1024, 1024]⟩
abbrev S16x256x1024 : Shape := ⟨3, ![16, 256, 1024]⟩
abbrev S8x1024x1024 : Shape := ⟨3, ![8, 1024, 1024]⟩
abbrev S1x1x6144 : Shape := ⟨3, ![1, 1, 6144]⟩
abbrev S1x6144 : Shape := ⟨2, ![1, 6144]⟩
abbrev S1024x1024 : Shape := ⟨2, ![1024, 1024]⟩
abbrev S1x1x1024 : Shape := ⟨3, ![1, 1, 1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S4096x1024, .bf16⟩
  | .hbm, ⟨2, _⟩ => ⟨S8192x1024, .bf16⟩
  | .hbm, ⟨3, _⟩ => ⟨S4x16x6144, .f32⟩
  | .hbm, ⟨4, _⟩ => ⟨S1x1024x1024, .f32⟩
  | .hbm, ⟨5, _⟩ => ⟨S4096x1024, .f32⟩
  | .hbm, ⟨6, _⟩ => ⟨S16x256x1024, .f32⟩
  | .hbm, ⟨7, _⟩ => ⟨S8192x1024, .f32⟩
  | .hbm, ⟨8, _⟩ => ⟨S8x1024x1024, .f32⟩
  | .hbm, ⟨9, _⟩ => ⟨S4096x1024, .f32⟩
  | .hbm, ⟨10, _⟩ => ⟨S16x256x1024, .f32⟩
  | .hbm, ⟨11, _⟩ => ⟨S8192x1024, .f32⟩
  | .hbm, ⟨12, _⟩ => ⟨S8x1024x1024, .f32⟩
  | .hbm, ⟨13, _⟩ => ⟨S1x1x6144, .f32⟩
  | .hbm, ⟨14, _⟩ => ⟨S1x6144, .f32⟩
  | .hbm, ⟨15, _⟩ => ⟨S1x1x6144, .f32⟩
  | .hbm, ⟨16, _⟩ => ⟨S1024x1024, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S1x1x1024, .f32⟩
  | .hbm, ⟨21, _⟩ => ⟨S1x1x1024, .f32⟩
  | .hbm, ⟨22, _⟩ => ⟨S1x1x1024, .f32⟩
  | .hbm, ⟨23, _⟩ => ⟨S16x256x1024, .f32⟩
  | .hbm, ⟨24, _⟩ => ⟨S16x256x1024, .f32⟩
  | .hbm, ⟨25, _⟩ => ⟨S16x256x1024, .f32⟩
  | .hbm, ⟨26, _⟩ => ⟨S16x256x1024, .f32⟩
  | .hbm, ⟨27, _⟩ => ⟨S1x8x6144, .f32⟩
  | .hbm, ⟨28, _⟩ => ⟨S8x6144, .f32⟩
  | .hbm, ⟨29, _⟩ => ⟨S8x1x6144, .f32⟩
  | .hbm, ⟨30, _⟩ => ⟨S1024x1024, .f32⟩
  | .hbm, ⟨31, _⟩ => ⟨S8x1x1024, .f32⟩
  | .hbm, ⟨32, _⟩ => ⟨S8x1x1024, .f32⟩
  | .hbm, ⟨33, _⟩ => ⟨S8x1x1024, .f32⟩
  | .hbm, ⟨34, _⟩ => ⟨S8x1x1024, .f32⟩
  | .hbm, ⟨35, _⟩ => ⟨S8x1x1024, .f32⟩
  | .hbm, ⟨36, _⟩ => ⟨S8x1x1024, .f32⟩
  | .hbm, ⟨37, _⟩ => ⟨S8x1024x1024, .f32⟩
  | .hbm, ⟨38, _⟩ => ⟨S8x1024x1024, .f32⟩
  | .hbm, ⟨39, _⟩ => ⟨S8x1024x1024, .f32⟩
  | .hbm, ⟨40, _⟩ => ⟨S8x1024x1024, .f32⟩
  | .hbm, ⟨41, _⟩ => ⟨S4096x1024, .f32⟩
  | .hbm, ⟨42, _⟩ => ⟨S8192x1024, .f32⟩
  | .hbm, ⟨43, _⟩ => ⟨S12288x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩

abbrev nD : Nat := 1
abbrev τ : Topo := Topo.v7x

variable {F : FTy → Type} [FloatOps F]
-- ==== Proof.ExpertStep.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp
public import Idealize.ShloMosaic.Lib.Writes
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

theorem ix2_lt0 (y : S1024x1024.Idx) : (y 0).val < 1024 := (y 0).isLt
theorem ix2_lt1 (y : S1024x1024.Idx) : (y 1).val < 1024 := (y 1).isLt
theorem ix2_lt0' (y : S8192x128.Idx) : (y 0).val < 8192 := (y 0).isLt
theorem ix2_lt1' (y : S8192x128.Idx) : (y 1).val < 128 := (y 1).isLt

/-- The cell of the token block (eight rows of 128 lanes per token) that holds element `(row, column)`. -/
def src (y : S1024x1024.Idx) : S8192x128.Idx :=
  ix2 ⟨8 * (y 0).val + (y 1).val / 128, by have := ix2_lt0 y; have := ix2_lt1 y; omega⟩ ⟨(y 1).val % 128, by omega⟩

/-- The element `(row, column)` of the token matrix that a cell of the block holds. -/
def dst (y : S8192x128.Idx) : S1024x1024.Idx :=
  ix2 ⟨(y 0).val / 8, by have := ix2_lt0' y; omega⟩ ⟨128 * ((y 0).val % 8) + (y 1).val, by have := ix2_lt1' y; omega⟩

/-- The token block's cells as a matrix of tokens, in the product's width. -/
def gath (x0 : Vec F S8192x128 .f32) : Vec F S1024x1024 .bf16 := fun y => truncf .bf16 x0 bitsLt_bf16_f32 (src y)

/-- Eight column groups of `R` rows, stored one by one, read back as the matrix they are the columns of. -/
theorem gath_read {R : ℕ} (hR : R ≤ 1024) (v : View sig .tc .vmem S1024x1024 .bf16) (f : v.ty.Contents (Elt F))
    (p0 p1 p2 p3 p4 p5 p6 p7 : (⟨2, ![R, 128]⟩ : Shape).Idx → Elt F .bf16)
    (i0 : ∀ a, (![0, 0] : Fin 2 → ℕ) a + (⟨2, ![R, 128]⟩ : Shape).size a ≤ S1024x1024.size a)
    (i1 : ∀ a, (![0, 128] : Fin 2 → ℕ) a + (⟨2, ![R, 128]⟩ : Shape).size a ≤ S1024x1024.size a)
    (i2 : ∀ a, (![0, 256] : Fin 2 → ℕ) a + (⟨2, ![R, 128]⟩ : Shape).size a ≤ S1024x1024.size a)
    (i3 : ∀ a, (![0, 384] : Fin 2 → ℕ) a + (⟨2, ![R, 128]⟩ : Shape).size a ≤ S1024x1024.size a)
    (i4 : ∀ a, (![0, 512] : Fin 2 → ℕ) a + (⟨2, ![R, 128]⟩ : Shape).size a ≤ S1024x1024.size a)
    (i5 : ∀ a, (![0, 640] : Fin 2 → ℕ) a + (⟨2, ![R, 128]⟩ : Shape).size a ≤ S1024x1024.size a)
    (i6 : ∀ a, (![0, 768] : Fin 2 → ℕ) a + (⟨2, ![R, 128]⟩ : Shape).size a ≤ S1024x1024.size a)
    (i7 : ∀ a, (![0, 896] : Fin 2 → ℕ) a + (⟨2, ![R, 128]⟩ : Shape).size a ≤ S1024x1024.size a)
    (G : S1024x1024.Idx → Elt F .bf16)
    (h0 : ∀ (r : Fin R) (l : Fin 128), p0 (ix2 r l) = G (ix2 (Fin.castLE hR r) ⟨0 + l.val, by omega⟩))
    (h1 : ∀ (r : Fin R) (l : Fin 128), p1 (ix2 r l) = G (ix2 (Fin.castLE hR r) ⟨128 + l.val, by omega⟩))
    (h2 : ∀ (r : Fin R) (l : Fin 128), p2 (ix2 r l) = G (ix2 (Fin.castLE hR r) ⟨256 + l.val, by omega⟩))
    (h3 : ∀ (r : Fin R) (l : Fin 128), p3 (ix2 r l) = G (ix2 (Fin.castLE hR r) ⟨384 + l.val, by omega⟩))
    (h4 : ∀ (r : Fin R) (l : Fin 128), p4 (ix2 r l) = G (ix2 (Fin.castLE hR r) ⟨512 + l.val, by omega⟩))
    (h5 : ∀ (r : Fin R) (l : Fin 128), p5 (ix2 r l) = G (ix2 (Fin.castLE hR r) ⟨640 + l.val, by omega⟩))
    (h6 : ∀ (r : Fin R) (l : Fin 128), p6 (ix2 r l) = G (ix2 (Fin.castLE hR r) ⟨768 + l.val, by omega⟩))
    (h7 : ∀ (r : Fin R) (l : Fin 128), p7 (ix2 r l) = G (ix2 (Fin.castLE hR r) ⟨896 + l.val, by omega⟩))
    (y : S1024x1024.Idx) (hy : (y 0).val < R) :
    v.read (Elt F) (v.writes (Elt F) f [⟨Rect.unit (s := S1024x1024) ![0, 896] (⟨2, ![R, 128]⟩ : Shape).size i7, p7⟩, ⟨Rect.unit (s := S1024x1024) ![0, 768] (⟨2, ![R, 128]⟩ : Shape).size i6, p6⟩, ⟨Rect.unit (s := S1024x1024) ![0, 640] (⟨2, ![R, 128]⟩ : Shape).size i5, p5⟩, ⟨Rect.unit (s := S1024x1024) ![0, 512] (⟨2, ![R, 128]⟩ : Shape).size i4, p4⟩, ⟨Rect.unit (s := S1024x1024) ![0, 384] (⟨2, ![R, 128]⟩ : Shape).size i3, p3⟩, ⟨Rect.unit (s := S1024x1024) ![0, 256] (⟨2, ![R, 128]⟩ : Shape).size i2, p2⟩, ⟨Rect.unit (s := S1024x1024) ![0, 128] (⟨2, ![R, 128]⟩ : Shape).size i1, p1⟩, ⟨Rect.unit (s := S1024x1024) ![0, 0] (⟨2, ![R, 128]⟩ : Shape).size i0, p0⟩]) y = G y := by
  have hy1 := ix2_lt1 y
  refine View.read_writes_apply_of_pieces v f G _ ?_ y ?_
  · simp only [List.forall_mem_cons]
    refine ⟨?_, ?_, ?_, ?_, ?_, ?_, ?_, ?_, fun _ h => absurd h List.not_mem_nil⟩
    · intro x
      refine (congrArg p7 (eq_ix2 x)).trans ((h7 (x 0) (x 1)).trans (congrArg G ?_))
      funext a; apply Fin.ext
      match a with
      | ⟨0, _⟩ => show (x 0).val = 0 + 1 * (x 0).val; omega
      | ⟨1, _⟩ => show 896 + (x 1).val = 896 + 1 * (x 1).val; omega
    · intro x
      refine (congrArg p6 (eq_ix2 x)).trans ((h6 (x 0) (x 1)).trans (congrArg G ?_))
      funext a; apply Fin.ext
      match a with
      | ⟨0, _⟩ => show (x 0).val = 0 + 1 * (x 0).val; omega
      | ⟨1, _⟩ => show 768 + (x 1).val = 768 + 1 * (x 1).val; omega
    · intro x
      refine (congrArg p5 (eq_ix2 x)).trans ((h5 (x 0) (x 1)).trans (congrArg G ?_))
      funext a; apply Fin.ext
      match a with
      | ⟨0, _⟩ => show (x 0).val = 0 + 1 * (x 0).val; omega
      | ⟨1, _⟩ => show 640 + (x 1).val = 640 + 1 * (x 1).val; omega
    · intro x
      refine (congrArg p4 (eq_ix2 x)).trans ((h4 (x 0) (x 1)).trans (congrArg G ?_))
      funext a; apply Fin.ext
      match a with
      | ⟨0, _⟩ => show (x 0).val = 0 + 1 * (x 0).val; omega
      | ⟨1, _⟩ => show 512 + (x 1).val = 512 + 1 * (x 1).val; omega
    · intro x
      refine (congrArg p3 (eq_ix2 x)).trans ((h3 (x 0) (x 1)).trans (congrArg G ?_))
      funext a; apply Fin.ext
      match a with
      | ⟨0, _⟩ => show (x 0).val = 0 + 1 * (x 0).val; omega
      | ⟨1, _⟩ => show 384 + (x 1).val = 384 + 1 * (x 1).val; omega
    · intro x
      refine (congrArg p2 (eq_ix2 x)).trans ((h2 (x 0) (x 1)).trans (congrArg G ?_))
      funext a; apply Fin.ext
      match a with
      | ⟨0, _⟩ => show (x 0).val = 0 + 1 * (x 0).val; omega
      | ⟨1, _⟩ => show 256 + (x 1).val = 256 + 1 * (x 1).val; omega
    · intro x
      refine (congrArg p1 (eq_ix2 x)).trans ((h1 (x 0) (x 1)).trans (congrArg G ?_))
      funext a; apply Fin.ext
      match a with
      | ⟨0, _⟩ => show (x 0).val = 0 + 1 * (x 0).val; omega
      | ⟨1, _⟩ => show 128 + (x 1).val = 128 + 1 * (x 1).val; omega
    · intro x
      refine (congrArg p0 (eq_ix2 x)).trans ((h0 (x 0) (x 1)).trans (congrArg G ?_))
      funext a; apply Fin.ext
      match a with
      | ⟨0, _⟩ => show (x 0).val = 0 + 1 * (x 0).val; omega
      | ⟨1, _⟩ => show 0 + (x 1).val = 0 + 1 * (x 1).val; omega
  · obtain hc | hc | hc | hc | hc | hc | hc | hc : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 := by omega
    · refine ⟨⟨Rect.unit (s := S1024x1024) ![0, 0] (⟨2, ![R, 128]⟩ : Shape).size i0, p0⟩, by simp only [List.mem_cons, true_or, or_true], ?_⟩
      show y ∈ (Rect.unit (s := S1024x1024) ![0, 0] (⟨2, ![R, 128]⟩ : Shape).size i0).set
      rw [Rect.mem_set_unit]
      intro a
      match a with
      | ⟨0, _⟩ => exact ⟨Nat.zero_le _, by show (y 0).val < 0 + R; omega⟩
      | ⟨1, _⟩ => exact ⟨by show 0 ≤ (y 1).val; omega, by show (y 1).val < 0 + 128; omega⟩
    · refine ⟨⟨Rect.unit (s := S1024x1024) ![0, 128] (⟨2, ![R, 128]⟩ : Shape).size i1, p1⟩, by simp only [List.mem_cons, true_or, or_true], ?_⟩
      show y ∈ (Rect.unit (s := S1024x1024) ![0, 128] (⟨2, ![R, 128]⟩ : Shape).size i1).set
      rw [Rect.mem_set_unit]
      intro a
      match a with
      | ⟨0, _⟩ => exact ⟨Nat.zero_le _, by show (y 0).val < 0 + R; omega⟩
      | ⟨1, _⟩ => exact ⟨by show 128 ≤ (y 1).val; omega, by show (y 1).val < 128 + 128; omega⟩
    · refine ⟨⟨Rect.unit (s := S1024x1024) ![0, 256] (⟨2, ![R, 128]⟩ : Shape).size i2, p2⟩, by simp only [List.mem_cons, true_or, or_true], ?_⟩
      show y ∈ (Rect.unit (s := S1024x1024) ![0, 256] (⟨2, ![R, 128]⟩ : Shape).size i2).set
      rw [Rect.mem_set_unit]
      intro a
      match a with
      | ⟨0, _⟩ => exact ⟨Nat.zero_le _, by show (y 0).val < 0 + R; omega⟩
      | ⟨1, _⟩ => exact ⟨by show 256 ≤ (y 1).val; omega, by show (y 1).val < 256 + 128; omega⟩
    · refine ⟨⟨Rect.unit (s := S1024x1024) ![0, 384] (⟨2, ![R, 128]⟩ : Shape).size i3, p3⟩, by simp only [List.mem_cons, true_or, or_true], ?_⟩
      show y ∈ (Rect.unit (s := S1024x1024) ![0, 384] (⟨2, ![R, 128]⟩ : Shape).size i3).set
      rw [Rect.mem_set_unit]
      intro a
      match a with
      | ⟨0, _⟩ => exact ⟨Nat.zero_le _, by show (y 0).val < 0 + R; omega⟩
      | ⟨1, _⟩ => exact ⟨by show 384 ≤ (y 1).val; omega, by show (y 1).val < 384 + 128; omega⟩
    · refine ⟨⟨Rect.unit (s := S1024x1024) ![0, 512] (⟨2, ![R, 128]⟩ : Shape).size i4, p4⟩, by simp only [List.mem_cons, true_or, or_true], ?_⟩
      show y ∈ (Rect.unit (s := S1024x1024) ![0, 512] (⟨2, ![R, 128]⟩ : Shape).size i4).set
      rw [Rect.mem_set_unit]
      intro a
      match a with
      | ⟨0, _⟩ => exact ⟨Nat.zero_le _, by show (y 0).val < 0 + R; omega⟩
      | ⟨1, _⟩ => exact ⟨by show 512 ≤ (y 1).val; omega, by show (y 1).val < 512 + 128; omega⟩
    · refine ⟨⟨Rect.unit (s := S1024x1024) ![0, 640] (⟨2, ![R, 128]⟩ : Shape).size i5, p5⟩, by simp only [List.mem_cons, true_or, or_true], ?_⟩
      show y ∈ (Rect.unit (s := S1024x1024) ![0, 640] (⟨2, ![R, 128]⟩ : Shape).size i5).set
      rw [Rect.mem_set_unit]
      intro a
      match a with
      | ⟨0, _⟩ => exact ⟨Nat.zero_le _, by show (y 0).val < 0 + R; omega⟩
      | ⟨1, _⟩ => exact ⟨by show 640 ≤ (y 1).val; omega, by show (y 1).val < 640 + 128; omega⟩
    · refine ⟨⟨Rect.unit (s := S1024x1024) ![0, 768] (⟨2, ![R, 128]⟩ : Shape).size i6, p6⟩, by simp only [List.mem_cons, true_or, or_true], ?_⟩
      show y ∈ (Rect.unit (s := S1024x1024) ![0, 768] (⟨2, ![R, 128]⟩ : Shape).size i6).set
      rw [Rect.mem_set_unit]
      intro a
      match a with
      | ⟨0, _⟩ => exact ⟨Nat.zero_le _, by show (y 0).val < 0 + R; omega⟩
      | ⟨1, _⟩ => exact ⟨by show 768 ≤ (y 1).val; omega, by show (y 1).val < 768 + 128; omega⟩
    · refine ⟨⟨Rect.unit (s := S1024x1024) ![0, 896] (⟨2, ![R, 128]⟩ : Shape).size i7, p7⟩, by simp only [List.mem_cons, true_or, or_true], ?_⟩
      show y ∈ (Rect.unit (s := S1024x1024) ![0, 896] (⟨2, ![R, 128]⟩ : Shape).size i7).set
      rw [Rect.mem_set_unit]
      intro a
      match a with
      | ⟨0, _⟩ => exact ⟨Nat.zero_le _, by show (y 0).val < 0 + R; omega⟩
      | ⟨1, _⟩ => exact ⟨by show 896 ≤ (y 1).val; omega, by show (y 1).val < 896 + 128; omega⟩

/-- Eight row groups of a block, every eighth row each, stored one by one, read back as the block. -/
theorem scat_read {R : ℕ} (hR : R ≤ 1024) (v : View sig .tc .vmem S8192x128 .f32) (f : v.ty.Contents (Elt F))
    (p0 p1 p2 p3 p4 p5 p6 p7 : (⟨2, ![R, 128]⟩ : Shape).Idx → Elt F .f32)
    (i0 : ∀ a, (⟨2, ![R, 128]⟩ : Shape).size a = 0 ∨ (![0, 0] : Fin 2 → ℕ) a + (![8, 1] : Fin 2 → ℕ) a * ((⟨2, ![R, 128]⟩ : Shape).size a - 1) < S8192x128.size a)
    (i1 : ∀ a, (⟨2, ![R, 128]⟩ : Shape).size a = 0 ∨ (![1, 0] : Fin 2 → ℕ) a + (![8, 1] : Fin 2 → ℕ) a * ((⟨2, ![R, 128]⟩ : Shape).size a - 1) < S8192x128.size a)
    (i2 : ∀ a, (⟨2, ![R, 128]⟩ : Shape).size a = 0 ∨ (![2, 0] : Fin 2 → ℕ) a + (![8, 1] : Fin 2 → ℕ) a * ((⟨2, ![R, 128]⟩ : Shape).size a - 1) < S8192x128.size a)
    (i3 : ∀ a, (⟨2, ![R, 128]⟩ : Shape).size a = 0 ∨ (![3, 0] : Fin 2 → ℕ) a + (![8, 1] : Fin 2 → ℕ) a * ((⟨2, ![R, 128]⟩ : Shape).size a - 1) < S8192x128.size a)
    (i4 : ∀ a, (⟨2, ![R, 128]⟩ : Shape).size a = 0 ∨ (![4, 0] : Fin 2 → ℕ) a + (![8, 1] : Fin 2 → ℕ) a * ((⟨2, ![R, 128]⟩ : Shape).size a - 1) < S8192x128.size a)
    (i5 : ∀ a, (⟨2, ![R, 128]⟩ : Shape).size a = 0 ∨ (![5, 0] : Fin 2 → ℕ) a + (![8, 1] : Fin 2 → ℕ) a * ((⟨2, ![R, 128]⟩ : Shape).size a - 1) < S8192x128.size a)
    (i6 : ∀ a, (⟨2, ![R, 128]⟩ : Shape).size a = 0 ∨ (![6, 0] : Fin 2 → ℕ) a + (![8, 1] : Fin 2 → ℕ) a * ((⟨2, ![R, 128]⟩ : Shape).size a - 1) < S8192x128.size a)
    (i7 : ∀ a, (⟨2, ![R, 128]⟩ : Shape).size a = 0 ∨ (![7, 0] : Fin 2 → ℕ) a + (![8, 1] : Fin 2 → ℕ) a * ((⟨2, ![R, 128]⟩ : Shape).size a - 1) < S8192x128.size a)
    (spos : ∀ a, 0 < (![8, 1] : Fin 2 → ℕ) a)
    (G : S8192x128.Idx → Elt F .f32)
    (h0 : ∀ (r : Fin R) (l : Fin 128), p0 (ix2 r l) = G (ix2 ⟨8 * r.val + 0, by omega⟩ l))
    (h1 : ∀ (r : Fin R) (l : Fin 128), p1 (ix2 r l) = G (ix2 ⟨8 * r.val + 1, by omega⟩ l))
    (h2 : ∀ (r : Fin R) (l : Fin 128), p2 (ix2 r l) = G (ix2 ⟨8 * r.val + 2, by omega⟩ l))
    (h3 : ∀ (r : Fin R) (l : Fin 128), p3 (ix2 r l) = G (ix2 ⟨8 * r.val + 3, by omega⟩ l))
    (h4 : ∀ (r : Fin R) (l : Fin 128), p4 (ix2 r l) = G (ix2 ⟨8 * r.val + 4, by omega⟩ l))
    (h5 : ∀ (r : Fin R) (l : Fin 128), p5 (ix2 r l) = G (ix2 ⟨8 * r.val + 5, by omega⟩ l))
    (h6 : ∀ (r : Fin R) (l : Fin 128), p6 (ix2 r l) = G (ix2 ⟨8 * r.val + 6, by omega⟩ l))
    (h7 : ∀ (r : Fin R) (l : Fin 128), p7 (ix2 r l) = G (ix2 ⟨8 * r.val + 7, by omega⟩ l))
    (y : S8192x128.Idx) (hy : (y 0).val < 8 * R) :
    v.read (Elt F) (v.writes (Elt F) f [⟨(⟨⟨![7, 0], (⟨2, ![R, 128]⟩ : Shape).size, ![8, 1], i7⟩, spos⟩ : Rect S8192x128), p7⟩, ⟨(⟨⟨![6, 0], (⟨2, ![R, 128]⟩ : Shape).size, ![8, 1], i6⟩, spos⟩ : Rect S8192x128), p6⟩, ⟨(⟨⟨![5, 0], (⟨2, ![R, 128]⟩ : Shape).size, ![8, 1], i5⟩, spos⟩ : Rect S8192x128), p5⟩, ⟨(⟨⟨![4, 0], (⟨2, ![R, 128]⟩ : Shape).size, ![8, 1], i4⟩, spos⟩ : Rect S8192x128), p4⟩, ⟨(⟨⟨![3, 0], (⟨2, ![R, 128]⟩ : Shape).size, ![8, 1], i3⟩, spos⟩ : Rect S8192x128), p3⟩, ⟨(⟨⟨![2, 0], (⟨2, ![R, 128]⟩ : Shape).size, ![8, 1], i2⟩, spos⟩ : Rect S8192x128), p2⟩, ⟨(⟨⟨![1, 0], (⟨2, ![R, 128]⟩ : Shape).size, ![8, 1], i1⟩, spos⟩ : Rect S8192x128), p1⟩, ⟨(⟨⟨![0, 0], (⟨2, ![R, 128]⟩ : Shape).size, ![8, 1], i0⟩, spos⟩ : Rect S8192x128), p0⟩]) y = G y := by
  have hy1 := ix2_lt1' y
  refine View.read_writes_apply_of_pieces v f G _ ?_ y ?_
  · simp only [List.forall_mem_cons]
    refine ⟨?_, ?_, ?_, ?_, ?_, ?_, ?_, ?_, fun _ h => absurd h List.not_mem_nil⟩
    · intro x
      refine (congrArg p7 (eq_ix2 x)).trans ((h7 (x 0) (x 1)).trans (congrArg G ?_))
      funext a; apply Fin.ext
      match a with
      | ⟨0, _⟩ => show 8 * (x 0).val + 7 = 7 + 8 * (x 0).val; omega
      | ⟨1, _⟩ => show (x 1).val = 0 + 1 * (x 1).val; omega
    · intro x
      refine (congrArg p6 (eq_ix2 x)).trans ((h6 (x 0) (x 1)).trans (congrArg G ?_))
      funext a; apply Fin.ext
      match a with
      | ⟨0, _⟩ => show 8 * (x 0).val + 6 = 6 + 8 * (x 0).val; omega
      | ⟨1, _⟩ => show (x 1).val = 0 + 1 * (x 1).val; omega
    · intro x
      refine (congrArg p5 (eq_ix2 x)).trans ((h5 (x 0) (x 1)).trans (congrArg G ?_))
      funext a; apply Fin.ext
      match a with
      | ⟨0, _⟩ => show 8 * (x 0).val + 5 = 5 + 8 * (x 0).val; omega
      | ⟨1, _⟩ => show (x 1).val = 0 + 1 * (x 1).val; omega
    · intro x
      refine (congrArg p4 (eq_ix2 x)).trans ((h4 (x 0) (x 1)).trans (congrArg G ?_))
      funext a; apply Fin.ext
      match a with
      | ⟨0, _⟩ => show 8 * (x 0).val + 4 = 4 + 8 * (x 0).val; omega
      | ⟨1, _⟩ => show (x 1).val = 0 + 1 * (x 1).val; omega
    · intro x
      refine (congrArg p3 (eq_ix2 x)).trans ((h3 (x 0) (x 1)).trans (congrArg G ?_))
      funext a; apply Fin.ext
      match a with
      | ⟨0, _⟩ => show 8 * (x 0).val + 3 = 3 + 8 * (x 0).val; omega
      | ⟨1, _⟩ => show (x 1).val = 0 + 1 * (x 1).val; omega
    · intro x
      refine (congrArg p2 (eq_ix2 x)).trans ((h2 (x 0) (x 1)).trans (congrArg G ?_))
      funext a; apply Fin.ext
      match a with
      | ⟨0, _⟩ => show 8 * (x 0).val + 2 = 2 + 8 * (x 0).val; omega
      | ⟨1, _⟩ => show (x 1).val = 0 + 1 * (x 1).val; omega
    · intro x
      refine (congrArg p1 (eq_ix2 x)).trans ((h1 (x 0) (x 1)).trans (congrArg G ?_))
      funext a; apply Fin.ext
      match a with
      | ⟨0, _⟩ => show 8 * (x 0).val + 1 = 1 + 8 * (x 0).val; omega
      | ⟨1, _⟩ => show (x 1).val = 0 + 1 * (x 1).val; omega
    · intro x
      refine (congrArg p0 (eq_ix2 x)).trans ((h0 (x 0) (x 1)).trans (congrArg G ?_))
      funext a; apply Fin.ext
      match a with
      | ⟨0, _⟩ => show 8 * (x 0).val + 0 = 0 + 8 * (x 0).val; omega
      | ⟨1, _⟩ => show (x 1).val = 0 + 1 * (x 1).val; omega
  · obtain hc | hc | hc | hc | hc | hc | hc | hc : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
    · refine ⟨⟨(⟨⟨![0, 0], (⟨2, ![R, 128]⟩ : Shape).size, ![8, 1], i0⟩, spos⟩ : Rect S8192x128), p0⟩, by simp only [List.mem_cons, true_or, or_true], ?_⟩
      refine LoadRect.mem_set _ |>.mpr fun a => ?_
      match a with
      | ⟨0, _⟩ => exact ⟨(y 0).val / 8, by show (y 0).val / 8 < R; omega, by show (y 0).val = 0 + 8 * ((y 0).val / 8); omega⟩
      | ⟨1, _⟩ => exact ⟨(y 1).val, by show (y 1).val < 128; omega, by show (y 1).val = 0 + 1 * (y 1).val; omega⟩
    · refine ⟨⟨(⟨⟨![1, 0], (⟨2, ![R, 128]⟩ : Shape).size, ![8, 1], i1⟩, spos⟩ : Rect S8192x128), p1⟩, by simp only [List.mem_cons, true_or, or_true], ?_⟩
      refine LoadRect.mem_set _ |>.mpr fun a => ?_
      match a with
      | ⟨0, _⟩ => exact ⟨(y 0).val / 8, by show (y 0).val / 8 < R; omega, by show (y 0).val = 1 + 8 * ((y 0).val / 8); omega⟩
      | ⟨1, _⟩ => exact ⟨(y 1).val, by show (y 1).val < 128; omega, by show (y 1).val = 0 + 1 * (y 1).val; omega⟩
    · refine ⟨⟨(⟨⟨![2, 0], (⟨2, ![R, 128]⟩ : Shape).size, ![8, 1], i2⟩, spos⟩ : Rect S8192x128), p2⟩, by simp only [List.mem_cons, true_or, or_true], ?_⟩
      refine LoadRect.mem_set _ |>.mpr fun a => ?_
      match a with
      | ⟨0, _⟩ => exact ⟨(y 0).val / 8, by show (y 0).val / 8 < R; omega, by show (y 0).val = 2 + 8 * ((y 0).val / 8); omega⟩
      | ⟨1, _⟩ => exact ⟨(y 1).val, by show (y 1).val < 128; omega, by show (y 1).val = 0 + 1 * (y 1).val; omega⟩
    · refine ⟨⟨(⟨⟨![3, 0], (⟨2, ![R, 128]⟩ : Shape).size, ![8, 1], i3⟩, spos⟩ : Rect S8192x128), p3⟩, by simp only [List.mem_cons, true_or, or_true], ?_⟩
      refine LoadRect.mem_set _ |>.mpr fun a => ?_
      match a with
      | ⟨0, _⟩ => exact ⟨(y 0).val / 8, by show (y 0).val / 8 < R; omega, by show (y 0).val = 3 + 8 * ((y 0).val / 8); omega⟩
      | ⟨1, _⟩ => exact ⟨(y 1).val, by show (y 1).val < 128; omega, by show (y 1).val = 0 + 1 * (y 1).val; omega⟩
    · refine ⟨⟨(⟨⟨![4, 0], (⟨2, ![R, 128]⟩ : Shape).size, ![8, 1], i4⟩, spos⟩ : Rect S8192x128), p4⟩, by simp only [List.mem_cons, true_or, or_true], ?_⟩
      refine LoadRect.mem_set _ |>.mpr fun a => ?_
      match a with
      | ⟨0, _⟩ => exact ⟨(y 0).val / 8, by show (y 0).val / 8 < R; omega, by show (y 0).val = 4 + 8 * ((y 0).val / 8); omega⟩
      | ⟨1, _⟩ => exact ⟨(y 1).val, by show (y 1).val < 128; omega, by show (y 1).val = 0 + 1 * (y 1).val; omega⟩
    · refine ⟨⟨(⟨⟨![5, 0], (⟨2, ![R, 128]⟩ : Shape).size, ![8, 1], i5⟩, spos⟩ : Rect S8192x128), p5⟩, by simp only [List.mem_cons, true_or, or_true], ?_⟩
      refine LoadRect.mem_set _ |>.mpr fun a => ?_
      match a with
      | ⟨0, _⟩ => exact ⟨(y 0).val / 8, by show (y 0).val / 8 < R; omega, by show (y 0).val = 5 + 8 * ((y 0).val / 8); omega⟩
      | ⟨1, _⟩ => exact ⟨(y 1).val, by show (y 1).val < 128; omega, by show (y 1).val = 0 + 1 * (y 1).val; omega⟩
    · refine ⟨⟨(⟨⟨![6, 0], (⟨2, ![R, 128]⟩ : Shape).size, ![8, 1], i6⟩, spos⟩ : Rect S8192x128), p6⟩, by simp only [List.mem_cons, true_or, or_true], ?_⟩
      refine LoadRect.mem_set _ |>.mpr fun a => ?_
      match a with
      | ⟨0, _⟩ => exact ⟨(y 0).val / 8, by show (y 0).val / 8 < R; omega, by show (y 0).val = 6 + 8 * ((y 0).val / 8); omega⟩
      | ⟨1, _⟩ => exact ⟨(y 1).val, by show (y 1).val < 128; omega, by show (y 1).val = 0 + 1 * (y 1).val; omega⟩
    · refine ⟨⟨(⟨⟨![7, 0], (⟨2, ![R, 128]⟩ : Shape).size, ![8, 1], i7⟩, spos⟩ : Rect S8192x128), p7⟩, by simp only [List.mem_cons, true_or, or_true], ?_⟩
      refine LoadRect.mem_set _ |>.mpr fun a => ?_
      match a with
      | ⟨0, _⟩ => exact ⟨(y 0).val / 8, by show (y 0).val / 8 < R; omega, by show (y 0).val = 7 + 8 * ((y 0).val / 8); omega⟩
      | ⟨1, _⟩ => exact ⟨(y 1).val, by show (y 1).val < 128; omega, by show (y 1).val = 0 + 1 * (y 1).val; omega⟩

/-- A load of a whole buffer's part, read off its contents. -/
theorem readAt_unread {sp : Space} {s : Shape} {e : EltTy} (m : Memref sig .tc sp s e) (hm : m.IsWhole) (x : Vec F s e) (r : LoadRect s) :
    View.readAt (Elt F) m.view r (hm.unread x) = fun y => x (r.idx y) :=
  funext fun y => congrFun (hm.read_unread x) (r.idx y)

/-- The word tests of the grid's second coordinate. -/
theorem c0_iff (i : grid0.Coords) : (Scalar.cmpi .ne (Scalar.extui (Scalar.cmpi .eq (BitVec.ofNat 32 (i 1).val) 0#32) : BitVec 32) 0#32 = 1#1) ↔ (i 1).val = 0 := by
  have h : ∀ j : Fin 7, (Scalar.cmpi .ne (Scalar.extui (Scalar.cmpi .eq (BitVec.ofNat 32 j.val) 0#32) : BitVec 32) 0#32 = 1#1) ↔ j.val = 0 := by decide
  exact h (i 1)

theorem c4_iff (i : grid0.Coords) : k0_cond4 i = 1#1 ↔ (i 1).val = 6 := by
  have h : ∀ j : Fin 7, (Scalar.cmpi .ne (Scalar.extui (Scalar.cmpi .eq (BitVec.ofNat 32 j.val) 6#32) : BitVec 32) 0#32 = 1#1) ↔ j.val = 6 := by decide
  exact h (i 1)
theorem c7_iff (i : grid0.Coords) : k0_cond7 i = 1#1 ↔ (i 1).val = 6 := c4_iff i
theorem c10_iff (i : grid0.Coords) : k0_cond10 i = 1#1 ↔ (i 1).val = 6 := c4_iff i
theorem c13_iff (i : grid0.Coords) : k0_cond13 i = 1#1 ↔ (i 1).val = 6 := c4_iff i

theorem c1_imp (i : grid0.Coords) (h : Scalar.cmpi .ne (Scalar.extui (Scalar.andi (Scalar.cmpi .eq (BitVec.ofNat 32 (i 0).val) 0#32) (Scalar.cmpi .eq (BitVec.ofNat 32 (i 1).val) 0#32)) : BitVec 32) 0#32 = 1#1) : (i 1).val = 0 := by
  have h' : ∀ (k : Fin 32) (j : Fin 7), Scalar.cmpi .ne (Scalar.extui (Scalar.andi (Scalar.cmpi .eq (BitVec.ofNat 32 k.val) 0#32) (Scalar.cmpi .eq (BitVec.ofNat 32 j.val) 0#32)) : BitVec 32) 0#32 = 1#1 → j.val = 0 := by decide +kernel
  exact h' (i 0) (i 1) h

/-- What one grid point does to the token matrix, the accumulator and the output block when the tile has rows in `R`:
    at the first slice of the hidden columns the token matrix is gathered, otherwise it is kept; the accumulator's rows become
    `U` of it, of the three weight blocks and of the rows before; at the last slice they are scattered to the output block. -/
def Step {R : ℕ} (hR : R ≤ 1024)
    (U : BitVec 32 → Vec F (⟨2, ![R, 1024]⟩ : Shape) .bf16 → Vec F S1x1x1024x512 .f32 → Vec F S1x1x1024x512 .f32 → Vec F S1x1x512x1024 .f32 → Vec F (⟨2, ![R, 1024]⟩ : Shape) .f32 → Vec F (⟨2, ![R, 1024]⟩ : Shape) .f32)
    (i : grid0.Coords) (x0 : Vec F S8192x128 .f32) (x1 x2 : Vec F S1x1x1024x512 .f32) (x3 : Vec F S1x1x512x1024 .f32)
    (xb : Vec F S1024x1024 .bf16) (ac : Vec F S1024x1024 .f32) (xb' : Vec F S1024x1024 .bf16) (ac' : Vec F S1024x1024 .f32) (o' : Vec F S8192x128 .f32) : Prop :=
  ((i 1).val = 0 → ∀ y, (y 0).val < R → xb' y = gath x0 y) ∧ ((i 1).val ≠ 0 → xb' = xb)
    ∧ (∃ a0 : Vec F (⟨2, ![R, 1024]⟩ : Shape) .f32, ((i 1).val ≠ 0 → ∀ (r : Fin R) (n : Fin 1024), a0 (ix2 r n) = ac (ix2 (Fin.castLE hR r) n))
        ∧ ∀ (r : Fin R) (n : Fin 1024), ac' (ix2 (Fin.castLE hR r) n)
            = U (BitVec.ofNat 32 (i 1).val) (fun y => xb' (ix2 (Fin.castLE hR (y 0)) (y 1))) x1 x2 x3 a0 (ix2 r n))
    ∧ ((i 1).val = 6 → ∀ y : S8192x128.Idx, (y 0).val < 8 * R → o' y = ac' (dst y))

/-- A load of a whole buffer from its first cell on is the buffer's contents. -/
theorem readAt_whole {sp : Space} {s : Shape} {e : EltTy} (m : Memref sig .tc sp s e) (hm : m.IsWhole) (x : Vec F s e)
    {off : Fin s.rank → ℕ} (inb : ∀ a, off a + s.size a ≤ s.size a) (h : ∀ a, off a = 0) :
    View.readAt (Elt F) m.view (Rect.unit off s.size inb).toLoadRect (hm.unread x) = x := by
  rw [readAt_unread]; funext y; congr 1; funext a; apply Fin.ext
  show off a + 1 * (y a).val = (y a).val
  rw [h a]; omega

/-- One column group of the token matrix is every eighth row of the block. -/
theorem gath_col {R c : ℕ} (hR : R ≤ 1024) (hc : c < 8) (m : Memref sig .tc .vmem S8192x128 .f32) (hm : m.IsWhole)
    (inb : ∀ a, (⟨2, ![R, 128]⟩ : Shape).size a = 0 ∨ (![c, 0] : Fin 2 → ℕ) a + (![8, 1] : Fin 2 → ℕ) a * ((⟨2, ![R, 128]⟩ : Shape).size a - 1) < S8192x128.size a)
    (x0 : Vec F S8192x128 .f32) (r : Fin R) (l : Fin 128) :
    truncf (s := ⟨2, ![R, 128]⟩) .bf16 (View.readAt (Elt F) m.view (⟨![c, 0], (⟨2, ![R, 128]⟩ : Shape).size, ![8, 1], inb⟩ : LoadRect S8192x128) (hm.unread x0)) bitsLt_bf16_f32 (ix2 r l)
      = gath x0 (ix2 (Fin.castLE hR r) ⟨128 * c + l.val, by omega⟩) := by
  rw [readAt_unread]
  refine congrArg (truncf .bf16 x0 bitsLt_bf16_f32) ?_
  funext a; apply Fin.ext
  match a with
  | ⟨0, _⟩ => show c + 8 * r.val = 8 * r.val + (128 * c + l.val) / 128; omega
  | ⟨1, _⟩ => show 0 + 1 * l.val = (128 * c + l.val) % 128; omega

/-- The rows just stored, read back. -/
theorem acc_read {R : ℕ} (hR : R ≤ 1024) (v : View sig .tc .vmem S1024x1024 .f32) (f : v.ty.Contents (Elt F))
    (inb : ∀ a, (![0, 0] : Fin 2 → ℕ) a + (⟨2, ![R, 1024]⟩ : Shape).size a ≤ S1024x1024.size a)
    (w : (⟨2, ![R, 1024]⟩ : Shape).Idx → Elt F .f32) (L) (r : Fin R) (n : Fin 1024) :
    v.read (Elt F) (v.writes (Elt F) f (⟨Rect.unit (s := S1024x1024) ![0, 0] (⟨2, ![R, 1024]⟩ : Shape).size inb, w⟩ :: L)) (ix2 (Fin.castLE hR r) n) = w (ix2 r n) := by
  refine View.read_writes_cons_hit_of_coords v f (Rect.unit (s := S1024x1024) ![0, 0] (⟨2, ![R, 1024]⟩ : Shape).size inb) w L (ix2 r n) _ fun a => ?_
  match a with
  | ⟨0, _⟩ => show r.val = 0 + 1 * r.val; omega
  | ⟨1, _⟩ => show n.val = 0 + 1 * n.val; omega

theorem idx_rows {R : ℕ} (hR : R ≤ 1024) (inb : ∀ a, (![0, 0] : Fin 2 → ℕ) a + (⟨2, ![R, 1024]⟩ : Shape).size a ≤ S1024x1024.size a) (y : (⟨2, ![R, 1024]⟩ : Shape).Idx) :
    (Rect.unit (s := S1024x1024) ![0, 0] (⟨2, ![R, 1024]⟩ : Shape).size inb).idx y = ix2 (Fin.castLE hR (y 0)) (y 1) := by
  funext a; apply Fin.ext
  match a with
  | ⟨0, _⟩ => show 0 + 1 * (y 0).val = (y 0).val; omega
  | ⟨1, _⟩ => show 0 + 1 * (y 1).val = (y 1).val; omega

/-- One column group of the accumulator's rows, at the place of the output block that it is stored to. -/
theorem slice_col {R c : ℕ} (hR : R ≤ 1024) (hc : c < 8) (v : View sig .tc .vmem S1024x1024 .f32)
    (inb : ∀ a, (![0, 0] : Fin 2 → ℕ) a + (⟨2, ![R, 1024]⟩ : Shape).size a ≤ S1024x1024.size a)
    (w : (⟨2, ![R, 1024]⟩ : Shape).Idx → Elt F .f32) (hs : (⟨2, ![R, 1024]⟩ : Shape).Slices ![0, 128 * c] ⟨2, ![R, 128]⟩)
    (A : S1024x1024.Idx → Elt F .f32) (hA : ∀ (r : Fin R) (n : Fin 1024), A (ix2 (Fin.castLE hR r) n) = w (ix2 r n)) (r : Fin R) (l : Fin 128) :
    extractStridedSlice (s := (⟨2, ![R, 1024]⟩ : Shape)) (⟨2, ![R, 128]⟩ : Shape) ![0, 128 * c]
        (v.readCov [⟨Rect.unit (s := S1024x1024) ![0, 0] (⟨2, ![R, 1024]⟩ : Shape).size inb, w⟩] (Rect.unit (s := S1024x1024) ![0, 0] (⟨2, ![R, 1024]⟩ : Shape).size inb).toLoadRect) hs (ix2 r l)
      = A (dst (ix2 ⟨8 * r.val + c, by omega⟩ l)) := by
  have hn : 128 * c + l.val < 1024 := by omega
  have hd : dst (ix2 ⟨8 * r.val + c, by omega⟩ l) = ix2 (Fin.castLE hR r) (⟨128 * c + l.val, hn⟩ : Fin 1024) := by
    funext a; apply Fin.ext
    match a with
    | ⟨0, _⟩ => show (8 * r.val + c) / 8 = r.val; omega
    | ⟨1, _⟩ => show 128 * ((8 * r.val + c) % 8) + l.val = 128 * c + l.val; omega
  rw [hd, hA]
  refine Eq.trans ?_ (acc_read hR v v.junk inb w [] r ⟨128 * c + l.val, hn⟩)
  show v.read (Elt F) (v.writes (Elt F) v.junk _) _ = _
  congr 1
  funext a; apply Fin.ext
  match a with
  | ⟨0, _⟩ => show 0 + 1 * (0 + r.val) = r.val; omega
  | ⟨1, _⟩ => show 0 + 1 * (128 * c + l.val) = 128 * c + l.val; omega

variable {R : ℕ} (hR : R ≤ 1024)
    (U : BitVec 32 → Vec F (⟨2, ![R, 1024]⟩ : Shape) .bf16 → Vec F S1x1x1024x512 .f32 → Vec F S1x1x1024x512 .f32 → Vec F S1x1x512x1024 .f32 → Vec F (⟨2, ![R, 1024]⟩ : Shape) .f32 → Vec F (⟨2, ![R, 1024]⟩ : Shape) .f32)

/-- The first slice's point is a `Step`. -/
theorem step_first (i : grid0.Coords) (hf : (i 1).val = 0) (x0 : Vec F S8192x128 .f32) (x1 x2 : Vec F S1x1x1024x512 .f32) (x3 : Vec F S1x1x512x1024 .f32)
    (xb : Vec F S1024x1024 .bf16) (ac : Vec F S1024x1024 .f32)
    (v10 : View sig .tc .vmem S1024x1024 .bf16) (f10 : v10.ty.Contents (Elt F)) (L10) (v11 : View sig .tc .vmem S1024x1024 .f32) (f11 : v11.ty.Contents (Elt F)) (L11)
    (inb : ∀ a, (![0, 0] : Fin 2 → ℕ) a + (⟨2, ![R, 1024]⟩ : Shape).size a ≤ S1024x1024.size a)
    (v56 v60 : Vec F S1x1x1024x512 .f32) (v68 : Vec F S1x1x512x1024 .f32) (v73 : Vec F (⟨2, ![R, 1024]⟩ : Shape) .f32) (o' : Vec F S8192x128 .f32)
    (h56 : v56 = x1) (h60 : v60 = x2) (h68 : v68 = x3)
    (hG : ∀ f y, (y 0).val < R → v10.read (Elt F) (v10.writes (Elt F) f L10) y = gath x0 y) :
    Step hR U i x0 x1 x2 x3 xb ac (v10.read (Elt F) (v10.writes (Elt F) f10 L10))
      (v11.read (Elt F) (v11.writes (Elt F) f11 (⟨Rect.unit (s := S1024x1024) ![0, 0] (⟨2, ![R, 1024]⟩ : Shape).size inb,
        U (BitVec.ofNat 32 (i 1).val) (v10.readCov L10 (Rect.unit (s := S1024x1024) ![0, 0] (⟨2, ![R, 1024]⟩ : Shape).size inb).toLoadRect) v56 v60 v68 v73⟩ :: L11))) o' := by
  subst h56; subst h60; subst h68
  refine ⟨fun _ y hy => hG f10 y hy, fun h => absurd hf h, ⟨v73, fun h => absurd hf h, fun r n => ?_⟩, fun h => by omega⟩
  rw [acc_read hR]
  congr 2
  funext z
  have hz : (z 0).val < R := (z 0).isLt
  refine Eq.trans ?_ (hG f10 (ix2 (Fin.castLE hR (z 0)) (z 1)) hz).symm
  refine Eq.trans ?_ (hG v10.junk (ix2 (Fin.castLE hR (z 0)) (z 1)) hz)
  exact congrArg (v10.read (Elt F) (v10.writes (Elt F) v10.junk L10)) (idx_rows hR inb z)

/-- A later slice's point is a `Step`. -/
theorem step_later (i : grid0.Coords) (hf : (i 1).val ≠ 0) (x0 : Vec F S8192x128 .f32) (x1 x2 : Vec F S1x1x1024x512 .f32) (x3 : Vec F S1x1x512x1024 .f32)
    (xb : Vec F S1024x1024 .bf16) (ac : Vec F S1024x1024 .f32)
    (m10 : Memref sig .tc .vmem S1024x1024 .bf16) (hm10 : m10.IsWhole) (m11 : Memref sig .tc .vmem S1024x1024 .f32) (hm11 : m11.IsWhole)
    (inb : ∀ a, (![0, 0] : Fin 2 → ℕ) a + (⟨2, ![R, 1024]⟩ : Shape).size a ≤ S1024x1024.size a)
    (v56 v60 : Vec F S1x1x1024x512 .f32) (v68 : Vec F S1x1x512x1024 .f32) (o' : Vec F S8192x128 .f32)
    (h56 : v56 = x1) (h60 : v60 = x2) (h68 : v68 = x3)
    (ho : (i 1).val = 6 → ∀ A : S1024x1024.Idx → Elt F .f32, (∀ (r : Fin R) (n : Fin 1024), A (ix2 (Fin.castLE hR r) n)
        = U (BitVec.ofNat 32 (i 1).val) (View.readAt (Elt F) m10.view (Rect.unit (s := S1024x1024) ![0, 0] (⟨2, ![R, 1024]⟩ : Shape).size inb).toLoadRect (hm10.unread xb)) v56 v60 v68
            (View.readAt (Elt F) m11.view (Rect.unit (s := S1024x1024) ![0, 0] (⟨2, ![R, 1024]⟩ : Shape).size inb).toLoadRect (hm11.unread ac)) (ix2 r n)) →
        ∀ y : S8192x128.Idx, (y 0).val < 8 * R → o' y = A (dst y)) :
    Step hR U i x0 x1 x2 x3 xb ac (m10.view.read (Elt F) (hm10.unread xb))
      (m11.view.read (Elt F) (m11.view.writes (Elt F) (hm11.unread ac) [⟨Rect.unit (s := S1024x1024) ![0, 0] (⟨2, ![R, 1024]⟩ : Shape).size inb,
        U (BitVec.ofNat 32 (i 1).val) (View.readAt (Elt F) m10.view (Rect.unit (s := S1024x1024) ![0, 0] (⟨2, ![R, 1024]⟩ : Shape).size inb).toLoadRect (hm10.unread xb)) v56 v60 v68
            (View.readAt (Elt F) m11.view (Rect.unit (s := S1024x1024) ![0, 0] (⟨2, ![R, 1024]⟩ : Shape).size inb).toLoadRect (hm11.unread ac))⟩])) o' := by
  refine ⟨fun h => absurd h hf, fun _ => hm10.read_unread xb, ⟨View.readAt (Elt F) m11.view (Rect.unit (s := S1024x1024) ![0, 0] (⟨2, ![R, 1024]⟩ : Shape).size inb).toLoadRect (hm11.unread ac), fun _ r n => ?_, fun r n => ?_⟩, fun h => ho h _ (fun r n => ?_)⟩
  · rw [readAt_unread m11 hm11 ac]
    exact congrArg ac (idx_rows hR inb (ix2 r n))
  · rw [acc_read hR, h56, h60, h68, hm10.read_unread xb, readAt_unread m10 hm10 xb]
    congr 2
    funext z; exact congrArg xb (idx_rows hR inb z)
  · rw [acc_read hR]

end Cert.KernelIdeal.Hand
-- ==== Proof.ExpertRun0.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp
public import proofs.«01_k».proof.Proof.ExpertStep

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

set_option maxHeartbeats 4000000 in
/-- One grid point of a tile that holds no rows: the body runs from any contents. -/
theorem run_q0 (c : Dev nD) (i : grid0.Coords) (arg2 : Memref sig .tc .smem S32 .i32) (harg2 : arg2.IsWhole) (arg3 : Memref sig .tc .smem S1 .i32) (harg3 : arg3.IsWhole) (arg4 : Memref sig .tc .smem S32 .i32) (harg4 : arg4.IsWhole) (arg5 : Memref sig .tc .vmem S8192x128 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S8192x128 .f32) (harg9 : arg9.IsWhole) (arg10 : Memref sig .tc .vmem S1024x1024 .bf16) (harg10 : arg10.IsWhole) (arg11 : Memref sig .tc .vmem S1024x1024 .f32) (harg11 : arg11.IsWhole) (q3 q4 : PosShare TreeShare)
    (nvt : Vec F S1 .i32) (trt : Vec F S32 .i32)
    (x0 : Vec F S8192x128 .f32) (x1 x2 : Vec F S1x1x1024x512 .f32) (x3 : Vec F S1x1x512x1024 .f32) (o : Vec F S8192x128 .f32) (xb : Vec F S1024x1024 .bf16) (ac : Vec F S1024x1024 .f32)
    (h2 : ¬ k0_cond2 i (View.readAt (Elt F) arg3.view (Rect.unit (s := S1) ![0] S1.size inb_S1_S1_0).toLoadRect (harg3.unread nvt) (Shape.Idx.first (numel1_S1 ▸ Nat.one_pos))) (View.readAt (Elt F) arg4.view (Rect.unit (s := S32) (k0_off1 i) S1.size (k0_off1_inb i)).toLoadRect (harg4.unread trt) (Shape.Idx.first (numel1_S1 ▸ Nat.one_pos))) = 1#1)
    (h5 : ¬ k0_cond5 i (View.readAt (Elt F) arg3.view (Rect.unit (s := S1) ![0] S1.size inb_S1_S1_0).toLoadRect (harg3.unread nvt) (Shape.Idx.first (numel1_S1 ▸ Nat.one_pos))) (View.readAt (Elt F) arg4.view (Rect.unit (s := S32) (k0_off1 i) S1.size (k0_off1_inb i)).toLoadRect (harg4.unread trt) (Shape.Idx.first (numel1_S1 ▸ Nat.one_pos))) = 1#1)
    (h8 : ¬ k0_cond8 i (View.readAt (Elt F) arg3.view (Rect.unit (s := S1) ![0] S1.size inb_S1_S1_0).toLoadRect (harg3.unread nvt) (Shape.Idx.first (numel1_S1 ▸ Nat.one_pos))) (View.readAt (Elt F) arg4.view (Rect.unit (s := S32) (k0_off1 i) S1.size (k0_off1_inb i)).toLoadRect (harg4.unread trt) (Shape.Idx.first (numel1_S1 ▸ Nat.one_pos))) = 1#1)
    (h11 : ¬ k0_cond11 i (View.readAt (Elt F) arg3.view (Rect.unit (s := S1) ![0] S1.size inb_S1_S1_0).toLoadRect (harg3.unread nvt) (Shape.Idx.first (numel1_S1 ▸ Nat.one_pos))) (View.readAt (Elt F) arg4.view (Rect.unit (s := S32) (k0_off1 i) S1.size (k0_off1_inb i)).toLoadRect (harg4.unread trt) (Shape.Idx.first (numel1_S1 ▸ Nat.one_pos))) = 1#1) :
      ∀ (E : Set ℕ) (K : PUnit → sProp 𝕄),
        iprop(owns (c : Thread nD τ) arg3 q3 nvt ∗ owns (c : Thread nD τ) arg4 q4 trt ∗ owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare o ∗ owns (c : Thread nD τ) arg10 fullShare xb ∗ owns (c : Thread nD τ) arg11 fullShare ac
            ∗ (iprop((owns (c : Thread nD τ) arg3 q3 nvt ∗ owns (c : Thread nD τ) arg4 q4 trt ∗ owns (c : Thread nD τ) arg5 fullShare x0 ∗ owns (c : Thread nD τ) arg6 fullShare x1 ∗ owns (c : Thread nD τ) arg7 fullShare x2 ∗ owns (c : Thread nD τ) arg8 fullShare x3) ∗ (∃ o' xb' ac', owns (c : Thread nD τ) arg9 fullShare o' ∗ owns (c : Thread nD τ) arg10 fullShare xb' ∗ owns (c : Thread nD τ) arg11 fullShare ac')) -∗ K ⟨⟩))
          ⊢ wp frame (wpE (defs₀ (F := F)) Variants.none c none) E (cc0_moe_expert_swiglu i arg2 harg2 arg3 harg3 arg4 harg4 arg5 harg5 arg6 harg6 arg7 harg7 arg8 harg8 arg9 harg9 arg10 harg10 arg11 harg11) K := by
    intro E K
    simp only [cc0_moe_expert_swiglu_eq_skeleton]; unfold cc0_moe_expert_swiglu_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    by_cases h14 : k0_cond14 i (View.readAt (Elt F) arg3.view (Rect.unit (s := S1) ![0] S1.size inb_S1_S1_0).toLoadRect (harg3.unread nvt) (Shape.Idx.first (numel1_S1 ▸ Nat.one_pos))) = 1#1
    · by_cases h1 : Scalar.cmpi .ne (Scalar.extui (Scalar.andi (Scalar.cmpi .eq (BitVec.ofNat 32 (i 0).val) 0#32) (Scalar.cmpi .eq (BitVec.ofNat 32 (i 1).val) 0#32)) : BitVec 32) 0#32 = 1#1
      · sl_exec
        sl_step
        iapply Hk
        isplitl [H3 H4 H5 H6 H7 H8]
        · isplitl [H3]
          · iexists _; isplitr; · ipureintro; exact harg3.read_unread _
            iexact H3
          isplitl [H4]
          · iexists _; isplitr; · ipureintro; exact harg4.read_unread _
            iexact H4
          isplitl [H5]
          · iexists _; isplitr; · ipureintro; exact harg5.read_unread _
            iexact H5
          isplitl [H6]
          · iexists _; isplitr; · ipureintro; exact harg6.read_unread _
            iexact H6
          isplitl [H7]
          · iexists _; isplitr; · ipureintro; exact harg7.read_unread _
            iexact H7
          iexists _; isplitr; · ipureintro; exact harg8.read_unread _
          iexact H8
        iexists _, _, _
        isplitl [H9]
        · iexists _; isplitr; swap
          · iexact H9
          · ipureintro; rfl
        isplitl [H10]
        · iexists _; isplitr; swap
          · iexact H10
          · ipureintro; rfl
        iexists _; isplitr; swap
        · iexact H11
        · ipureintro; rfl

      · sl_exec
        sl_step
        iapply Hk
        isplitl [H3 H4 H5 H6 H7 H8]
        · isplitl [H3]
          · iexists _; isplitr; · ipureintro; exact harg3.read_unread _
            iexact H3
          isplitl [H4]
          · iexists _; isplitr; · ipureintro; exact harg4.read_unread _
            iexact H4
          isplitl [H5]
          · iexists _; isplitr; · ipureintro; exact harg5.read_unread _
            iexact H5
          isplitl [H6]
          · iexists _; isplitr; · ipureintro; exact harg6.read_unread _
            iexact H6
          isplitl [H7]
          · iexists _; isplitr; · ipureintro; exact harg7.read_unread _
            iexact H7
          iexists _; isplitr; · ipureintro; exact harg8.read_unread _
          iexact H8
        iexists _, _, _
        isplitl [H9]
        · iexists _; isplitr; swap
          · iexact H9
          · ipureintro; rfl
        isplitl [H10]
        · iexists _; isplitr; swap
          · iexact H10
          · ipureintro; rfl
        iexists _; isplitr; swap
        · iexact H11
        · ipureintro; rfl

    · by_cases h1 : Scalar.cmpi .ne (Scalar.extui (Scalar.andi (Scalar.cmpi .eq (BitVec.ofNat 32 (i 0).val) 0#32) (Scalar.cmpi .eq (BitVec.ofNat 32 (i 1).val) 0#32)) : BitVec 32) 0#32 = 1#1
      · sl_exec
        sl_step
        iapply Hk
        isplitl [H3 H4 H5 H6 H7 H8]
        · isplitl [H3]
          · iexists _; isplitr; · ipureintro; exact harg3.read_unread _
            iexact H3
          isplitl [H4]
          · iexists _; isplitr; · ipureintro; exact harg4.read_unread _
            iexact H4
          isplitl [H5]
          · iexists _; isplitr; · ipureintro; exact harg5.read_unread _
            iexact H5
          isplitl [H6]
          · iexists _; isplitr; · ipureintro; exact harg6.read_unread _
            iexact H6
          isplitl [H7]
          · iexists _; isplitr; · ipureintro; exact harg7.read_unread _
            iexact H7
          iexists _; isplitr; · ipureintro; exact harg8.read_unread _
          iexact H8
        iexists _, _, _
        isplitl [H9]
        · iexists _; isplitr; swap
          · iexact H9
          · ipureintro; rfl
        isplitl [H10]
        · iexists _; isplitr; swap
          · iexact H10
          · ipureintro; rfl
        iexists _; isplitr; swap
        · iexact H11
        · ipureintro; rfl

      · sl_exec
        sl_step
        iapply Hk
        isplitl [H3 H4 H5 H6 H7 H8]
        · isplitl [H3]
          · iexists _; isplitr; · ipureintro; exact harg3.read_unread _
            iexact H3
          isplitl [H4]
          · iexists _; isplitr; · ipureintro; exact harg4.read_unread _
            iexact H4
          isplitl [H5]
          · iexists _; isplitr; · ipureintro; exact harg5.read_unread _
            iexact H5
          isplitl [H6]
          · iexists _; isplitr; · ipureintro; exact harg6.read_unread _
            iexact H6
          isplitl [H7]
          · iexists _; isplitr; · ipureintro; exact harg7.read_unread _
            iexact H7
          iexists _; isplitr; · ipureintro; exact harg8.read_unread _
          iexact H8
        iexists _, _, _
        isplitl [H9]
        · iexists _; isplitr; swap
          · iexact H9
          · ipureintro; rfl
        isplitl [H10]
        · iexists _; isplitr; swap
          · iexact H10
          · ipureintro; rfl
        iexists _; isplitr; swap
        · iexact H11
        · ipureintro; rfl

end Cert.KernelIdeal.Hand
-- ==== Proof.ExpertRun1.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp
public import proofs.«01_k».proof.Proof.ExpertStep

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

theorem gpay19 (v : Vec F S256x128 .f32) : k0_pay19 v = truncf .bf16 v bitsLt_bf16_f32 := by unfold k0_pay19; exact shapeCast_self _ _
theorem gpay20 (v : Vec F S256x128 .f32) : k0_pay20 v = truncf .bf16 v bitsLt_bf16_f32 := by unfold k0_pay20; exact shapeCast_self _ _
theorem gpay21 (v : Vec F S256x128 .f32) : k0_pay21 v = truncf .bf16 v bitsLt_bf16_f32 := by unfold k0_pay21; exact shapeCast_self _ _
theorem gpay22 (v : Vec F S256x128 .f32) : k0_pay22 v = truncf .bf16 v bitsLt_bf16_f32 := by unfold k0_pay22; exact shapeCast_self _ _
theorem gpay23 (v : Vec F S256x128 .f32) : k0_pay23 v = truncf .bf16 v bitsLt_bf16_f32 := by unfold k0_pay23; exact shapeCast_self _ _
theorem gpay24 (v : Vec F S256x128 .f32) : k0_pay24 v = truncf .bf16 v bitsLt_bf16_f32 := by unfold k0_pay24; exact shapeCast_self _ _
theorem gpay25 (v : Vec F S256x128 .f32) : k0_pay25 v = truncf .bf16 v bitsLt_bf16_f32 := by unfold k0_pay25; exact shapeCast_self _ _
theorem gpay26 (v : Vec F S256x128 .f32) : k0_pay26 v = truncf .bf16 v bitsLt_bf16_f32 := by unfold k0_pay26; exact shapeCast_self _ _

set_option maxHeartbeats 4000000 in
/-- One grid point of a tile that holds up to 256 rows (and more than 0): the body runs from any scratch contents, and leaves what `Step` says. -/
theorem run_q1 (c : Dev nD) (i : grid0.Coords) (arg2 : Memref sig .tc .smem S32 .i32) (harg2 : arg2.IsWhole) (arg3 : Memref sig .tc .smem S1 .i32) (harg3 : arg3.IsWhole) (arg4 : Memref sig .tc .smem S32 .i32) (harg4 : arg4.IsWhole) (arg5 : Memref sig .tc .vmem S8192x128 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S8192x128 .f32) (harg9 : arg9.IsWhole) (arg10 : Memref sig .tc .vmem S1024x1024 .bf16) (harg10 : arg10.IsWhole) (arg11 : Memref sig .tc .vmem S1024x1024 .f32) (harg11 : arg11.IsWhole) (q3 q4 : PosShare TreeShare)
    (nvt : Vec F S1 .i32) (trt : Vec F S32 .i32)
    (x0 : Vec F S8192x128 .f32) (x1 x2 : Vec F S1x1x1024x512 .f32) (x3 : Vec F S1x1x512x1024 .f32) (o : Vec F S8192x128 .f32) (xb : Vec F S1024x1024 .bf16) (ac : Vec F S1024x1024 .f32)
    (h2 : k0_cond2 i (View.readAt (Elt F) arg3.view (Rect.unit (s := S1) ![0] S1.size inb_S1_S1_0).toLoadRect (harg3.unread nvt) (Shape.Idx.first (numel1_S1 ▸ Nat.one_pos))) (View.readAt (Elt F) arg4.view (Rect.unit (s := S32) (k0_off1 i) S1.size (k0_off1_inb i)).toLoadRect (harg4.unread trt) (Shape.Idx.first (numel1_S1 ▸ Nat.one_pos))) = 1#1)
    (h5 : ¬ k0_cond5 i (View.readAt (Elt F) arg3.view (Rect.unit (s := S1) ![0] S1.size inb_S1_S1_0).toLoadRect (harg3.unread nvt) (Shape.Idx.first (numel1_S1 ▸ Nat.one_pos))) (View.readAt (Elt F) arg4.view (Rect.unit (s := S32) (k0_off1 i) S1.size (k0_off1_inb i)).toLoadRect (harg4.unread trt) (Shape.Idx.first (numel1_S1 ▸ Nat.one_pos))) = 1#1)
    (h8 : ¬ k0_cond8 i (View.readAt (Elt F) arg3.view (Rect.unit (s := S1) ![0] S1.size inb_S1_S1_0).toLoadRect (harg3.unread nvt) (Shape.Idx.first (numel1_S1 ▸ Nat.one_pos))) (View.readAt (Elt F) arg4.view (Rect.unit (s := S32) (k0_off1 i) S1.size (k0_off1_inb i)).toLoadRect (harg4.unread trt) (Shape.Idx.first (numel1_S1 ▸ Nat.one_pos))) = 1#1)
    (h11 : ¬ k0_cond11 i (View.readAt (Elt F) arg3.view (Rect.unit (s := S1) ![0] S1.size inb_S1_S1_0).toLoadRect (harg3.unread nvt) (Shape.Idx.first (numel1_S1 ▸ Nat.one_pos))) (View.readAt (Elt F) arg4.view (Rect.unit (s := S32) (k0_off1 i) S1.size (k0_off1_inb i)).toLoadRect (harg4.unread trt) (Shape.Idx.first (numel1_S1 ▸ Nat.one_pos))) = 1#1)
    (h14 : ¬ k0_cond14 i (View.readAt (Elt F) arg3.view (Rect.unit (s := S1) ![0] S1.size inb_S1_S1_0).toLoadRect (harg3.unread nvt) (Shape.Idx.first (numel1_S1 ▸ Nat.one_pos))) = 1#1) :
      ∀ (E : Set ℕ) (K : PUnit → sProp 𝕄),
        iprop(owns (c : Thread nD τ) arg3 q3 nvt ∗ owns (c : Thread nD τ) arg4 q4 trt ∗ owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare o ∗ owns (c : Thread nD τ) arg10 fullShare xb ∗ owns (c : Thread nD τ) arg11 fullShare ac
            ∗ (iprop((owns (c : Thread nD τ) arg3 q3 nvt ∗ owns (c : Thread nD τ) arg4 q4 trt ∗ owns (c : Thread nD τ) arg5 fullShare x0 ∗ owns (c : Thread nD τ) arg6 fullShare x1 ∗ owns (c : Thread nD τ) arg7 fullShare x2 ∗ owns (c : Thread nD τ) arg8 fullShare x3) ∗ (∃ o' xb' ac', ⌜Step (R := 256) (by omega) (k0_pay27 (F := F)) i x0 x1 x2 x3 xb ac xb' ac' o'⌝ ∗ owns (c : Thread nD τ) arg9 fullShare o' ∗ owns (c : Thread nD τ) arg10 fullShare xb' ∗ owns (c : Thread nD τ) arg11 fullShare ac')) -∗ K ⟨⟩))
          ⊢ wp frame (wpE (defs₀ (F := F)) Variants.none c none) E (cc0_moe_expert_swiglu i arg2 harg2 arg3 harg3 arg4 harg4 arg5 harg5 arg6 harg6 arg7 harg7 arg8 harg8 arg9 harg9 arg10 harg10 arg11 harg11) K := by
    intro E K
    simp only [cc0_moe_expert_swiglu_eq_skeleton]; unfold cc0_moe_expert_swiglu_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    by_cases h0 : Scalar.cmpi .ne (Scalar.extui (Scalar.cmpi .eq (BitVec.ofNat 32 (i 1).val) 0#32) : BitVec 32) 0#32 = 1#1
    · have hf : (i 1).val = 0 := (c0_iff i).mp h0
      have hf6 : ¬ k0_cond4 i = 1#1 := fun h => by have := (c4_iff i).mp h; omega
      by_cases h1 : Scalar.cmpi .ne (Scalar.extui (Scalar.andi (Scalar.cmpi .eq (BitVec.ofNat 32 (i 0).val) 0#32) (Scalar.cmpi .eq (BitVec.ofNat 32 (i 1).val) 0#32)) : BitVec 32) 0#32 = 1#1
      · sl_exec
        sl_step
        iapply Hk
        isplitl [H3 H4 H5 H6 H7 H8]
        · isplitl [H3]
          · iexists _; isplitr; · ipureintro; exact harg3.read_unread _
            iexact H3
          isplitl [H4]
          · iexists _; isplitr; · ipureintro; exact harg4.read_unread _
            iexact H4
          isplitl [H5]
          · iexists _; isplitr; · ipureintro; exact harg5.read_unread _
            iexact H5
          isplitl [H6]
          · iexists _; isplitr; · ipureintro; exact harg6.read_unread _
            iexact H6
          isplitl [H7]
          · iexists _; isplitr; · ipureintro; exact harg7.read_unread _
            iexact H7
          iexists _; isplitr; · ipureintro; exact harg8.read_unread _
          iexact H8
        iexists _, _, _
        isplitr
        swap
        · isplitl [H9]
          · iexists _; isplitr; swap
            · iexact H9
            · ipureintro; rfl
          isplitl [H10]
          · iexists _; isplitr; swap
            · iexact H10
            · ipureintro; rfl
          iexists _; isplitr; swap
          · iexact H11
          · ipureintro; rfl
        ipureintro
        sl_unfold_run_names
        refine step_first (R := 256) _ _ i hf x0 x1 x2 x3 xb ac arg10.view _ _ arg11.view _ _ _ _ _ _ _ _ (readAt_whole arg6 harg6 x1 _ ?_) (readAt_whole arg7 harg7 x2 _ ?_) (readAt_whole arg8 harg8 x3 _ ?_) ?_
        · decide
        · decide
        · decide
        · intro f y hy
          refine gath_read (R := 256) (by omega) arg10.view f _ _ _ _ _ _ _ _ _ _ _ _ _ _ _ _ _ ?_ ?_ ?_ ?_ ?_ ?_ ?_ ?_ y hy
          · intro r l; rw [gpay19]; exact gath_col (R := 256) (c := 0) (by omega) (by omega) arg5 harg5 _ x0 r l
          · intro r l; rw [gpay20]; exact gath_col (R := 256) (c := 1) (by omega) (by omega) arg5 harg5 _ x0 r l
          · intro r l; rw [gpay21]; exact gath_col (R := 256) (c := 2) (by omega) (by omega) arg5 harg5 _ x0 r l
          · intro r l; rw [gpay22]; exact gath_col (R := 256) (c := 3) (by omega) (by omega) arg5 harg5 _ x0 r l
          · intro r l; rw [gpay23]; exact gath_col (R := 256) (c := 4) (by omega) (by omega) arg5 harg5 _ x0 r l
          · intro r l; rw [gpay24]; exact gath_col (R := 256) (c := 5) (by omega) (by omega) arg5 harg5 _ x0 r l
          · intro r l; rw [gpay25]; exact gath_col (R := 256) (c := 6) (by omega) (by omega) arg5 harg5 _ x0 r l
          · intro r l; rw [gpay26]; exact gath_col (R := 256) (c := 7) (by omega) (by omega) arg5 harg5 _ x0 r l

      · sl_exec
        sl_step
        iapply Hk
        isplitl [H3 H4 H5 H6 H7 H8]
        · isplitl [H3]
          · iexists _; isplitr; · ipureintro; exact harg3.read_unread _
            iexact H3
          isplitl [H4]
          · iexists _; isplitr; · ipureintro; exact harg4.read_unread _
            iexact H4
          isplitl [H5]
          · iexists _; isplitr; · ipureintro; exact harg5.read_unread _
            iexact H5
          isplitl [H6]
          · iexists _; isplitr; · ipureintro; exact harg6.read_unread _
            iexact H6
          isplitl [H7]
          · iexists _; isplitr; · ipureintro; exact harg7.read_unread _
            iexact H7
          iexists _; isplitr; · ipureintro; exact harg8.read_unread _
          iexact H8
        iexists _, _, _
        isplitr
        swap
        · isplitl [H9]
          · iexists _; isplitr; swap
            · iexact H9
            · ipureintro; rfl
          isplitl [H10]
          · iexists _; isplitr; swap
            · iexact H10
            · ipureintro; rfl
          iexists _; isplitr; swap
          · iexact H11
          · ipureintro; rfl
        ipureintro
        sl_unfold_run_names
        refine step_first (R := 256) _ _ i hf x0 x1 x2 x3 xb ac arg10.view _ _ arg11.view _ _ _ _ _ _ _ _ (readAt_whole arg6 harg6 x1 _ ?_) (readAt_whole arg7 harg7 x2 _ ?_) (readAt_whole arg8 harg8 x3 _ ?_) ?_
        · decide
        · decide
        · decide
        · intro f y hy
          refine gath_read (R := 256) (by omega) arg10.view f _ _ _ _ _ _ _ _ _ _ _ _ _ _ _ _ _ ?_ ?_ ?_ ?_ ?_ ?_ ?_ ?_ y hy
          · intro r l; rw [gpay19]; exact gath_col (R := 256) (c := 0) (by omega) (by omega) arg5 harg5 _ x0 r l
          · intro r l; rw [gpay20]; exact gath_col (R := 256) (c := 1) (by omega) (by omega) arg5 harg5 _ x0 r l
          · intro r l; rw [gpay21]; exact gath_col (R := 256) (c := 2) (by omega) (by omega) arg5 harg5 _ x0 r l
          · intro r l; rw [gpay22]; exact gath_col (R := 256) (c := 3) (by omega) (by omega) arg5 harg5 _ x0 r l
          · intro r l; rw [gpay23]; exact gath_col (R := 256) (c := 4) (by omega) (by omega) arg5 harg5 _ x0 r l
          · intro r l; rw [gpay24]; exact gath_col (R := 256) (c := 5) (by omega) (by omega) arg5 harg5 _ x0 r l
          · intro r l; rw [gpay25]; exact gath_col (R := 256) (c := 6) (by omega) (by omega) arg5 harg5 _ x0 r l
          · intro r l; rw [gpay26]; exact gath_col (R := 256) (c := 7) (by omega) (by omega) arg5 harg5 _ x0 r l

    · have hf : (i 1).val ≠ 0 := fun h => h0 ((c0_iff i).mpr h)
      have h1 : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1 := fun h => hf (c1_imp i h)
      by_cases h6 : k0_cond4 i = 1#1
      · sl_exec
        sl_step
        iapply Hk
        isplitl [H3 H4 H5 H6 H7 H8]
        · isplitl [H3]
          · iexists _; isplitr; · ipureintro; exact harg3.read_unread _
            iexact H3
          isplitl [H4]
          · iexists _; isplitr; · ipureintro; exact harg4.read_unread _
            iexact H4
          isplitl [H5]
          · iexists _; isplitr; · ipureintro; exact harg5.read_unread _
            iexact H5
          isplitl [H6]
          · iexists _; isplitr; · ipureintro; exact harg6.read_unread _
            iexact H6
          isplitl [H7]
          · iexists _; isplitr; · ipureintro; exact harg7.read_unread _
            iexact H7
          iexists _; isplitr; · ipureintro; exact harg8.read_unread _
          iexact H8
        iexists _, _, _
        isplitr
        swap
        · isplitl [H9]
          · iexists _; isplitr; swap
            · iexact H9
            · ipureintro; rfl
          isplitl [H10]
          · iexists _; isplitr; swap
            · iexact H10
            · ipureintro; rfl
          iexists _; isplitr; swap
          · iexact H11
          · ipureintro; rfl
        ipureintro
        sl_unfold_run_names
        refine step_later (R := 256) _ _ i hf x0 x1 x2 x3 xb ac arg10 harg10 arg11 harg11 _ _ _ _ _ (readAt_whole arg6 harg6 x1 _ ?_) (readAt_whole arg7 harg7 x2 _ ?_) (readAt_whole arg8 harg8 x3 _ ?_) ?_
        · decide
        · decide
        · decide
        · intro _ A hA y hy
          refine (View.read_writes_cons_miss_of_axis arg9.view _ _ _ y 0 2048 6144 rfl rfl rfl (Or.inl hy)).trans (scat_read (R := 256) (by omega) arg9.view _ _ _ _ _ _ _ _ _ _ _ _ _ _ _ _ _ _ (fun y => A (dst y)) ?_ ?_ ?_ ?_ ?_ ?_ ?_ ?_ y hy)
          · intro r l; exact slice_col (R := 256) (c := 0) (by omega) (by omega) arg11.view _ _ slices_S256x1024_o0_0_S256x128 A hA r l
          · intro r l; exact slice_col (R := 256) (c := 1) (by omega) (by omega) arg11.view _ _ slices_S256x1024_o0_128_S256x128 A hA r l
          · intro r l; exact slice_col (R := 256) (c := 2) (by omega) (by omega) arg11.view _ _ slices_S256x1024_o0_256_S256x128 A hA r l
          · intro r l; exact slice_col (R := 256) (c := 3) (by omega) (by omega) arg11.view _ _ slices_S256x1024_o0_384_S256x128 A hA r l
          · intro r l; exact slice_col (R := 256) (c := 4) (by omega) (by omega) arg11.view _ _ slices_S256x1024_o0_512_S256x128 A hA r l
          · intro r l; exact slice_col (R := 256) (c := 5) (by omega) (by omega) arg11.view _ _ slices_S256x1024_o0_640_S256x128 A hA r l
          · intro r l; exact slice_col (R := 256) (c := 6) (by omega) (by omega) arg11.view _ _ slices_S256x1024_o0_768_S256x128 A hA r l
          · intro r l; exact slice_col (R := 256) (c := 7) (by omega) (by omega) arg11.view _ _ slices_S256x1024_o0_896_S256x128 A hA r l

      · have hf6 : (i 1).val ≠ 6 := fun h => h6 ((c4_iff i).mpr h)
        sl_exec
        sl_step
        iapply Hk
        isplitl [H3 H4 H5 H6 H7 H8]
        · isplitl [H3]
          · iexists _; isplitr; · ipureintro; exact harg3.read_unread _
            iexact H3
          isplitl [H4]
          · iexists _; isplitr; · ipureintro; exact harg4.read_unread _
            iexact H4
          isplitl [H5]
          · iexists _; isplitr; · ipureintro; exact harg5.read_unread _
            iexact H5
          isplitl [H6]
          · iexists _; isplitr; · ipureintro; exact harg6.read_unread _
            iexact H6
          isplitl [H7]
          · iexists _; isplitr; · ipureintro; exact harg7.read_unread _
            iexact H7
          iexists _; isplitr; · ipureintro; exact harg8.read_unread _
          iexact H8
        iexists _, _, _
        isplitr
        swap
        · isplitl [H9]
          · iexists _; isplitr; swap
            · iexact H9
            · ipureintro; rfl
          isplitl [H10]
          · iexists _; isplitr; swap
            · iexact H10
            · ipureintro; rfl
          iexists _; isplitr; swap
          · iexact H11
          · ipureintro; rfl
        ipureintro
        sl_unfold_run_names
        refine step_later (R := 256) _ _ i hf x0 x1 x2 x3 xb ac arg10 harg10 arg11 harg11 _ _ _ _ _ (readAt_whole arg6 harg6 x1 _ ?_) (readAt_whole arg7 harg7 x2 _ ?_) (readAt_whole arg8 harg8 x3 _ ?_) ?_
        · decide
        · decide
        · decide
        · intro h; exact absurd h hf6

end Cert.KernelIdeal.Hand
-- ==== Proof.ExpertRun2.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp
public import proofs.«01_k».proof.Proof.ExpertStep

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

theorem gpay28 (v : Vec F S512x128 .f32) : k0_pay28 v = truncf .bf16 v bitsLt_bf16_f32 := by unfold k0_pay28; exact shapeCast_self _ _
theorem gpay29 (v : Vec F S512x128 .f32) : k0_pay29 v = truncf .bf16 v bitsLt_bf16_f32 := by unfold k0_pay29; exact shapeCast_self _ _
theorem gpay30 (v : Vec F S512x128 .f32) : k0_pay30 v = truncf .bf16 v bitsLt_bf16_f32 := by unfold k0_pay30; exact shapeCast_self _ _
theorem gpay31 (v : Vec F S512x128 .f32) : k0_pay31 v = truncf .bf16 v bitsLt_bf16_f32 := by unfold k0_pay31; exact shapeCast_self _ _
theorem gpay32 (v : Vec F S512x128 .f32) : k0_pay32 v = truncf .bf16 v bitsLt_bf16_f32 := by unfold k0_pay32; exact shapeCast_self _ _
theorem gpay33 (v : Vec F S512x128 .f32) : k0_pay33 v = truncf .bf16 v bitsLt_bf16_f32 := by unfold k0_pay33; exact shapeCast_self _ _
theorem gpay34 (v : Vec F S512x128 .f32) : k0_pay34 v = truncf .bf16 v bitsLt_bf16_f32 := by unfold k0_pay34; exact shapeCast_self _ _
theorem gpay35 (v : Vec F S512x128 .f32) : k0_pay35 v = truncf .bf16 v bitsLt_bf16_f32 := by unfold k0_pay35; exact shapeCast_self _ _

set_option maxHeartbeats 4000000 in
/-- One grid point of a tile that holds up to 512 rows (and more than 256): the body runs from any scratch contents, and leaves what `Step` says. -/
theorem run_q2 (c : Dev nD) (i : grid0.Coords) (arg2 : Memref sig .tc .smem S32 .i32) (harg2 : arg2.IsWhole) (arg3 : Memref sig .tc .smem S1 .i32) (harg3 : arg3.IsWhole) (arg4 : Memref sig .tc .smem S32 .i32) (harg4 : arg4.IsWhole) (arg5 : Memref sig .tc .vmem S8192x128 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S8192x128 .f32) (harg9 : arg9.IsWhole) (arg10 : Memref sig .tc .vmem S1024x1024 .bf16) (harg10 : arg10.IsWhole) (arg11 : Memref sig .tc .vmem S1024x1024 .f32) (harg11 : arg11.IsWhole) (q3 q4 : PosShare TreeShare)
    (nvt : Vec F S1 .i32) (trt : Vec F S32 .i32)
    (x0 : Vec F S8192x128 .f32) (x1 x2 : Vec F S1x1x1024x512 .f32) (x3 : Vec F S1x1x512x1024 .f32) (o : Vec F S8192x128 .f32) (xb : Vec F S1024x1024 .bf16) (ac : Vec F S1024x1024 .f32)
    (h2 : ¬ k0_cond2 i (View.readAt (Elt F) arg3.view (Rect.unit (s := S1) ![0] S1.size inb_S1_S1_0).toLoadRect (harg3.unread nvt) (Shape.Idx.first (numel1_S1 ▸ Nat.one_pos))) (View.readAt (Elt F) arg4.view (Rect.unit (s := S32) (k0_off1 i) S1.size (k0_off1_inb i)).toLoadRect (harg4.unread trt) (Shape.Idx.first (numel1_S1 ▸ Nat.one_pos))) = 1#1)
    (h5 : k0_cond5 i (View.readAt (Elt F) arg3.view (Rect.unit (s := S1) ![0] S1.size inb_S1_S1_0).toLoadRect (harg3.unread nvt) (Shape.Idx.first (numel1_S1 ▸ Nat.one_pos))) (View.readAt (Elt F) arg4.view (Rect.unit (s := S32) (k0_off1 i) S1.size (k0_off1_inb i)).toLoadRect (harg4.unread trt) (Shape.Idx.first (numel1_S1 ▸ Nat.one_pos))) = 1#1)
    (h8 : ¬ k0_cond8 i (View.readAt (Elt F) arg3.view (Rect.unit (s := S1) ![0] S1.size inb_S1_S1_0).toLoadRect (harg3.unread nvt) (Shape.Idx.first (numel1_S1 ▸ Nat.one_pos))) (View.readAt (Elt F) arg4.view (Rect.unit (s := S32) (k0_off1 i) S1.size (k0_off1_inb i)).toLoadRect (harg4.unread trt) (Shape.Idx.first (numel1_S1 ▸ Nat.one_pos))) = 1#1)
    (h11 : ¬ k0_cond11 i (View.readAt (Elt F) arg3.view (Rect.unit (s := S1) ![0] S1.size inb_S1_S1_0).toLoadRect (harg3.unread nvt) (Shape.Idx.first (numel1_S1 ▸ Nat.one_pos))) (View.readAt (Elt F) arg4.view (Rect.unit (s := S32) (k0_off1 i) S1.size (k0_off1_inb i)).toLoadRect (harg4.unread trt) (Shape.Idx.first (numel1_S1 ▸ Nat.one_pos))) = 1#1)
    (h14 : ¬ k0_cond14 i (View.readAt (Elt F) arg3.view (Rect.unit (s := S1) ![0] S1.size inb_S1_S1_0).toLoadRect (harg3.unread nvt) (Shape.Idx.first (numel1_S1 ▸ Nat.one_pos))) = 1#1) :
      ∀ (E : Set ℕ) (K : PUnit → sProp 𝕄),
        iprop(owns (c : Thread nD τ) arg3 q3 nvt ∗ owns (c : Thread nD τ) arg4 q4 trt ∗ owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare o ∗ owns (c : Thread nD τ) arg10 fullShare xb ∗ owns (c : Thread nD τ) arg11 fullShare ac
            ∗ (iprop((owns (c : Thread nD τ) arg3 q3 nvt ∗ owns (c : Thread nD τ) arg4 q4 trt ∗ owns (c : Thread nD τ) arg5 fullShare x0 ∗ owns (c : Thread nD τ) arg6 fullShare x1 ∗ owns (c : Thread nD τ) arg7 fullShare x2 ∗ owns (c : Thread nD τ) arg8 fullShare x3) ∗ (∃ o' xb' ac', ⌜Step (R := 512) (by omega) (k0_pay36 (F := F)) i x0 x1 x2 x3 xb ac xb' ac' o'⌝ ∗ owns (c : Thread nD τ) arg9 fullShare o' ∗ owns (c : Thread nD τ) arg10 fullShare xb' ∗ owns (c : Thread nD τ) arg11 fullShare ac')) -∗ K ⟨⟩))
          ⊢ wp frame (wpE (defs₀ (F := F)) Variants.none c none) E (cc0_moe_expert_swiglu i arg2 harg2 arg3 harg3 arg4 harg4 arg5 harg5 arg6 harg6 arg7 harg7 arg8 harg8 arg9 harg9 arg10 harg10 arg11 harg11) K := by
    intro E K
    simp only [cc0_moe_expert_swiglu_eq_skeleton]; unfold cc0_moe_expert_swiglu_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    by_cases h0 : Scalar.cmpi .ne (Scalar.extui (Scalar.cmpi .eq (BitVec.ofNat 32 (i 1).val) 0#32) : BitVec 32) 0#32 = 1#1
    · have hf : (i 1).val = 0 := (c0_iff i).mp h0
      have hf6 : ¬ k0_cond7 i = 1#1 := fun h => by have := (c7_iff i).mp h; omega
      by_cases h1 : Scalar.cmpi .ne (Scalar.extui (Scalar.andi (Scalar.cmpi .eq (BitVec.ofNat 32 (i 0).val) 0#32) (Scalar.cmpi .eq (BitVec.ofNat 32 (i 1).val) 0#32)) : BitVec 32) 0#32 = 1#1
      · sl_exec
        sl_step
        iapply Hk
        isplitl [H3 H4 H5 H6 H7 H8]
        · isplitl [H3]
          · iexists _; isplitr; · ipureintro; exact harg3.read_unread _
            iexact H3
          isplitl [H4]
          · iexists _; isplitr; · ipureintro; exact harg4.read_unread _
            iexact H4
          isplitl [H5]
          · iexists _; isplitr; · ipureintro; exact harg5.read_unread _
            iexact H5
          isplitl [H6]
          · iexists _; isplitr; · ipureintro; exact harg6.read_unread _
            iexact H6
          isplitl [H7]
          · iexists _; isplitr; · ipureintro; exact harg7.read_unread _
            iexact H7
          iexists _; isplitr; · ipureintro; exact harg8.read_unread _
          iexact H8
        iexists _, _, _
        isplitr
        swap
        · isplitl [H9]
          · iexists _; isplitr; swap
            · iexact H9
            · ipureintro; rfl
          isplitl [H10]
          · iexists _; isplitr; swap
            · iexact H10
            · ipureintro; rfl
          iexists _; isplitr; swap
          · iexact H11
          · ipureintro; rfl
        ipureintro
        sl_unfold_run_names
        refine step_first (R := 512) _ _ i hf x0 x1 x2 x3 xb ac arg10.view _ _ arg11.view _ _ _ _ _ _ _ _ (readAt_whole arg6 harg6 x1 _ ?_) (readAt_whole arg7 harg7 x2 _ ?_) (readAt_whole arg8 harg8 x3 _ ?_) ?_
        · decide
        · decide
        · decide
        · intro f y hy
          refine gath_read (R := 512) (by omega) arg10.view f _ _ _ _ _ _ _ _ _ _ _ _ _ _ _ _ _ ?_ ?_ ?_ ?_ ?_ ?_ ?_ ?_ y hy
          · intro r l; rw [gpay28]; exact gath_col (R := 512) (c := 0) (by omega) (by omega) arg5 harg5 _ x0 r l
          · intro r l; rw [gpay29]; exact gath_col (R := 512) (c := 1) (by omega) (by omega) arg5 harg5 _ x0 r l
          · intro r l; rw [gpay30]; exact gath_col (R := 512) (c := 2) (by omega) (by omega) arg5 harg5 _ x0 r l
          · intro r l; rw [gpay31]; exact gath_col (R := 512) (c := 3) (by omega) (by omega) arg5 harg5 _ x0 r l
          · intro r l; rw [gpay32]; exact gath_col (R := 512) (c := 4) (by omega) (by omega) arg5 harg5 _ x0 r l
          · intro r l; rw [gpay33]; exact gath_col (R := 512) (c := 5) (by omega) (by omega) arg5 harg5 _ x0 r l
          · intro r l; rw [gpay34]; exact gath_col (R := 512) (c := 6) (by omega) (by omega) arg5 harg5 _ x0 r l
          · intro r l; rw [gpay35]; exact gath_col (R := 512) (c := 7) (by omega) (by omega) arg5 harg5 _ x0 r l

      · sl_exec
        sl_step
        iapply Hk
        isplitl [H3 H4 H5 H6 H7 H8]
        · isplitl [H3]
          · iexists _; isplitr; · ipureintro; exact harg3.read_unread _
            iexact H3
          isplitl [H4]
          · iexists _; isplitr; · ipureintro; exact harg4.read_unread _
            iexact H4
          isplitl [H5]
          · iexists _; isplitr; · ipureintro; exact harg5.read_unread _
            iexact H5
          isplitl [H6]
          · iexists _; isplitr; · ipureintro; exact harg6.read_unread _
            iexact H6
          isplitl [H7]
          · iexists _; isplitr; · ipureintro; exact harg7.read_unread _
            iexact H7
          iexists _; isplitr; · ipureintro; exact harg8.read_unread _
          iexact H8
        iexists _, _, _
        isplitr
        swap
        · isplitl [H9]
          · iexists _; isplitr; swap
            · iexact H9
            · ipureintro; rfl
          isplitl [H10]
          · iexists _; isplitr; swap
            · iexact H10
            · ipureintro; rfl
          iexists _; isplitr; swap
          · iexact H11
          · ipureintro; rfl
        ipureintro
        sl_unfold_run_names
        refine step_first (R := 512) _ _ i hf x0 x1 x2 x3 xb ac arg10.view _ _ arg11.view _ _ _ _ _ _ _ _ (readAt_whole arg6 harg6 x1 _ ?_) (readAt_whole arg7 harg7 x2 _ ?_) (readAt_whole arg8 harg8 x3 _ ?_) ?_
        · decide
        · decide
        · decide
        · intro f y hy
          refine gath_read (R := 512) (by omega) arg10.view f _ _ _ _ _ _ _ _ _ _ _ _ _ _ _ _ _ ?_ ?_ ?_ ?_ ?_ ?_ ?_ ?_ y hy
          · intro r l; rw [gpay28]; exact gath_col (R := 512) (c := 0) (by omega) (by omega) arg5 harg5 _ x0 r l
          · intro r l; rw [gpay29]; exact gath_col (R := 512) (c := 1) (by omega) (by omega) arg5 harg5 _ x0 r l
          · intro r l; rw [gpay30]; exact gath_col (R := 512) (c := 2) (by omega) (by omega) arg5 harg5 _ x0 r l
          · intro r l; rw [gpay31]; exact gath_col (R := 512) (c := 3) (by omega) (by omega) arg5 harg5 _ x0 r l
          · intro r l; rw [gpay32]; exact gath_col (R := 512) (c := 4) (by omega) (by omega) arg5 harg5 _ x0 r l
          · intro r l; rw [gpay33]; exact gath_col (R := 512) (c := 5) (by omega) (by omega) arg5 harg5 _ x0 r l
          · intro r l; rw [gpay34]; exact gath_col (R := 512) (c := 6) (by omega) (by omega) arg5 harg5 _ x0 r l
          · intro r l; rw [gpay35]; exact gath_col (R := 512) (c := 7) (by omega) (by omega) arg5 harg5 _ x0 r l

    · have hf : (i 1).val ≠ 0 := fun h => h0 ((c0_iff i).mpr h)
      have h1 : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1 := fun h => hf (c1_imp i h)
      by_cases h6 : k0_cond7 i = 1#1
      · sl_exec
        sl_step
        iapply Hk
        isplitl [H3 H4 H5 H6 H7 H8]
        · isplitl [H3]
          · iexists _; isplitr; · ipureintro; exact harg3.read_unread _
            iexact H3
          isplitl [H4]
          · iexists _; isplitr; · ipureintro; exact harg4.read_unread _
            iexact H4
          isplitl [H5]
          · iexists _; isplitr; · ipureintro; exact harg5.read_unread _
            iexact H5
          isplitl [H6]
          · iexists _; isplitr; · ipureintro; exact harg6.read_unread _
            iexact H6
          isplitl [H7]
          · iexists _; isplitr; · ipureintro; exact harg7.read_unread _
            iexact H7
          iexists _; isplitr; · ipureintro; exact harg8.read_unread _
          iexact H8
        iexists _, _, _
        isplitr
        swap
        · isplitl [H9]
          · iexists _; isplitr; swap
            · iexact H9
            · ipureintro; rfl
          isplitl [H10]
          · iexists _; isplitr; swap
            · iexact H10
            · ipureintro; rfl
          iexists _; isplitr; swap
          · iexact H11
          · ipureintro; rfl
        ipureintro
        sl_unfold_run_names
        refine step_later (R := 512) _ _ i hf x0 x1 x2 x3 xb ac arg10 harg10 arg11 harg11 _ _ _ _ _ (readAt_whole arg6 harg6 x1 _ ?_) (readAt_whole arg7 harg7 x2 _ ?_) (readAt_whole arg8 harg8 x3 _ ?_) ?_
        · decide
        · decide
        · decide
        · intro _ A hA y hy
          refine (View.read_writes_cons_miss_of_axis arg9.view _ _ _ y 0 4096 4096 rfl rfl rfl (Or.inl hy)).trans (scat_read (R := 512) (by omega) arg9.view _ _ _ _ _ _ _ _ _ _ _ _ _ _ _ _ _ _ (fun y => A (dst y)) ?_ ?_ ?_ ?_ ?_ ?_ ?_ ?_ y hy)
          · intro r l; exact slice_col (R := 512) (c := 0) (by omega) (by omega) arg11.view _ _ slices_S512x1024_o0_0_S512x128 A hA r l
          · intro r l; exact slice_col (R := 512) (c := 1) (by omega) (by omega) arg11.view _ _ slices_S512x1024_o0_128_S512x128 A hA r l
          · intro r l; exact slice_col (R := 512) (c := 2) (by omega) (by omega) arg11.view _ _ slices_S512x1024_o0_256_S512x128 A hA r l
          · intro r l; exact slice_col (R := 512) (c := 3) (by omega) (by omega) arg11.view _ _ slices_S512x1024_o0_384_S512x128 A hA r l
          · intro r l; exact slice_col (R := 512) (c := 4) (by omega) (by omega) arg11.view _ _ slices_S512x1024_o0_512_S512x128 A hA r l
          · intro r l; exact slice_col (R := 512) (c := 5) (by omega) (by omega) arg11.view _ _ slices_S512x1024_o0_640_S512x128 A hA r l
          · intro r l; exact slice_col (R := 512) (c := 6) (by omega) (by omega) arg11.view _ _ slices_S512x1024_o0_768_S512x128 A hA r l
          · intro r l; exact slice_col (R := 512) (c := 7) (by omega) (by omega) arg11.view _ _ slices_S512x1024_o0_896_S512x128 A hA r l

      · have hf6 : (i 1).val ≠ 6 := fun h => h6 ((c7_iff i).mpr h)
        sl_exec
        sl_step
        iapply Hk
        isplitl [H3 H4 H5 H6 H7 H8]
        · isplitl [H3]
          · iexists _; isplitr; · ipureintro; exact harg3.read_unread _
            iexact H3
          isplitl [H4]
          · iexists _; isplitr; · ipureintro; exact harg4.read_unread _
            iexact H4
          isplitl [H5]
          · iexists _; isplitr; · ipureintro; exact harg5.read_unread _
            iexact H5
          isplitl [H6]
          · iexists _; isplitr; · ipureintro; exact harg6.read_unread _
            iexact H6
          isplitl [H7]
          · iexists _; isplitr; · ipureintro; exact harg7.read_unread _
            iexact H7
          iexists _; isplitr; · ipureintro; exact harg8.read_unread _
          iexact H8
        iexists _, _, _
        isplitr
        swap
        · isplitl [H9]
          · iexists _; isplitr; swap
            · iexact H9
            · ipureintro; rfl
          isplitl [H10]
          · iexists _; isplitr; swap
            · iexact H10
            · ipureintro; rfl
          iexists _; isplitr; swap
          · iexact H11
          · ipureintro; rfl
        ipureintro
        sl_unfold_run_names
        refine step_later (R := 512) _ _ i hf x0 x1 x2 x3 xb ac arg10 harg10 arg11 harg11 _ _ _ _ _ (readAt_whole arg6 harg6 x1 _ ?_) (readAt_whole arg7 harg7 x2 _ ?_) (readAt_whole arg8 harg8 x3 _ ?_) ?_
        · decide
        · decide
        · decide
        · intro h; exact absurd h hf6

end Cert.KernelIdeal.Hand
-- ==== Proof.ExpertRun3.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp
public import proofs.«01_k».proof.Proof.ExpertStep

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

theorem gpay37 (v : Vec F S768x128 .f32) : k0_pay37 v = truncf .bf16 v bitsLt_bf16_f32 := by unfold k0_pay37; exact shapeCast_self _ _
theorem gpay38 (v : Vec F S768x128 .f32) : k0_pay38 v = truncf .bf16 v bitsLt_bf16_f32 := by unfold k0_pay38; exact shapeCast_self _ _
theorem gpay39 (v : Vec F S768x128 .f32) : k0_pay39 v = truncf .bf16 v bitsLt_bf16_f32 := by unfold k0_pay39; exact shapeCast_self _ _
theorem gpay40 (v : Vec F S768x128 .f32) : k0_pay40 v = truncf .bf16 v bitsLt_bf16_f32 := by unfold k0_pay40; exact shapeCast_self _ _
theorem gpay41 (v : Vec F S768x128 .f32) : k0_pay41 v = truncf .bf16 v bitsLt_bf16_f32 := by unfold k0_pay41; exact shapeCast_self _ _
theorem gpay42 (v : Vec F S768x128 .f32) : k0_pay42 v = truncf .bf16 v bitsLt_bf16_f32 := by unfold k0_pay42; exact shapeCast_self _ _
theorem gpay43 (v : Vec F S768x128 .f32) : k0_pay43 v = truncf .bf16 v bitsLt_bf16_f32 := by unfold k0_pay43; exact shapeCast_self _ _
theorem gpay44 (v : Vec F S768x128 .f32) : k0_pay44 v = truncf .bf16 v bitsLt_bf16_f32 := by unfold k0_pay44; exact shapeCast_self _ _

set_option maxHeartbeats 4000000 in
/-- One grid point of a tile that holds up to 768 rows (and more than 512): the body runs from any scratch contents, and leaves what `Step` says. -/
theorem run_q3 (c : Dev nD) (i : grid0.Coords) (arg2 : Memref sig .tc .smem S32 .i32) (harg2 : arg2.IsWhole) (arg3 : Memref sig .tc .smem S1 .i32) (harg3 : arg3.IsWhole) (arg4 : Memref sig .tc .smem S32 .i32) (harg4 : arg4.IsWhole) (arg5 : Memref sig .tc .vmem S8192x128 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S8192x128 .f32) (harg9 : arg9.IsWhole) (arg10 : Memref sig .tc .vmem S1024x1024 .bf16) (harg10 : arg10.IsWhole) (arg11 : Memref sig .tc .vmem S1024x1024 .f32) (harg11 : arg11.IsWhole) (q3 q4 : PosShare TreeShare)
    (nvt : Vec F S1 .i32) (trt : Vec F S32 .i32)
    (x0 : Vec F S8192x128 .f32) (x1 x2 : Vec F S1x1x1024x512 .f32) (x3 : Vec F S1x1x512x1024 .f32) (o : Vec F S8192x128 .f32) (xb : Vec F S1024x1024 .bf16) (ac : Vec F S1024x1024 .f32)
    (h2 : ¬ k0_cond2 i (View.readAt (Elt F) arg3.view (Rect.unit (s := S1) ![0] S1.size inb_S1_S1_0).toLoadRect (harg3.unread nvt) (Shape.Idx.first (numel1_S1 ▸ Nat.one_pos))) (View.readAt (Elt F) arg4.view (Rect.unit (s := S32) (k0_off1 i) S1.size (k0_off1_inb i)).toLoadRect (harg4.unread trt) (Shape.Idx.first (numel1_S1 ▸ Nat.one_pos))) = 1#1)
    (h5 : ¬ k0_cond5 i (View.readAt (Elt F) arg3.view (Rect.unit (s := S1) ![0] S1.size inb_S1_S1_0).toLoadRect (harg3.unread nvt) (Shape.Idx.first (numel1_S1 ▸ Nat.one_pos))) (View.readAt (Elt F) arg4.view (Rect.unit (s := S32) (k0_off1 i) S1.size (k0_off1_inb i)).toLoadRect (harg4.unread trt) (Shape.Idx.first (numel1_S1 ▸ Nat.one_pos))) = 1#1)
    (h8 : k0_cond8 i (View.readAt (Elt F) arg3.view (Rect.unit (s := S1) ![0] S1.size inb_S1_S1_0).toLoadRect (harg3.unread nvt) (Shape.Idx.first (numel1_S1 ▸ Nat.one_pos))) (View.readAt (Elt F) arg4.view (Rect.unit (s := S32) (k0_off1 i) S1.size (k0_off1_inb i)).toLoadRect (harg4.unread trt) (Shape.Idx.first (numel1_S1 ▸ Nat.one_pos))) = 1#1)
    (h11 : ¬ k0_cond11 i (View.readAt (Elt F) arg3.view (Rect.unit (s := S1) ![0] S1.size inb_S1_S1_0).toLoadRect (harg3.unread nvt) (Shape.Idx.first (numel1_S1 ▸ Nat.one_pos))) (View.readAt (Elt F) arg4.view (Rect.unit (s := S32) (k0_off1 i) S1.size (k0_off1_inb i)).toLoadRect (harg4.unread trt) (Shape.Idx.first (numel1_S1 ▸ Nat.one_pos))) = 1#1)
    (h14 : ¬ k0_cond14 i (View.readAt (Elt F) arg3.view (Rect.unit (s := S1) ![0] S1.size inb_S1_S1_0).toLoadRect (harg3.unread nvt) (Shape.Idx.first (numel1_S1 ▸ Nat.one_pos))) = 1#1) :
      ∀ (E : Set ℕ) (K : PUnit → sProp 𝕄),
        iprop(owns (c : Thread nD τ) arg3 q3 nvt ∗ owns (c : Thread nD τ) arg4 q4 trt ∗ owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare o ∗ owns (c : Thread nD τ) arg10 fullShare xb ∗ owns (c : Thread nD τ) arg11 fullShare ac
            ∗ (iprop((owns (c : Thread nD τ) arg3 q3 nvt ∗ owns (c : Thread nD τ) arg4 q4 trt ∗ owns (c : Thread nD τ) arg5 fullShare x0 ∗ owns (c : Thread nD τ) arg6 fullShare x1 ∗ owns (c : Thread nD τ) arg7 fullShare x2 ∗ owns (c : Thread nD τ) arg8 fullShare x3) ∗ (∃ o' xb' ac', ⌜Step (R := 768) (by omega) (k0_pay45 (F := F)) i x0 x1 x2 x3 xb ac xb' ac' o'⌝ ∗ owns (c : Thread nD τ) arg9 fullShare o' ∗ owns (c : Thread nD τ) arg10 fullShare xb' ∗ owns (c : Thread nD τ) arg11 fullShare ac')) -∗ K ⟨⟩))
          ⊢ wp frame (wpE (defs₀ (F := F)) Variants.none c none) E (cc0_moe_expert_swiglu i arg2 harg2 arg3 harg3 arg4 harg4 arg5 harg5 arg6 harg6 arg7 harg7 arg8 harg8 arg9 harg9 arg10 harg10 arg11 harg11) K := by
    intro E K
    simp only [cc0_moe_expert_swiglu_eq_skeleton]; unfold cc0_moe_expert_swiglu_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    by_cases h0 : Scalar.cmpi .ne (Scalar.extui (Scalar.cmpi .eq (BitVec.ofNat 32 (i 1).val) 0#32) : BitVec 32) 0#32 = 1#1
    · have hf : (i 1).val = 0 := (c0_iff i).mp h0
      have hf6 : ¬ k0_cond10 i = 1#1 := fun h => by have := (c10_iff i).mp h; omega
      by_cases h1 : Scalar.cmpi .ne (Scalar.extui (Scalar.andi (Scalar.cmpi .eq (BitVec.ofNat 32 (i 0).val) 0#32) (Scalar.cmpi .eq (BitVec.ofNat 32 (i 1).val) 0#32)) : BitVec 32) 0#32 = 1#1
      · sl_exec
        sl_step
        iapply Hk
        isplitl [H3 H4 H5 H6 H7 H8]
        · isplitl [H3]
          · iexists _; isplitr; · ipureintro; exact harg3.read_unread _
            iexact H3
          isplitl [H4]
          · iexists _; isplitr; · ipureintro; exact harg4.read_unread _
            iexact H4
          isplitl [H5]
          · iexists _; isplitr; · ipureintro; exact harg5.read_unread _
            iexact H5
          isplitl [H6]
          · iexists _; isplitr; · ipureintro; exact harg6.read_unread _
            iexact H6
          isplitl [H7]
          · iexists _; isplitr; · ipureintro; exact harg7.read_unread _
            iexact H7
          iexists _; isplitr; · ipureintro; exact harg8.read_unread _
          iexact H8
        iexists _, _, _
        isplitr
        swap
        · isplitl [H9]
          · iexists _; isplitr; swap
            · iexact H9
            · ipureintro; rfl
          isplitl [H10]
          · iexists _; isplitr; swap
            · iexact H10
            · ipureintro; rfl
          iexists _; isplitr; swap
          · iexact H11
          · ipureintro; rfl
        ipureintro
        sl_unfold_run_names
        refine step_first (R := 768) _ _ i hf x0 x1 x2 x3 xb ac arg10.view _ _ arg11.view _ _ _ _ _ _ _ _ (readAt_whole arg6 harg6 x1 _ ?_) (readAt_whole arg7 harg7 x2 _ ?_) (readAt_whole arg8 harg8 x3 _ ?_) ?_
        · decide
        · decide
        · decide
        · intro f y hy
          refine gath_read (R := 768) (by omega) arg10.view f _ _ _ _ _ _ _ _ _ _ _ _ _ _ _ _ _ ?_ ?_ ?_ ?_ ?_ ?_ ?_ ?_ y hy
          · intro r l; rw [gpay37]; exact gath_col (R := 768) (c := 0) (by omega) (by omega) arg5 harg5 _ x0 r l
          · intro r l; rw [gpay38]; exact gath_col (R := 768) (c := 1) (by omega) (by omega) arg5 harg5 _ x0 r l
          · intro r l; rw [gpay39]; exact gath_col (R := 768) (c := 2) (by omega) (by omega) arg5 harg5 _ x0 r l
          · intro r l; rw [gpay40]; exact gath_col (R := 768) (c := 3) (by omega) (by omega) arg5 harg5 _ x0 r l
          · intro r l; rw [gpay41]; exact gath_col (R := 768) (c := 4) (by omega) (by omega) arg5 harg5 _ x0 r l
          · intro r l; rw [gpay42]; exact gath_col (R := 768) (c := 5) (by omega) (by omega) arg5 harg5 _ x0 r l
          · intro r l; rw [gpay43]; exact gath_col (R := 768) (c := 6) (by omega) (by omega) arg5 harg5 _ x0 r l
          · intro r l; rw [gpay44]; exact gath_col (R := 768) (c := 7) (by omega) (by omega) arg5 harg5 _ x0 r l

      · sl_exec
        sl_step
        iapply Hk
        isplitl [H3 H4 H5 H6 H7 H8]
        · isplitl [H3]
          · iexists _; isplitr; · ipureintro; exact harg3.read_unread _
            iexact H3
          isplitl [H4]
          · iexists _; isplitr; · ipureintro; exact harg4.read_unread _
            iexact H4
          isplitl [H5]
          · iexists _; isplitr; · ipureintro; exact harg5.read_unread _
            iexact H5
          isplitl [H6]
          · iexists _; isplitr; · ipureintro; exact harg6.read_unread _
            iexact H6
          isplitl [H7]
          · iexists _; isplitr; · ipureintro; exact harg7.read_unread _
            iexact H7
          iexists _; isplitr; · ipureintro; exact harg8.read_unread _
          iexact H8
        iexists _, _, _
        isplitr
        swap
        · isplitl [H9]
          · iexists _; isplitr; swap
            · iexact H9
            · ipureintro; rfl
          isplitl [H10]
          · iexists _; isplitr; swap
            · iexact H10
            · ipureintro; rfl
          iexists _; isplitr; swap
          · iexact H11
          · ipureintro; rfl
        ipureintro
        sl_unfold_run_names
        refine step_first (R := 768) _ _ i hf x0 x1 x2 x3 xb ac arg10.view _ _ arg11.view _ _ _ _ _ _ _ _ (readAt_whole arg6 harg6 x1 _ ?_) (readAt_whole arg7 harg7 x2 _ ?_) (readAt_whole arg8 harg8 x3 _ ?_) ?_
        · decide
        · decide
        · decide
        · intro f y hy
          refine gath_read (R := 768) (by omega) arg10.view f _ _ _ _ _ _ _ _ _ _ _ _ _ _ _ _ _ ?_ ?_ ?_ ?_ ?_ ?_ ?_ ?_ y hy
          · intro r l; rw [gpay37]; exact gath_col (R := 768) (c := 0) (by omega) (by omega) arg5 harg5 _ x0 r l
          · intro r l; rw [gpay38]; exact gath_col (R := 768) (c := 1) (by omega) (by omega) arg5 harg5 _ x0 r l
          · intro r l; rw [gpay39]; exact gath_col (R := 768) (c := 2) (by omega) (by omega) arg5 harg5 _ x0 r l
          · intro r l; rw [gpay40]; exact gath_col (R := 768) (c := 3) (by omega) (by omega) arg5 harg5 _ x0 r l
          · intro r l; rw [gpay41]; exact gath_col (R := 768) (c := 4) (by omega) (by omega) arg5 harg5 _ x0 r l
          · intro r l; rw [gpay42]; exact gath_col (R := 768) (c := 5) (by omega) (by omega) arg5 harg5 _ x0 r l
          · intro r l; rw [gpay43]; exact gath_col (R := 768) (c := 6) (by omega) (by omega) arg5 harg5 _ x0 r l
          · intro r l; rw [gpay44]; exact gath_col (R := 768) (c := 7) (by omega) (by omega) arg5 harg5 _ x0 r l

    · have hf : (i 1).val ≠ 0 := fun h => h0 ((c0_iff i).mpr h)
      have h1 : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1 := fun h => hf (c1_imp i h)
      by_cases h6 : k0_cond10 i = 1#1
      · sl_exec
        sl_step
        iapply Hk
        isplitl [H3 H4 H5 H6 H7 H8]
        · isplitl [H3]
          · iexists _; isplitr; · ipureintro; exact harg3.read_unread _
            iexact H3
          isplitl [H4]
          · iexists _; isplitr; · ipureintro; exact harg4.read_unread _
            iexact H4
          isplitl [H5]
          · iexists _; isplitr; · ipureintro; exact harg5.read_unread _
            iexact H5
          isplitl [H6]
          · iexists _; isplitr; · ipureintro; exact harg6.read_unread _
            iexact H6
          isplitl [H7]
          · iexists _; isplitr; · ipureintro; exact harg7.read_unread _
            iexact H7
          iexists _; isplitr; · ipureintro; exact harg8.read_unread _
          iexact H8
        iexists _, _, _
        isplitr
        swap
        · isplitl [H9]
          · iexists _; isplitr; swap
            · iexact H9
            · ipureintro; rfl
          isplitl [H10]
          · iexists _; isplitr; swap
            · iexact H10
            · ipureintro; rfl
          iexists _; isplitr; swap
          · iexact H11
          · ipureintro; rfl
        ipureintro
        sl_unfold_run_names
        refine step_later (R := 768) _ _ i hf x0 x1 x2 x3 xb ac arg10 harg10 arg11 harg11 _ _ _ _ _ (readAt_whole arg6 harg6 x1 _ ?_) (readAt_whole arg7 harg7 x2 _ ?_) (readAt_whole arg8 harg8 x3 _ ?_) ?_
        · decide
        · decide
        · decide
        · intro _ A hA y hy
          refine (View.read_writes_cons_miss_of_axis arg9.view _ _ _ y 0 6144 2048 rfl rfl rfl (Or.inl hy)).trans (scat_read (R := 768) (by omega) arg9.view _ _ _ _ _ _ _ _ _ _ _ _ _ _ _ _ _ _ (fun y => A (dst y)) ?_ ?_ ?_ ?_ ?_ ?_ ?_ ?_ y hy)
          · intro r l; exact slice_col (R := 768) (c := 0) (by omega) (by omega) arg11.view _ _ slices_S768x1024_o0_0_S768x128 A hA r l
          · intro r l; exact slice_col (R := 768) (c := 1) (by omega) (by omega) arg11.view _ _ slices_S768x1024_o0_128_S768x128 A hA r l
          · intro r l; exact slice_col (R := 768) (c := 2) (by omega) (by omega) arg11.view _ _ slices_S768x1024_o0_256_S768x128 A hA r l
          · intro r l; exact slice_col (R := 768) (c := 3) (by omega) (by omega) arg11.view _ _ slices_S768x1024_o0_384_S768x128 A hA r l
          · intro r l; exact slice_col (R := 768) (c := 4) (by omega) (by omega) arg11.view _ _ slices_S768x1024_o0_512_S768x128 A hA r l
          · intro r l; exact slice_col (R := 768) (c := 5) (by omega) (by omega) arg11.view _ _ slices_S768x1024_o0_640_S768x128 A hA r l
          · intro r l; exact slice_col (R := 768) (c := 6) (by omega) (by omega) arg11.view _ _ slices_S768x1024_o0_768_S768x128 A hA r l
          · intro r l; exact slice_col (R := 768) (c := 7) (by omega) (by omega) arg11.view _ _ slices_S768x1024_o0_896_S768x128 A hA r l

      · have hf6 : (i 1).val ≠ 6 := fun h => h6 ((c10_iff i).mpr h)
        sl_exec
        sl_step
        iapply Hk
        isplitl [H3 H4 H5 H6 H7 H8]
        · isplitl [H3]
          · iexists _; isplitr; · ipureintro; exact harg3.read_unread _
            iexact H3
          isplitl [H4]
          · iexists _; isplitr; · ipureintro; exact harg4.read_unread _
            iexact H4
          isplitl [H5]
          · iexists _; isplitr; · ipureintro; exact harg5.read_unread _
            iexact H5
          isplitl [H6]
          · iexists _; isplitr; · ipureintro; exact harg6.read_unread _
            iexact H6
          isplitl [H7]
          · iexists _; isplitr; · ipureintro; exact harg7.read_unread _
            iexact H7
          iexists _; isplitr; · ipureintro; exact harg8.read_unread _
          iexact H8
        iexists _, _, _
        isplitr
        swap
        · isplitl [H9]
          · iexists _; isplitr; swap
            · iexact H9
            · ipureintro; rfl
          isplitl [H10]
          · iexists _; isplitr; swap
            · iexact H10
            · ipureintro; rfl
          iexists _; isplitr; swap
          · iexact H11
          · ipureintro; rfl
        ipureintro
        sl_unfold_run_names
        refine step_later (R := 768) _ _ i hf x0 x1 x2 x3 xb ac arg10 harg10 arg11 harg11 _ _ _ _ _ (readAt_whole arg6 harg6 x1 _ ?_) (readAt_whole arg7 harg7 x2 _ ?_) (readAt_whole arg8 harg8 x3 _ ?_) ?_
        · decide
        · decide
        · decide
        · intro h; exact absurd h hf6

end Cert.KernelIdeal.Hand
-- ==== Proof.ExpertRun4.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp
public import proofs.«01_k».proof.Proof.ExpertStep

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

theorem gpay46 (v : Vec F S1024x128 .f32) : k0_pay46 v = truncf .bf16 v bitsLt_bf16_f32 := by unfold k0_pay46; exact shapeCast_self _ _
theorem gpay47 (v : Vec F S1024x128 .f32) : k0_pay47 v = truncf .bf16 v bitsLt_bf16_f32 := by unfold k0_pay47; exact shapeCast_self _ _
theorem gpay48 (v : Vec F S1024x128 .f32) : k0_pay48 v = truncf .bf16 v bitsLt_bf16_f32 := by unfold k0_pay48; exact shapeCast_self _ _
theorem gpay49 (v : Vec F S1024x128 .f32) : k0_pay49 v = truncf .bf16 v bitsLt_bf16_f32 := by unfold k0_pay49; exact shapeCast_self _ _
theorem gpay50 (v : Vec F S1024x128 .f32) : k0_pay50 v = truncf .bf16 v bitsLt_bf16_f32 := by unfold k0_pay50; exact shapeCast_self _ _
theorem gpay51 (v : Vec F S1024x128 .f32) : k0_pay51 v = truncf .bf16 v bitsLt_bf16_f32 := by unfold k0_pay51; exact shapeCast_self _ _
theorem gpay52 (v : Vec F S1024x128 .f32) : k0_pay52 v = truncf .bf16 v bitsLt_bf16_f32 := by unfold k0_pay52; exact shapeCast_self _ _
theorem gpay53 (v : Vec F S1024x128 .f32) : k0_pay53 v = truncf .bf16 v bitsLt_bf16_f32 := by unfold k0_pay53; exact shapeCast_self _ _

set_option maxHeartbeats 4000000 in
/-- One grid point of a tile that holds up to 1024 rows (and more than 768): the body runs from any scratch contents, and leaves what `Step` says. -/
theorem run_q4 (c : Dev nD) (i : grid0.Coords) (arg2 : Memref sig .tc .smem S32 .i32) (harg2 : arg2.IsWhole) (arg3 : Memref sig .tc .smem S1 .i32) (harg3 : arg3.IsWhole) (arg4 : Memref sig .tc .smem S32 .i32) (harg4 : arg4.IsWhole) (arg5 : Memref sig .tc .vmem S8192x128 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S8192x128 .f32) (harg9 : arg9.IsWhole) (arg10 : Memref sig .tc .vmem S1024x1024 .bf16) (harg10 : arg10.IsWhole) (arg11 : Memref sig .tc .vmem S1024x1024 .f32) (harg11 : arg11.IsWhole) (q3 q4 : PosShare TreeShare)
    (nvt : Vec F S1 .i32) (trt : Vec F S32 .i32)
    (x0 : Vec F S8192x128 .f32) (x1 x2 : Vec F S1x1x1024x512 .f32) (x3 : Vec F S1x1x512x1024 .f32) (o : Vec F S8192x128 .f32) (xb : Vec F S1024x1024 .bf16) (ac : Vec F S1024x1024 .f32)
    (h2 : ¬ k0_cond2 i (View.readAt (Elt F) arg3.view (Rect.unit (s := S1) ![0] S1.size inb_S1_S1_0).toLoadRect (harg3.unread nvt) (Shape.Idx.first (numel1_S1 ▸ Nat.one_pos))) (View.readAt (Elt F) arg4.view (Rect.unit (s := S32) (k0_off1 i) S1.size (k0_off1_inb i)).toLoadRect (harg4.unread trt) (Shape.Idx.first (numel1_S1 ▸ Nat.one_pos))) = 1#1)
    (h5 : ¬ k0_cond5 i (View.readAt (Elt F) arg3.view (Rect.unit (s := S1) ![0] S1.size inb_S1_S1_0).toLoadRect (harg3.unread nvt) (Shape.Idx.first (numel1_S1 ▸ Nat.one_pos))) (View.readAt (Elt F) arg4.view (Rect.unit (s := S32) (k0_off1 i) S1.size (k0_off1_inb i)).toLoadRect (harg4.unread trt) (Shape.Idx.first (numel1_S1 ▸ Nat.one_pos))) = 1#1)
    (h8 : ¬ k0_cond8 i (View.readAt (Elt F) arg3.view (Rect.unit (s := S1) ![0] S1.size inb_S1_S1_0).toLoadRect (harg3.unread nvt) (Shape.Idx.first (numel1_S1 ▸ Nat.one_pos))) (View.readAt (Elt F) arg4.view (Rect.unit (s := S32) (k0_off1 i) S1.size (k0_off1_inb i)).toLoadRect (harg4.unread trt) (Shape.Idx.first (numel1_S1 ▸ Nat.one_pos))) = 1#1)
    (h11 : k0_cond11 i (View.readAt (Elt F) arg3.view (Rect.unit (s := S1) ![0] S1.size inb_S1_S1_0).toLoadRect (harg3.unread nvt) (Shape.Idx.first (numel1_S1 ▸ Nat.one_pos))) (View.readAt (Elt F) arg4.view (Rect.unit (s := S32) (k0_off1 i) S1.size (k0_off1_inb i)).toLoadRect (harg4.unread trt) (Shape.Idx.first (numel1_S1 ▸ Nat.one_pos))) = 1#1)
    (h14 : ¬ k0_cond14 i (View.readAt (Elt F) arg3.view (Rect.unit (s := S1) ![0] S1.size inb_S1_S1_0).toLoadRect (harg3.unread nvt) (Shape.Idx.first (numel1_S1 ▸ Nat.one_pos))) = 1#1) :
      ∀ (E : Set ℕ) (K : PUnit → sProp 𝕄),
        iprop(owns (c : Thread nD τ) arg3 q3 nvt ∗ owns (c : Thread nD τ) arg4 q4 trt ∗ owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare o ∗ owns (c : Thread nD τ) arg10 fullShare xb ∗ owns (c : Thread nD τ) arg11 fullShare ac
            ∗ (iprop((owns (c : Thread nD τ) arg3 q3 nvt ∗ owns (c : Thread nD τ) arg4 q4 trt ∗ owns (c : Thread nD τ) arg5 fullShare x0 ∗ owns (c : Thread nD τ) arg6 fullShare x1 ∗ owns (c : Thread nD τ) arg7 fullShare x2 ∗ owns (c : Thread nD τ) arg8 fullShare x3) ∗ (∃ o' xb' ac', ⌜Step (R := 1024) (by omega) (k0_pay54 (F := F)) i x0 x1 x2 x3 xb ac xb' ac' o'⌝ ∗ owns (c : Thread nD τ) arg9 fullShare o' ∗ owns (c : Thread nD τ) arg10 fullShare xb' ∗ owns (c : Thread nD τ) arg11 fullShare ac')) -∗ K ⟨⟩))
          ⊢ wp frame (wpE (defs₀ (F := F)) Variants.none c none) E (cc0_moe_expert_swiglu i arg2 harg2 arg3 harg3 arg4 harg4 arg5 harg5 arg6 harg6 arg7 harg7 arg8 harg8 arg9 harg9 arg10 harg10 arg11 harg11) K := by
    intro E K
    simp only [cc0_moe_expert_swiglu_eq_skeleton]; unfold cc0_moe_expert_swiglu_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    by_cases h0 : Scalar.cmpi .ne (Scalar.extui (Scalar.cmpi .eq (BitVec.ofNat 32 (i 1).val) 0#32) : BitVec 32) 0#32 = 1#1
    · have hf : (i 1).val = 0 := (c0_iff i).mp h0
      have hf6 : ¬ k0_cond13 i = 1#1 := fun h => by have := (c13_iff i).mp h; omega
      by_cases h1 : Scalar.cmpi .ne (Scalar.extui (Scalar.andi (Scalar.cmpi .eq (BitVec.ofNat 32 (i 0).val) 0#32) (Scalar.cmpi .eq (BitVec.ofNat 32 (i 1).val) 0#32)) : BitVec 32) 0#32 = 1#1
      · sl_exec
        sl_step
        iapply Hk
        isplitl [H3 H4 H5 H6 H7 H8]
        · isplitl [H3]
          · iexists _; isplitr; · ipureintro; exact harg3.read_unread _
            iexact H3
          isplitl [H4]
          · iexists _; isplitr; · ipureintro; exact harg4.read_unread _
            iexact H4
          isplitl [H5]
          · iexists _; isplitr; · ipureintro; exact harg5.read_unread _
            iexact H5
          isplitl [H6]
          · iexists _; isplitr; · ipureintro; exact harg6.read_unread _
            iexact H6
          isplitl [H7]
          · iexists _; isplitr; · ipureintro; exact harg7.read_unread _
            iexact H7
          iexists _; isplitr; · ipureintro; exact harg8.read_unread _
          iexact H8
        iexists _, _, _
        isplitr
        swap
        · isplitl [H9]
          · iexists _; isplitr; swap
            · iexact H9
            · ipureintro; rfl
          isplitl [H10]
          · iexists _; isplitr; swap
            · iexact H10
            · ipureintro; rfl
          iexists _; isplitr; swap
          · iexact H11
          · ipureintro; rfl
        ipureintro
        sl_unfold_run_names
        refine step_first (R := 1024) _ _ i hf x0 x1 x2 x3 xb ac arg10.view _ _ arg11.view _ _ _ _ _ _ _ _ (readAt_whole arg6 harg6 x1 _ ?_) (readAt_whole arg7 harg7 x2 _ ?_) (readAt_whole arg8 harg8 x3 _ ?_) ?_
        · decide
        · decide
        · decide
        · intro f y hy
          refine gath_read (R := 1024) (by omega) arg10.view f _ _ _ _ _ _ _ _ _ _ _ _ _ _ _ _ _ ?_ ?_ ?_ ?_ ?_ ?_ ?_ ?_ y hy
          · intro r l; rw [gpay46]; exact gath_col (R := 1024) (c := 0) (by omega) (by omega) arg5 harg5 _ x0 r l
          · intro r l; rw [gpay47]; exact gath_col (R := 1024) (c := 1) (by omega) (by omega) arg5 harg5 _ x0 r l
          · intro r l; rw [gpay48]; exact gath_col (R := 1024) (c := 2) (by omega) (by omega) arg5 harg5 _ x0 r l
          · intro r l; rw [gpay49]; exact gath_col (R := 1024) (c := 3) (by omega) (by omega) arg5 harg5 _ x0 r l
          · intro r l; rw [gpay50]; exact gath_col (R := 1024) (c := 4) (by omega) (by omega) arg5 harg5 _ x0 r l
          · intro r l; rw [gpay51]; exact gath_col (R := 1024) (c := 5) (by omega) (by omega) arg5 harg5 _ x0 r l
          · intro r l; rw [gpay52]; exact gath_col (R := 1024) (c := 6) (by omega) (by omega) arg5 harg5 _ x0 r l
          · intro r l; rw [gpay53]; exact gath_col (R := 1024) (c := 7) (by omega) (by omega) arg5 harg5 _ x0 r l

      · sl_exec
        sl_step
        iapply Hk
        isplitl [H3 H4 H5 H6 H7 H8]
        · isplitl [H3]
          · iexists _; isplitr; · ipureintro; exact harg3.read_unread _
            iexact H3
          isplitl [H4]
          · iexists _; isplitr; · ipureintro; exact harg4.read_unread _
            iexact H4
          isplitl [H5]
          · iexists _; isplitr; · ipureintro; exact harg5.read_unread _
            iexact H5
          isplitl [H6]
          · iexists _; isplitr; · ipureintro; exact harg6.read_unread _
            iexact H6
          isplitl [H7]
          · iexists _; isplitr; · ipureintro; exact harg7.read_unread _
            iexact H7
          iexists _; isplitr; · ipureintro; exact harg8.read_unread _
          iexact H8
        iexists _, _, _
        isplitr
        swap
        · isplitl [H9]
          · iexists _; isplitr; swap
            · iexact H9
            · ipureintro; rfl
          isplitl [H10]
          · iexists _; isplitr; swap
            · iexact H10
            · ipureintro; rfl
          iexists _; isplitr; swap
          · iexact H11
          · ipureintro; rfl
        ipureintro
        sl_unfold_run_names
        refine step_first (R := 1024) _ _ i hf x0 x1 x2 x3 xb ac arg10.view _ _ arg11.view _ _ _ _ _ _ _ _ (readAt_whole arg6 harg6 x1 _ ?_) (readAt_whole arg7 harg7 x2 _ ?_) (readAt_whole arg8 harg8 x3 _ ?_) ?_
        · decide
        · decide
        · decide
        · intro f y hy
          refine gath_read (R := 1024) (by omega) arg10.view f _ _ _ _ _ _ _ _ _ _ _ _ _ _ _ _ _ ?_ ?_ ?_ ?_ ?_ ?_ ?_ ?_ y hy
          · intro r l; rw [gpay46]; exact gath_col (R := 1024) (c := 0) (by omega) (by omega) arg5 harg5 _ x0 r l
          · intro r l; rw [gpay47]; exact gath_col (R := 1024) (c := 1) (by omega) (by omega) arg5 harg5 _ x0 r l
          · intro r l; rw [gpay48]; exact gath_col (R := 1024) (c := 2) (by omega) (by omega) arg5 harg5 _ x0 r l
          · intro r l; rw [gpay49]; exact gath_col (R := 1024) (c := 3) (by omega) (by omega) arg5 harg5 _ x0 r l
          · intro r l; rw [gpay50]; exact gath_col (R := 1024) (c := 4) (by omega) (by omega) arg5 harg5 _ x0 r l
          · intro r l; rw [gpay51]; exact gath_col (R := 1024) (c := 5) (by omega) (by omega) arg5 harg5 _ x0 r l
          · intro r l; rw [gpay52]; exact gath_col (R := 1024) (c := 6) (by omega) (by omega) arg5 harg5 _ x0 r l
          · intro r l; rw [gpay53]; exact gath_col (R := 1024) (c := 7) (by omega) (by omega) arg5 harg5 _ x0 r l

    · have hf : (i 1).val ≠ 0 := fun h => h0 ((c0_iff i).mpr h)
      have h1 : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1 := fun h => hf (c1_imp i h)
      by_cases h6 : k0_cond13 i = 1#1
      · sl_exec
        sl_step
        iapply Hk
        isplitl [H3 H4 H5 H6 H7 H8]
        · isplitl [H3]
          · iexists _; isplitr; · ipureintro; exact harg3.read_unread _
            iexact H3
          isplitl [H4]
          · iexists _; isplitr; · ipureintro; exact harg4.read_unread _
            iexact H4
          isplitl [H5]
          · iexists _; isplitr; · ipureintro; exact harg5.read_unread _
            iexact H5
          isplitl [H6]
          · iexists _; isplitr; · ipureintro; exact harg6.read_unread _
            iexact H6
          isplitl [H7]
          · iexists _; isplitr; · ipureintro; exact harg7.read_unread _
            iexact H7
          iexists _; isplitr; · ipureintro; exact harg8.read_unread _
          iexact H8
        iexists _, _, _
        isplitr
        swap
        · isplitl [H9]
          · iexists _; isplitr; swap
            · iexact H9
            · ipureintro; rfl
          isplitl [H10]
          · iexists _; isplitr; swap
            · iexact H10
            · ipureintro; rfl
          iexists _; isplitr; swap
          · iexact H11
          · ipureintro; rfl
        ipureintro
        sl_unfold_run_names
        refine step_later (R := 1024) _ _ i hf x0 x1 x2 x3 xb ac arg10 harg10 arg11 harg11 _ _ _ _ _ (readAt_whole arg6 harg6 x1 _ ?_) (readAt_whole arg7 harg7 x2 _ ?_) (readAt_whole arg8 harg8 x3 _ ?_) ?_
        · decide
        · decide
        · decide
        · intro _ A hA y hy
          refine (scat_read (R := 1024) (by omega) arg9.view _ _ _ _ _ _ _ _ _ _ _ _ _ _ _ _ _ _ (fun y => A (dst y)) ?_ ?_ ?_ ?_ ?_ ?_ ?_ ?_ y hy)
          · intro r l; exact slice_col (R := 1024) (c := 0) (by omega) (by omega) arg11.view _ _ slices_S1024x1024_o0_0_S1024x128 A hA r l
          · intro r l; exact slice_col (R := 1024) (c := 1) (by omega) (by omega) arg11.view _ _ slices_S1024x1024_o0_128_S1024x128 A hA r l
          · intro r l; exact slice_col (R := 1024) (c := 2) (by omega) (by omega) arg11.view _ _ slices_S1024x1024_o0_256_S1024x128 A hA r l
          · intro r l; exact slice_col (R := 1024) (c := 3) (by omega) (by omega) arg11.view _ _ slices_S1024x1024_o0_384_S1024x128 A hA r l
          · intro r l; exact slice_col (R := 1024) (c := 4) (by omega) (by omega) arg11.view _ _ slices_S1024x1024_o0_512_S1024x128 A hA r l
          · intro r l; exact slice_col (R := 1024) (c := 5) (by omega) (by omega) arg11.view _ _ slices_S1024x1024_o0_640_S1024x128 A hA r l
          · intro r l; exact slice_col (R := 1024) (c := 6) (by omega) (by omega) arg11.view _ _ slices_S1024x1024_o0_768_S1024x128 A hA r l
          · intro r l; exact slice_col (R := 1024) (c := 7) (by omega) (by omega) arg11.view _ _ slices_S1024x1024_o0_896_S1024x128 A hA r l

      · have hf6 : (i 1).val ≠ 6 := fun h => h6 ((c13_iff i).mpr h)
        sl_exec
        sl_step
        iapply Hk
        isplitl [H3 H4 H5 H6 H7 H8]
        · isplitl [H3]
          · iexists _; isplitr; · ipureintro; exact harg3.read_unread _
            iexact H3
          isplitl [H4]
          · iexists _; isplitr; · ipureintro; exact harg4.read_unread _
            iexact H4
          isplitl [H5]
          · iexists _; isplitr; · ipureintro; exact harg5.read_unread _
            iexact H5
          isplitl [H6]
          · iexists _; isplitr; · ipureintro; exact harg6.read_unread _
            iexact H6
          isplitl [H7]
          · iexists _; isplitr; · ipureintro; exact harg7.read_unread _
            iexact H7
          iexists _; isplitr; · ipureintro; exact harg8.read_unread _
          iexact H8
        iexists _, _, _
        isplitr
        swap
        · isplitl [H9]
          · iexists _; isplitr; swap
            · iexact H9
            · ipureintro; rfl
          isplitl [H10]
          · iexists _; isplitr; swap
            · iexact H10
            · ipureintro; rfl
          iexists _; isplitr; swap
          · iexact H11
          · ipureintro; rfl
        ipureintro
        sl_unfold_run_names
        refine step_later (R := 1024) _ _ i hf x0 x1 x2 x3 xb ac arg10 harg10 arg11 harg11 _ _ _ _ _ (readAt_whole arg6 harg6 x1 _ ?_) (readAt_whole arg7 harg7 x2 _ ?_) (readAt_whole arg8 harg8 x3 _ ?_) ?_
        · decide
        · decide
        · decide
        · intro h; exact absurd h hf6

end Cert.KernelIdeal.Hand
-- ==== Proof.ExpertBody.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp
public import proofs.«01_k».proof.Proof.ExpertRun0
public import proofs.«01_k».proof.Proof.ExpertRun1
public import proofs.«01_k».proof.Proof.ExpertRun2
public import proofs.«01_k».proof.Proof.ExpertRun3
public import proofs.«01_k».proof.Proof.ExpertRun4
public import Idealize.ShloMosaic.Lib.Writes
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

/-- The number of 256-row groups of a tile, as the kernel computes it from the tile's rows. -/
def nqw (v2 : BitVec 32) : BitVec 32 :=
  let v4 : BitVec 32 := Scalar.subi (Scalar.addi v2 256#32) 1#32
  let v10 : BitVec 32 := Scalar.subi (Scalar.extui (Scalar.cmpi .sgt v4 0#32)) (Scalar.extui (Scalar.cmpi .slt v4 0#32))
  let v15 : BitVec 32 := Scalar.subi (Scalar.extui (Scalar.cmpi .sgt 256#32 0#32)) (Scalar.extui (Scalar.cmpi .slt 256#32 0#32))
  let v19 : BitVec 1 := Scalar.andi (Scalar.cmpi .ne v10 v15) (Scalar.cmpi .ne (Scalar.remsi v4 256#32) 0#32)
  Scalar.select v19 (Scalar.subi (Scalar.divsi v4 256#32) 1#32) (Scalar.divsi v4 256#32)

theorem and_word (a b : BitVec 1) : (Scalar.cmpi .ne (Scalar.extui (Scalar.andi a b) : BitVec 32) 0#32 = 1#1) ↔ a = 1#1 ∧ b = 1#1 := by
  revert a b; decide

theorem cond2_iff (i : grid0.Coords) (nv tr : BitVec 32) : k0_cond2 i nv tr = 1#1 ↔ Scalar.cmpi .slt (BitVec.ofNat 32 (i 0).val) nv = 1#1 ∧ Scalar.cmpi .eq (nqw tr) 1#32 = 1#1 := and_word _ _
theorem cond5_iff (i : grid0.Coords) (nv tr : BitVec 32) : k0_cond5 i nv tr = 1#1 ↔ Scalar.cmpi .slt (BitVec.ofNat 32 (i 0).val) nv = 1#1 ∧ Scalar.cmpi .eq (nqw tr) 2#32 = 1#1 := and_word _ _
theorem cond8_iff (i : grid0.Coords) (nv tr : BitVec 32) : k0_cond8 i nv tr = 1#1 ↔ Scalar.cmpi .slt (BitVec.ofNat 32 (i 0).val) nv = 1#1 ∧ Scalar.cmpi .eq (nqw tr) 3#32 = 1#1 := and_word _ _
theorem cond11_iff (i : grid0.Coords) (nv tr : BitVec 32) : k0_cond11 i nv tr = 1#1 ↔ Scalar.cmpi .slt (BitVec.ofNat 32 (i 0).val) nv = 1#1 ∧ Scalar.cmpi .eq (nqw tr) 4#32 = 1#1 := and_word _ _
theorem cond14_iff (i : grid0.Coords) (nv : BitVec 32) : k0_cond14 i nv = 1#1 ↔ Scalar.cmpi .sge (BitVec.ofNat 32 (i 0).val) nv = 1#1 ∧ Scalar.cmpi .eq (BitVec.ofNat 32 (i 1).val) 0#32 = 1#1 := and_word _ _

theorem eq_word {n : ℕ} {a b : BitVec n} (h : Scalar.cmpi .eq a b = 1#1) : a = b := by
  simpa [Scalar.cmpi, IntOp.cmpi, WordCmp.ofBool_eq_one_iff] using h

/-- A tile has one number of row groups. -/
theorem cond_excl {P : Prop} {w a b : BitVec 32} (h : P ∧ Scalar.cmpi .eq w a = 1#1) (h' : P ∧ Scalar.cmpi .eq w b = 1#1) (hab : a ≠ b) : False :=
  hab ((eq_word h.2).symm.trans (eq_word h'.2))

theorem cond_excl14 {i : grid0.Coords} {nv : BitVec 32} {P : Prop} (h : Scalar.cmpi .slt (BitVec.ofNat 32 (i 0).val) nv = 1#1 ∧ P) (h' : k0_cond14 i nv = 1#1) : False := by
  have h1 := h.1
  have h2 := ((cond14_iff i nv).mp h').1
  simp only [Scalar.cmpi, IntOp.cmpi, WordCmp.ofBool_eq_one_iff, BitVec.slt_iff_toInt_lt, BitVec.sle_iff_toInt_le] at h1 h2
  omega

/-- The number of live tiles, and the rows of grid point `i`'s tile, as the tables hold them. -/
def nvWord (nvt : Vec F S1 .i32) : BitVec 32 := nvt (ix1 0)
def trWord (trt : Vec F S32 .i32) (i : grid0.Coords) : BitVec 32 := trt (ix1 (i 0))

theorem load_nv (arg3 : Memref sig .tc .smem S1 .i32) (harg3 : arg3.IsWhole) (nvt : Vec F S1 .i32) : (View.readAt (Elt F) arg3.view (Rect.unit (s := S1) ![0] S1.size inb_S1_S1_0).toLoadRect (harg3.unread nvt) (Shape.Idx.first (numel1_S1 ▸ Nat.one_pos))) = nvWord nvt := by
  rw [readAt_unread]
  refine congrArg nvt (funext fun a => Fin.ext ?_)
  match a with
  | ⟨0, _⟩ => show 0 + 1 * 0 = 0; rfl

theorem load_tr (arg4 : Memref sig .tc .smem S32 .i32) (harg4 : arg4.IsWhole) (trt : Vec F S32 .i32) (i : grid0.Coords) : (View.readAt (Elt F) arg4.view (Rect.unit (s := S32) (k0_off1 i) S1.size (k0_off1_inb i)).toLoadRect (harg4.unread trt) (Shape.Idx.first (numel1_S1 ▸ Nat.one_pos))) = trWord trt i := by
  rw [readAt_unread]
  have hk : ∀ k : Fin 32, (Scalar.indexCast (BitVec.ofNat 32 k.val)).toNat = k.val := by decide +kernel
  refine congrArg trt (funext fun a => Fin.ext ?_)
  match a with
  | ⟨0, _⟩ =>
    show (Scalar.indexCast (BitVec.ofNat 32 (i 0).val)).toNat + 1 * 0 = (i 0).val
    exact (Nat.mul_zero 1).symm ▸ hk (i 0)

/-- What a grid point leaves, whatever its tile's rows. -/
def StepAll (nv tr : BitVec 32) (i : grid0.Coords) (x0 : Vec F S8192x128 .f32) (x1 x2 : Vec F S1x1x1024x512 .f32) (x3 : Vec F S1x1x512x1024 .f32)
    (xb : Vec F S1024x1024 .bf16) (ac : Vec F S1024x1024 .f32) (xb' : Vec F S1024x1024 .bf16) (ac' : Vec F S1024x1024 .f32) (o' : Vec F S8192x128 .f32) : Prop :=
  (k0_cond2 i nv tr = 1#1 → Step (R := 256) (by omega) (k0_pay27 (F := F)) i x0 x1 x2 x3 xb ac xb' ac' o') ∧ (k0_cond5 i nv tr = 1#1 → Step (R := 512) (by omega) (k0_pay36 (F := F)) i x0 x1 x2 x3 xb ac xb' ac' o') ∧ (k0_cond8 i nv tr = 1#1 → Step (R := 768) (by omega) (k0_pay45 (F := F)) i x0 x1 x2 x3 xb ac xb' ac' o') ∧ (k0_cond11 i nv tr = 1#1 → Step (R := 1024) (by omega) (k0_pay54 (F := F)) i x0 x1 x2 x3 xb ac xb' ac' o')

set_option maxHeartbeats 1000000 in
/-- The kernel's body at any grid point, from any contents of its buffers. -/
theorem body_run (c : Dev nD) (i : grid0.Coords) (arg2 : Memref sig .tc .smem S32 .i32) (harg2 : arg2.IsWhole) (arg3 : Memref sig .tc .smem S1 .i32) (harg3 : arg3.IsWhole) (arg4 : Memref sig .tc .smem S32 .i32) (harg4 : arg4.IsWhole) (arg5 : Memref sig .tc .vmem S8192x128 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S8192x128 .f32) (harg9 : arg9.IsWhole) (arg10 : Memref sig .tc .vmem S1024x1024 .bf16) (harg10 : arg10.IsWhole) (arg11 : Memref sig .tc .vmem S1024x1024 .f32) (harg11 : arg11.IsWhole) (q3 q4 : PosShare TreeShare)
    (nvt : Vec F S1 .i32) (trt : Vec F S32 .i32)
    (x0 : Vec F S8192x128 .f32) (x1 x2 : Vec F S1x1x1024x512 .f32) (x3 : Vec F S1x1x512x1024 .f32) (o : Vec F S8192x128 .f32) (xb : Vec F S1024x1024 .bf16) (ac : Vec F S1024x1024 .f32) :
      ∀ (E : Set ℕ) (K : PUnit → sProp 𝕄),
        iprop(owns (c : Thread nD τ) arg3 q3 nvt ∗ owns (c : Thread nD τ) arg4 q4 trt ∗ owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare o ∗ owns (c : Thread nD τ) arg10 fullShare xb ∗ owns (c : Thread nD τ) arg11 fullShare ac
            ∗ (iprop((owns (c : Thread nD τ) arg3 q3 nvt ∗ owns (c : Thread nD τ) arg4 q4 trt ∗ owns (c : Thread nD τ) arg5 fullShare x0 ∗ owns (c : Thread nD τ) arg6 fullShare x1 ∗ owns (c : Thread nD τ) arg7 fullShare x2 ∗ owns (c : Thread nD τ) arg8 fullShare x3) ∗ (∃ o' xb' ac', ⌜StepAll (nvWord nvt) (trWord trt i) i x0 x1 x2 x3 xb ac xb' ac' o'⌝ ∗ owns (c : Thread nD τ) arg9 fullShare o' ∗ owns (c : Thread nD τ) arg10 fullShare xb' ∗ owns (c : Thread nD τ) arg11 fullShare ac')) -∗ K ⟨⟩))
          ⊢ wp frame (wpE (defs₀ (F := F)) Variants.none c none) E (cc0_moe_expert_swiglu i arg2 harg2 arg3 harg3 arg4 harg4 arg5 harg5 arg6 harg6 arg7 harg7 arg8 harg8 arg9 harg9 arg10 harg10 arg11 harg11) K := by
    intro E K
    by_cases h1 : k0_cond2 i (nvWord nvt) (trWord trt i) = 1#1
    · refine triple_restated (run_q1 c i arg2 harg2 arg3 harg3 arg4 harg4 arg5 harg5 arg6 harg6 arg7 harg7 arg8 harg8 arg9 harg9 arg10 harg10 arg11 harg11 q3 q4 nvt trt x0 x1 x2 x3 o xb ac (by rw [load_nv, load_tr]; exact h1) (by rw [load_nv, load_tr]; exact fun h => cond_excl ((cond2_iff i _ _).mp h1) ((cond5_iff i _ _).mp h) (by decide)) (by rw [load_nv, load_tr]; exact fun h => cond_excl ((cond2_iff i _ _).mp h1) ((cond8_iff i _ _).mp h) (by decide)) (by rw [load_nv, load_tr]; exact fun h => cond_excl ((cond2_iff i _ _).mp h1) ((cond11_iff i _ _).mp h) (by decide))
        (by rw [load_nv]; exact fun h => cond_excl14 ((cond2_iff i _ _).mp h1) h) E K) rfl ?_ (fun _ => .rfl)
      iintro ⟨H3, H4, H5, H6, H7, H8, H9, H10, H11, Hk⟩
      iframe H3 H4 H5 H6 H7 H8 H9 H10 H11
      iintro ⟨HA, ⟨%o', %xb', %ac', %hS, HB⟩⟩
      iapply Hk
      iframe HA
      iexists o', xb', ac'
      iframe HB
      ipureintro
      exact ⟨fun _ => hS, fun h => absurd ((cond5_iff i _ _).mp h) (fun h' => cond_excl ((cond2_iff i _ _).mp h1) h' (by decide)), fun h => absurd ((cond8_iff i _ _).mp h) (fun h' => cond_excl ((cond2_iff i _ _).mp h1) h' (by decide)), fun h => absurd ((cond11_iff i _ _).mp h) (fun h' => cond_excl ((cond2_iff i _ _).mp h1) h' (by decide))⟩

    by_cases h2 : k0_cond5 i (nvWord nvt) (trWord trt i) = 1#1
    · refine triple_restated (run_q2 c i arg2 harg2 arg3 harg3 arg4 harg4 arg5 harg5 arg6 harg6 arg7 harg7 arg8 harg8 arg9 harg9 arg10 harg10 arg11 harg11 q3 q4 nvt trt x0 x1 x2 x3 o xb ac (by rw [load_nv, load_tr]; exact fun h => cond_excl ((cond5_iff i _ _).mp h2) ((cond2_iff i _ _).mp h) (by decide)) (by rw [load_nv, load_tr]; exact h2) (by rw [load_nv, load_tr]; exact fun h => cond_excl ((cond5_iff i _ _).mp h2) ((cond8_iff i _ _).mp h) (by decide)) (by rw [load_nv, load_tr]; exact fun h => cond_excl ((cond5_iff i _ _).mp h2) ((cond11_iff i _ _).mp h) (by decide))
        (by rw [load_nv]; exact fun h => cond_excl14 ((cond5_iff i _ _).mp h2) h) E K) rfl ?_ (fun _ => .rfl)
      iintro ⟨H3, H4, H5, H6, H7, H8, H9, H10, H11, Hk⟩
      iframe H3 H4 H5 H6 H7 H8 H9 H10 H11
      iintro ⟨HA, ⟨%o', %xb', %ac', %hS, HB⟩⟩
      iapply Hk
      iframe HA
      iexists o', xb', ac'
      iframe HB
      ipureintro
      exact ⟨fun h => absurd ((cond2_iff i _ _).mp h) (fun h' => cond_excl ((cond5_iff i _ _).mp h2) h' (by decide)), fun _ => hS, fun h => absurd ((cond8_iff i _ _).mp h) (fun h' => cond_excl ((cond5_iff i _ _).mp h2) h' (by decide)), fun h => absurd ((cond11_iff i _ _).mp h) (fun h' => cond_excl ((cond5_iff i _ _).mp h2) h' (by decide))⟩

    by_cases h3 : k0_cond8 i (nvWord nvt) (trWord trt i) = 1#1
    · refine triple_restated (run_q3 c i arg2 harg2 arg3 harg3 arg4 harg4 arg5 harg5 arg6 harg6 arg7 harg7 arg8 harg8 arg9 harg9 arg10 harg10 arg11 harg11 q3 q4 nvt trt x0 x1 x2 x3 o xb ac (by rw [load_nv, load_tr]; exact fun h => cond_excl ((cond8_iff i _ _).mp h3) ((cond2_iff i _ _).mp h) (by decide)) (by rw [load_nv, load_tr]; exact fun h => cond_excl ((cond8_iff i _ _).mp h3) ((cond5_iff i _ _).mp h) (by decide)) (by rw [load_nv, load_tr]; exact h3) (by rw [load_nv, load_tr]; exact fun h => cond_excl ((cond8_iff i _ _).mp h3) ((cond11_iff i _ _).mp h) (by decide))
        (by rw [load_nv]; exact fun h => cond_excl14 ((cond8_iff i _ _).mp h3) h) E K) rfl ?_ (fun _ => .rfl)
      iintro ⟨H3, H4, H5, H6, H7, H8, H9, H10, H11, Hk⟩
      iframe H3 H4 H5 H6 H7 H8 H9 H10 H11
      iintro ⟨HA, ⟨%o', %xb', %ac', %hS, HB⟩⟩
      iapply Hk
      iframe HA
      iexists o', xb', ac'
      iframe HB
      ipureintro
      exact ⟨fun h => absurd ((cond2_iff i _ _).mp h) (fun h' => cond_excl ((cond8_iff i _ _).mp h3) h' (by decide)), fun h => absurd ((cond5_iff i _ _).mp h) (fun h' => cond_excl ((cond8_iff i _ _).mp h3) h' (by decide)), fun _ => hS, fun h => absurd ((cond11_iff i _ _).mp h) (fun h' => cond_excl ((cond8_iff i _ _).mp h3) h' (by decide))⟩

    by_cases h4 : k0_cond11 i (nvWord nvt) (trWord trt i) = 1#1
    · refine triple_restated (run_q4 c i arg2 harg2 arg3 harg3 arg4 harg4 arg5 harg5 arg6 harg6 arg7 harg7 arg8 harg8 arg9 harg9 arg10 harg10 arg11 harg11 q3 q4 nvt trt x0 x1 x2 x3 o xb ac (by rw [load_nv, load_tr]; exact fun h => cond_excl ((cond11_iff i _ _).mp h4) ((cond2_iff i _ _).mp h) (by decide)) (by rw [load_nv, load_tr]; exact fun h => cond_excl ((cond11_iff i _ _).mp h4) ((cond5_iff i _ _).mp h) (by decide)) (by rw [load_nv, load_tr]; exact fun h => cond_excl ((cond11_iff i _ _).mp h4) ((cond8_iff i _ _).mp h) (by decide)) (by rw [load_nv, load_tr]; exact h4)
        (by rw [load_nv]; exact fun h => cond_excl14 ((cond11_iff i _ _).mp h4) h) E K) rfl ?_ (fun _ => .rfl)
      iintro ⟨H3, H4, H5, H6, H7, H8, H9, H10, H11, Hk⟩
      iframe H3 H4 H5 H6 H7 H8 H9 H10 H11
      iintro ⟨HA, ⟨%o', %xb', %ac', %hS, HB⟩⟩
      iapply Hk
      iframe HA
      iexists o', xb', ac'
      iframe HB
      ipureintro
      exact ⟨fun h => absurd ((cond2_iff i _ _).mp h) (fun h' => cond_excl ((cond11_iff i _ _).mp h4) h' (by decide)), fun h => absurd ((cond5_iff i _ _).mp h) (fun h' => cond_excl ((cond11_iff i _ _).mp h4) h' (by decide)), fun h => absurd ((cond8_iff i _ _).mp h) (fun h' => cond_excl ((cond11_iff i _ _).mp h4) h' (by decide)), fun _ => hS⟩

    · refine triple_restated (run_q0 c i arg2 harg2 arg3 harg3 arg4 harg4 arg5 harg5 arg6 harg6 arg7 harg7 arg8 harg8 arg9 harg9 arg10 harg10 arg11 harg11 q3 q4 nvt trt x0 x1 x2 x3 o xb ac (by rw [load_nv, load_tr]; exact h1) (by rw [load_nv, load_tr]; exact h2) (by rw [load_nv, load_tr]; exact h3) (by rw [load_nv, load_tr]; exact h4) E K) rfl ?_ (fun _ => .rfl)
      iintro ⟨H3, H4, H5, H6, H7, H8, H9, H10, H11, Hk⟩
      iframe H3 H4 H5 H6 H7 H8 H9 H10 H11
      iintro ⟨HA, ⟨%o', %xb', %ac', HB⟩⟩
      iapply Hk
      iframe HA
      iexists o', xb', ac'
      iframe HB
      ipureintro
      exact ⟨fun h => absurd h h1, fun h => absurd h h2, fun h => absurd h h3, fun h => absurd h h4⟩
end Cert.KernelIdeal.Hand
-- ==== Proof.ExpertPlan.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp
public import proofs.«01_k».proof.Proof.ExpertLaunch
public import proofs.«01_k».proof.Pre_plan
public import Idealize.ShloMosaic.Lib.ReduceAll
public import Idealize.ShloMosaic.Lib.Writes
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

theorem andi_one {c d : BitVec 1} (h : IntOp.andi c d = 1#1) : c = 1#1 ∧ d = 1#1 := by revert c d; decide

/-- What the plan says of the three tables, as numbers. -/
structure PlanFacts (te : IVec S32 32) (nv : IVec S1 32) (tr : IVec S32 32) : Prop where
  te_nonneg : ∀ i, 0 ≤ (te i).toInt
  te_lt : ∀ i, (te i).toInt < 8
  nv_pos : ∀ i, 1 ≤ (nv i).toInt
  tr_le : ∀ i, (tr i).toInt ≤ 1024

theorem plan_facts [hP : Cert.Pre_plan.Facts] (te : IVec S32 32) (nv : IVec S1 32) (tr : IVec S32 32) (x : FVec F S262144x128 .f32) (g : FVec F S2x8x1024x7168 .f32) (d : FVec F S2x8x3584x1024 .f32)
    (h : Cert.Pre_plan.fn te nv tr x g d = fun _ => 1#1) : PlanFacts te nv tr := by
  have h0 := congrFun h (fun a => a.elim0)
  unfold Cert.Pre_plan.fn at h0
  obtain ⟨h1, h2⟩ := andi_one h0
  obtain ⟨h3, h4⟩ := andi_one h1
  have a1 := fun i => andi_one (Host.reduce_andi_all _ _ _ _ _ h3 i)
  have a2 := fun i => Host.reduce_andi_all _ _ _ _ _ h4 i
  have a3 := fun i => Host.reduce_andi_all _ _ _ _ _ h2 i
  exact ⟨fun i => IntOp.cmpi_sge.1 (a1 i).1, fun i => IntOp.cmpi_slt.1 (a1 i).2, fun i => IntOp.cmpi_sge.1 (a2 i), fun i => IntOp.cmpi_sle.1 (a3 i)⟩

theorem toInt_nat {x : BitVec 32} (h : 0 ≤ x.toInt) : x.toInt = (x.toNat : ℤ) := by
  have := x.isLt
  rw [BitVec.toInt_eq_toNat_cond] at h ⊢
  split at h <;> rename_i h' <;> omega

theorem small_toInt (k : ℕ) (h : k < 1024) : (BitVec.ofNat 32 k).toInt = (k : ℤ) := by
  rw [BitVec.toInt_eq_toNat_cond, BitVec.toNat_ofNat]
  omega

/-- The first window's row: the tile while there are valid tiles left. -/
theorem tile_word (k : ℕ) (hk : k < 32) (nv : BitVec 32) (hn : 1 ≤ nv.toInt) :
    (Scalar.minsi (BitVec.ofNat 32 k) (Scalar.subi nv 1#32)).toNat < 32
    ∧ (Scalar.cmpi .slt (BitVec.ofNat 32 k) nv = 1#1 → (Scalar.minsi (BitVec.ofNat 32 k) (Scalar.subi nv 1#32)).toNat = k) := by
  have e1 := toInt_nat (x := nv) (by omega)
  have hlt := nv.isLt
  have e2 : (nv - 1#32).toNat = nv.toNat - 1 := by
    rw [BitVec.toNat_sub]; simp only [BitVec.toNat_ofNat]; omega
  have hc := BitVec.toInt_eq_toNat_cond nv
  have e3 : (nv - 1#32).toInt = (nv.toNat : ℤ) - 1 := by
    rw [BitVec.toInt_eq_toNat_cond, e2]
    split at hc <;> omega
  have e4 := small_toInt k (by omega)
  have e5 : (BitVec.ofNat 32 k).toNat = k := by rw [BitVec.toNat_ofNat]; omega
  unfold Scalar.minsi Scalar.subi IntOp.minsi IntOp.subi Scalar.cmpi
  rw [IntOp.cmpi_slt, e4, e1]
  by_cases hs : (BitVec.ofNat 32 k).slt (nv - 1#32) = true
  · rw [if_pos hs, e5]; exact ⟨hk, fun _ => rfl⟩
  · rw [if_neg hs, e2]
    rw [BitVec.slt_iff_toInt_lt, e4, e3] at hs
    constructor
    · omega
    · intro h; omega

/-- The slice's word: the slice while the tile is valid, the last one after. -/
theorem slice_word (k f : ℕ) (hf : f < 7) (nv : BitVec 32) :
    (Scalar.select (Scalar.cmpi .slt (BitVec.ofNat 32 k) nv) (BitVec.ofNat 32 f) 6#32).toNat < 7
    ∧ (Scalar.addi 7#32 (Scalar.select (Scalar.cmpi .slt (BitVec.ofNat 32 k) nv) (BitVec.ofNat 32 f) 6#32)).toNat < 14
    ∧ (Scalar.cmpi .slt (BitVec.ofNat 32 k) nv = 1#1 →
        (Scalar.select (Scalar.cmpi .slt (BitVec.ofNat 32 k) nv) (BitVec.ofNat 32 f) 6#32).toNat = f
        ∧ (Scalar.addi 7#32 (Scalar.select (Scalar.cmpi .slt (BitVec.ofNat 32 k) nv) (BitVec.ofNat 32 f) 6#32)).toNat = 7 + f) := by
  have e5 : (BitVec.ofNat 32 f).toNat = f := by rw [BitVec.toNat_ofNat]; omega
  have e6 : (7#32 + BitVec.ofNat 32 f).toNat = 7 + f := by rw [BitVec.toNat_add, e5, BitVec.toNat_ofNat]; omega
  have e7 : (6#32 : BitVec 32).toNat = 6 := by decide
  have e8 : (7#32 + 6#32 : BitVec 32).toNat = 13 := by decide
  unfold Scalar.select Scalar.addi IntOp.addi
  by_cases h : Scalar.cmpi .slt (BitVec.ofNat 32 k) nv = 1
  · rw [if_pos h, e5, e6]; exact ⟨hf, by omega, fun _ => ⟨rfl, rfl⟩⟩
  · rw [if_neg h, e7, e8]; exact ⟨by omega, by omega, fun h' => absurd h' h⟩

theorem at_nv (pf : pre0.Contents (Elt F)) : pf.at 1 (Rect.unit (s := S1) ![0] S1.size inb_S1_S1_0) numel1_S1 = (pf 1 : IVec S1 32) (ix1 0) := by
  refine congrArg (pf 1) (funext fun a => Fin.ext ?_)
  match a with
  | ⟨0, _⟩ => show 0 + 1 * 0 = 0; rfl

theorem at_te (pf : pre0.Contents (Elt F)) (i : grid0.Coords) : pf.at 0 (Rect.unit (s := S32) (k0_off1 i) S1.size (k0_off1_inb i)) numel1_S1 = (pf 0 : IVec S32 32) (ix1 (i 0)) := by
  have hk : ∀ k : Fin 32, (Scalar.indexCast (BitVec.ofNat 32 k.val)).toNat = k.val := by decide +kernel
  refine congrArg (pf 0) (funext fun a => Fin.ext ?_)
  match a with
  | ⟨0, _⟩ =>
    show (Scalar.indexCast (BitVec.ofNat 32 (i 0).val)).toNat + 1 * 0 = (i 0).val
    exact (Nat.mul_zero 1).symm ▸ hk (i 0)

def nvw (pf : pre0.Contents (Elt F)) : BitVec 32 := (pf 1 : IVec S1 32) (ix1 0)
def tew (pf : pre0.Contents (Elt F)) (i : grid0.Coords) : BitVec 32 := (pf 0 : IVec S32 32) (ix1 (i 0))
def slw (pf : pre0.Contents (Elt F)) (i : grid0.Coords) : BitVec 32 := Scalar.select (Scalar.cmpi .slt (BitVec.ofNat 32 (i 0).val) (nvw pf)) (BitVec.ofNat 32 (i 1).val) 6#32

theorem tf0 (pf : pre0.Contents (Elt F)) (i : grid0.Coords) : cc0_transform_0 inb_S1_S1_0 numel1_S1 pf i = ![(Scalar.minsi (BitVec.ofNat 32 (i 0).val) (Scalar.subi (nvw pf) 1#32)).toNat, 0] := by
  exact congrArg (fun n : BitVec 32 => (![(Scalar.minsi (BitVec.ofNat 32 (i 0).val) (Scalar.subi n 1#32)).toNat, 0] : Fin 2 → ℕ)) (at_nv pf)
theorem tf1 (pf : pre0.Contents (Elt F)) (i : grid0.Coords) : cc0_transform_1 k0_off1_inb numel1_S1 inb_S1_S1_0 pf i = ![0, (tew pf i).toNat, 0, (slw pf i).toNat] := by
  exact congrArg₂ (fun e n : BitVec 32 => (![0, e.toNat, 0, (Scalar.select (Scalar.cmpi .slt (BitVec.ofNat 32 (i 0).val) n) (BitVec.ofNat 32 (i 1).val) 6#32).toNat] : Fin 4 → ℕ)) (at_te pf i) (at_nv pf)
theorem tf2 (pf : pre0.Contents (Elt F)) (i : grid0.Coords) : cc0_transform_2 k0_off1_inb numel1_S1 inb_S1_S1_0 pf i = ![0, (tew pf i).toNat, 0, (Scalar.addi 7#32 (slw pf i)).toNat] := by
  exact congrArg₂ (fun e n : BitVec 32 => (![0, e.toNat, 0, (Scalar.addi 7#32 (Scalar.select (Scalar.cmpi .slt (BitVec.ofNat 32 (i 0).val) n) (BitVec.ofNat 32 (i 1).val) 6#32)).toNat] : Fin 4 → ℕ)) (at_te pf i) (at_nv pf)
theorem tf3 (pf : pre0.Contents (Elt F)) (i : grid0.Coords) : cc0_transform_3 k0_off1_inb numel1_S1 inb_S1_S1_0 pf i = ![0, (tew pf i).toNat, (slw pf i).toNat, 0] := by
  exact congrArg₂ (fun e n : BitVec 32 => (![0, e.toNat, (Scalar.select (Scalar.cmpi .slt (BitVec.ofNat 32 (i 0).val) n) (BitVec.ofNat 32 (i 1).val) 6#32).toNat, 0] : Fin 4 → ℕ)) (at_te pf i) (at_nv pf)

theorem te_word {te : IVec S32 32} {nv : IVec S1 32} {tr : IVec S32 32} (h : PlanFacts te nv tr) (i) : (te i).toNat < 8 := by
  have a := toInt_nat (h.te_nonneg i)
  have b := h.te_lt i
  omega

/-- The tables a plan draws are admissible: every block lies inside its array. -/
theorem ok_of_plan (pf : pre0.Contents (Elt F)) (h : PlanFacts (pf 0) (pf 1) (pf 2)) : ok0 pf := by
  refine ⟨fun i => ⟨?_, .inl rfl⟩, fun i => ⟨?_, .inl rfl⟩, fun i => ⟨?_, .inl rfl⟩, fun i => ⟨?_, .inl rfl⟩⟩
  · rw [tf0]
    intro a
    have := (tile_word (i 0).val (i 0).isLt (nvw pf) (h.nv_pos _)).1
    match a with
    | ⟨0, _⟩ => show ((Scalar.minsi (BitVec.ofNat 32 (i 0).val) (Scalar.subi (nvw pf) 1#32)).toNat + 1) * 8192 ≤ 262144; omega
    | ⟨1, _⟩ => show (0 + 1) * 128 ≤ 128; omega
  · rw [tf1]
    intro a
    have h1 : (tew pf i).toNat < 8 := te_word h (ix1 (i 0))
    have h2 : (slw pf i).toNat < 7 := (slice_word (i 0).val (i 1).val (i 1).isLt (nvw pf)).1
    match a with
    | ⟨0, _⟩ => show (0 + 1) * 1 ≤ 2; omega
    | ⟨1, _⟩ => show ((tew pf i).toNat + 1) * 1 ≤ 8; omega
    | ⟨2, _⟩ => show (0 + 1) * 1024 ≤ 1024; omega
    | ⟨3, _⟩ => show ((slw pf i).toNat + 1) * 512 ≤ 7168; omega
  · rw [tf2]
    intro a
    have h1 : (tew pf i).toNat < 8 := te_word h (ix1 (i 0))
    have h2 : (Scalar.addi 7#32 (slw pf i)).toNat < 14 := (slice_word (i 0).val (i 1).val (i 1).isLt (nvw pf)).2.1
    match a with
    | ⟨0, _⟩ => show (0 + 1) * 1 ≤ 2; omega
    | ⟨1, _⟩ => show ((tew pf i).toNat + 1) * 1 ≤ 8; omega
    | ⟨2, _⟩ => show (0 + 1) * 1024 ≤ 1024; omega
    | ⟨3, _⟩ => show ((Scalar.addi 7#32 (slw pf i)).toNat + 1) * 512 ≤ 7168; omega
  · rw [tf3]
    intro a
    have h1 : (tew pf i).toNat < 8 := te_word h (ix1 (i 0))
    have h2 : (slw pf i).toNat < 7 := (slice_word (i 0).val (i 1).val (i 1).isLt (nvw pf)).1
    match a with
    | ⟨0, _⟩ => show (0 + 1) * 1 ≤ 2; omega
    | ⟨1, _⟩ => show ((tew pf i).toNat + 1) * 1 ≤ 8; omega
    | ⟨2, _⟩ => show ((slw pf i).toNat + 1) * 512 ≤ 3584; omega
    | ⟨3, _⟩ => show (0 + 1) * 1024 ≤ 1024; omega

end Cert.KernelIdeal.Hand
-- ==== Proof.ExpertFrame.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp
public import proofs.«01_k».proof.Proof.ExpertPlan
public import Idealize.ShloMosaic.Lib.Writes
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables of the launch memory, admissible. -/
def adm (h : ok0 (tabs m)) : (pcfg0 (F := F)).Adm := ⟨tabs m, h⟩

/-- A final memory the proof data describes leaves every argument as it was. -/
theorem args_kept (a : (pcfg0 (F := F)).Adm) (inv : ℕ → Vec F S1024x1024 .bf16 → Vec F S1024x1024 .f32 → Prop) (outR : ℕ → Vec F S8192x128 .f32 → Prop)
    (r : PUnit × MemSt nD τ sig (Elt F))
    (h : Pipeline.RDat.FramePost (cfg0 a) (rdat m a inv outR) (fun c b => m ((c.tc : Thread nD τ).loc b)) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨(h c).2 main_arg0 (Pipeline.mem_restRefs_of main_arg0 (by decide) (show ∀ w : Fin 5, (spec0 w).arr.view.ref ≠ main_arg0 by decide)),
   (h c).2 main_arg1 (Pipeline.mem_restRefs_of main_arg1 (by decide) (show ∀ w : Fin 5, (spec0 w).arr.view.ref ≠ main_arg1 by decide)),
   (h c).2 main_arg2 (Pipeline.mem_restRefs_of main_arg2 (by decide) (show ∀ w : Fin 5, (spec0 w).arr.view.ref ≠ main_arg2 by decide)),
   Pipeline.RDat.FramePost.arr_in h c 0 rfl, Pipeline.RDat.FramePost.arr_in h c 1 rfl, Pipeline.RDat.FramePost.arr_in h c 3 rfl⟩

/-- The kernel's run from any memory whose tables are admissible. -/
theorem run_frame (hok : ok0 (tabs m)) :
    θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) ∧ r.2.sem = fun _ => 0) :=
  (θ_run _ _ _).mono (fun r h => ⟨args_kept m (adm m hok) (fun _ _ _ => True) (fun _ _ => True) r h.1, h.2⟩)
    (launch m ρ (adm m hok) (fun _ _ _ => True) (fun _ _ => True) (fun _ _ _ _ _ _ _ _ _ => ⟨trivial, trivial⟩) (fun _ _ => trivial) rfl)

end Cert.KernelIdeal.Hand
-- ==== Proof.ExpertPrinted.lean ====
module

public import proofs.«01_k».proof.Defs
public import proofs.«01_k».proof.Proof.Gen.Kernel
public import proofs.«01_k».proof.Proof.Gen.KernelIdeal
public import proofs.«01_k».proof.Proof.Gen.Pre_plan
public import proofs.«01_k».proof.Proof.ExpertFrame

@[expose] public section

noncomputable section

namespace Cert.Proof

open Idealize.ShloMosaic Idealize.SL.Sem

/-- The two programs' bodies are one text. -/
theorem body_same : Cert.Kernel.cc0_moe_expert_swiglu (F := Bits) = Cert.KernelIdeal.cc0_moe_expert_swiglu (F := Bits) := rfl

theorem bodies_same : (Cert.Kernel.defs₀ (F := Bits) : Defs Cert.KernelIdeal.nD Cert.KernelIdeal.τ Cert.KernelIdeal.sig (Elt Bits) Cert.KernelIdeal.Λ₀) = Cert.KernelIdeal.defs₀ (F := Bits) := by
  funext th f x
  match th, f, x with
  | .tc, ⟨0, _⟩, (t, s) => rfl
  | .scScalar _, _, _ => rfl
  | .scVector _ _, _, _ => rfl

/-- A run under one table of bodies is a run under an equal one. -/
theorem run_same {d : Defs Cert.KernelIdeal.nD Cert.KernelIdeal.τ Cert.KernelIdeal.sig (Elt Bits) Cert.KernelIdeal.Λ₀} (h : d = Cert.KernelIdeal.defs₀ (F := Bits))
    {s : MemSt Cert.KernelIdeal.nD Cert.KernelIdeal.τ Cert.KernelIdeal.sig (Elt Bits)} {Q : PUnit × MemSt Cert.KernelIdeal.nD Cert.KernelIdeal.τ Cert.KernelIdeal.sig (Elt Bits) → Prop}
    (run : θ_run (Cert.KernelIdeal.defs (F := Bits)) (onTc (τ := Cert.KernelIdeal.τ) (Cert.KernelIdeal.main (F := Bits))) s Q) :
    θ_run (Pipeline.defs (Cert.KernelIdeal.pcfgs (F := Bits)) d) (onTc (τ := Cert.KernelIdeal.τ) (Cert.KernelIdeal.main (F := Bits))) s Q := by
  subst h
  exact run

/-- The printed kernel's run from every memory a plan draws: the idealized program's text is the printed one's, so its run at the printed floats is this one. -/
theorem expert_frame : Cert.quiescent_Kernel := fun m ρ hP =>
  run_same bodies_same (Cert.KernelIdeal.Hand.run_frame (F := Bits) m ρ (Cert.KernelIdeal.Hand.ok_of_plan _ (Cert.KernelIdeal.Hand.plan_facts _ _ _ _ _ _ (hP 0))))

end Cert.Proof

end
-- ==== Proof.ExpertBlocks.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp
public import proofs.«01_k».proof.Proof.ExpertFrame
public import Idealize.ShloMosaic.Lib.Writes
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

theorem coords_0 (t : Fin grid0.N) : (grid0.coords t 0).val = t.val / 7 := by
  have h : ∀ t : Fin grid0.N, (grid0.coords t 0).val = t.val / 7 := by decide +kernel
  exact h t
theorem coords_1 (t : Fin grid0.N) : (grid0.coords t 1).val = t.val % 7 := by
  have h : ∀ t : Fin grid0.N, (grid0.coords t 1).val = t.val % 7 := by decide +kernel
  exact h t

variable (m : (ℓ : Loc nD τ sig) → Buf (Elt F) ℓ)
variable (a : (pcfg0 (F := F)).Adm) (inv : ℕ → Vec F S1024x1024 .bf16 → Vec F S1024x1024 .f32 → Prop) (outR : ℕ → Vec F S8192x128 .f32 → Prop)

/-- The argument arrays of the launch memory. -/
def argX (c : Dev nD) : Vec F S262144x128 .f32 := m ((c.tc : Thread nD τ).loc main_arg3)
def argG (c : Dev nD) : Vec F S2x8x1024x7168 .f32 := m ((c.tc : Thread nD τ).loc main_arg4)
def argD (c : Dev nD) : Vec F S2x8x3584x1024 .f32 := m ((c.tc : Thread nD τ).loc main_arg5)

/-- The tile of a grid point holds tokens. -/
def Valid (t : Fin grid0.N) : Prop := Scalar.cmpi .slt (BitVec.ofNat 32 (grid0.coords t 0).val) (nvw a.1) = 1#1

theorem blk0_apply (hp : PlanFacts (a.1 0) (a.1 1) (a.1 2)) (c : Dev nD) (t : Fin grid0.N) (hv : Valid a t) (p : Fin 8192) (q : Fin 128) (h : 8192 * (t.val / 7) + p.val < 262144) :
    blk0 m a inv outR c t (ix2 p q) = argX m c (ix2 ⟨8192 * (t.val / 7) + p.val, h⟩ q) := by
  have e := (tile_word (grid0.coords t 0).val (grid0.coords t 0).isLt (nvw a.1) (hp.nv_pos _)).2 hv
  rw [coords_0] at e
  unfold blk0 RDat.blockOf
  refine congrArg (m ((c.tc : Thread nD τ).loc main_arg3)) (funext fun b => Fin.ext ?_)
  match b with
  | ⟨0, _⟩ =>
    show cc0_transform_0 inb_S1_S1_0 numel1_S1 a.1 (grid0.coords t) 0 * 8192 + 1 * p.val = 8192 * (t.val / 7) + p.val
    rw [tf0, coords_0]
    show (Scalar.minsi _ _).toNat * 8192 + 1 * p.val = _
    rw [e]; omega
  | ⟨1, _⟩ =>
    show cc0_transform_0 inb_S1_S1_0 numel1_S1 a.1 (grid0.coords t) 1 * 128 + 1 * q.val = q.val
    rw [tf0]
    show 0 * 128 + 1 * q.val = q.val
    omega

theorem blk1_apply (hp : PlanFacts (a.1 0) (a.1 1) (a.1 2)) (c : Dev nD) (t : Fin grid0.N) (hv : Valid a t) (k : Fin 1024) (j : Fin 512)
    (h1 : (tew a.1 (grid0.coords t)).toNat < 8) (h : 512 * (t.val % 7) + j.val < 7168) :
    blk1 m a inv outR c t (ix4 0 0 k j) = argG m c (ix4 0 ⟨(tew a.1 (grid0.coords t)).toNat, h1⟩ k ⟨512 * (t.val % 7) + j.val, h⟩) := by
  have e : (slw a.1 (grid0.coords t)).toNat = t.val % 7 := by rw [← coords_1]; exact ((slice_word (grid0.coords t 0).val (grid0.coords t 1).val (grid0.coords t 1).isLt (nvw a.1)).2.2 hv).1
  unfold blk1 RDat.blockOf
  refine congrArg (m ((c.tc : Thread nD τ).loc main_arg4)) (funext fun b => Fin.ext ?_)
  match b with
  | ⟨0, _⟩ =>
    show cc0_transform_1 k0_off1_inb numel1_S1 inb_S1_S1_0 a.1 (grid0.coords t) 0 * 1 + 1 * 0 = 0
    rw [tf1]; rfl
  | ⟨1, _⟩ =>
    show cc0_transform_1 k0_off1_inb numel1_S1 inb_S1_S1_0 a.1 (grid0.coords t) 1 * 1 + 1 * 0 = (tew a.1 (grid0.coords t)).toNat
    rw [tf1]
    show (tew a.1 (grid0.coords t)).toNat * 1 + 1 * 0 = _
    omega
  | ⟨2, _⟩ =>
    show cc0_transform_1 k0_off1_inb numel1_S1 inb_S1_S1_0 a.1 (grid0.coords t) 2 * 1024 + 1 * k.val = k.val
    rw [tf1]
    show 0 * 1024 + 1 * k.val = k.val
    omega
  | ⟨3, _⟩ =>
    show cc0_transform_1 k0_off1_inb numel1_S1 inb_S1_S1_0 a.1 (grid0.coords t) 3 * 512 + 1 * j.val = 512 * (t.val % 7) + j.val
    rw [tf1]
    show (slw a.1 (grid0.coords t)).toNat * 512 + 1 * j.val = _
    rw [e]; omega

theorem blk2_apply (hp : PlanFacts (a.1 0) (a.1 1) (a.1 2)) (c : Dev nD) (t : Fin grid0.N) (hv : Valid a t) (k : Fin 1024) (j : Fin 512)
    (h1 : (tew a.1 (grid0.coords t)).toNat < 8) (h : 3584 + (512 * (t.val % 7) + j.val) < 7168) :
    blk2 m a inv outR c t (ix4 0 0 k j) = argG m c (ix4 0 ⟨(tew a.1 (grid0.coords t)).toNat, h1⟩ k ⟨3584 + (512 * (t.val % 7) + j.val), h⟩) := by
  have e : (Scalar.addi 7#32 (slw a.1 (grid0.coords t))).toNat = 7 + t.val % 7 := by rw [← coords_1]; exact ((slice_word (grid0.coords t 0).val (grid0.coords t 1).val (grid0.coords t 1).isLt (nvw a.1)).2.2 hv).2
  unfold blk2 RDat.blockOf
  refine congrArg (m ((c.tc : Thread nD τ).loc main_arg4)) (funext fun b => Fin.ext ?_)
  match b with
  | ⟨0, _⟩ =>
    show cc0_transform_2 k0_off1_inb numel1_S1 inb_S1_S1_0 a.1 (grid0.coords t) 0 * 1 + 1 * 0 = 0
    rw [tf2]; rfl
  | ⟨1, _⟩ =>
    show cc0_transform_2 k0_off1_inb numel1_S1 inb_S1_S1_0 a.1 (grid0.coords t) 1 * 1 + 1 * 0 = (tew a.1 (grid0.coords t)).toNat
    rw [tf2]
    show (tew a.1 (grid0.coords t)).toNat * 1 + 1 * 0 = _
    omega
  | ⟨2, _⟩ =>
    show cc0_transform_2 k0_off1_inb numel1_S1 inb_S1_S1_0 a.1 (grid0.coords t) 2 * 1024 + 1 * k.val = k.val
    rw [tf2]
    show 0 * 1024 + 1 * k.val = k.val
    omega
  | ⟨3, _⟩ =>
    show cc0_transform_2 k0_off1_inb numel1_S1 inb_S1_S1_0 a.1 (grid0.coords t) 3 * 512 + 1 * j.val = 3584 + (512 * (t.val % 7) + j.val)
    rw [tf2]
    show (Scalar.addi 7#32 (slw a.1 (grid0.coords t))).toNat * 512 + 1 * j.val = _
    rw [e]; omega

theorem blk3_apply (hp : PlanFacts (a.1 0) (a.1 1) (a.1 2)) (c : Dev nD) (t : Fin grid0.N) (hv : Valid a t) (j : Fin 512) (n : Fin 1024)
    (h1 : (tew a.1 (grid0.coords t)).toNat < 8) (h : 512 * (t.val % 7) + j.val < 3584) :
    blk3 m a inv outR c t (ix4 0 0 j n) = argD m c (ix4 0 ⟨(tew a.1 (grid0.coords t)).toNat, h1⟩ ⟨512 * (t.val % 7) + j.val, h⟩ n) := by
  have e : (slw a.1 (grid0.coords t)).toNat = t.val % 7 := by rw [← coords_1]; exact ((slice_word (grid0.coords t 0).val (grid0.coords t 1).val (grid0.coords t 1).isLt (nvw a.1)).2.2 hv).1
  unfold blk3 RDat.blockOf
  refine congrArg (m ((c.tc : Thread nD τ).loc main_arg5)) (funext fun b => Fin.ext ?_)
  match b with
  | ⟨0, _⟩ =>
    show cc0_transform_3 k0_off1_inb numel1_S1 inb_S1_S1_0 a.1 (grid0.coords t) 0 * 1 + 1 * 0 = 0
    rw [tf3]; rfl
  | ⟨1, _⟩ =>
    show cc0_transform_3 k0_off1_inb numel1_S1 inb_S1_S1_0 a.1 (grid0.coords t) 1 * 1 + 1 * 0 = (tew a.1 (grid0.coords t)).toNat
    rw [tf3]
    show (tew a.1 (grid0.coords t)).toNat * 1 + 1 * 0 = _
    omega
  | ⟨2, _⟩ =>
    show cc0_transform_3 k0_off1_inb numel1_S1 inb_S1_S1_0 a.1 (grid0.coords t) 2 * 512 + 1 * j.val = 512 * (t.val % 7) + j.val
    rw [tf3]
    show (slw a.1 (grid0.coords t)).toNat * 512 + 1 * j.val = _
    rw [e]; omega
  | ⟨3, _⟩ =>
    show cc0_transform_3 k0_off1_inb numel1_S1 inb_S1_S1_0 a.1 (grid0.coords t) 3 * 1024 + 1 * n.val = n.val
    rw [tf3]
    show 0 * 1024 + 1 * n.val = n.val
    omega

end Cert.KernelIdeal.Hand
-- ==== Proof.Swiglu.lean ====
/- The mathematics the programs share: a gated unit, a normalised and modulated row, and how a sum over a long axis is
   cut into the stretches the kernels work through. -/
module

public import Idealize.ShloMosaic.PureOps.Ideal
public import Idealize.ShloMosaic.Lib.Pointwise

@[expose] public section

noncomputable section

namespace Cert.Math

open scoped BigOperators
open Idealize.ShloMosaic

/-- `a · logistic a`. -/
def silu (a : EReal) : EReal := a * Ideal.logistic a

/-- One hidden unit: the gate column and the up column of a row `h`. -/
def gated {K : ℕ} (h wg wu : Fin K → EReal) : EReal := silu (∑ k, h k * wg k) * ∑ k, h k * wu k

/-- Root-mean-square normalisation of a row, scaled by `g`, then modulated by `1 + sc` and shifted by `sh`. -/
def normMod (x g sc sh : Fin 1024 → EReal) (k : Fin 1024) : EReal :=
  x k * Ideal.rsqrt (Ideal.div (∑ j, x j * x j) (Ideal.ofBits .f32 0x44800000#32) + Ideal.ofBits .f32 0x358637BD#32)
    * g k * (1 + sc k) + sh k

/-- A sum over 2816 positions is the sum over the first 1536 plus the sum over the other 1280. -/
theorem sum_2816 (f : Fin 2816 → EReal) :
    ∑ j, f j = ∑ j : Fin 1536, f ⟨j.val, by omega⟩ + ∑ j : Fin 1280, f ⟨1536 + j.val, by omega⟩ :=
  Fin.sum_univ_add (a := 1536) (b := 1280) f

/-- The sequence's row of the modulation table that token `r` is modulated by: the prompt's tokens by row 0, sample
    `b`'s by row `8 + b`. -/
def modRow (r : ℕ) : ℕ := if r < 4096 then 0 else 8 + (r - 4096) / 1024

theorem modRow_lt {r : ℕ} (h : r < 12288) : modRow r < 16 := by unfold modRow; split <;> omega

/-- The dense block's result of layer `L`, with the `l`-th dense weights, at token `r`, channel `n`, from its five argument arrays: the gated residual of the
    normalised and modulated row through the two products. -/
def ffnOut (L : Fin 4) (l : Fin 2) (x : (⟨2, ![12288, 1024]⟩ : Shape).Idx → EReal) (md : (⟨3, ![4, 16, 6144]⟩ : Shape).Idx → EReal)
    (g : (⟨2, ![4, 1024]⟩ : Shape).Idx → EReal) (wgu : (⟨3, ![2, 1024, 5632]⟩ : Shape).Idx → EReal)
    (wd : (⟨3, ![2, 2816, 1024]⟩ : Shape).Idx → EReal) (r : Fin 12288) (q : Fin 16) (n : Fin 1024) : EReal :=
  x (ix2 r n) + md (ix3 L q ⟨5120 + n.val, by omega⟩) * ∑ j : Fin 2816,
    gated (normMod (fun k => x (ix2 r k)) (fun k => g (ix2 L k)) (fun k => md (ix3 L q ⟨4096 + k.val, by omega⟩))
        (fun k => md (ix3 L q ⟨3072 + k.val, by omega⟩)))
      (fun k => wgu (ix3 l k ⟨j.val, by omega⟩)) (fun k => wgu (ix3 l k ⟨2816 + j.val, by omega⟩))
      * wd (ix3 l j n)

end Cert.Math

end
-- ==== Proof.ExpertPay.lean ====
/- What the expert kernel adds to its accumulator at one slice of the hidden columns, read at one element. -/
module

public import proofs.«01_k».proof.Proof.Swiglu
public import proofs.«01_k».proof.Proof.Gen.KernelIdeal.Skeleton
public import Idealize.ShloMosaic.Lib.Pointwise

@[expose] public section

noncomputable section

namespace Cert.KernelIdeal.Hand

open scoped BigOperators
open Cert.KernelIdeal Cert.KernelIdeal.Gen Idealize.ShloMosaic Cert.Math

/-- One slice's contribution at a row and a channel: the slice's 512 gated units through their rows of the down product. -/
def slicePart (h : Fin 1024 → EReal) (x1 x2 : Vec Ideal S1x1x1024x512 .f32) (x3 : Vec Ideal S1x1x512x1024 .f32) (n : Fin 1024) : EReal :=
  ∑ j : Fin 512, gated h (fun k => x1 (ix4 0 0 k j)) (fun k => x2 (ix4 0 0 k j)) * x3 (ix4 0 0 j n)

theorem pay27_apply (w : BitVec 32) (xs : Vec Ideal S256x1024 .bf16) (x1 x2 : Vec Ideal S1x1x1024x512 .f32) (x3 : Vec Ideal S1x1x512x1024 .f32) (a0 : Vec Ideal S256x1024 .f32)
    (r : Fin 256) (n : Fin 1024) :
    k0_pay27 w xs x1 x2 x3 a0 (ix2 r n) = Scalar.select (α := EReal) (Scalar.cmpi .eq w 0#32) 0 (a0 (ix2 r n)) + slicePart (fun k => xs (ix2 r k)) x1 x2 x3 n := by
  pointwise [k0_pay27]
  rfl

theorem pay36_apply (w : BitVec 32) (xs : Vec Ideal S512x1024 .bf16) (x1 x2 : Vec Ideal S1x1x1024x512 .f32) (x3 : Vec Ideal S1x1x512x1024 .f32) (a0 : Vec Ideal S512x1024 .f32)
    (r : Fin 512) (n : Fin 1024) :
    k0_pay36 w xs x1 x2 x3 a0 (ix2 r n) = Scalar.select (α := EReal) (Scalar.cmpi .eq w 0#32) 0 (a0 (ix2 r n)) + slicePart (fun k => xs (ix2 r k)) x1 x2 x3 n := by
  pointwise [k0_pay36]
  rfl

theorem pay45_apply (w : BitVec 32) (xs : Vec Ideal S768x1024 .bf16) (x1 x2 : Vec Ideal S1x1x1024x512 .f32) (x3 : Vec Ideal S1x1x512x1024 .f32) (a0 : Vec Ideal S768x1024 .f32)
    (r : Fin 768) (n : Fin 1024) :
    k0_pay45 w xs x1 x2 x3 a0 (ix2 r n) = Scalar.select (α := EReal) (Scalar.cmpi .eq w 0#32) 0 (a0 (ix2 r n)) + slicePart (fun k => xs (ix2 r k)) x1 x2 x3 n := by
  pointwise [k0_pay45]
  rfl

theorem pay54_apply (w : BitVec 32) (xs : Vec Ideal S1024x1024 .bf16) (x1 x2 : Vec Ideal S1x1x1024x512 .f32) (x3 : Vec Ideal S1x1x512x1024 .f32) (a0 : Vec Ideal S1024x1024 .f32)
    (r : Fin 1024) (n : Fin 1024) :
    k0_pay54 w xs x1 x2 x3 a0 (ix2 r n) = Scalar.select (α := EReal) (Scalar.cmpi .eq w 0#32) 0 (a0 (ix2 r n)) + slicePart (fun k => xs (ix2 r k)) x1 x2 x3 n := by
  pointwise [k0_pay54]
  rfl

end Cert.KernelIdeal.Hand
-- ==== Proof.ExpertMath.lean ====
/- The expert layer's mathematics at one token and one channel, and its sum by slices of the hidden columns. -/
module

public import proofs.«01_k».proof.Proof.Swiglu

@[expose] public section

noncomputable section

namespace Cert.Math

open scoped BigOperators
open Idealize.ShloMosaic

/-- Token `T`'s row of 1024 numbers, kept as eight rows of 128. -/
def tokRow (x : (⟨2, ![262144, 128]⟩ : Shape).Idx → EReal) (T : Fin 32768) (k : Fin 1024) : EReal :=
  x (ix2 ⟨8 * T.val + k.val / 128, by omega⟩ ⟨k.val % 128, by omega⟩)

/-- Hidden unit `j` of expert `e` of the `L`-th expert layer at token `T`, through its row of the down product to channel `n`. -/
def expertUnit (L : Fin 2) (x : (⟨2, ![262144, 128]⟩ : Shape).Idx → EReal) (g : (⟨4, ![2, 8, 1024, 7168]⟩ : Shape).Idx → EReal)
    (d : (⟨4, ![2, 8, 3584, 1024]⟩ : Shape).Idx → EReal) (e : Fin 8) (T : Fin 32768) (n : Fin 1024) (j : Fin 3584) : EReal :=
  gated (tokRow x T) (fun k => g (ix4 L e k ⟨j.val, by omega⟩)) (fun k => g (ix4 L e k ⟨3584 + j.val, by omega⟩)) * d (ix4 L e j n)

/-- The result of expert `e` of the `L`-th expert layer at token `T` and channel `n`. -/
def expertOut (L : Fin 2) (x : (⟨2, ![262144, 128]⟩ : Shape).Idx → EReal) (g : (⟨4, ![2, 8, 1024, 7168]⟩ : Shape).Idx → EReal)
    (d : (⟨4, ![2, 8, 3584, 1024]⟩ : Shape).Idx → EReal) (e : Fin 8) (T : Fin 32768) (n : Fin 1024) : EReal :=
  ∑ j, expertUnit L x g d e T n j

/-- Hidden column `j` of slice `f`. -/
def hid (f : ℕ) (j : Fin 512) : Fin 3584 := ⟨(512 * f + j.val) % 3584, Nat.mod_lt _ (by omega)⟩

theorem hid_eq {f : ℕ} (hf : f < 7) (j : Fin 512) (h : 512 * f + j.val < 3584) : hid f j = ⟨512 * f + j.val, h⟩ :=
  Fin.ext (Nat.mod_eq_of_lt h)

/-- A sum over the 3584 hidden columns is the sum over seven slices of 512. -/
theorem sum_slices (u : Fin 3584 → EReal) : ∑ f ∈ Finset.range 7, ∑ j : Fin 512, u (hid f j) = ∑ j, u j := by
  rw [Finset.sum_range, ← (finProdFinEquiv (m := 7) (n := 512)).sum_comp, Fintype.sum_prod_type]
  refine Finset.sum_congr rfl fun f _ => Finset.sum_congr rfl fun j _ => congrArg u (Fin.ext ?_)
  show (512 * f.val + j.val) % 3584 = j.val + 512 * f.val
  omega

end Cert.Math

end
-- ==== Proof.ExpertMask.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp
public import proofs.«01_k».proof.Proof.ExpertArray
public import proofs.«01_k».proof.On_token_rows
public import proofs.«01_k».proof.Proof.Gen.On_token_rows
public import Idealize.ShloMosaic.Lib.Pipeline.ArrRel
public import Idealize.ShloMosaic.Lib.Pipeline.ValueKit
public import Idealize.ShloMosaic.Lib.Writes
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Math
open Idealize.ShloMosaic.Pipeline (Dat RDat Cfg Window)

theorem mask_apply [Cert.On_token_rows.Facts] (te : IVec S32 32) (nv : IVec S1 32) (tr : IVec S32 32) (x : FVec Ideal S262144x128 .f32)
    (g : FVec Ideal S2x8x1024x7168 .f32) (d : FVec Ideal S2x8x3584x1024 .f32) (R : Fin 262144) (l : Fin 128) :
    Cert.On_token_rows.fn te nv tr x g d (ix2 R l)
      = Scalar.andi (Scalar.cmpi .slt (BitVec.ofNat 32 (R.val / 8192)) (nv (ix1 0))) (Scalar.cmpi .slt (BitVec.ofNat 32 (R.val / 8 % 1024)) (tr (ix1 ⟨R.val / 8192, by omega⟩))) := by
  pointwise [Cert.On_token_rows.fn]
  rfl

end Cert.KernelIdeal.Hand
-- ==== Proof.ExpertRef.lean ====
/- The routed experts' reference, read at one element: the row of the tile's expert. -/
module

public import proofs.«01_k».proof.Proof.ExpertMath
public import proofs.«01_k».proof.Proof.Gen.RefIdeal.Run
public import proofs.«01_k».proof.Proof.Gen.RefIdeal.Read
public import Idealize.ShloMosaic.Lib.WordCmp

@[expose] public section

set_option maxRecDepth 16384

noncomputable section

namespace Cert.RefIdeal.Hand

open scoped BigOperators
open Cert.RefIdeal Cert.RefIdeal.Read Idealize.ShloMosaic Idealize.ShloMosaic.TcCoe Idealize.SL.Sem Cert.Math

variable (x0 : (⟨S32, .i32⟩ : BufTy).Contents (Elt Ideal)) (x3 : (⟨S262144x128, .f32⟩ : BufTy).Contents (Elt Ideal))
  (x4 : (⟨S2x8x1024x7168, .f32⟩ : BufTy).Contents (Elt Ideal)) (x5 : (⟨S2x8x3584x1024, .f32⟩ : BufTy).Contents (Elt Ideal))

theorem expert_0 (T : Fin 32768) (n : Fin 1024) : val_main_v16 (F := Ideal) x3 x4 x5 (ix2 T n) = expertOut 0 x3 x4 x5 0 T n := by
  pointwise [val_main_v16, val_main_v15, val_main_v14, val_main_v12, val_main_v11, val_main_v0, val_main_v8, val_main_v7, val_main_call0_v5, val_main_call0_v4, val_main_call0_cst_0, val_main_call0_v3, val_main_call0_v2, val_main_call0_cst, val_main_call0_v1, val_main_call0_v0, val_main_v13, val_main_v10, val_main_v9]
  simp only [Nat.mul_comm T.val 8]
  rfl

theorem expert_1 (T : Fin 32768) (n : Fin 1024) : val_main_v29 (F := Ideal) x3 x4 x5 (ix2 T n) = expertOut 0 x3 x4 x5 1 T n := by
  pointwise [val_main_v29, val_main_v28, val_main_v27, val_main_v25, val_main_v24, val_main_v0, val_main_v21, val_main_v20, val_main_call2_v5, val_main_call2_v4, val_main_call2_cst_0, val_main_call2_v3, val_main_call2_v2, val_main_call2_cst, val_main_call2_v1, val_main_call2_v0, val_main_v26, val_main_v23, val_main_v22]
  simp only [Nat.mul_comm T.val 8]
  rfl

theorem expert_2 (T : Fin 32768) (n : Fin 1024) : val_main_v42 (F := Ideal) x3 x4 x5 (ix2 T n) = expertOut 0 x3 x4 x5 2 T n := by
  pointwise [val_main_v42, val_main_v41, val_main_v40, val_main_v38, val_main_v37, val_main_v0, val_main_v34, val_main_v33, val_main_call4_v5, val_main_call4_v4, val_main_call4_cst_0, val_main_call4_v3, val_main_call4_v2, val_main_call4_cst, val_main_call4_v1, val_main_call4_v0, val_main_v39, val_main_v36, val_main_v35]
  simp only [Nat.mul_comm T.val 8]
  rfl

theorem expert_3 (T : Fin 32768) (n : Fin 1024) : val_main_v55 (F := Ideal) x3 x4 x5 (ix2 T n) = expertOut 0 x3 x4 x5 3 T n := by
  pointwise [val_main_v55, val_main_v54, val_main_v53, val_main_v51, val_main_v50, val_main_v0, val_main_v47, val_main_v46, val_main_call6_v5, val_main_call6_v4, val_main_call6_cst_0, val_main_call6_v3, val_main_call6_v2, val_main_call6_cst, val_main_call6_v1, val_main_call6_v0, val_main_v52, val_main_v49, val_main_v48]
  simp only [Nat.mul_comm T.val 8]
  rfl

theorem expert_4 (T : Fin 32768) (n : Fin 1024) : val_main_v68 (F := Ideal) x3 x4 x5 (ix2 T n) = expertOut 0 x3 x4 x5 4 T n := by
  pointwise [val_main_v68, val_main_v67, val_main_v66, val_main_v64, val_main_v63, val_main_v0, val_main_v60, val_main_v59, val_main_call8_v5, val_main_call8_v4, val_main_call8_cst_0, val_main_call8_v3, val_main_call8_v2, val_main_call8_cst, val_main_call8_v1, val_main_call8_v0, val_main_v65, val_main_v62, val_main_v61]
  simp only [Nat.mul_comm T.val 8]
  rfl

theorem expert_5 (T : Fin 32768) (n : Fin 1024) : val_main_v81 (F := Ideal) x3 x4 x5 (ix2 T n) = expertOut 0 x3 x4 x5 5 T n := by
  pointwise [val_main_v81, val_main_v80, val_main_v79, val_main_v77, val_main_v76, val_main_v0, val_main_v73, val_main_v72, val_main_call10_v5, val_main_call10_v4, val_main_call10_cst_0, val_main_call10_v3, val_main_call10_v2, val_main_call10_cst, val_main_call10_v1, val_main_call10_v0, val_main_v78, val_main_v75, val_main_v74]
  simp only [Nat.mul_comm T.val 8]
  rfl

theorem expert_6 (T : Fin 32768) (n : Fin 1024) : val_main_v94 (F := Ideal) x3 x4 x5 (ix2 T n) = expertOut 0 x3 x4 x5 6 T n := by
  pointwise [val_main_v94, val_main_v93, val_main_v92, val_main_v90, val_main_v89, val_main_v0, val_main_v86, val_main_v85, val_main_call12_v5, val_main_call12_v4, val_main_call12_cst_0, val_main_call12_v3, val_main_call12_v2, val_main_call12_cst, val_main_call12_v1, val_main_call12_v0, val_main_v91, val_main_v88, val_main_v87]
  simp only [Nat.mul_comm T.val 8]
  rfl

theorem expert_7 (T : Fin 32768) (n : Fin 1024) : val_main_v107 (F := Ideal) x3 x4 x5 (ix2 T n) = expertOut 0 x3 x4 x5 7 T n := by
  pointwise [val_main_v107, val_main_v106, val_main_v105, val_main_v103, val_main_v102, val_main_v0, val_main_v99, val_main_v98, val_main_call14_v5, val_main_call14_v4, val_main_call14_cst_0, val_main_call14_v3, val_main_call14_v2, val_main_call14_cst, val_main_call14_v1, val_main_call14_v0, val_main_v104, val_main_v101, val_main_v100]
  simp only [Nat.mul_comm T.val 8]
  rfl

/-- A tile's expert, the number the reference compares with. -/
theorem tile_expert (T : Fin 32768) : val_main_v3 (F := Ideal) x0 (ix2 T 0) = x0 (ix1 ⟨T.val / 1024, by omega⟩) := by
  pointwise [val_main_v3, val_main_v2, val_main_v1]

theorem select_eq (w : BitVec 32) (e : Fin 8) (f : ℕ) (hf : f < 8) (hw : w.toNat = e.val) (x y : EReal) :
    Scalar.select (Scalar.cmpi .eq w (BitVec.ofNat 32 f)) x y = if e.val = f then x else y := by
  have h : (Scalar.cmpi .eq w (BitVec.ofNat 32 f) = 1) ↔ e.val = f := by
    have hb : w = BitVec.ofNat 32 f ↔ e.val = f := by
      rw [← BitVec.toNat_inj, BitVec.toNat_ofNat, hw]
      have := e.isLt
      omega
    unfold Scalar.cmpi IntOp.cmpi
    by_cases c : w = BitVec.ofNat 32 f
    · simp [c, hb.mp c]
    · have := mt hb.mpr c
      simp only [beq_eq_false_iff_ne.mpr c, this, iff_false]
      decide
  unfold Scalar.select
  exact if_congr h rfl rfl

theorem pick_0 (T : Fin 32768) (n : Fin 1024) (e : Fin 8) (he : (x0 (ix1 ⟨T.val / 1024, by omega⟩) : BitVec 32).toNat = e.val) :
    val_main_v17 (F := Ideal) x0 x3 x4 x5 (ix2 T n) = if e.val = 0 then expertOut 0 x3 x4 x5 0 T n else val_main_v4 (F := Ideal) (ix2 T n) := by
  pointwise [val_main_v17, val_main_call1_v0, val_main_v6, val_main_v5, val_main_c]
  rw [tile_expert, expert_0]
  exact select_eq _ e 0 (by omega) he _ _

theorem pick_1 (T : Fin 32768) (n : Fin 1024) (e : Fin 8) (he : (x0 (ix1 ⟨T.val / 1024, by omega⟩) : BitVec 32).toNat = e.val) :
    val_main_v30 (F := Ideal) x0 x3 x4 x5 (ix2 T n) = if e.val = 1 then expertOut 0 x3 x4 x5 1 T n else val_main_v17 (F := Ideal) x0 x3 x4 x5 (ix2 T n) := by
  pointwise [val_main_v30, val_main_call3_v0, val_main_v19, val_main_v18, val_main_c_0]
  rw [tile_expert, expert_1]
  exact select_eq _ e 1 (by omega) he _ _

theorem pick_2 (T : Fin 32768) (n : Fin 1024) (e : Fin 8) (he : (x0 (ix1 ⟨T.val / 1024, by omega⟩) : BitVec 32).toNat = e.val) :
    val_main_v43 (F := Ideal) x0 x3 x4 x5 (ix2 T n) = if e.val = 2 then expertOut 0 x3 x4 x5 2 T n else val_main_v30 (F := Ideal) x0 x3 x4 x5 (ix2 T n) := by
  pointwise [val_main_v43, val_main_call5_v0, val_main_v32, val_main_v31, val_main_c_1]
  rw [tile_expert, expert_2]
  exact select_eq _ e 2 (by omega) he _ _

theorem pick_3 (T : Fin 32768) (n : Fin 1024) (e : Fin 8) (he : (x0 (ix1 ⟨T.val / 1024, by omega⟩) : BitVec 32).toNat = e.val) :
    val_main_v56 (F := Ideal) x0 x3 x4 x5 (ix2 T n) = if e.val = 3 then expertOut 0 x3 x4 x5 3 T n else val_main_v43 (F := Ideal) x0 x3 x4 x5 (ix2 T n) := by
  pointwise [val_main_v56, val_main_call7_v0, val_main_v45, val_main_v44, val_main_c_2]
  rw [tile_expert, expert_3]
  exact select_eq _ e 3 (by omega) he _ _

theorem pick_4 (T : Fin 32768) (n : Fin 1024) (e : Fin 8) (he : (x0 (ix1 ⟨T.val / 1024, by omega⟩) : BitVec 32).toNat = e.val) :
    val_main_v69 (F := Ideal) x0 x3 x4 x5 (ix2 T n) = if e.val = 4 then expertOut 0 x3 x4 x5 4 T n else val_main_v56 (F := Ideal) x0 x3 x4 x5 (ix2 T n) := by
  pointwise [val_main_v69, val_main_call9_v0, val_main_v58, val_main_v57, val_main_c_3]
  rw [tile_expert, expert_4]
  exact select_eq _ e 4 (by omega) he _ _

theorem pick_5 (T : Fin 32768) (n : Fin 1024) (e : Fin 8) (he : (x0 (ix1 ⟨T.val / 1024, by omega⟩) : BitVec 32).toNat = e.val) :
    val_main_v82 (F := Ideal) x0 x3 x4 x5 (ix2 T n) = if e.val = 5 then expertOut 0 x3 x4 x5 5 T n else val_main_v69 (F := Ideal) x0 x3 x4 x5 (ix2 T n) := by
  pointwise [val_main_v82, val_main_call11_v0, val_main_v71, val_main_v70, val_main_c_4]
  rw [tile_expert, expert_5]
  exact select_eq _ e 5 (by omega) he _ _

theorem pick_6 (T : Fin 32768) (n : Fin 1024) (e : Fin 8) (he : (x0 (ix1 ⟨T.val / 1024, by omega⟩) : BitVec 32).toNat = e.val) :
    val_main_v95 (F := Ideal) x0 x3 x4 x5 (ix2 T n) = if e.val = 6 then expertOut 0 x3 x4 x5 6 T n else val_main_v82 (F := Ideal) x0 x3 x4 x5 (ix2 T n) := by
  pointwise [val_main_v95, val_main_call13_v0, val_main_v84, val_main_v83, val_main_c_5]
  rw [tile_expert, expert_6]
  exact select_eq _ e 6 (by omega) he _ _

theorem pick_7 (T : Fin 32768) (n : Fin 1024) (e : Fin 8) (he : (x0 (ix1 ⟨T.val / 1024, by omega⟩) : BitVec 32).toNat = e.val) :
    val_main_v108 (F := Ideal) x0 x3 x4 x5 (ix2 T n) = if e.val = 7 then expertOut 0 x3 x4 x5 7 T n else val_main_v95 (F := Ideal) x0 x3 x4 x5 (ix2 T n) := by
  pointwise [val_main_v108, val_main_call15_v0, val_main_v97, val_main_v96, val_main_c_6]
  rw [tile_expert, expert_7]
  exact select_eq _ e 7 (by omega) he _ _

theorem picked (T : Fin 32768) (n : Fin 1024) (e : Fin 8) (he : (x0 (ix1 ⟨T.val / 1024, by omega⟩) : BitVec 32).toNat = e.val) :
    val_main_v108 (F := Ideal) x0 x3 x4 x5 (ix2 T n) = expertOut 0 x3 x4 x5 e T n := by
  rw [pick_7 x0 x3 x4 x5 T n e he, pick_6 x0 x3 x4 x5 T n e he, pick_5 x0 x3 x4 x5 T n e he, pick_4 x0 x3 x4 x5 T n e he,
    pick_3 x0 x3 x4 x5 T n e he, pick_2 x0 x3 x4 x5 T n e he, pick_1 x0 x3 x4 x5 T n e he, pick_0 x0 x3 x4 x5 T n e he]
  fin_cases e <;> rfl

theorem out_apply (T : Fin 32768) (y : Fin 8) (l : Fin 128) (e : Fin 8) (he : (x0 (ix1 ⟨T.val / 1024, by omega⟩) : BitVec 32).toNat = e.val)
    (h : 8 * T.val + y.val < 262144) (h' : 128 * y.val + l.val < 1024) :
    val_main_v109 (F := Ideal) x0 x3 x4 x5 (ix2 ⟨8 * T.val + y.val, h⟩ l) = expertOut 0 x3 x4 x5 e T ⟨128 * y.val + l.val, h'⟩ := by
  rw [← picked x0 x3 x4 x5 T ⟨128 * y.val + l.val, h'⟩ e he]
  refine (val_main_v109_apply (F := Ideal) x0 x3 x4 x5 _).trans (congrArg _ (funext fun b => Fin.ext ?_))
  match b with
  | ⟨0, _⟩ => show ((8 * T.val + y.val) * 128 + l.val) / 1024 = T.val; omega
  | ⟨1, _⟩ => show ((8 * T.val + y.val) * 128 + l.val) % 1024 = 128 * y.val + l.val; omega

end Cert.RefIdeal.Hand

end
-- ==== Proof.ExpertAlgebraic.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp
public import proofs.«01_k».proof.Proof.ExpertMask
public import proofs.«01_k».proof.Proof.ExpertRef
public import proofs.«01_k».proof.Defs
public import proofs.«01_k».proof.Proof.Gen.Pre_plan
public import proofs.«01_k».proof.On_token_rows
public import proofs.«01_k».proof.Proof.Gen.On_token_rows
public import Idealize.ShloMosaic.Lib.Pipeline.ArrRel
public import Idealize.ShloMosaic.Lib.Pipeline.ValueKit
public import Idealize.ShloMosaic.Lib.Writes
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Math
open Idealize.ShloMosaic.Pipeline (Dat RDat Cfg Window)

/-- At the word 1, a conjunction's two parts are 1. -/
theorem andi_parts : ∀ x y : BitVec 1, Scalar.andi x y = 1#1 → x = 1#1 ∧ y = 1#1 := by decide

/-- In a row that holds a token the kernel's result is the reference's. -/
theorem result_token (m : (ℓ : Loc nD τ sig) → Buf (Elt Ideal) ℓ) (a : (pcfg0 (F := Ideal)).Adm) (ha : a.1 = tabs m) (hp : PlanFacts (a.1 0) (a.1 1) (a.1 2))
    (r : PUnit × MemSt nD τ sig (Elt Ideal))
    (h : Pipeline.RDat.FramePost (cfg0 a) (rdat m a (invV m a) (outV m a)) (fun c b => m ((c.tc : Thread nD τ).loc b)) r)
    (R : Fin 262144) (l : Fin 128)
    (hm : Cert.On_token_rows.fn (F := Ideal) (m (((0 : Dev nD).tc : Thread nD τ).loc main_arg0)) (m (((0 : Dev nD).tc : Thread nD τ).loc main_arg1)) (m (((0 : Dev nD).tc : Thread nD τ).loc main_arg2))
      (m (((0 : Dev nD).tc : Thread nD τ).loc main_arg3)) (m (((0 : Dev nD).tc : Thread nD τ).loc main_arg4)) (m (((0 : Dev nD).tc : Thread nD τ).loc main_arg5)) (ix2 R l) = 1#1) :
    (r.2.mem (((0 : Dev nD).tc : Thread nD τ).loc main_v0) : Vec Ideal S262144x128 .f32) (ix2 R l)
      = Cert.RefIdeal.Read.val_main_v109 (F := Ideal) (m (((0 : Dev nD).tc : Thread nD τ).loc main_arg0)) (m (((0 : Dev nD).tc : Thread nD τ).loc main_arg3))
        (m (((0 : Dev nD).tc : Thread nD τ).loc main_arg4)) (m (((0 : Dev nD).tc : Thread nD τ).loc main_arg5)) (ix2 R l) := by
  have hR := R.isLt
  have hll := l.isLt
  rw [mask_apply] at hm
  obtain ⟨hm1, hm2⟩ := andi_parts _ _ hm
  let i : Fin 32 := ⟨R.val / 8192, by omega⟩
  let p : Fin 1024 := ⟨R.val / 8 % 1024, by omega⟩
  let y : Fin 8 := ⟨R.val % 8, by omega⟩
  have hl : LiveTile a i := by
    unfold LiveTile nvw
    rw [ha]; exact hm1
  have hpr : (p.val : ℤ) < trI a i := by
    have e := IntOp.cmpi_slt.1 hm2
    rw [small_toInt _ p.isLt] at e
    unfold trI
    rw [ha]; exact e
  have h2 : 128 * y.val + l.val < 1024 := by show 128 * (R.val % 8) + l.val < 1024; omega
  have h1 : 8192 * i.val + (8 * p.val + y.val) < 262144 := by show 8192 * (R.val / 8192) + (8 * (R.val / 8 % 1024) + R.val % 8) < 262144; omega
  have k := result_rows m a r h i hl p hpr y l h1 h2
  have eR : (⟨8192 * i.val + (8 * p.val + y.val), h1⟩ : Fin 262144) = R := Fin.ext (by show 8192 * (R.val / 8192) + (8 * (R.val / 8 % 1024) + R.val % 8) = R.val; omega)
  rw [eR] at k
  refine k.trans ?_
  have eT : 8 * (tok i p).val + y.val = R.val := by show 8 * (1024 * (R.val / 8192) + R.val / 8 % 1024) + R.val % 8 = R.val; omega
  have hte : ((a.1 0 : IVec S32 32) (ix1 i)).toNat < 8 := te_word hp _
  have ei : (⟨(tok i p).val / 1024, by have := (tok i p).isLt; omega⟩ : Fin 32) = i := Fin.ext (by show (1024 * (R.val / 8192) + R.val / 8 % 1024) / 1024 = R.val / 8192; omega)
  have o := Cert.RefIdeal.Hand.out_apply (m (((0 : Dev nD).tc : Thread nD τ).loc main_arg0)) (argX m 0) (argG m 0) (argD m 0) (tok i p) y l (teF a i)
    (by
      rw [ei]
      show ((m (((0 : Dev nD).tc : Thread nD τ).loc main_arg0) : IVec S32 32) (ix1 i)).toNat = ((a.1 0 : IVec S32 32) (ix1 i)).toNat % 8
      rw [Nat.mod_eq_of_lt hte, ha]
      rfl) (by omega) h2
  have eR' : (⟨8 * (tok i p).val + y.val, by omega⟩ : Fin 262144) = R := Fin.ext eT
  rw [eR'] at o
  exact o.symm

end Cert.KernelIdeal.Hand

namespace Cert.Proof

open Idealize.ShloMosaic Idealize.SL.Sem Cert.KernelIdeal.Hand

theorem reference_congr {x0 y0 : (⟨Cert.RefIdeal.S32, .i32⟩ : BufTy).Contents (Elt Ideal)} {x3 y3 : (⟨Cert.RefIdeal.S262144x128, .f32⟩ : BufTy).Contents (Elt Ideal)}
    {x4 y4 : (⟨Cert.RefIdeal.S2x8x1024x7168, .f32⟩ : BufTy).Contents (Elt Ideal)} {x5 y5 : (⟨Cert.RefIdeal.S2x8x3584x1024, .f32⟩ : BufTy).Contents (Elt Ideal)}
    (h0 : x0 = y0) (h3 : x3 = y3) (h4 : x4 = y4) (h5 : x5 = y5) :
    Cert.RefIdeal.Read.val_main_v109 (F := Ideal) x0 x3 x4 x5 = Cert.RefIdeal.Read.val_main_v109 (F := Ideal) y0 y3 y4 y5 := by
  rw [h0, h3, h4, h5]

/-- The routed experts: on every row that holds a token, the kernel and the reference agree. -/
theorem expert_algebraic : Cert.algebraic_KernelIdeal_RefIdeal_on_token_rows := fun m ρ m' ρ' hP hm => by
  have hp : PlanFacts (tabs m 0) (tabs m 1) (tabs m 2) := plan_facts _ _ _ _ _ _ (hP 0)
  have hok := ok_of_plan (tabs m) hp
  refine ⟨fun c => Cert.RefIdeal.Read.val_main_v109 (F := Ideal) (m ((c.tc : Thread _ _).loc Cert.KernelIdeal.main_arg0)) (m ((c.tc : Thread _ _).loc Cert.KernelIdeal.main_arg3))
    (m ((c.tc : Thread _ _).loc Cert.KernelIdeal.main_arg4)) (m ((c.tc : Thread _ _).loc Cert.KernelIdeal.main_arg5)), ?_, ?_⟩
  · refine (θ_run Cert.KernelIdeal.defs _ _).mono (fun r h c => ?_)
      (launch m ρ (adm m hok) (invV m (adm m hok)) (outV m (adm m hok)) (keepsV m (adm m hok) hp) (fun _ _ i hi h0 => absurd rfl h0) rfl)
    refine ⟨fun i hi => ?_, args_kept m (adm m hok) _ _ r h.1 c⟩
    obtain rfl : c = 0 := Subsingleton.elim c 0
    obtain ⟨R, l, rfl⟩ : ∃ (R : Fin 262144) (l : Fin 128), i = ix2 R l := ⟨i 0, i 1, eq_ix2 i⟩
    exact result_token m (adm m hok) rfl hp r h.1 R l hi
  · refine (θ_run Cert.RefIdeal.defs _ _).mono (fun _ h c => ⟨fun i _ => ?_, (h c).2⟩) (Cert.RefIdeal.Value.run (F := Ideal) m' ρ')
    refine congrFun ((h c).1.trans ?_) i
    rw [Cert.RefIdeal.Read.val_main_v109_eq]
    exact reference_congr (hm c).1 (hm c).2.2.2.1 (hm c).2.2.2.2.1 (hm c).2.2.2.2.2

end Cert.Proof
-- ==== Proof.FfnPay.lean ====
/- What the dense block writes at one grid point, read at one element of its output block. -/
module

public import proofs.«01_k».proof.Proof.Swiglu
public import proofs.«01_k».proof.Proof.Gen.FfnIdeal.Frame
public import Idealize.ShloMosaic.Lib.Pointwise

@[expose] public section

noncomputable section

namespace Cert.FfnIdeal.Hand

open scoped BigOperators
open Cert.FfnIdeal Cert.FfnIdeal.Gen Idealize.ShloMosaic Cert.Math

theorem pay3_apply (v0 v2 : Vec Ideal S1x1x1x1024 .f32) (v6 : Vec Ideal S512x1024 .f32) (v7 : Vec Ideal S1x1024 .f32)
    (r : Fin 512) (k : Fin 1024) :
    k0_pay3 v0 v2 v6 v7 (ix2 r k) = normMod (fun k => v6 (ix2 r k)) (fun k => v7 (ix2 0 k))
      (fun k => v2 (ix4 0 0 0 k)) (fun k => v0 (ix4 0 0 0 k)) k := by
  pointwise [k0_pay3]
  rfl

theorem pay4_apply (v0 v2 : Vec Ideal S1x1x1x1024 .f32) (v6 : Vec Ideal S512x1024 .f32) (v7 : Vec Ideal S1x1024 .f32)
   (v28 : Vec Ideal S1024x1536 .bf16) (r : Fin 512) (j : Fin 1536) :
    k0_pay4 v0 v2 v6 v7 v28 (ix2 r j) = ∑ k, k0_pay3 v0 v2 v6 v7 (ix2 r k) * v28 (ix2 k j) := by
  pointwise [k0_pay4]

theorem pay1_apply (v5 : FVec Ideal S1x1024 .f32) (v6 : Vec Ideal S512x1024 .f32) (v27 : FVec Ideal S512x1024 .bf16)
    (v30 : FVec Ideal S512x1536 .f32) (v32 : FVec Ideal S1024x1536 .bf16) (v38 : Vec Ideal S1536x1024 .bf16)
    (v41 : Vec Ideal S1024x1280 .bf16) (v44 : Vec Ideal S1024x1280 .bf16) (v51 : Vec Ideal S1280x1024 .bf16) (r : Fin 512) (n : Fin 1024) :
    k0_pay1 v5 v6 v27 v30 v32 (constant S512x1536 .f32 0x00000000#32) v38 v41 v44 v51 (ix2 r n)
      = v6 (ix2 r n) + v5 (ix2 0 n) * (∑ j, silu (v30 (ix2 r j)) * (∑ k, v27 (ix2 r k) * v32 (ix2 k j)) * v38 (ix2 j n)
        + ∑ j, gated (fun k => v27 (ix2 r k)) (fun k => v41 (ix2 k j)) (fun k => v44 (ix2 k j)) * v51 (ix2 j n)) := by
  pointwise [k0_pay1]
  rfl

end Cert.FfnIdeal.Hand

end
-- ==== Proof.FfnValue.lean ====
/- The dense block's result array after its run: each grid point writes 512 rows, and together they are the whole array. -/
module

public import proofs.«01_k».proof.Proof.FfnPay
public import proofs.«01_k».proof.Proof.Gen.FfnIdeal.Value

@[expose] public section

set_option maxRecDepth 16384

noncomputable section

namespace Cert.FfnIdeal.Hand

open scoped BigOperators
open Cert.FfnIdeal Cert.FfnIdeal.Gen Idealize.ShloMosaic Idealize.ShloMosaic.TcCoe Idealize.SL.Sem Cert.Math
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the host part prepares -/

theorem V_mod (c : Dev nD) (a : Fin 4) (q : Fin 16) (k : Fin 6144) :
    V m c main_v0 (ix4 a q 0 k) = m ((c : Thread nD τ).loc main_arg1) (ix3 a q k) := by
  show StableHlo.after hostOps0 _ (main_v0 : DevRef τ sig) _ = _
  after_results
  pointwise []

theorem V_g (c : Dev nD) (k : Fin 1024) :
    V m c main_v9 (ix2 0 k) = m ((c : Thread nD τ).loc main_arg2) (ix2 0 k) := by
  show StableHlo.after hostOps0 _ (main_v9 : DevRef τ sig) _ = _
  after_results
  pointwise []

theorem V_wgu (c : Dev nD) (k : Fin 1024) (j : Fin 5632) :
    V m c main_v5 (ix2 k j) = m ((c : Thread nD τ).loc main_arg3) (ix3 0 k j) := by
  show StableHlo.after hostOps0 _ (main_v5 : DevRef τ sig) _ = _
  after_results
  pointwise []

theorem V_wd (c : Dev nD) (j : Fin 2816) (n : Fin 1024) :
    V m c main_v8 (ix2 j n) = m ((c : Thread nD τ).loc main_arg4) (ix3 0 j n) := by
  show StableHlo.after hostOps0 _ (main_v8 : DevRef τ sig) _ = _
  after_results
  pointwise []

/-! ## The blocks of the windows -/

theorem idx0 : ∀ t : Fin grid0.N, win0_0.index t 0 = t.val ∧ win0_0.index t 1 = 0 := by decide +kernel
theorem idx1 : ∀ t : Fin grid0.N, win0_1.index t 0 = 0 ∧ win0_1.index t 1 = modRow (512 * t.val) ∧ win0_1.index t 2 = 0
    ∧ win0_1.index t 3 = 0 := by unfold modRow; decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = t.val ∧ win0_5.index t 1 = 0 := by decide +kernel

/-- Token row `r` of point `t`'s block. -/
def tok (t : Fin cfg0.N) (r : Fin 512) : Fin 12288 :=
  ⟨512 * t.val + r.val, by have : t.val < 24 := t.isLt; omega⟩

theorem modRow_tok (t : Fin cfg0.N) (r : Fin 512) : modRow (tok t r).val = modRow (512 * t.val) := by
  unfold modRow tok; dsimp only; split <;> split <;> omega

theorem iblk0 (c : Dev nD) (t : Fin cfg0.N) (r : Fin 512) (k : Fin 1024) :
    iblk m c 0 t (ix2 r k) = m ((c : Thread nD τ).loc main_arg0) (ix2 (tok t r) k) := by
  unfold iblk
  rw [View.read_apply]
  refine Eq.trans ?_ (congrFun (V_main_arg0 m c) _)
  show V m c main_arg0 _ = _
  congr 1; funext a; apply Fin.ext
  match a with
  | ⟨0, _⟩ => show win0_0.index t 0 * 512 + 1 * r.val = 512 * t.val + r.val; rw [(idx0 t).1]; omega
  | ⟨1, _⟩ => show win0_0.index t 1 * 1024 + 1 * k.val = k.val; rw [(idx0 t).2]; omega

theorem iblk1 (c : Dev nD) (t : Fin cfg0.N) (r : Fin 512) (k : Fin 6144) :
    iblk m c 1 t (ix4 0 0 0 k)
      = m ((c : Thread nD τ).loc main_arg1) (ix3 0 ⟨modRow (tok t r).val, modRow_lt (tok t r).isLt⟩ k) := by
  unfold iblk
  rw [View.read_apply]
  refine Eq.trans ?_ (V_mod m c _ _ _)
  show V m c main_v0 _ = _
  congr 1; funext a; apply Fin.ext
  match a with
  | ⟨0, _⟩ => show win0_1.index t 0 * 1 + 1 * 0 = 0; rw [(idx1 t).1]
  | ⟨1, _⟩ => show win0_1.index t 1 * 1 + 1 * 0 = modRow (tok t r).val; rw [(idx1 t).2.1, modRow_tok]; omega
  | ⟨2, _⟩ => show win0_1.index t 2 * 1 + 1 * 0 = 0; rw [(idx1 t).2.2.1]
  | ⟨3, _⟩ => show win0_1.index t 3 * 6144 + 1 * k.val = k.val; rw [(idx1 t).2.2.2]; omega

theorem iblk2 (c : Dev nD) (t : Fin cfg0.N) (k : Fin 1024) :
    iblk m c 2 t (ix2 0 k) = m ((c : Thread nD τ).loc main_arg2) (ix2 0 k) := by
  unfold iblk
  rw [View.read_apply]
  refine Eq.trans ?_ (V_g m c k)
  show V m c main_v9 _ = _
  congr 1; funext a; apply Fin.ext
  match a with
  | ⟨0, _⟩ => show win0_2.index t 0 * 1 + 1 * 0 = 0; rw [(idx2 t).1]
  | ⟨1, _⟩ => show win0_2.index t 1 * 1024 + 1 * k.val = k.val; rw [(idx2 t).2]; omega

theorem iblk3 (c : Dev nD) (t : Fin cfg0.N) (k : Fin 1024) (j : Fin 5632) :
    iblk m c 3 t (ix2 k j) = m ((c : Thread nD τ).loc main_arg3) (ix3 0 k j) := by
  unfold iblk
  rw [View.read_apply]
  refine Eq.trans ?_ (V_wgu m c k j)
  show V m c main_v5 _ = _
  congr 1; funext a; apply Fin.ext
  match a with
  | ⟨0, _⟩ => show win0_3.index t 0 * 1024 + 1 * k.val = k.val; rw [(idx3 t).1]; omega
  | ⟨1, _⟩ => show win0_3.index t 1 * 5632 + 1 * j.val = j.val; rw [(idx3 t).2]; omega

theorem iblk4 (c : Dev nD) (t : Fin cfg0.N) (j : Fin 2816) (n : Fin 1024) :
    iblk m c 4 t (ix2 j n) = m ((c : Thread nD τ).loc main_arg4) (ix3 0 j n) := by
  unfold iblk
  rw [View.read_apply]
  refine Eq.trans ?_ (V_wd m c j n)
  show V m c main_v8 _ = _
  congr 1; funext a; apply Fin.ext
  match a with
  | ⟨0, _⟩ => show win0_4.index t 0 * 2816 + 1 * j.val = j.val; rw [(idx4 t).1]; omega
  | ⟨1, _⟩ => show win0_4.index t 1 * 1024 + 1 * n.val = n.val; rw [(idx4 t).2]; omega

/-! ## What a point writes back -/

/-- The result array as a function of the arguments. -/
def result (c : Dev nD) : Buf (Elt Ideal) ((c : Thread nD τ).loc main_v10) := fun i =>
  ffnOut 0 0 (m ((c : Thread nD τ).loc main_arg0)) (m ((c : Thread nD τ).loc main_arg1)) (m ((c : Thread nD τ).loc main_arg2))
    (m ((c : Thread nD τ).loc main_arg3)) (m ((c : Thread nD τ).loc main_arg4)) (i 0)
    ⟨modRow (i 0).val, modRow_lt (i 0).isLt⟩ (i 1)

theorem out_apply (x0 : Vec Ideal S512x1024 .f32) (x1 : Vec Ideal S1x1x1x6144 .f32) (x2 : Vec Ideal S1x1024 .f32)
    (x3 : Vec Ideal S1024x5632 .bf16) (x4 : Vec Ideal S2816x1024 .bf16) (r : Fin 512) (n : Fin 1024) :
    out0_5 x0 x1 x2 x3 x4 (ix2 r n) = x0 (ix2 r n) + x1 (ix4 0 0 0 ⟨5120 + n.val, by omega⟩) * ∑ j : Fin 2816,
      gated (normMod (fun k => x0 (ix2 r k)) (fun k => x2 (ix2 0 k)) (fun k => x1 (ix4 0 0 0 ⟨4096 + k.val, by omega⟩))
          (fun k => x1 (ix4 0 0 0 ⟨3072 + k.val, by omega⟩)))
        (fun k => x3 (ix2 k ⟨j.val, by omega⟩)) (fun k => x3 (ix2 k ⟨2816 + j.val, by omega⟩)) * x4 (ix2 j n) := by
  unfold out0_5
  rw [View.canon_unit_zero hz, View.ld_unit_zero (S := S512x1024) hz, View.ld_unit_zero (S := S1x1024) hz, pay1_apply, sum_2816]
  have h2 : k0_pay2 (View.ld x1 r0_2) (ix2 0 n) = View.ld x1 r0_2 (ix4 0 0 0 n) := by pointwise [k0_pay2]
  have h5 : ∀ k j, k0_pay5 (View.ld x3 r0_6) (ix2 k j) = View.ld x3 r0_6 (ix2 k j) := fun k j => by pointwise [k0_pay5]
  simp only [pay4_apply, pay3_apply, h2, h5]
  pointwise []
  have h3 : ∀ x : Fin 1280, 2816 + (1536 + x.val) = 4352 + x.val := fun x => by omega
  simp only [h3]
  rfl

theorem flushed_eq (c : Dev nD) (t : Fin cfg0.N) :
    (dats m 0 c).flushed 5 t = ((cfg0.win 5).blk t).view.read (Elt Ideal) (result m c) := by
  rw [Value.flushed5]
  show out0_5 _ _ _ _ _ = _
  funext j
  obtain ⟨r, n, rfl⟩ : ∃ (r : Fin 512) (n : Fin 1024), j = ix2 r n := ⟨j 0, j 1, eq_ix2 j⟩
  have e : ((cfg0.win 5).blk t).view.read (Elt Ideal) (result m c) (ix2 r n) = result m c (ix2 (tok t r) n) := by
    rw [View.read_apply]
    show result m c _ = _
    congr 1; funext a; apply Fin.ext
    match a with
    | ⟨0, _⟩ => show win0_5.index t 0 * 512 + 1 * r.val = 512 * t.val + r.val; rw [(idx5 t).1]; omega
    | ⟨1, _⟩ => show win0_5.index t 1 * 1024 + 1 * n.val = n.val; rw [(idx5 t).2]; omega
  refine Eq.trans ?_ e.symm
  rw [out_apply]
  simp only [iblk0, iblk1 m c t r, iblk2, iblk3, iblk4]
  rfl

theorem cover (i : S12288x1024.Idx) : ∃ t : Fin cfg0.N, (cfg0.win 5).flush t = true ∧ i ∈ ((cfg0.win 5).blk t).view.set := by
  have h0 : (i 0 : ℕ) < 12288 := (i 0).isLt
  have h1 : (i 1 : ℕ) < 1024 := (i 1).isLt
  obtain ⟨t, ht⟩ : ∃ t : Fin grid0.N, t.val = (i 0 : ℕ) / 512 := ⟨⟨(i 0 : ℕ) / 512, by show _ < 24; omega⟩, rfl⟩
  refine ⟨t, flush0_5 t, ?_⟩
  show i ∈ ((View.whole main_v10).slice (win0_5.rect t)).set
  rw [View.set_slice_whole, Rect.mem_set_unit]
  intro a
  match a with
  | ⟨0, _⟩ =>
    show win0_5.index t 0 * 512 ≤ (i 0 : ℕ) ∧ (i 0 : ℕ) < win0_5.index t 0 * 512 + 512
    rw [(idx5 t).1, ht]; omega
  | ⟨1, _⟩ =>
    show win0_5.index t 1 * 1024 ≤ (i 1 : ℕ) ∧ (i 1 : ℕ) < win0_5.index t 1 * 1024 + 1024
    rw [(idx5 t).2]; omega

theorem final (c : Dev nD) : (dats m 0 c).arrAt 5 cfg0.N = result m c :=
  (dats m 0 c).arrAt_eq_of_cover 5 (result m c) (fun t _ => flushed_eq m c t) cover

end Cert.FfnIdeal.Hand

end
-- ==== Proof.FfnRef.lean ====
/- The dense block's reference, read at one element: both groups of sequences compute the same gated residual. -/
module

public import proofs.«01_k».proof.Proof.Swiglu
public import proofs.«01_k».proof.Proof.Gen.FfnRefIdeal.Run
public import proofs.«01_k».proof.Proof.Gen.FfnRefIdeal.Read

@[expose] public section

set_option maxRecDepth 16384

noncomputable section

namespace Cert.FfnRefIdeal.Hand

open scoped BigOperators
open Cert.FfnRefIdeal Cert.FfnRefIdeal.Read Idealize.ShloMosaic Idealize.ShloMosaic.TcCoe Idealize.SL.Sem Cert.Math

variable (x0 : (⟨S12288x1024, .f32⟩ : BufTy).Contents (Elt Ideal)) (x1 : (⟨S4x16x6144, .f32⟩ : BufTy).Contents (Elt Ideal))
  (x2 : (⟨S4x1024, .f32⟩ : BufTy).Contents (Elt Ideal)) (x3 : (⟨S2x1024x5632, .f32⟩ : BufTy).Contents (Elt Ideal))
  (x4 : (⟨S2x2816x1024, .f32⟩ : BufTy).Contents (Elt Ideal))

theorem prompt_row (s : Fin 16) (t : Fin 256) (k : Fin 1024) :
    val_main_v37 (F := Ideal) x0 x1 x2 (ix3 s t k)
      = normMod (fun k => x0 (ix2 ⟨s.val * 256 + t.val, by omega⟩ k)) (fun k => x2 (ix2 0 k))
        (fun k => x1 (ix3 0 0 ⟨4096 + k.val, by omega⟩)) (fun k => x1 (ix3 0 0 ⟨3072 + k.val, by omega⟩)) k := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst, val_main_cst_0, val_main_cst_1, val_main_cst_2]
  rfl

theorem sample_row (s : Fin 8) (t : Fin 1024) (k : Fin 1024) :
    val_main_v80 (F := Ideal) x0 x1 x2 (ix3 s t k)
      = normMod (fun k => x0 (ix2 ⟨4096 + (s.val * 1024 + t.val), by omega⟩ k)) (fun k => x2 (ix2 0 k))
        (fun k => x1 (ix3 0 ⟨8 + s.val, by omega⟩ ⟨4096 + k.val, by omega⟩))
        (fun k => x1 (ix3 0 ⟨8 + s.val, by omega⟩ ⟨3072 + k.val, by omega⟩)) k := by
  pointwise [val_main_v2, val_main_v3, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_cst_3, val_main_cst_4, val_main_cst_5, val_main_cst_6]
  rfl

theorem prompt_out (s : Fin 16) (t : Fin 256) (n : Fin 1024) :
    val_main_v46 (F := Ideal) x0 x1 x2 x3 x4 (ix3 s t n) = ffnOut 0 0 x0 x1 x2 x3 x4 ⟨s.val * 256 + t.val, by omega⟩ 0 n := by
  pointwise [val_main_v0, val_main_v1, val_main_v4, val_main_v5, val_main_v6, val_main_v9, val_main_v10, val_main_v11, val_main_v12, val_main_v18, val_main_v38, val_main_v39, val_main_v40, val_main_call0_v0, val_main_call0_v1, val_main_call0_cst, val_main_call0_v2, val_main_call0_v3, val_main_call0_cst_0, val_main_call0_v4, val_main_call0_v5, val_main_v41, val_main_v42, val_main_v43, val_main_v44, val_main_v45, val_main_v46]
  simp only [prompt_row]
  rfl

theorem sample_out (s : Fin 8) (t : Fin 1024) (n : Fin 1024) :
    val_main_v89 (F := Ideal) x0 x1 x2 x3 x4 (ix3 s t n)
      = ffnOut 0 0 x0 x1 x2 x3 x4 ⟨4096 + (s.val * 1024 + t.val), by omega⟩ ⟨8 + s.val, by omega⟩ n := by
  pointwise [val_main_v2, val_main_v3, val_main_v47, val_main_v48, val_main_v49, val_main_v52, val_main_v53, val_main_v54, val_main_v55, val_main_v61, val_main_v81, val_main_v82, val_main_v83, val_main_call1_v0, val_main_call1_v1, val_main_call1_cst, val_main_call1_v2, val_main_call1_v3, val_main_call1_cst_0, val_main_call1_v4, val_main_call1_v5, val_main_v84, val_main_v85, val_main_v86, val_main_v87, val_main_v88, val_main_v89]
  simp only [sample_row]
  rfl

theorem ffnOut_congr {r r' : Fin 12288} {q q' : Fin 16} (h : r.val = r'.val) (h' : q.val = q'.val) (n : Fin 1024) :
    ffnOut 0 0 x0 x1 x2 x3 x4 r q n = ffnOut 0 0 x0 x1 x2 x3 x4 r' q' n := by
  rw [Fin.ext h, Fin.ext h']

theorem out_apply (r : Fin 12288) (n : Fin 1024) :
    val_main_v92 (F := Ideal) x0 x1 x2 x3 x4 (ix2 r n) = ffnOut 0 0 x0 x1 x2 x3 x4 r ⟨modRow r.val, modRow_lt r.isLt⟩ n := by
  pointwise [val_main_v92, val_main_v91, val_main_v90]
  have hi : r.val < 12288 := r.isLt
  split
  · rename_i h
    rw [prompt_out]
    refine ffnOut_congr _ _ _ _ _ ?_ ?_ n
    · dsimp only; omega
    · simp only [modRow, if_pos h]; rfl
  · rename_i h
    rw [sample_out]
    refine ffnOut_congr _ _ _ _ _ ?_ ?_ n
    · dsimp only; omega
    · simp only [modRow, if_neg h]

end Cert.FfnRefIdeal.Hand

end
-- ==== Proof.FfnTwoPay.lean ====
/- What layer 2's dense block writes at one grid point, read at one element of its output block. -/
module

public import proofs.«01_k».proof.Proof.Swiglu
public import proofs.«01_k».proof.Proof.Gen.FfnTwoIdeal.Frame
public import Idealize.ShloMosaic.Lib.Pointwise

@[expose] public section

noncomputable section

namespace Cert.FfnTwoIdeal.Hand

open scoped BigOperators
open Cert.FfnTwoIdeal Cert.FfnTwoIdeal.Gen Idealize.ShloMosaic Cert.Math

theorem pay3_apply (v0 v2 : Vec Ideal S1x1x1x1024 .f32) (v6 : Vec Ideal S512x1024 .f32) (v7 : Vec Ideal S1x1024 .f32)
    (r : Fin 512) (k : Fin 1024) :
    k0_pay3 v0 v2 v6 v7 (ix2 r k) = normMod (fun k => v6 (ix2 r k)) (fun k => v7 (ix2 0 k))
      (fun k => v2 (ix4 0 0 0 k)) (fun k => v0 (ix4 0 0 0 k)) k := by
  pointwise [k0_pay3]
  rfl

theorem pay4_apply (v0 v2 : Vec Ideal S1x1x1x1024 .f32) (v6 : Vec Ideal S512x1024 .f32) (v7 : Vec Ideal S1x1024 .f32)
   (v28 : Vec Ideal S1024x1536 .bf16) (r : Fin 512) (j : Fin 1536) :
    k0_pay4 v0 v2 v6 v7 v28 (ix2 r j) = ∑ k, k0_pay3 v0 v2 v6 v7 (ix2 r k) * v28 (ix2 k j) := by
  pointwise [k0_pay4]

theorem pay1_apply (v5 : FVec Ideal S1x1024 .f32) (v6 : Vec Ideal S512x1024 .f32) (v27 : FVec Ideal S512x1024 .bf16)
    (v30 : FVec Ideal S512x1536 .f32) (v32 : FVec Ideal S1024x1536 .bf16) (v38 : Vec Ideal S1536x1024 .bf16)
    (v41 : Vec Ideal S1024x1280 .bf16) (v44 : Vec Ideal S1024x1280 .bf16) (v51 : Vec Ideal S1280x1024 .bf16) (r : Fin 512) (n : Fin 1024) :
    k0_pay1 v5 v6 v27 v30 v32 (constant S512x1536 .f32 0x00000000#32) v38 v41 v44 v51 (ix2 r n)
      = v6 (ix2 r n) + v5 (ix2 0 n) * (∑ j, silu (v30 (ix2 r j)) * (∑ k, v27 (ix2 r k) * v32 (ix2 k j)) * v38 (ix2 j n)
        + ∑ j, gated (fun k => v27 (ix2 r k)) (fun k => v41 (ix2 k j)) (fun k => v44 (ix2 k j)) * v51 (ix2 j n)) := by
  pointwise [k0_pay1]
  rfl

end Cert.FfnTwoIdeal.Hand

end
-- ==== Proof.FfnTwoValue.lean ====
/- Layer 2's dense result array after its run: each grid point writes 512 rows, and together they are the whole array. -/
module

public import proofs.«01_k».proof.Proof.FfnTwoPay
public import proofs.«01_k».proof.Proof.Gen.FfnTwoIdeal.Value

@[expose] public section

set_option maxRecDepth 16384

noncomputable section

namespace Cert.FfnTwoIdeal.Hand

open scoped BigOperators
open Cert.FfnTwoIdeal Cert.FfnTwoIdeal.Gen Idealize.ShloMosaic Idealize.ShloMosaic.TcCoe Idealize.SL.Sem Cert.Math
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the host part prepares -/

theorem V_mod (c : Dev nD) (a : Fin 4) (q : Fin 16) (k : Fin 6144) :
    V m c main_v0 (ix4 a q 0 k) = m ((c : Thread nD τ).loc main_arg1) (ix3 a q k) := by
  show StableHlo.after hostOps0 _ (main_v0 : DevRef τ sig) _ = _
  after_results
  pointwise []

theorem V_g (c : Dev nD) (k : Fin 1024) :
    V m c main_v9 (ix2 0 k) = m ((c : Thread nD τ).loc main_arg2) (ix2 2 k) := by
  show StableHlo.after hostOps0 _ (main_v9 : DevRef τ sig) _ = _
  after_results
  pointwise []

theorem V_wgu (c : Dev nD) (k : Fin 1024) (j : Fin 5632) :
    V m c main_v5 (ix2 k j) = m ((c : Thread nD τ).loc main_arg3) (ix3 1 k j) := by
  show StableHlo.after hostOps0 _ (main_v5 : DevRef τ sig) _ = _
  after_results
  pointwise []

theorem V_wd (c : Dev nD) (j : Fin 2816) (n : Fin 1024) :
    V m c main_v8 (ix2 j n) = m ((c : Thread nD τ).loc main_arg4) (ix3 1 j n) := by
  show StableHlo.after hostOps0 _ (main_v8 : DevRef τ sig) _ = _
  after_results
  pointwise []

/-! ## The blocks of the windows -/

theorem idx0 : ∀ t : Fin grid0.N, win0_0.index t 0 = t.val ∧ win0_0.index t 1 = 0 := by decide +kernel
theorem idx1 : ∀ t : Fin grid0.N, win0_1.index t 0 = 2 ∧ win0_1.index t 1 = modRow (512 * t.val) ∧ win0_1.index t 2 = 0
    ∧ win0_1.index t 3 = 0 := by unfold modRow; decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = t.val ∧ win0_5.index t 1 = 0 := by decide +kernel

/-- Token row `r` of point `t`'s block. -/
def tok (t : Fin cfg0.N) (r : Fin 512) : Fin 12288 :=
  ⟨512 * t.val + r.val, by have : t.val < 24 := t.isLt; omega⟩

theorem modRow_tok (t : Fin cfg0.N) (r : Fin 512) : modRow (tok t r).val = modRow (512 * t.val) := by
  unfold modRow tok; dsimp only; split <;> split <;> omega

theorem iblk0 (c : Dev nD) (t : Fin cfg0.N) (r : Fin 512) (k : Fin 1024) :
    iblk m c 0 t (ix2 r k) = m ((c : Thread nD τ).loc main_arg0) (ix2 (tok t r) k) := by
  unfold iblk
  rw [View.read_apply]
  refine Eq.trans ?_ (congrFun (V_main_arg0 m c) _)
  show V m c main_arg0 _ = _
  congr 1; funext a; apply Fin.ext
  match a with
  | ⟨0, _⟩ => show win0_0.index t 0 * 512 + 1 * r.val = 512 * t.val + r.val; rw [(idx0 t).1]; omega
  | ⟨1, _⟩ => show win0_0.index t 1 * 1024 + 1 * k.val = k.val; rw [(idx0 t).2]; omega

theorem iblk1 (c : Dev nD) (t : Fin cfg0.N) (r : Fin 512) (k : Fin 6144) :
    iblk m c 1 t (ix4 0 0 0 k)
      = m ((c : Thread nD τ).loc main_arg1) (ix3 2 ⟨modRow (tok t r).val, modRow_lt (tok t r).isLt⟩ k) := by
  unfold iblk
  rw [View.read_apply]
  refine Eq.trans ?_ (V_mod m c _ _ _)
  show V m c main_v0 _ = _
  congr 1; funext a; apply Fin.ext
  match a with
  | ⟨0, _⟩ => show win0_1.index t 0 * 1 + 1 * 0 = 2; rw [(idx1 t).1]
  | ⟨1, _⟩ => show win0_1.index t 1 * 1 + 1 * 0 = modRow (tok t r).val; rw [(idx1 t).2.1, modRow_tok]; omega
  | ⟨2, _⟩ => show win0_1.index t 2 * 1 + 1 * 0 = 0; rw [(idx1 t).2.2.1]
  | ⟨3, _⟩ => show win0_1.index t 3 * 6144 + 1 * k.val = k.val; rw [(idx1 t).2.2.2]; omega

theorem iblk2 (c : Dev nD) (t : Fin cfg0.N) (k : Fin 1024) :
    iblk m c 2 t (ix2 0 k) = m ((c : Thread nD τ).loc main_arg2) (ix2 2 k) := by
  unfold iblk
  rw [View.read_apply]
  refine Eq.trans ?_ (V_g m c k)
  show V m c main_v9 _ = _
  congr 1; funext a; apply Fin.ext
  match a with
  | ⟨0, _⟩ => show win0_2.index t 0 * 1 + 1 * 0 = 0; rw [(idx2 t).1]
  | ⟨1, _⟩ => show win0_2.index t 1 * 1024 + 1 * k.val = k.val; rw [(idx2 t).2]; omega

theorem iblk3 (c : Dev nD) (t : Fin cfg0.N) (k : Fin 1024) (j : Fin 5632) :
    iblk m c 3 t (ix2 k j) = m ((c : Thread nD τ).loc main_arg3) (ix3 1 k j) := by
  unfold iblk
  rw [View.read_apply]
  refine Eq.trans ?_ (V_wgu m c k j)
  show V m c main_v5 _ = _
  congr 1; funext a; apply Fin.ext
  match a with
  | ⟨0, _⟩ => show win0_3.index t 0 * 1024 + 1 * k.val = k.val; rw [(idx3 t).1]; omega
  | ⟨1, _⟩ => show win0_3.index t 1 * 5632 + 1 * j.val = j.val; rw [(idx3 t).2]; omega

theorem iblk4 (c : Dev nD) (t : Fin cfg0.N) (j : Fin 2816) (n : Fin 1024) :
    iblk m c 4 t (ix2 j n) = m ((c : Thread nD τ).loc main_arg4) (ix3 1 j n) := by
  unfold iblk
  rw [View.read_apply]
  refine Eq.trans ?_ (V_wd m c j n)
  show V m c main_v8 _ = _
  congr 1; funext a; apply Fin.ext
  match a with
  | ⟨0, _⟩ => show win0_4.index t 0 * 2816 + 1 * j.val = j.val; rw [(idx4 t).1]; omega
  | ⟨1, _⟩ => show win0_4.index t 1 * 1024 + 1 * n.val = n.val; rw [(idx4 t).2]; omega

/-! ## What a point writes back -/

/-- The result array as a function of the arguments. -/
def result (c : Dev nD) : Buf (Elt Ideal) ((c : Thread nD τ).loc main_v10) := fun i =>
  ffnOut 2 1 (m ((c : Thread nD τ).loc main_arg0)) (m ((c : Thread nD τ).loc main_arg1)) (m ((c : Thread nD τ).loc main_arg2))
    (m ((c : Thread nD τ).loc main_arg3)) (m ((c : Thread nD τ).loc main_arg4)) (i 0)
    ⟨modRow (i 0).val, modRow_lt (i 0).isLt⟩ (i 1)

theorem out_apply (x0 : Vec Ideal S512x1024 .f32) (x1 : Vec Ideal S1x1x1x6144 .f32) (x2 : Vec Ideal S1x1024 .f32)
    (x3 : Vec Ideal S1024x5632 .bf16) (x4 : Vec Ideal S2816x1024 .bf16) (r : Fin 512) (n : Fin 1024) :
    out0_5 x0 x1 x2 x3 x4 (ix2 r n) = x0 (ix2 r n) + x1 (ix4 0 0 0 ⟨5120 + n.val, by omega⟩) * ∑ j : Fin 2816,
      gated (normMod (fun k => x0 (ix2 r k)) (fun k => x2 (ix2 0 k)) (fun k => x1 (ix4 0 0 0 ⟨4096 + k.val, by omega⟩))
          (fun k => x1 (ix4 0 0 0 ⟨3072 + k.val, by omega⟩)))
        (fun k => x3 (ix2 k ⟨j.val, by omega⟩)) (fun k => x3 (ix2 k ⟨2816 + j.val, by omega⟩)) * x4 (ix2 j n) := by
  unfold out0_5
  rw [View.canon_unit_zero hz, View.ld_unit_zero (S := S512x1024) hz, View.ld_unit_zero (S := S1x1024) hz, pay1_apply, sum_2816]
  have h2 : k0_pay2 (View.ld x1 r0_2) (ix2 0 n) = View.ld x1 r0_2 (ix4 0 0 0 n) := by pointwise [k0_pay2]
  have h5 : ∀ k j, k0_pay5 (View.ld x3 r0_6) (ix2 k j) = View.ld x3 r0_6 (ix2 k j) := fun k j => by pointwise [k0_pay5]
  simp only [pay4_apply, pay3_apply, h2, h5]
  pointwise []
  have h3 : ∀ x : Fin 1280, 2816 + (1536 + x.val) = 4352 + x.val := fun x => by omega
  simp only [h3]
  rfl

theorem flushed_eq (c : Dev nD) (t : Fin cfg0.N) :
    (dats m 0 c).flushed 5 t = ((cfg0.win 5).blk t).view.read (Elt Ideal) (result m c) := by
  rw [Value.flushed5]
  show out0_5 _ _ _ _ _ = _
  funext j
  obtain ⟨r, n, rfl⟩ : ∃ (r : Fin 512) (n : Fin 1024), j = ix2 r n := ⟨j 0, j 1, eq_ix2 j⟩
  have e : ((cfg0.win 5).blk t).view.read (Elt Ideal) (result m c) (ix2 r n) = result m c (ix2 (tok t r) n) := by
    rw [View.read_apply]
    show result m c _ = _
    congr 1; funext a; apply Fin.ext
    match a with
    | ⟨0, _⟩ => show win0_5.index t 0 * 512 + 1 * r.val = 512 * t.val + r.val; rw [(idx5 t).1]; omega
    | ⟨1, _⟩ => show win0_5.index t 1 * 1024 + 1 * n.val = n.val; rw [(idx5 t).2]; omega
  refine Eq.trans ?_ e.symm
  rw [out_apply]
  simp only [iblk0, iblk1 m c t r, iblk2, iblk3, iblk4]
  rfl

theorem cover (i : S12288x1024.Idx) : ∃ t : Fin cfg0.N, (cfg0.win 5).flush t = true ∧ i ∈ ((cfg0.win 5).blk t).view.set := by
  have h0 : (i 0 : ℕ) < 12288 := (i 0).isLt
  have h1 : (i 1 : ℕ) < 1024 := (i 1).isLt
  obtain ⟨t, ht⟩ : ∃ t : Fin grid0.N, t.val = (i 0 : ℕ) / 512 := ⟨⟨(i 0 : ℕ) / 512, by show _ < 24; omega⟩, rfl⟩
  refine ⟨t, flush0_5 t, ?_⟩
  show i ∈ ((View.whole main_v10).slice (win0_5.rect t)).set
  rw [View.set_slice_whole, Rect.mem_set_unit]
  intro a
  match a with
  | ⟨0, _⟩ =>
    show win0_5.index t 0 * 512 ≤ (i 0 : ℕ) ∧ (i 0 : ℕ) < win0_5.index t 0 * 512 + 512
    rw [(idx5 t).1, ht]; omega
  | ⟨1, _⟩ =>
    show win0_5.index t 1 * 1024 ≤ (i 1 : ℕ) ∧ (i 1 : ℕ) < win0_5.index t 1 * 1024 + 1024
    rw [(idx5 t).2]; omega

theorem final (c : Dev nD) : (dats m 0 c).arrAt 5 cfg0.N = result m c :=
  (dats m 0 c).arrAt_eq_of_cover 5 (result m c) (fun t _ => flushed_eq m c t) cover

end Cert.FfnTwoIdeal.Hand

end
-- ==== Proof.FfnTwoRef.lean ====
/- Layer 2's dense reference, read at one element: both groups of sequences compute the same gated residual. -/
module

public import proofs.«01_k».proof.Proof.Swiglu
public import proofs.«01_k».proof.Proof.Gen.FfnTwoRefIdeal.Run
public import proofs.«01_k».proof.Proof.Gen.FfnTwoRefIdeal.Read

@[expose] public section

set_option maxRecDepth 16384

noncomputable section

namespace Cert.FfnTwoRefIdeal.Hand

open scoped BigOperators
open Cert.FfnTwoRefIdeal Cert.FfnTwoRefIdeal.Read Idealize.ShloMosaic Idealize.ShloMosaic.TcCoe Idealize.SL.Sem Cert.Math

variable (x0 : (⟨S12288x1024, .f32⟩ : BufTy).Contents (Elt Ideal)) (x1 : (⟨S4x16x6144, .f32⟩ : BufTy).Contents (Elt Ideal))
  (x2 : (⟨S4x1024, .f32⟩ : BufTy).Contents (Elt Ideal)) (x3 : (⟨S2x1024x5632, .f32⟩ : BufTy).Contents (Elt Ideal))
  (x4 : (⟨S2x2816x1024, .f32⟩ : BufTy).Contents (Elt Ideal))

theorem prompt_row (s : Fin 16) (t : Fin 256) (k : Fin 1024) :
    val_main_v37 (F := Ideal) x0 x1 x2 (ix3 s t k)
      = normMod (fun k => x0 (ix2 ⟨s.val * 256 + t.val, by omega⟩ k)) (fun k => x2 (ix2 2 k))
        (fun k => x1 (ix3 2 0 ⟨4096 + k.val, by omega⟩)) (fun k => x1 (ix3 2 0 ⟨3072 + k.val, by omega⟩)) k := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst, val_main_cst_0, val_main_cst_1, val_main_cst_2]
  rfl

theorem sample_row (s : Fin 8) (t : Fin 1024) (k : Fin 1024) :
    val_main_v80 (F := Ideal) x0 x1 x2 (ix3 s t k)
      = normMod (fun k => x0 (ix2 ⟨4096 + (s.val * 1024 + t.val), by omega⟩ k)) (fun k => x2 (ix2 2 k))
        (fun k => x1 (ix3 2 ⟨8 + s.val, by omega⟩ ⟨4096 + k.val, by omega⟩))
        (fun k => x1 (ix3 2 ⟨8 + s.val, by omega⟩ ⟨3072 + k.val, by omega⟩)) k := by
  pointwise [val_main_v2, val_main_v3, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_cst_3, val_main_cst_4, val_main_cst_5, val_main_cst_6]
  rfl

theorem prompt_out (s : Fin 16) (t : Fin 256) (n : Fin 1024) :
    val_main_v46 (F := Ideal) x0 x1 x2 x3 x4 (ix3 s t n) = ffnOut 2 1 x0 x1 x2 x3 x4 ⟨s.val * 256 + t.val, by omega⟩ 0 n := by
  pointwise [val_main_v0, val_main_v1, val_main_v4, val_main_v5, val_main_v6, val_main_v9, val_main_v10, val_main_v11, val_main_v12, val_main_v18, val_main_v38, val_main_v39, val_main_v40, val_main_call0_v0, val_main_call0_v1, val_main_call0_cst, val_main_call0_v2, val_main_call0_v3, val_main_call0_cst_0, val_main_call0_v4, val_main_call0_v5, val_main_v41, val_main_v42, val_main_v43, val_main_v44, val_main_v45, val_main_v46]
  simp only [prompt_row]
  rfl

theorem sample_out (s : Fin 8) (t : Fin 1024) (n : Fin 1024) :
    val_main_v89 (F := Ideal) x0 x1 x2 x3 x4 (ix3 s t n)
      = ffnOut 2 1 x0 x1 x2 x3 x4 ⟨4096 + (s.val * 1024 + t.val), by omega⟩ ⟨8 + s.val, by omega⟩ n := by
  pointwise [val_main_v2, val_main_v3, val_main_v47, val_main_v48, val_main_v49, val_main_v52, val_main_v53, val_main_v54, val_main_v55, val_main_v61, val_main_v81, val_main_v82, val_main_v83, val_main_call1_v0, val_main_call1_v1, val_main_call1_cst, val_main_call1_v2, val_main_call1_v3, val_main_call1_cst_0, val_main_call1_v4, val_main_call1_v5, val_main_v84, val_main_v85, val_main_v86, val_main_v87, val_main_v88, val_main_v89]
  simp only [sample_row]
  rfl

theorem ffnOut_congr {r r' : Fin 12288} {q q' : Fin 16} (h : r.val = r'.val) (h' : q.val = q'.val) (n : Fin 1024) :
    ffnOut 2 1 x0 x1 x2 x3 x4 r q n = ffnOut 2 1 x0 x1 x2 x3 x4 r' q' n := by
  rw [Fin.ext h, Fin.ext h']

theorem out_apply (r : Fin 12288) (n : Fin 1024) :
    val_main_v92 (F := Ideal) x0 x1 x2 x3 x4 (ix2 r n) = ffnOut 2 1 x0 x1 x2 x3 x4 r ⟨modRow r.val, modRow_lt r.isLt⟩ n := by
  pointwise [val_main_v92, val_main_v91, val_main_v90]
  have hi : r.val < 12288 := r.isLt
  split
  · rename_i h
    rw [prompt_out]
    refine ffnOut_congr _ _ _ _ _ ?_ ?_ n
    · dsimp only; omega
    · simp only [modRow, if_pos h]; rfl
  · rename_i h
    rw [sample_out]
    refine ffnOut_congr _ _ _ _ _ ?_ ?_ n
    · dsimp only; omega
    · simp only [modRow, if_neg h]

end Cert.FfnTwoRefIdeal.Hand

end
-- ==== Proof.ExpertThreeLaunch.lean ====
module

public import proofs.«01_k».proof.Proof.Gen.ExpertThreeIdeal.Launch
public import proofs.«01_k».proof.Proof.Gen.ExpertThreeIdeal.Skeleton
public import Idealize.ShloMosaic.Lib.Pipeline.FrameBody
public import Idealize.ShloMosaic.Lib.Tactic
public import Idealize.ShloMosaic.Lib.WordCmp
public import proofs.«01_k».proof.Proof.ExpertFrame
public import Idealize.ShloMosaic.Lib.Pipeline.Frame
public import Idealize.ShloMosaic.Lib.Writes
public import Idealize.ShloMosaic.Lib.Pointwise

@[expose] public section

set_option maxRecDepth 16384

noncomputable section

namespace Cert.ExpertThreeIdeal.Hand

open Cert.KernelIdeal.Hand
open Cert.ExpertThreeIdeal Cert.ExpertThreeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two layers' calls run one body. -/
theorem one_body : (Cert.ExpertThreeIdeal.defs₀ (F := F) : Defs nD τ sig (Elt F) Λ₀) = Cert.KernelIdeal.defs₀ (F := F) := by
  funext th f x
  match th, f, x with
  | .tc, ⟨0, _⟩, (t, s) => rfl
  | .scScalar _, _, _ => rfl
  | .scVector _ _, _, _ => rfl

/-- The body's run, at this call. -/
theorem body_run (c : Dev nD) (i : grid0.Coords) (arg2 : Memref sig .tc .smem S32 .i32) (harg2 : arg2.IsWhole) (arg3 : Memref sig .tc .smem S1 .i32) (harg3 : arg3.IsWhole) (arg4 : Memref sig .tc .smem S32 .i32) (harg4 : arg4.IsWhole) (arg5 : Memref sig .tc .vmem S8192x128 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S8192x128 .f32) (harg9 : arg9.IsWhole) (arg10 : Memref sig .tc .vmem S1024x1024 .bf16) (harg10 : arg10.IsWhole) (arg11 : Memref sig .tc .vmem S1024x1024 .f32) (harg11 : arg11.IsWhole) (q3 q4 : PosShare TreeShare)
    (nvt : Vec F S1 .i32) (trt : Vec F S32 .i32)
    (x0 : Vec F S8192x128 .f32) (x1 x2 : Vec F S1x1x1024x512 .f32) (x3 : Vec F S1x1x512x1024 .f32) (o : Vec F S8192x128 .f32) (xb : Vec F S1024x1024 .bf16) (ac : Vec F S1024x1024 .f32) :
      ∀ (E : Set ℕ) (K : PUnit → sProp 𝕄),
        iprop(owns (c : Thread nD τ) arg3 q3 nvt ∗ owns (c : Thread nD τ) arg4 q4 trt ∗ owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare o ∗ owns (c : Thread nD τ) arg10 fullShare xb ∗ owns (c : Thread nD τ) arg11 fullShare ac
            ∗ (iprop((owns (c : Thread nD τ) arg3 q3 nvt ∗ owns (c : Thread nD τ) arg4 q4 trt ∗ owns (c : Thread nD τ) arg5 fullShare x0 ∗ owns (c : Thread nD τ) arg6 fullShare x1 ∗ owns (c : Thread nD τ) arg7 fullShare x2 ∗ owns (c : Thread nD τ) arg8 fullShare x3) ∗ (∃ o' xb' ac', ⌜StepAll (nvWord nvt) (trWord trt i) i x0 x1 x2 x3 xb ac xb' ac' o'⌝ ∗ owns (c : Thread nD τ) arg9 fullShare o' ∗ owns (c : Thread nD τ) arg10 fullShare xb' ∗ owns (c : Thread nD τ) arg11 fullShare ac')) -∗ K ⟨⟩))
          ⊢ wp frame (wpE (Cert.ExpertThreeIdeal.defs₀ (F := F)) Variants.none c none) E (Cert.ExpertThreeIdeal.cc0_moe_expert_swiglu i arg2 harg2 arg3 harg3 arg4 harg4 arg5 harg5 arg6 harg6 arg7 harg7 arg8 harg8 arg9 harg9 arg10 harg10 arg11 harg11) K := by
  rw [one_body]
  exact Cert.KernelIdeal.Hand.body_run c i arg2 harg2 arg3 harg3 arg4 harg4 arg5 harg5 arg6 harg6 arg7 harg7 arg8 harg8 arg9 harg9 arg10 harg10 arg11 harg11 q3 q4 nvt trt x0 x1 x2 x3 o xb ac

/-- The proof data: every input block is left as found; the output block is left in the relation `outR`; the scratch buffers hold what `inv` says. -/
def rdat (a : (pcfg0 (F := F)).Adm) (inv : ℕ → Vec F S1024x1024 .bf16 → Vec F S1024x1024 .f32 → Prop) (outR : ℕ → Vec F S8192x128 .f32 → Prop) (c : Dev nD) :
    RDat τ (Elt F) Unit ℕ (UR sig nD τ) ℕ (cfg0 a) c where
  A w := m ((c.tc : Thread nD τ).loc (Pipeline.arrRef spec0 w))
  after w t Y X := match w, Y, X with
    | ⟨0, _⟩, Y, X => X = Y
    | ⟨1, _⟩, Y, X => X = Y
    | ⟨2, _⟩, Y, X => X = Y
    | ⟨3, _⟩, Y, X => X = Y
    | ⟨4, _⟩, _, X => outR t.val X
  Φ n := iprop((∃ xb ac, ⌜inv n.val xb ac⌝ ∗ owns (c : Thread nD τ) (Memref.whole cc0_scratch0) fullShare xb ∗ owns (c : Thread nD τ) (Memref.whole cc0_scratch1) fullShare ac)
    ∗ (∃ r, prngReg c r) ∗ Pipeline.ΦT pre0 a.1 c)
  q w := Pipeline.shareOf spec0 w
  owed _ := 0

variable (a : (pcfg0 (F := F)).Adm) (inv : ℕ → Vec F S1024x1024 .bf16 → Vec F S1024x1024 .f32 → Prop) (outR : ℕ → Vec F S8192x128 .f32 → Prop)

/-- The blocks of the four inputs at a grid point. -/
def blk0 (c : Dev nD) (t : Fin (cfg0 a).N) : Vec F S8192x128 .f32 := (rdat m a inv outR c).blockOf 0 t
def blk1 (c : Dev nD) (t : Fin (cfg0 a).N) : Vec F S1x1x1024x512 .f32 := (rdat m a inv outR c).blockOf 1 t
def blk2 (c : Dev nD) (t : Fin (cfg0 a).N) : Vec F S1x1x1024x512 .f32 := (rdat m a inv outR c).blockOf 2 t
def blk3 (c : Dev nD) (t : Fin (cfg0 a).N) : Vec F S1x1x512x1024 .f32 := (rdat m a inv outR c).blockOf 3 t

theorem finds0 (c : Dev nD) (t : Fin (cfg0 a).N) (Y) (h : (rdat m a inv outR c).Finds 0 t Y) : Y = blk0 m a inv outR c t := by
  obtain ⟨d, rfl⟩ := (rdat m a inv outR c).finds_in_eq_fetched 0 rfl (fun _ _ _ => rfl) (fun _ _ _ h => h) t Y h
  rfl
theorem finds1 (c : Dev nD) (t : Fin (cfg0 a).N) (Y) (h : (rdat m a inv outR c).Finds 1 t Y) : Y = blk1 m a inv outR c t := by
  obtain ⟨d, rfl⟩ := (rdat m a inv outR c).finds_in_eq_fetched 1 rfl (fun _ _ _ => rfl) (fun _ _ _ h => h) t Y h
  rfl
theorem finds2 (c : Dev nD) (t : Fin (cfg0 a).N) (Y) (h : (rdat m a inv outR c).Finds 2 t Y) : Y = blk2 m a inv outR c t := by
  obtain ⟨d, rfl⟩ := (rdat m a inv outR c).finds_in_eq_fetched 2 rfl (fun _ _ _ => rfl) (fun _ _ _ h => h) t Y h
  rfl
theorem finds3 (c : Dev nD) (t : Fin (cfg0 a).N) (Y) (h : (rdat m a inv outR c).Finds 3 t Y) : Y = blk3 m a inv outR c t := by
  obtain ⟨d, rfl⟩ := (rdat m a inv outR c).finds_in_eq_fetched 3 rfl (fun _ _ _ => rfl) (fun _ _ _ h => h) t Y h
  rfl

/-- What a grid point must keep of the two relations. -/
def Keeps : Prop := ∀ (c : Dev nD) (t : Fin (cfg0 a).N) (xb : Vec F S1024x1024 .bf16) (ac : Vec F S1024x1024 .f32) (xb' ac' o'),
  inv t.val xb ac →
  StepAll (nvWord (F := F) (a.1 1)) (trWord (F := F) (a.1 2) (grid0.coords t)) (grid0.coords t) (blk0 m a inv outR c t) (blk1 m a inv outR c t) (blk2 m a inv outR c t) (blk3 m a inv outR c t) xb ac xb' ac' o' →
  inv (t.val + 1) xb' ac' ∧ outR t.val o'

/-- The body as the pipeline calls it at a point. -/
def bodyAt (t : Fin (cfg0 a).N) : Prog (TpuEff nD τ sig (Elt F) Λ₀ .tc) PUnit :=
  cc0_moe_expert_swiglu (grid0.coords t) (Memref.whole main_arg0) (Memref.isWhole_whole _) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _)

theorem defs₀_row (t : Fin (cfg0 a).N) :
    defs₀ (F := F) .tc (cfg0 a).body ((cfg0 a).bodyArgs t ((cfg0 a).slots t)) = bodyAt a t := by
  unfold defs₀; rw [Defs.onTc_tc]; rfl

/-- The three tables, one by one. -/
theorem phiT_eq (c : Dev nD) : (Pipeline.ΦT pre0 a.1 c : sProp 𝕄)
    = iprop((((c : Thread nD τ).loc main_arg0) ↦{fullShare.right} (a.1 0)) ∗ owns (c : Thread nD τ) (Memref.whole main_arg1) fullShare.right (a.1 1 : Vec F S1 .i32) ∗ owns (c : Thread nD τ) (Memref.whole main_arg2) fullShare.right (a.1 2 : Vec F S32 .i32)) := by
  have h1 := owns_whole (Ix := Unit) (Name := ℕ) (U := UR sig nD τ) (Lvl := ℕ) (c : Thread nD τ) main_arg1 fullShare.right (a.1 1)
  have h2 := owns_whole (Ix := Unit) (Name := ℕ) (U := UR sig nD τ) (Lvl := ℕ) (c : Thread nD τ) main_arg2 fullShare.right (a.1 2)
  refine Eq.trans (bigSep_univ_eq_bigSepL [(0 : Fin 3), (1 : Fin 3), (2 : Fin 3)] (by decide) (by decide) _) ?_
  refine congrArg (fun z => iprop((((c : Thread nD τ).loc main_arg0) ↦{fullShare.right} (a.1 0)) ∗ z)) ?_
  exact congrArg₂ (fun y z => iprop(y ∗ z)) h1.symm h2.symm

theorem sound_body (hkeep : Keeps m a inv outR) (c : Dev nD) (t : Fin (cfg0 a).N) (P D : sProp 𝕄)
    (x0 : Vec F S8192x128 .f32) (x1 x2 : Vec F S1x1x1024x512 .f32) (x3 : Vec F S1x1x512x1024 .f32) (o : Vec F S8192x128 .f32)
    (e0 : x0 = blk0 m a inv outR c t) (e1 : x1 = blk1 m a inv outR c t) (e2 : x2 = blk2 m a inv outR c t) (e3 : x3 = blk3 m a inv outR c t) :
    iprop(((∃ xb ac, ⌜inv t.val xb ac⌝ ∗ owns (c : Thread nD τ) (Memref.whole cc0_scratch0) fullShare xb ∗ owns (c : Thread nD τ) (Memref.whole cc0_scratch1) fullShare ac)
        ∗ P ∗ Pipeline.ΦT pre0 a.1 c) ∗ D ∗ owns (c : Thread nD τ) (spec0_0.stage ((cfg0 a).slots t 0)) fullShare x0 ∗ owns (c : Thread nD τ) (spec0_1.stage ((cfg0 a).slots t 1)) fullShare x1 ∗ owns (c : Thread nD τ) (spec0_2.stage ((cfg0 a).slots t 2)) fullShare x2 ∗ owns (c : Thread nD τ) (spec0_3.stage ((cfg0 a).slots t 3)) fullShare x3 ∗ owns (c : Thread nD τ) (spec0_4.stage ((cfg0 a).slots t 4)) fullShare o)
      ⊢ wp frame (wpE (defs₀ (F := F)) Variants.none c none) Set.univ (bodyAt a t) fun _ =>
        iprop(((∃ xb ac, ⌜inv (t.val + 1) xb ac⌝ ∗ owns (c : Thread nD τ) (Memref.whole cc0_scratch0) fullShare xb ∗ owns (c : Thread nD τ) (Memref.whole cc0_scratch1) fullShare ac)
        ∗ P ∗ Pipeline.ΦT pre0 a.1 c) ∗ D ∗ (∃ X, ⌜X = x0⌝ ∗ owns (c : Thread nD τ) (spec0_0.stage ((cfg0 a).slots t 0)) fullShare X) ∗ (∃ X, ⌜X = x1⌝ ∗ owns (c : Thread nD τ) (spec0_1.stage ((cfg0 a).slots t 1)) fullShare X) ∗ (∃ X, ⌜X = x2⌝ ∗ owns (c : Thread nD τ) (spec0_2.stage ((cfg0 a).slots t 2)) fullShare X) ∗ (∃ X, ⌜X = x3⌝ ∗ owns (c : Thread nD τ) (spec0_3.stage ((cfg0 a).slots t 3)) fullShare X) ∗ (∃ X, ⌜outR t.val X⌝ ∗ owns (c : Thread nD τ) (spec0_4.stage ((cfg0 a).slots t 4)) fullShare X)) := by
  rw [phiT_eq]
  iintro ⟨⟨⟨%xb, %ac, %hi, HX, HC⟩, HP, HT, HN, HR⟩, HD, H0, H1, H2, H3, H4⟩
  iapply (body_run c (grid0.coords t) _ _ _ _ _ _ _ _ _ _ _ _ _ _ _ _ _ _ _ _ fullShare.right fullShare.right (a.1 1) (a.1 2) x0 x1 x2 x3 o xb ac Set.univ _)
  iframe HN HR H0 H1 H2 H3 H4 HX HC
  iintro ⟨⟨HN, HR, H0, H1, H2, H3⟩, ⟨%o', %xb', %ac', %hS, H4, HX, HC⟩⟩
  obtain ⟨hi', ho'⟩ := hkeep c t xb ac xb' ac' o' hi (by rw [← e0, ← e1, ← e2, ← e3]; exact hS)
  isplitl [HX HC HP HT HN HR]
  · isplitl [HX HC]
    · iexists xb', ac'
      iframe HX HC
      ipureintro; exact hi'
    · iframe HP HT HN HR
  iframe HD
  isplitl [H0]
  · iexists x0; iframe H0; ipureintro; rfl
  isplitl [H1]
  · iexists x1; iframe H1; ipureintro; rfl
  isplitl [H2]
  · iexists x2; iframe H2; ipureintro; rfl
  isplitl [H3]
  · iexists x3; iframe H3; ipureintro; rfl
  iexists o'; iframe H4; ipureintro; exact ho'

theorem body_obligation (hkeep : Keeps m a inv outR) (c : Dev nD) :
    (rdat m a inv outR c).BodyObligation defs₀ Variants.none () Set.univ := by
  intro t Y hY
  rw [bigSep_W0, bigSep_W0, defs₀_row]
  exact triple_restated (sound_body m a inv outR hkeep c t (iprop(∃ r, prngReg c r)) _ (Y 0) (Y 1) (Y 2) (Y 3) (Y 4)
    (finds0 m a inv outR c t _ (hY 0)) (finds1 m a inv outR c t _ (hY 1)) (finds2 m a inv outR c t _ (hY 2)) (finds3 m a inv outR c t _ (hY 3))) rfl .rfl fun _ => .rfl

/-- Every run of the launch ends with the arrays as the proof data says, and every semaphore at zero. -/
theorem launch (hkeep : Keeps m a inv outR) (h0 : ∀ xb ac, inv 0 xb ac) (ha : a.1 = tabs m) :
    θ_run (defs (F := F)) (onTc main) (s₀ m ρ)
      (fun r => Pipeline.RDat.FramePost (cfg0 a) (rdat m a inv outR) (fun c b => m ((c.tc : Thread nD τ).loc b)) r ∧ r.2.sem = fun _ => 0) := by
  have hmain : Pipeline.HMainP (Ix := Unit) (Name := ℕ) (U := UR sig nD τ) (Lvl := ℕ) (pcfgs (F := F)) 0 defs₀ Variants.none m main (fun c b => m ((c.tc : Thread nD τ).loc b)) :=
    Pipeline.hmainP_region pcfgs 0 defs₀ Variants.none m main (fun c => by rw [main_chain]; rfl)
  set_option backward.isDefEq.respectTransparency.types false in
  exact Pipeline.RDat.θ_run_frameP_track_shared (pcfgs (F := F)) (fun _ => a) 0 launch₀0 defs₀ Variants.none
    (rdat m a inv outR) m ρ main (body_obligation m a inv outR hkeep) (fun _ _ _ => rfl) (fun _ _ => rfl)
    (fun c b => m ((c.tc : Thread nD τ).loc b)) hmain (fun _ _ => rfl)
    (fun c k => by rw [Subsingleton.elim c 0]; exact (congrFun ha k).symm)
    (fun c => by
      show iprop(Pipeline.ΦA spec0 c ∗ Pipeline.ΦT pre0 a.1 c) ⊢ iprop((∃ xb ac, ⌜inv 0 xb ac⌝ ∗ owns (c : Thread nD τ) (Memref.whole cc0_scratch0) fullShare xb ∗ owns (c : Thread nD τ) (Memref.whole cc0_scratch1) fullShare ac)
        ∗ (∃ r, prngReg c r) ∗ Pipeline.ΦT pre0 a.1 c)
      unfold Pipeline.ΦA
      rw [scopedRest0_eq]
      iintro ⟨⟨⟨⟨%f, H1⟩, ⟨%g, H2⟩⟩, HP⟩, HT⟩
      iframe HP HT
      iexists f, g
      rw [owns_whole (c : Thread nD τ) cc0_scratch0, owns_whole (c : Thread nD τ) cc0_scratch1]
      iframe H1 H2
      ipureintro; exact h0 f g)
    (fun c => by
      show iprop((∃ xb ac, ⌜inv (cfg0 a).N xb ac⌝ ∗ owns (c : Thread nD τ) (Memref.whole cc0_scratch0) fullShare xb ∗ owns (c : Thread nD τ) (Memref.whole cc0_scratch1) fullShare ac)
        ∗ (∃ r, prngReg c r) ∗ Pipeline.ΦT pre0 a.1 c) ⊢ Pipeline.ΦA spec0 c
      unfold Pipeline.ΦA
      rw [scopedRest0_eq]
      simp only [owns_whole]
      iintro ⟨⟨%xb, %ac, %hi, H1, H2⟩, HP, -⟩
      isplitl [H1 H2]
      swap
      · iexact HP
      isplitl [H1]
      · iexists xb; iexact H1
      · iexists ac; iexact H2)
    (Q' := _)

end Cert.ExpertThreeIdeal.Hand
-- ==== Proof.ExpertThreePlan.lean ====
module

public import proofs.«01_k».proof.Proof.Gen.ExpertThreeIdeal.Launch
public import proofs.«01_k».proof.Proof.Gen.ExpertThreeIdeal.Skeleton
public import Idealize.ShloMosaic.Lib.Pipeline.FrameBody
public import Idealize.ShloMosaic.Lib.Tactic
public import Idealize.ShloMosaic.Lib.WordCmp
public import proofs.«01_k».proof.Proof.ExpertThreeLaunch
public import proofs.«01_k».proof.Pre_plan
public import Idealize.ShloMosaic.Lib.ReduceAll
public import Idealize.ShloMosaic.Lib.Writes
public import Idealize.ShloMosaic.Lib.Pointwise

@[expose] public section

set_option maxRecDepth 16384

noncomputable section

namespace Cert.ExpertThreeIdeal.Hand

open Cert.KernelIdeal.Hand
open Cert.ExpertThreeIdeal Cert.ExpertThreeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

theorem tf0 (pf : pre0.Contents (Elt F)) (i : grid0.Coords) : cc0_transform_0 inb_S1_S1_0 numel1_S1 pf i = ![(Scalar.minsi (BitVec.ofNat 32 (i 0).val) (Scalar.subi (nvw pf) 1#32)).toNat, 0] := by
  exact congrArg (fun n : BitVec 32 => (![(Scalar.minsi (BitVec.ofNat 32 (i 0).val) (Scalar.subi n 1#32)).toNat, 0] : Fin 2 → ℕ)) (at_nv pf)
theorem tf1 (pf : pre0.Contents (Elt F)) (i : grid0.Coords) : cc0_transform_1 k0_off1_inb numel1_S1 inb_S1_S1_0 pf i = ![1, (tew pf i).toNat, 0, (slw pf i).toNat] := by
  exact congrArg₂ (fun e n : BitVec 32 => (![1, e.toNat, 0, (Scalar.select (Scalar.cmpi .slt (BitVec.ofNat 32 (i 0).val) n) (BitVec.ofNat 32 (i 1).val) 6#32).toNat] : Fin 4 → ℕ)) (at_te pf i) (at_nv pf)
theorem tf2 (pf : pre0.Contents (Elt F)) (i : grid0.Coords) : cc0_transform_2 k0_off1_inb numel1_S1 inb_S1_S1_0 pf i = ![1, (tew pf i).toNat, 0, (Scalar.addi 7#32 (slw pf i)).toNat] := by
  exact congrArg₂ (fun e n : BitVec 32 => (![1, e.toNat, 0, (Scalar.addi 7#32 (Scalar.select (Scalar.cmpi .slt (BitVec.ofNat 32 (i 0).val) n) (BitVec.ofNat 32 (i 1).val) 6#32)).toNat] : Fin 4 → ℕ)) (at_te pf i) (at_nv pf)
theorem tf3 (pf : pre0.Contents (Elt F)) (i : grid0.Coords) : cc0_transform_3 k0_off1_inb numel1_S1 inb_S1_S1_0 pf i = ![1, (tew pf i).toNat, (slw pf i).toNat, 0] := by
  exact congrArg₂ (fun e n : BitVec 32 => (![1, e.toNat, (Scalar.select (Scalar.cmpi .slt (BitVec.ofNat 32 (i 0).val) n) (BitVec.ofNat 32 (i 1).val) 6#32).toNat, 0] : Fin 4 → ℕ)) (at_te pf i) (at_nv pf)

/-- The tables a plan draws are admissible: every block lies inside its array. -/
theorem ok_of_plan (pf : pre0.Contents (Elt F)) (h : PlanFacts (pf 0) (pf 1) (pf 2)) : ok0 pf := by
  refine ⟨fun i => ⟨?_, .inl rfl⟩, fun i => ⟨?_, .inl rfl⟩, fun i => ⟨?_, .inl rfl⟩, fun i => ⟨?_, .inl rfl⟩⟩
  · rw [tf0]
    intro a
    have := (tile_word (i 0).val (i 0).isLt (nvw pf) (h.nv_pos _)).1
    match a with
    | ⟨0, _⟩ => show ((Scalar.minsi (BitVec.ofNat 32 (i 0).val) (Scalar.subi (nvw pf) 1#32)).toNat + 1) * 8192 ≤ 262144; omega
    | ⟨1, _⟩ => show (0 + 1) * 128 ≤ 128; omega
  · rw [tf1]
    intro a
    have h1 : (tew pf i).toNat < 8 := te_word h (ix1 (i 0))
    have h2 : (slw pf i).toNat < 7 := (slice_word (i 0).val (i 1).val (i 1).isLt (nvw pf)).1
    match a with
    | ⟨0, _⟩ => show (1 + 1) * 1 ≤ 2; omega
    | ⟨1, _⟩ => show ((tew pf i).toNat + 1) * 1 ≤ 8; omega
    | ⟨2, _⟩ => show (0 + 1) * 1024 ≤ 1024; omega
    | ⟨3, _⟩ => show ((slw pf i).toNat + 1) * 512 ≤ 7168; omega
  · rw [tf2]
    intro a
    have h1 : (tew pf i).toNat < 8 := te_word h (ix1 (i 0))
    have h2 : (Scalar.addi 7#32 (slw pf i)).toNat < 14 := (slice_word (i 0).val (i 1).val (i 1).isLt (nvw pf)).2.1
    match a with
    | ⟨0, _⟩ => show (1 + 1) * 1 ≤ 2; omega
    | ⟨1, _⟩ => show ((tew pf i).toNat + 1) * 1 ≤ 8; omega
    | ⟨2, _⟩ => show (0 + 1) * 1024 ≤ 1024; omega
    | ⟨3, _⟩ => show ((Scalar.addi 7#32 (slw pf i)).toNat + 1) * 512 ≤ 7168; omega
  · rw [tf3]
    intro a
    have h1 : (tew pf i).toNat < 8 := te_word h (ix1 (i 0))
    have h2 : (slw pf i).toNat < 7 := (slice_word (i 0).val (i 1).val (i 1).isLt (nvw pf)).1
    match a with
    | ⟨0, _⟩ => show (1 + 1) * 1 ≤ 2; omega
    | ⟨1, _⟩ => show ((tew pf i).toNat + 1) * 1 ≤ 8; omega
    | ⟨2, _⟩ => show ((slw pf i).toNat + 1) * 512 ≤ 3584; omega
    | ⟨3, _⟩ => show (0 + 1) * 1024 ≤ 1024; omega

end Cert.ExpertThreeIdeal.Hand
-- ==== Proof.ExpertThreeFrame.lean ====
module

public import proofs.«01_k».proof.Proof.Gen.ExpertThreeIdeal.Launch
public import proofs.«01_k».proof.Proof.Gen.ExpertThreeIdeal.Skeleton
public import Idealize.ShloMosaic.Lib.Pipeline.FrameBody
public import Idealize.ShloMosaic.Lib.Tactic
public import Idealize.ShloMosaic.Lib.WordCmp
public import proofs.«01_k».proof.Proof.ExpertThreePlan
public import Idealize.ShloMosaic.Lib.Writes
public import Idealize.ShloMosaic.Lib.Pointwise

@[expose] public section

set_option maxRecDepth 16384

noncomputable section

namespace Cert.ExpertThreeIdeal.Hand

open Cert.KernelIdeal.Hand
open Cert.ExpertThreeIdeal Cert.ExpertThreeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables of the launch memory, admissible. -/
def adm (h : ok0 (tabs m)) : (pcfg0 (F := F)).Adm := ⟨tabs m, h⟩

/-- A final memory the proof data describes leaves every argument as it was. -/
theorem args_kept (a : (pcfg0 (F := F)).Adm) (inv : ℕ → Vec F S1024x1024 .bf16 → Vec F S1024x1024 .f32 → Prop) (outR : ℕ → Vec F S8192x128 .f32 → Prop)
    (r : PUnit × MemSt nD τ sig (Elt F))
    (h : Pipeline.RDat.FramePost (cfg0 a) (rdat m a inv outR) (fun c b => m ((c.tc : Thread nD τ).loc b)) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨(h c).2 main_arg0 (Pipeline.mem_restRefs_of main_arg0 (by decide) (show ∀ w : Fin 5, (spec0 w).arr.view.ref ≠ main_arg0 by decide)),
   (h c).2 main_arg1 (Pipeline.mem_restRefs_of main_arg1 (by decide) (show ∀ w : Fin 5, (spec0 w).arr.view.ref ≠ main_arg1 by decide)),
   (h c).2 main_arg2 (Pipeline.mem_restRefs_of main_arg2 (by decide) (show ∀ w : Fin 5, (spec0 w).arr.view.ref ≠ main_arg2 by decide)),
   Pipeline.RDat.FramePost.arr_in h c 0 rfl, Pipeline.RDat.FramePost.arr_in h c 1 rfl, Pipeline.RDat.FramePost.arr_in h c 3 rfl⟩

/-- The kernel's run from any memory whose tables are admissible. -/
theorem run_frame (hok : ok0 (tabs m)) :
    θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) ∧ r.2.sem = fun _ => 0) :=
  (θ_run _ _ _).mono (fun r h => ⟨args_kept m (adm m hok) (fun _ _ _ => True) (fun _ _ => True) r h.1, h.2⟩)
    (launch m ρ (adm m hok) (fun _ _ _ => True) (fun _ _ => True) (fun _ _ _ _ _ _ _ _ _ => ⟨trivial, trivial⟩) (fun _ _ => trivial) rfl)

end Cert.ExpertThreeIdeal.Hand
-- ==== Proof.ExpertThreePrinted.lean ====
module

public import proofs.«01_k».proof.Defs
public import proofs.«01_k».proof.Proof.Gen.ExpertThree
public import proofs.«01_k».proof.Proof.Gen.ExpertThreeIdeal
public import proofs.«01_k».proof.Proof.Gen.Pre_plan
public import proofs.«01_k».proof.Proof.ExpertThreeFrame

@[expose] public section

noncomputable section

namespace Cert.Proof

open Idealize.ShloMosaic Idealize.SL.Sem

/-- The last expert layer's two programs have one table of bodies. -/
theorem bodies3_same : (Cert.ExpertThree.defs₀ (F := Bits) : Defs Cert.ExpertThreeIdeal.nD Cert.ExpertThreeIdeal.τ Cert.ExpertThreeIdeal.sig (Elt Bits) Cert.ExpertThreeIdeal.Λ₀) = Cert.ExpertThreeIdeal.defs₀ (F := Bits) := by
  funext th f x
  match th, f, x with
  | .tc, ⟨0, _⟩, (t, s) => rfl
  | .scScalar _, _, _ => rfl
  | .scVector _ _, _, _ => rfl

/-- A run under one table of bodies is a run under an equal one. -/
theorem run3_same {d : Defs Cert.ExpertThreeIdeal.nD Cert.ExpertThreeIdeal.τ Cert.ExpertThreeIdeal.sig (Elt Bits) Cert.ExpertThreeIdeal.Λ₀} (h : d = Cert.ExpertThreeIdeal.defs₀ (F := Bits))
    {s : MemSt Cert.ExpertThreeIdeal.nD Cert.ExpertThreeIdeal.τ Cert.ExpertThreeIdeal.sig (Elt Bits)} {Q : PUnit × MemSt Cert.ExpertThreeIdeal.nD Cert.ExpertThreeIdeal.τ Cert.ExpertThreeIdeal.sig (Elt Bits) → Prop}
    (run : θ_run (Cert.ExpertThreeIdeal.defs (F := Bits)) (onTc (τ := Cert.ExpertThreeIdeal.τ) (Cert.ExpertThreeIdeal.main (F := Bits))) s Q) :
    θ_run (Pipeline.defs (Cert.ExpertThreeIdeal.pcfgs (F := Bits)) d) (onTc (τ := Cert.ExpertThreeIdeal.τ) (Cert.ExpertThreeIdeal.main (F := Bits))) s Q := by
  subst h
  exact run

/-- The printed kernel's run from every memory a plan draws: the idealized program's text is the printed one's, so its run at the printed floats is this one. -/
theorem expert3_frame : Cert.quiescent_ExpertThree := fun m ρ hP =>
  run3_same bodies3_same (Cert.ExpertThreeIdeal.Hand.run_frame (F := Bits) m ρ (Cert.ExpertThreeIdeal.Hand.ok_of_plan _ (Cert.KernelIdeal.Hand.plan_facts _ _ _ _ _ _ (hP 0))))

end Cert.Proof

end
-- ==== Proof.ExpertThreeRef.lean ====
/- The last expert layer's reference, read at one element: the row of the tile's expert. -/
module

public import proofs.«01_k».proof.Proof.ExpertRef
public import proofs.«01_k».proof.Proof.Gen.ExpertThreeRefIdeal.Run
public import proofs.«01_k».proof.Proof.Gen.ExpertThreeRefIdeal.Read
public import Idealize.ShloMosaic.Lib.WordCmp

@[expose] public section

set_option maxRecDepth 16384

noncomputable section

namespace Cert.ExpertThreeRefIdeal.Hand

open scoped BigOperators
open Cert.RefIdeal.Hand (select_eq)
open Cert.ExpertThreeRefIdeal Cert.ExpertThreeRefIdeal.Read Idealize.ShloMosaic Idealize.ShloMosaic.TcCoe Idealize.SL.Sem Cert.Math

variable (x0 : (⟨S32, .i32⟩ : BufTy).Contents (Elt Ideal)) (x3 : (⟨S262144x128, .f32⟩ : BufTy).Contents (Elt Ideal))
  (x4 : (⟨S2x8x1024x7168, .f32⟩ : BufTy).Contents (Elt Ideal)) (x5 : (⟨S2x8x3584x1024, .f32⟩ : BufTy).Contents (Elt Ideal))

theorem expert_0 (T : Fin 32768) (n : Fin 1024) : val_main_v16 (F := Ideal) x3 x4 x5 (ix2 T n) = expertOut 1 x3 x4 x5 0 T n := by
  pointwise [val_main_v16, val_main_v15, val_main_v14, val_main_v12, val_main_v11, val_main_v0, val_main_v8, val_main_v7, val_main_call0_v5, val_main_call0_v4, val_main_call0_cst_0, val_main_call0_v3, val_main_call0_v2, val_main_call0_cst, val_main_call0_v1, val_main_call0_v0, val_main_v13, val_main_v10, val_main_v9]
  simp only [Nat.mul_comm T.val 8]
  rfl

theorem expert_1 (T : Fin 32768) (n : Fin 1024) : val_main_v29 (F := Ideal) x3 x4 x5 (ix2 T n) = expertOut 1 x3 x4 x5 1 T n := by
  pointwise [val_main_v29, val_main_v28, val_main_v27, val_main_v25, val_main_v24, val_main_v0, val_main_v21, val_main_v20, val_main_call2_v5, val_main_call2_v4, val_main_call2_cst_0, val_main_call2_v3, val_main_call2_v2, val_main_call2_cst, val_main_call2_v1, val_main_call2_v0, val_main_v26, val_main_v23, val_main_v22]
  simp only [Nat.mul_comm T.val 8]
  rfl

theorem expert_2 (T : Fin 32768) (n : Fin 1024) : val_main_v42 (F := Ideal) x3 x4 x5 (ix2 T n) = expertOut 1 x3 x4 x5 2 T n := by
  pointwise [val_main_v42, val_main_v41, val_main_v40, val_main_v38, val_main_v37, val_main_v0, val_main_v34, val_main_v33, val_main_call4_v5, val_main_call4_v4, val_main_call4_cst_0, val_main_call4_v3, val_main_call4_v2, val_main_call4_cst, val_main_call4_v1, val_main_call4_v0, val_main_v39, val_main_v36, val_main_v35]
  simp only [Nat.mul_comm T.val 8]
  rfl

theorem expert_3 (T : Fin 32768) (n : Fin 1024) : val_main_v55 (F := Ideal) x3 x4 x5 (ix2 T n) = expertOut 1 x3 x4 x5 3 T n := by
  pointwise [val_main_v55, val_main_v54, val_main_v53, val_main_v51, val_main_v50, val_main_v0, val_main_v47, val_main_v46, val_main_call6_v5, val_main_call6_v4, val_main_call6_cst_0, val_main_call6_v3, val_main_call6_v2, val_main_call6_cst, val_main_call6_v1, val_main_call6_v0, val_main_v52, val_main_v49, val_main_v48]
  simp only [Nat.mul_comm T.val 8]
  rfl

theorem expert_4 (T : Fin 32768) (n : Fin 1024) : val_main_v68 (F := Ideal) x3 x4 x5 (ix2 T n) = expertOut 1 x3 x4 x5 4 T n := by
  pointwise [val_main_v68, val_main_v67, val_main_v66, val_main_v64, val_main_v63, val_main_v0, val_main_v60, val_main_v59, val_main_call8_v5, val_main_call8_v4, val_main_call8_cst_0, val_main_call8_v3, val_main_call8_v2, val_main_call8_cst, val_main_call8_v1, val_main_call8_v0, val_main_v65, val_main_v62, val_main_v61]
  simp only [Nat.mul_comm T.val 8]
  rfl

theorem expert_5 (T : Fin 32768) (n : Fin 1024) : val_main_v81 (F := Ideal) x3 x4 x5 (ix2 T n) = expertOut 1 x3 x4 x5 5 T n := by
  pointwise [val_main_v81, val_main_v80, val_main_v79, val_main_v77, val_main_v76, val_main_v0, val_main_v73, val_main_v72, val_main_call10_v5, val_main_call10_v4, val_main_call10_cst_0, val_main_call10_v3, val_main_call10_v2, val_main_call10_cst, val_main_call10_v1, val_main_call10_v0, val_main_v78, val_main_v75, val_main_v74]
  simp only [Nat.mul_comm T.val 8]
  rfl

theorem expert_6 (T : Fin 32768) (n : Fin 1024) : val_main_v94 (F := Ideal) x3 x4 x5 (ix2 T n) = expertOut 1 x3 x4 x5 6 T n := by
  pointwise [val_main_v94, val_main_v93, val_main_v92, val_main_v90, val_main_v89, val_main_v0, val_main_v86, val_main_v85, val_main_call12_v5, val_main_call12_v4, val_main_call12_cst_0, val_main_call12_v3, val_main_call12_v2, val_main_call12_cst, val_main_call12_v1, val_main_call12_v0, val_main_v91, val_main_v88, val_main_v87]
  simp only [Nat.mul_comm T.val 8]
  rfl

theorem expert_7 (T : Fin 32768) (n : Fin 1024) : val_main_v107 (F := Ideal) x3 x4 x5 (ix2 T n) = expertOut 1 x3 x4 x5 7 T n := by
  pointwise [val_main_v107, val_main_v106, val_main_v105, val_main_v103, val_main_v102, val_main_v0, val_main_v99, val_main_v98, val_main_call14_v5, val_main_call14_v4, val_main_call14_cst_0, val_main_call14_v3, val_main_call14_v2, val_main_call14_cst, val_main_call14_v1, val_main_call14_v0, val_main_v104, val_main_v101, val_main_v100]
  simp only [Nat.mul_comm T.val 8]
  rfl

/-- A tile's expert, the number the reference compares with. -/
theorem tile_expert (T : Fin 32768) : val_main_v3 (F := Ideal) x0 (ix2 T 0) = x0 (ix1 ⟨T.val / 1024, by omega⟩) := by
  pointwise [val_main_v3, val_main_v2, val_main_v1]

theorem pick_0 (T : Fin 32768) (n : Fin 1024) (e : Fin 8) (he : (x0 (ix1 ⟨T.val / 1024, by omega⟩) : BitVec 32).toNat = e.val) :
    val_main_v17 (F := Ideal) x0 x3 x4 x5 (ix2 T n) = if e.val = 0 then expertOut 1 x3 x4 x5 0 T n else val_main_v4 (F := Ideal) (ix2 T n) := by
  pointwise [val_main_v17, val_main_call1_v0, val_main_v6, val_main_v5, val_main_c]
  rw [tile_expert, expert_0]
  exact select_eq _ e 0 (by omega) he _ _

theorem pick_1 (T : Fin 32768) (n : Fin 1024) (e : Fin 8) (he : (x0 (ix1 ⟨T.val / 1024, by omega⟩) : BitVec 32).toNat = e.val) :
    val_main_v30 (F := Ideal) x0 x3 x4 x5 (ix2 T n) = if e.val = 1 then expertOut 1 x3 x4 x5 1 T n else val_main_v17 (F := Ideal) x0 x3 x4 x5 (ix2 T n) := by
  pointwise [val_main_v30, val_main_call3_v0, val_main_v19, val_main_v18, val_main_c_0]
  rw [tile_expert, expert_1]
  exact select_eq _ e 1 (by omega) he _ _

theorem pick_2 (T : Fin 32768) (n : Fin 1024) (e : Fin 8) (he : (x0 (ix1 ⟨T.val / 1024, by omega⟩) : BitVec 32).toNat = e.val) :
    val_main_v43 (F := Ideal) x0 x3 x4 x5 (ix2 T n) = if e.val = 2 then expertOut 1 x3 x4 x5 2 T n else val_main_v30 (F := Ideal) x0 x3 x4 x5 (ix2 T n) := by
  pointwise [val_main_v43, val_main_call5_v0, val_main_v32, val_main_v31, val_main_c_1]
  rw [tile_expert, expert_2]
  exact select_eq _ e 2 (by omega) he _ _

theorem pick_3 (T : Fin 32768) (n : Fin 1024) (e : Fin 8) (he : (x0 (ix1 ⟨T.val / 1024, by omega⟩) : BitVec 32).toNat = e.val) :
    val_main_v56 (F := Ideal) x0 x3 x4 x5 (ix2 T n) = if e.val = 3 then expertOut 1 x3 x4 x5 3 T n else val_main_v43 (F := Ideal) x0 x3 x4 x5 (ix2 T n) := by
  pointwise [val_main_v56, val_main_call7_v0, val_main_v45, val_main_v44, val_main_c_2]
  rw [tile_expert, expert_3]
  exact select_eq _ e 3 (by omega) he _ _

theorem pick_4 (T : Fin 32768) (n : Fin 1024) (e : Fin 8) (he : (x0 (ix1 ⟨T.val / 1024, by omega⟩) : BitVec 32).toNat = e.val) :
    val_main_v69 (F := Ideal) x0 x3 x4 x5 (ix2 T n) = if e.val = 4 then expertOut 1 x3 x4 x5 4 T n else val_main_v56 (F := Ideal) x0 x3 x4 x5 (ix2 T n) := by
  pointwise [val_main_v69, val_main_call9_v0, val_main_v58, val_main_v57, val_main_c_3]
  rw [tile_expert, expert_4]
  exact select_eq _ e 4 (by omega) he _ _

theorem pick_5 (T : Fin 32768) (n : Fin 1024) (e : Fin 8) (he : (x0 (ix1 ⟨T.val / 1024, by omega⟩) : BitVec 32).toNat = e.val) :
    val_main_v82 (F := Ideal) x0 x3 x4 x5 (ix2 T n) = if e.val = 5 then expertOut 1 x3 x4 x5 5 T n else val_main_v69 (F := Ideal) x0 x3 x4 x5 (ix2 T n) := by
  pointwise [val_main_v82, val_main_call11_v0, val_main_v71, val_main_v70, val_main_c_4]
  rw [tile_expert, expert_5]
  exact select_eq _ e 5 (by omega) he _ _

theorem pick_6 (T : Fin 32768) (n : Fin 1024) (e : Fin 8) (he : (x0 (ix1 ⟨T.val / 1024, by omega⟩) : BitVec 32).toNat = e.val) :
    val_main_v95 (F := Ideal) x0 x3 x4 x5 (ix2 T n) = if e.val = 6 then expertOut 1 x3 x4 x5 6 T n else val_main_v82 (F := Ideal) x0 x3 x4 x5 (ix2 T n) := by
  pointwise [val_main_v95, val_main_call13_v0, val_main_v84, val_main_v83, val_main_c_5]
  rw [tile_expert, expert_6]
  exact select_eq _ e 6 (by omega) he _ _

theorem pick_7 (T : Fin 32768) (n : Fin 1024) (e : Fin 8) (he : (x0 (ix1 ⟨T.val / 1024, by omega⟩) : BitVec 32).toNat = e.val) :
    val_main_v108 (F := Ideal) x0 x3 x4 x5 (ix2 T n) = if e.val = 7 then expertOut 1 x3 x4 x5 7 T n else val_main_v95 (F := Ideal) x0 x3 x4 x5 (ix2 T n) := by
  pointwise [val_main_v108, val_main_call15_v0, val_main_v97, val_main_v96, val_main_c_6]
  rw [tile_expert, expert_7]
  exact select_eq _ e 7 (by omega) he _ _

theorem picked (T : Fin 32768) (n : Fin 1024) (e : Fin 8) (he : (x0 (ix1 ⟨T.val / 1024, by omega⟩) : BitVec 32).toNat = e.val) :
    val_main_v108 (F := Ideal) x0 x3 x4 x5 (ix2 T n) = expertOut 1 x3 x4 x5 e T n := by
  rw [pick_7 x0 x3 x4 x5 T n e he, pick_6 x0 x3 x4 x5 T n e he, pick_5 x0 x3 x4 x5 T n e he, pick_4 x0 x3 x4 x5 T n e he,
    pick_3 x0 x3 x4 x5 T n e he, pick_2 x0 x3 x4 x5 T n e he, pick_1 x0 x3 x4 x5 T n e he, pick_0 x0 x3 x4 x5 T n e he]
  fin_cases e <;> rfl

theorem out_apply (T : Fin 32768) (y : Fin 8) (l : Fin 128) (e : Fin 8) (he : (x0 (ix1 ⟨T.val / 1024, by omega⟩) : BitVec 32).toNat = e.val)
    (h : 8 * T.val + y.val < 262144) (h' : 128 * y.val + l.val < 1024) :
    val_main_v109 (F := Ideal) x0 x3 x4 x5 (ix2 ⟨8 * T.val + y.val, h⟩ l) = expertOut 1 x3 x4 x5 e T ⟨128 * y.val + l.val, h'⟩ := by
  rw [← picked x0 x3 x4 x5 T ⟨128 * y.val + l.val, h'⟩ e he]
  refine (val_main_v109_apply (F := Ideal) x0 x3 x4 x5 _).trans (congrArg _ (funext fun b => Fin.ext ?_))
  match b with
  | ⟨0, _⟩ => show ((8 * T.val + y.val) * 128 + l.val) / 1024 = T.val; omega
  | ⟨1, _⟩ => show ((8 * T.val + y.val) * 128 + l.val) % 1024 = 128 * y.val + l.val; omega

end Cert.ExpertThreeRefIdeal.Hand

end
-- ==== Proof.ExpertThreeBlocks.lean ====
module

public import proofs.«01_k».proof.Proof.Gen.ExpertThreeIdeal.Launch
public import proofs.«01_k».proof.Proof.Gen.ExpertThreeIdeal.Skeleton
public import Idealize.ShloMosaic.Lib.Pipeline.FrameBody
public import Idealize.ShloMosaic.Lib.Tactic
public import Idealize.ShloMosaic.Lib.WordCmp
public import proofs.«01_k».proof.Proof.ExpertThreeFrame
public import proofs.«01_k».proof.Proof.ExpertBlocks
public import Idealize.ShloMosaic.Lib.Writes
public import Idealize.ShloMosaic.Lib.Pointwise

@[expose] public section

set_option maxRecDepth 16384

noncomputable section

namespace Cert.ExpertThreeIdeal.Hand

open Cert.KernelIdeal.Hand
open Cert.ExpertThreeIdeal Cert.ExpertThreeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ)
variable (a : (pcfg0 (F := F)).Adm) (inv : ℕ → Vec F S1024x1024 .bf16 → Vec F S1024x1024 .f32 → Prop) (outR : ℕ → Vec F S8192x128 .f32 → Prop)

/-- The tile of a grid point holds tokens. -/
def Valid (t : Fin grid0.N) : Prop := Scalar.cmpi .slt (BitVec.ofNat 32 (grid0.coords t 0).val) (nvw a.1) = 1#1

theorem blk0_apply (hp : PlanFacts (a.1 0) (a.1 1) (a.1 2)) (c : Dev nD) (t : Fin grid0.N) (hv : Valid a t) (p : Fin 8192) (q : Fin 128) (h : 8192 * (t.val / 7) + p.val < 262144) :
    blk0 m a inv outR c t (ix2 p q) = argX m c (ix2 ⟨8192 * (t.val / 7) + p.val, h⟩ q) := by
  have e := (tile_word (grid0.coords t 0).val (grid0.coords t 0).isLt (nvw a.1) (hp.nv_pos _)).2 hv
  rw [coords_0] at e
  unfold blk0 RDat.blockOf
  refine congrArg (m ((c.tc : Thread nD τ).loc main_arg3)) (funext fun b => Fin.ext ?_)
  match b with
  | ⟨0, _⟩ =>
    show cc0_transform_0 inb_S1_S1_0 numel1_S1 a.1 (grid0.coords t) 0 * 8192 + 1 * p.val = 8192 * (t.val / 7) + p.val
    rw [tf0, coords_0]
    show (Scalar.minsi _ _).toNat * 8192 + 1 * p.val = _
    rw [e]; omega
  | ⟨1, _⟩ =>
    show cc0_transform_0 inb_S1_S1_0 numel1_S1 a.1 (grid0.coords t) 1 * 128 + 1 * q.val = q.val
    rw [tf0]
    show 0 * 128 + 1 * q.val = q.val
    omega

theorem blk1_apply (hp : PlanFacts (a.1 0) (a.1 1) (a.1 2)) (c : Dev nD) (t : Fin grid0.N) (hv : Valid a t) (k : Fin 1024) (j : Fin 512)
    (h1 : (tew a.1 (grid0.coords t)).toNat < 8) (h : 512 * (t.val % 7) + j.val < 7168) :
    blk1 m a inv outR c t (ix4 0 0 k j) = argG m c (ix4 1 ⟨(tew a.1 (grid0.coords t)).toNat, h1⟩ k ⟨512 * (t.val % 7) + j.val, h⟩) := by
  have e : (slw a.1 (grid0.coords t)).toNat = t.val % 7 := by rw [← coords_1]; exact ((slice_word (grid0.coords t 0).val (grid0.coords t 1).val (grid0.coords t 1).isLt (nvw a.1)).2.2 hv).1
  unfold blk1 RDat.blockOf
  refine congrArg (m ((c.tc : Thread nD τ).loc main_arg4)) (funext fun b => Fin.ext ?_)
  match b with
  | ⟨0, _⟩ =>
    show cc0_transform_1 k0_off1_inb numel1_S1 inb_S1_S1_0 a.1 (grid0.coords t) 0 * 1 + 1 * 0 = 1
    rw [tf1]; rfl
  | ⟨1, _⟩ =>
    show cc0_transform_1 k0_off1_inb numel1_S1 inb_S1_S1_0 a.1 (grid0.coords t) 1 * 1 + 1 * 0 = (tew a.1 (grid0.coords t)).toNat
    rw [tf1]
    show (tew a.1 (grid0.coords t)).toNat * 1 + 1 * 0 = _
    omega
  | ⟨2, _⟩ =>
    show cc0_transform_1 k0_off1_inb numel1_S1 inb_S1_S1_0 a.1 (grid0.coords t) 2 * 1024 + 1 * k.val = k.val
    rw [tf1]
    show 0 * 1024 + 1 * k.val = k.val
    omega
  | ⟨3, _⟩ =>
    show cc0_transform_1 k0_off1_inb numel1_S1 inb_S1_S1_0 a.1 (grid0.coords t) 3 * 512 + 1 * j.val = 512 * (t.val % 7) + j.val
    rw [tf1]
    show (slw a.1 (grid0.coords t)).toNat * 512 + 1 * j.val = _
    rw [e]; omega

theorem blk2_apply (hp : PlanFacts (a.1 0) (a.1 1) (a.1 2)) (c : Dev nD) (t : Fin grid0.N) (hv : Valid a t) (k : Fin 1024) (j : Fin 512)
    (h1 : (tew a.1 (grid0.coords t)).toNat < 8) (h : 3584 + (512 * (t.val % 7) + j.val) < 7168) :
    blk2 m a inv outR c t (ix4 0 0 k j) = argG m c (ix4 1 ⟨(tew a.1 (grid0.coords t)).toNat, h1⟩ k ⟨3584 + (512 * (t.val % 7) + j.val), h⟩) := by
  have e : (Scalar.addi 7#32 (slw a.1 (grid0.coords t))).toNat = 7 + t.val % 7 := by rw [← coords_1]; exact ((slice_word (grid0.coords t 0).val (grid0.coords t 1).val (grid0.coords t 1).isLt (nvw a.1)).2.2 hv).2
  unfold blk2 RDat.blockOf
  refine congrArg (m ((c.tc : Thread nD τ).loc main_arg4)) (funext fun b => Fin.ext ?_)
  match b with
  | ⟨0, _⟩ =>
    show cc0_transform_2 k0_off1_inb numel1_S1 inb_S1_S1_0 a.1 (grid0.coords t) 0 * 1 + 1 * 0 = 1
    rw [tf2]; rfl
  | ⟨1, _⟩ =>
    show cc0_transform_2 k0_off1_inb numel1_S1 inb_S1_S1_0 a.1 (grid0.coords t) 1 * 1 + 1 * 0 = (tew a.1 (grid0.coords t)).toNat
    rw [tf2]
    show (tew a.1 (grid0.coords t)).toNat * 1 + 1 * 0 = _
    omega
  | ⟨2, _⟩ =>
    show cc0_transform_2 k0_off1_inb numel1_S1 inb_S1_S1_0 a.1 (grid0.coords t) 2 * 1024 + 1 * k.val = k.val
    rw [tf2]
    show 0 * 1024 + 1 * k.val = k.val
    omega
  | ⟨3, _⟩ =>
    show cc0_transform_2 k0_off1_inb numel1_S1 inb_S1_S1_0 a.1 (grid0.coords t) 3 * 512 + 1 * j.val = 3584 + (512 * (t.val % 7) + j.val)
    rw [tf2]
    show (Scalar.addi 7#32 (slw a.1 (grid0.coords t))).toNat * 512 + 1 * j.val = _
    rw [e]; omega

theorem blk3_apply (hp : PlanFacts (a.1 0) (a.1 1) (a.1 2)) (c : Dev nD) (t : Fin grid0.N) (hv : Valid a t) (j : Fin 512) (n : Fin 1024)
    (h1 : (tew a.1 (grid0.coords t)).toNat < 8) (h : 512 * (t.val % 7) + j.val < 3584) :
    blk3 m a inv outR c t (ix4 0 0 j n) = argD m c (ix4 1 ⟨(tew a.1 (grid0.coords t)).toNat, h1⟩ ⟨512 * (t.val % 7) + j.val, h⟩ n) := by
  have e : (slw a.1 (grid0.coords t)).toNat = t.val % 7 := by rw [← coords_1]; exact ((slice_word (grid0.coords t 0).val (grid0.coords t 1).val (grid0.coords t 1).isLt (nvw a.1)).2.2 hv).1
  unfold blk3 RDat.blockOf
  refine congrArg (m ((c.tc : Thread nD τ).loc main_arg5)) (funext fun b => Fin.ext ?_)
  match b with
  | ⟨0, _⟩ =>
    show cc0_transform_3 k0_off1_inb numel1_S1 inb_S1_S1_0 a.1 (grid0.coords t) 0 * 1 + 1 * 0 = 1
    rw [tf3]; rfl
  | ⟨1, _⟩ =>
    show cc0_transform_3 k0_off1_inb numel1_S1 inb_S1_S1_0 a.1 (grid0.coords t) 1 * 1 + 1 * 0 = (tew a.1 (grid0.coords t)).toNat
    rw [tf3]
    show (tew a.1 (grid0.coords t)).toNat * 1 + 1 * 0 = _
    omega
  | ⟨2, _⟩ =>
    show cc0_transform_3 k0_off1_inb numel1_S1 inb_S1_S1_0 a.1 (grid0.coords t) 2 * 512 + 1 * j.val = 512 * (t.val % 7) + j.val
    rw [tf3]
    show (slw a.1 (grid0.coords t)).toNat * 512 + 1 * j.val = _
    rw [e]; omega
  | ⟨3, _⟩ =>
    show cc0_transform_3 k0_off1_inb numel1_S1 inb_S1_S1_0 a.1 (grid0.coords t) 3 * 1024 + 1 * n.val = n.val
    rw [tf3]
    show 0 * 1024 + 1 * n.val = n.val
    omega

end Cert.ExpertThreeIdeal.Hand
-- ==== Proof.ExpertThreeValue.lean ====
module

public import proofs.«01_k».proof.Proof.Gen.ExpertThreeIdeal.Launch
public import proofs.«01_k».proof.Proof.Gen.ExpertThreeIdeal.Skeleton
public import Idealize.ShloMosaic.Lib.Pipeline.FrameBody
public import Idealize.ShloMosaic.Lib.Tactic
public import Idealize.ShloMosaic.Lib.WordCmp
public import proofs.«01_k».proof.Proof.ExpertThreeBlocks
public import proofs.«01_k».proof.Proof.ExpertValue
public import Idealize.ShloMosaic.Lib.Writes
public import Idealize.ShloMosaic.Lib.Pointwise

@[expose] public section

set_option maxRecDepth 16384

noncomputable section

namespace Cert.ExpertThreeIdeal.Hand

open Cert.KernelIdeal.Hand
open Cert.ExpertThreeIdeal Cert.ExpertThreeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Math
open Idealize.ShloMosaic.Pipeline (Dat RDat Cfg Window)

variable (m : (ℓ : Loc nD τ sig) → Buf (Elt Ideal) ℓ) (a : (pcfg0 (F := Ideal)).Adm)

/-- The expert of a tile, its number of token rows, and the tile's `r`-th token. -/
def teF (i : Fin 32) : Fin 8 := ⟨((a.1 0 : IVec S32 32) (ix1 i)).toNat % 8, Nat.mod_lt _ (by omega)⟩
def trI (i : Fin 32) : ℤ := ((a.1 2 : IVec S32 32) (ix1 i)).toInt
def tok (i : Fin 32) (r : Fin 1024) : Fin 32768 := ⟨1024 * i.val + r.val, by omega⟩
def LiveTile (i : Fin 32) : Prop := Scalar.cmpi .slt (BitVec.ofNat 32 i.val) (nvw a.1) = 1#1

/-- Hidden unit `j` of the tile's expert at its row `r`, through the down product to channel `n`. -/
def unitAt (i : Fin 32) (r n : Fin 1024) (j : Fin 3584) : EReal := expertUnit 1 (argX m 0) (argG m 0) (argD m 0) (teF a i) (tok i r) n j

/-- Between grid points, inside a live tile: the token matrix holds the tile's rows, the accumulator the slices so far. -/
def invV (s : ℕ) (xb : Vec Ideal S1024x1024 .bf16) (ac : Vec Ideal S1024x1024 .f32) : Prop :=
  ∀ i : Fin 32, i.val = s / 7 → s % 7 ≠ 0 → LiveTile a i → ∀ r : Fin 1024, (r.val : ℤ) < trI a i →
    (∀ k : Fin 1024, xb (ix2 r k) = tokRow (argX m 0) (tok i r) k)
    ∧ ∀ n : Fin 1024, ac (ix2 r n) = ∑ f ∈ Finset.range (s % 7), ∑ j : Fin 512, unitAt m a i r n (hid f j)

/-- At a live tile's last slice the output block's token rows hold the expert's result. -/
def outV (s : ℕ) (o : Vec Ideal S8192x128 .f32) : Prop :=
  ∀ i : Fin 32, i.val = s / 7 → s % 7 = 6 → LiveTile a i → ∀ r : Fin 1024, (r.val : ℤ) < trI a i →
    ∀ (y : Fin 8) (l : Fin 128) (h : 8 * r.val + y.val < 8192) (h' : 128 * y.val + l.val < 1024),
      o (ix2 ⟨8 * r.val + y.val, h⟩ l) = ∑ j, unitAt m a i r ⟨128 * y.val + l.val, h'⟩ j

theorem live_valid {t : Fin grid0.N} {i : Fin 32} (hi : i.val = t.val / 7) (h : LiveTile a i) : Valid a t := by
  unfold Valid; rw [coords_0, ← hi]; exact h

theorem coords_tile {t : Fin grid0.N} {i : Fin 32} (hi : i.val = t.val / 7) : grid0.coords t 0 = i := by
  apply Fin.ext; rw [coords_0, hi]

theorem tew_eq (hp : PlanFacts (a.1 0) (a.1 1) (a.1 2)) {t : Fin grid0.N} {i : Fin 32} (hi : i.val = t.val / 7) (h1 : (tew a.1 (grid0.coords t)).toNat < 8) :
    (⟨(tew a.1 (grid0.coords t)).toNat, h1⟩ : Fin 8) = teF a i := by
  have e : tew a.1 (grid0.coords t) = (a.1 0 : IVec S32 32) (ix1 i) := congrArg (fun z : Fin 32 => (a.1 0 : IVec S32 32) (ix1 z)) (coords_tile hi)
  apply Fin.ext
  show (tew a.1 (grid0.coords t)).toNat = ((a.1 0 : IVec S32 32) (ix1 i)).toNat % 8
  rw [← e]
  exact (Nat.mod_eq_of_lt h1).symm

/-- A slice's contribution, from its blocks. -/
theorem slice_unit (hp : PlanFacts (a.1 0) (a.1 1) (a.1 2)) (t : Fin grid0.N) (i : Fin 32) (hi : i.val = t.val / 7) (hl : LiveTile a i) (r n : Fin 1024) :
    slicePart (tokRow (argX m 0) (tok i r)) (blk1 m a (invV m a) (outV m a) 0 t) (blk2 m a (invV m a) (outV m a) 0 t) (blk3 m a (invV m a) (outV m a) 0 t) n
      = ∑ j : Fin 512, unitAt m a i r n (hid (t.val % 7) j) := by
  have h1 : (tew a.1 (grid0.coords t)).toNat < 8 := te_word hp _
  have hf : t.val % 7 < 7 := Nat.mod_lt _ (by omega)
  unfold slicePart
  refine Finset.sum_congr rfl fun j _ => ?_
  have hj : 512 * (t.val % 7) + j.val < 3584 := by have := j.isLt; omega
  rw [blk3_apply m a _ _ hp 0 t (live_valid a hi hl) j n h1 hj, tew_eq a hp hi h1, hid_eq hf j hj]
  unfold unitAt expertUnit
  refine congrArg₂ (· * ·) (congrArg₂ (gated _) (funext fun k => ?_) (funext fun k => ?_)) rfl
  · rw [blk1_apply m a _ _ hp 0 t (live_valid a hi hl) k j h1 (by omega), tew_eq a hp hi h1]
  · rw [blk2_apply m a _ _ hp 0 t (live_valid a hi hl) k j h1 (by omega), tew_eq a hp hi h1]

theorem keeps_of_step {R : ℕ} (hR : R ≤ 1024)
    (U : BitVec 32 → Vec Ideal (⟨2, ![R, 1024]⟩ : Shape) .bf16 → Vec Ideal S1x1x1024x512 .f32 → Vec Ideal S1x1x1024x512 .f32 → Vec Ideal S1x1x512x1024 .f32 → Vec Ideal (⟨2, ![R, 1024]⟩ : Shape) .f32 → Vec Ideal (⟨2, ![R, 1024]⟩ : Shape) .f32)
    (hU : ∀ w xs x1 x2 x3 a0 (r : Fin R) (n : Fin 1024), U w xs x1 x2 x3 a0 (ix2 r n) = Scalar.select (α := EReal) (Scalar.cmpi .eq w 0#32) 0 (a0 (ix2 r n)) + slicePart (fun k => xs (ix2 r k)) x1 x2 x3 n)
    (hp : PlanFacts (a.1 0) (a.1 1) (a.1 2)) (t : Fin grid0.N) (xb ac xb' ac' o')
    (hrows : ∀ i : Fin 32, i.val = t.val / 7 → trI a i ≤ R)
    (hinv : invV m a t.val xb ac)
    (hS : Step hR U (grid0.coords t) (blk0 m a (invV m a) (outV m a) 0 t) (blk1 m a (invV m a) (outV m a) 0 t) (blk2 m a (invV m a) (outV m a) 0 t) (blk3 m a (invV m a) (outV m a) 0 t) xb ac xb' ac' o') :
    invV m a (t.val + 1) xb' ac' ∧ outV m a t.val o' := by
  obtain ⟨hg, hk, ⟨a0, ha0, hac⟩, ho⟩ := hS
  rw [coords_1] at hg hk ha0 hac ho
  have ht : t.val < 224 := t.isLt
  have hf : t.val % 7 < 7 := Nat.mod_lt _ (by omega)
  have A : ∀ i : Fin 32, i.val = t.val / 7 → LiveTile a i → ∀ r : Fin 1024, (r.val : ℤ) < trI a i → ∀ k : Fin 1024, xb' (ix2 r k) = tokRow (argX m 0) (tok i r) k := by
    intro i hi hl r hr k
    by_cases h0 : t.val % 7 = 0
    · have hrR : r.val < R := by have := hrows i hi; omega
      refine (hg h0 (ix2 r k) hrR).trans ?_
      have hb : 8 * r.val + k.val / 128 < 8192 := by omega
      refine (blk0_apply m a (invV m a) (outV m a) hp 0 t (live_valid a hi hl) ⟨8 * r.val + k.val / 128, hb⟩ ⟨k.val % 128, by omega⟩ (by show 8192 * (t.val / 7) + (8 * r.val + k.val / 128) < 262144; omega)).trans ?_
      unfold tokRow tok
      refine congrArg (argX m 0) (funext fun b => Fin.ext ?_)
      match b with
      | ⟨0, _⟩ => show 8192 * (t.val / 7) + (8 * r.val + k.val / 128) = 8 * (1024 * i.val + r.val) + k.val / 128; omega
      | ⟨1, _⟩ => rfl
    · rw [hk h0]; exact (hinv i hi h0 hl r hr).1 k
  have B : ∀ i : Fin 32, i.val = t.val / 7 → LiveTile a i → ∀ r : Fin 1024, (r.val : ℤ) < trI a i → ∀ n : Fin 1024,
      ac' (ix2 r n) = ∑ f ∈ Finset.range (t.val % 7 + 1), ∑ j : Fin 512, unitAt m a i r n (hid f j) := by
    intro i hi hl r hr n
    have hrR : r.val < R := by have := hrows i hi; omega
    have e1 := hac ⟨r.val, hrR⟩ n
    have er : Fin.castLE hR ⟨r.val, hrR⟩ = r := rfl
    rw [hU, er, sel_slice _ hf] at e1
    rw [e1, Finset.sum_range_succ]
    refine congrArg₂ (· + ·) ?_ ?_
    · by_cases h0 : t.val % 7 = 0
      · rw [if_pos h0, h0]; rfl
      · rw [if_neg h0, ha0 h0, er]; exact (hinv i hi h0 hl r hr).2 n
    · rw [← slice_unit m a hp t i hi hl r n]
      refine congrArg (fun h => slicePart h _ _ _ n) (funext fun k => ?_)
      exact A i hi hl r hr k
  constructor
  · intro i hi h0 hl r hr
    have hi' : i.val = t.val / 7 := by omega
    have e : (t.val + 1) % 7 = t.val % 7 + 1 := by omega
    rw [e]
    exact ⟨A i hi' hl r hr, B i hi' hl r hr⟩
  · intro i hi h6 hl r hr y l h h'
    have hrR : r.val < R := by have := hrows i hi; omega
    rw [ho h6 _ (by show 8 * r.val + y.val < 8 * R; have := y.isLt; omega)]
    have ed : dst (ix2 ⟨8 * r.val + y.val, h⟩ l) = ix2 r ⟨128 * y.val + l.val, h'⟩ := by
      funext b; apply Fin.ext
      match b with
      | ⟨0, _⟩ => show (8 * r.val + y.val) / 8 = r.val; have := y.isLt; omega
      | ⟨1, _⟩ => show 128 * ((8 * r.val + y.val) % 8) + l.val = 128 * y.val + l.val; have := y.isLt; omega
    rw [ed, B i hi hl r hr, h6]
    exact sum_slices _

/-- Every grid point keeps the two relations. -/
theorem keepsV (hp : PlanFacts (a.1 0) (a.1 1) (a.1 2)) : Keeps m a (invV m a) (outV m a) := by
  intro c t xb ac xb' ac' o' hinv hS
  obtain rfl : c = 0 := Subsingleton.elim c 0
  have ht : t.val < 224 := t.isLt
  have hN : t.val / 7 < 32 := by omega
  let i0 : Fin 32 := ⟨t.val / 7, hN⟩
  have hi0 : ∀ i : Fin 32, i.val = t.val / 7 → i = i0 := fun i h => Fin.ext h
  by_cases hl : LiveTile a i0 ∧ 1 ≤ trI a i0
  · obtain ⟨q, hq1, hq4, hqr, hqw⟩ := nqw_of ((a.1 2 : IVec S32 32) (ix1 i0)) hl.2 (hp.tr_le _)
    have etr : trWord (F := Ideal) (a.1 2) (grid0.coords t) = (a.1 2 : IVec S32 32) (ix1 i0) := by unfold trWord; rw [coords_tile (i := i0) rfl]
    have hc : Scalar.cmpi .slt (BitVec.ofNat 32 (grid0.coords t 0).val) (nvWord (F := Ideal) (a.1 1)) = 1#1 := by rw [coords_tile (i := i0) rfl]; exact hl.1
    have hqe : ∀ z : BitVec 32, BitVec.ofNat 32 q = z → Scalar.cmpi .eq (nqw (trWord (F := Ideal) (a.1 2) (grid0.coords t))) z = 1#1 := by
      intro z hz; rw [etr, hqw, hz]; unfold Scalar.cmpi IntOp.cmpi; simp
    obtain ⟨s1, s2, s3, s4⟩ := hS
    have hq : q = 1 ∨ q = 2 ∨ q = 3 ∨ q = 4 := by omega
    rcases hq with rfl | rfl | rfl | rfl
    · exact keeps_of_step m a _ _ pay27_apply hp t xb ac xb' ac' o' (fun i hi => by rw [hi0 i hi]; exact hqr) hinv (s1 ((cond2_iff _ _ _).mpr ⟨hc, hqe _ rfl⟩))
    · exact keeps_of_step m a _ _ pay36_apply hp t xb ac xb' ac' o' (fun i hi => by rw [hi0 i hi]; exact hqr) hinv (s2 ((cond5_iff _ _ _).mpr ⟨hc, hqe _ rfl⟩))
    · exact keeps_of_step m a _ _ pay45_apply hp t xb ac xb' ac' o' (fun i hi => by rw [hi0 i hi]; exact hqr) hinv (s3 ((cond8_iff _ _ _).mpr ⟨hc, hqe _ rfl⟩))
    · exact keeps_of_step m a _ _ pay54_apply hp t xb ac xb' ac' o' (fun i hi => by rw [hi0 i hi]; exact hqr) hinv (s4 ((cond11_iff _ _ _).mpr ⟨hc, hqe _ rfl⟩))
  · constructor
    · intro i hi h0 hli r hr
      have hi' : i.val = t.val / 7 := by omega
      rw [hi0 i hi'] at hli hr
      exact absurd ⟨hli, by have := r.isLt; omega⟩ hl
    · intro i hi h0 hli r hr
      rw [hi0 i hi] at hli hr
      exact absurd ⟨hli, by have := r.isLt; omega⟩ hl

end Cert.ExpertThreeIdeal.Hand
-- ==== Proof.ExpertThreeArray.lean ====
module

public import proofs.«01_k».proof.Proof.Gen.ExpertThreeIdeal.Launch
public import proofs.«01_k».proof.Proof.Gen.ExpertThreeIdeal.Skeleton
public import Idealize.ShloMosaic.Lib.Pipeline.FrameBody
public import Idealize.ShloMosaic.Lib.Tactic
public import Idealize.ShloMosaic.Lib.WordCmp
public import proofs.«01_k».proof.Proof.ExpertThreeValue
public import Idealize.ShloMosaic.Lib.Pipeline.ArrRel
public import Idealize.ShloMosaic.Lib.Pipeline.ValueKit
public import Idealize.ShloMosaic.Lib.Writes
public import Idealize.ShloMosaic.Lib.Pointwise

@[expose] public section

set_option maxRecDepth 16384

noncomputable section

namespace Cert.ExpertThreeIdeal.Hand

open Cert.KernelIdeal.Hand
open Cert.ExpertThreeIdeal Cert.ExpertThreeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Math
open Idealize.ShloMosaic.Pipeline (Dat RDat Cfg Window)

variable (m : (ℓ : Loc nD τ sig) → Buf (Elt Ideal) ℓ) (a : (pcfg0 (F := Ideal)).Adm)

/-- The output block of a grid point is its tile's. -/
theorem idx4 (t : Fin grid0.N) : ((cfg0 a).win 4).index t (0 : Fin 2) = t.val / 7 ∧ ((cfg0 a).win 4).index t (1 : Fin 2) = 0 := by
  constructor
  · show (BitVec.ofNat 32 (grid0.coords t 0).val).toNat = _
    rw [coords_0, BitVec.toNat_ofNat]
    have : t.val < 224 := t.isLt
    omega
  · rfl

theorem idx4_eq {t t' : Fin grid0.N} (h : t.val / 7 = t'.val / 7) : ((cfg0 a).win 4).index t = ((cfg0 a).win 4).index t' := by
  funext b
  match b with
  | ⟨0, _⟩ => exact (idx4 a t).1.trans (h.trans (idx4 a t').1.symm)
  | ⟨1, _⟩ => exact (idx4 a t).2.trans (idx4 a t').2.symm

/-- The output block is written back exactly at a tile's last slice. -/
theorem flush4_of (t : Fin grid0.N) (h : t.val % 7 = 6) : ((cfg0 a).win 4).flush t = true := by
  have ht : t.val < 224 := t.isLt
  unfold Window.flush
  rw [Bool.and_eq_true]
  refine ⟨rfl, ?_⟩
  by_cases hN : t.val + 1 = 224
  · exact Bool.or_eq_true_iff.mpr (Or.inl (decide_eq_true hN))
  · refine Bool.or_eq_true_iff.mpr (Or.inr (decide_eq_true ⟨by show t.val + 1 < 224; omega, fun e => ?_⟩))
    have e0 := congrFun e (0 : Fin 2)
    rw [(idx4 a _).1, (idx4 a _).1] at e0
    simp only at e0
    omega

theorem of_flush4 (t : Fin grid0.N) (h : ((cfg0 a).win 4).flush t = true) : t.val % 7 = 6 := by
  have ht : t.val < 224 := t.isLt
  by_contra hn
  unfold Window.flush at h
  rw [Bool.and_eq_true] at h
  rcases Bool.or_eq_true_iff.mp h.2 with h1 | h1
  · have : t.val + 1 = 224 := of_decide_eq_true h1
    omega
  · obtain ⟨h2, h3⟩ := of_decide_eq_true h1
    exact h3 (idx4_eq a (by show (t.val + 1) / 7 = t.val / 7; omega))

theorem disj4 : ∀ t t' : Fin grid0.N, ((cfg0 a).win 4).flush t = true → ((cfg0 a).win 4).flush t' = true → t ≠ t' →
    Disjoint (((cfg0 a).win 4).blk t).view.set (((cfg0 a).win 4).blk t').view.set := by
  intro t t' h h' hne
  refine ((cfg0 a).win 4).disjoint_blk fun e => hne (Fin.ext ?_)
  have e0 := congrFun e (0 : Fin 2)
  rw [(idx4 a _).1, (idx4 a _).1] at e0
  have := of_flush4 a t h
  have := of_flush4 a t' h'
  omega

/-- What the result array holds in a live tile's token rows. -/
theorem result_rows (r : PUnit × MemSt nD τ sig (Elt Ideal))
    (h : Pipeline.RDat.FramePost (cfg0 a) (rdat m a (invV m a) (outV m a)) (fun c b => m ((c.tc : Thread nD τ).loc b)) r)
    (i : Fin 32) (hl : LiveTile a i) (p : Fin 1024) (hp : (p.val : ℤ) < trI a i) (y : Fin 8) (l : Fin 128)
    (h1 : 8192 * i.val + (8 * p.val + y.val) < 262144) (h2 : 128 * y.val + l.val < 1024) :
    (r.2.mem (((0 : Dev nD).tc : Thread nD τ).loc main_v0) : Vec Ideal S262144x128 .f32) (ix2 ⟨8192 * i.val + (8 * p.val + y.val), h1⟩ l)
      = ∑ j, unitAt m a i p ⟨128 * y.val + l.val, h2⟩ j := by
  obtain ⟨after, hL, hA⟩ := h.exists_exact 0
  have ht : 7 * i.val + 6 < 224 := by omega
  obtain ⟨t, htv⟩ : ∃ t : Fin grid0.N, t.val = 7 * i.val + 6 := ⟨⟨7 * i.val + 6, ht⟩, rfl⟩
  have hf := flush4_of a t (by omega)
  obtain ⟨Y, hY, hX⟩ := hL 4 t hf
  have ho : outV m a t.val (after 4 t) := hX
  have hb : 8 * p.val + y.val < 8192 := by have := p.isLt; have := y.isLt; omega
  have e := ho i (by omega) (by omega) hl p hp y l hb h2
  refine Eq.trans ?_ e
  have hR := Dat.read_blk_arrAt_eq_flushed ((rdat m a (invV m a) (outV m a) 0).withAfter after) 4 (disj4 a) (cfg0 a).N t t.isLt hf
  have hR' := congrFun hR (ix2 ⟨8 * p.val + y.val, hb⟩ l)
  refine Eq.trans ?_ hR'
  rw [← hA 4]
  show (r.2.mem (((0 : Dev nD).tc : Thread nD τ).loc main_v0) : Vec Ideal S262144x128 .f32) _ = (r.2.mem (((0 : Dev nD).tc : Thread nD τ).loc main_v0) : Vec Ideal S262144x128 .f32) _
  refine congrArg _ (funext fun b => Fin.ext ?_)
  match b with
  | ⟨0, _⟩ =>
    show 8192 * i.val + (8 * p.val + y.val) = ((cfg0 a).win 4).index t (0 : Fin 2) * 8192 + 1 * (8 * p.val + y.val)
    rw [(idx4 a t).1]; omega
  | ⟨1, _⟩ =>
    show l.val = ((cfg0 a).win 4).index t (1 : Fin 2) * 128 + 1 * l.val
    rw [(idx4 a t).2]; omega

end Cert.ExpertThreeIdeal.Hand
-- ==== Proof.ExpertThreeAlgebraic.lean ====
module

public import proofs.«01_k».proof.Proof.Gen.ExpertThreeIdeal.Launch
public import proofs.«01_k».proof.Proof.Gen.ExpertThreeIdeal.Skeleton
public import Idealize.ShloMosaic.Lib.Pipeline.FrameBody
public import Idealize.ShloMosaic.Lib.Tactic
public import Idealize.ShloMosaic.Lib.WordCmp
public import proofs.«01_k».proof.Proof.ExpertMask
public import proofs.«01_k».proof.Proof.ExpertThreeRef
public import proofs.«01_k».proof.Proof.ExpertThreeArray
public import proofs.«01_k».proof.Proof.ExpertAlgebraic
public import proofs.«01_k».proof.Defs
public import proofs.«01_k».proof.Proof.Gen.Pre_plan
public import proofs.«01_k».proof.On_token_rows
public import proofs.«01_k».proof.Proof.Gen.On_token_rows
public import Idealize.ShloMosaic.Lib.Pipeline.ArrRel
public import Idealize.ShloMosaic.Lib.Pipeline.ValueKit
public import Idealize.ShloMosaic.Lib.Writes
public import Idealize.ShloMosaic.Lib.Pointwise

@[expose] public section

set_option maxRecDepth 16384

noncomputable section

namespace Cert.ExpertThreeIdeal.Hand

open Cert.KernelIdeal.Hand
open Cert.ExpertThreeIdeal Cert.ExpertThreeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Math
open Idealize.ShloMosaic.Pipeline (Dat RDat Cfg Window)

/-- In a row that holds a token the kernel's result is the reference's. -/
theorem result_token (m : (ℓ : Loc nD τ sig) → Buf (Elt Ideal) ℓ) (a : (pcfg0 (F := Ideal)).Adm) (ha : a.1 = tabs m) (hp : PlanFacts (a.1 0) (a.1 1) (a.1 2))
    (r : PUnit × MemSt nD τ sig (Elt Ideal))
    (h : Pipeline.RDat.FramePost (cfg0 a) (rdat m a (invV m a) (outV m a)) (fun c b => m ((c.tc : Thread nD τ).loc b)) r)
    (R : Fin 262144) (l : Fin 128)
    (hm : Cert.On_token_rows.fn (F := Ideal) (m (((0 : Dev nD).tc : Thread nD τ).loc main_arg0)) (m (((0 : Dev nD).tc : Thread nD τ).loc main_arg1)) (m (((0 : Dev nD).tc : Thread nD τ).loc main_arg2))
      (m (((0 : Dev nD).tc : Thread nD τ).loc main_arg3)) (m (((0 : Dev nD).tc : Thread nD τ).loc main_arg4)) (m (((0 : Dev nD).tc : Thread nD τ).loc main_arg5)) (ix2 R l) = 1#1) :
    (r.2.mem (((0 : Dev nD).tc : Thread nD τ).loc main_v0) : Vec Ideal S262144x128 .f32) (ix2 R l)
      = Cert.ExpertThreeRefIdeal.Read.val_main_v109 (F := Ideal) (m (((0 : Dev nD).tc : Thread nD τ).loc main_arg0)) (m (((0 : Dev nD).tc : Thread nD τ).loc main_arg3))
        (m (((0 : Dev nD).tc : Thread nD τ).loc main_arg4)) (m (((0 : Dev nD).tc : Thread nD τ).loc main_arg5)) (ix2 R l) := by
  have hR := R.isLt
  have hll := l.isLt
  rw [mask_apply] at hm
  obtain ⟨hm1, hm2⟩ := andi_parts _ _ hm
  let i : Fin 32 := ⟨R.val / 8192, by omega⟩
  let p : Fin 1024 := ⟨R.val / 8 % 1024, by omega⟩
  let y : Fin 8 := ⟨R.val % 8, by omega⟩
  have hl : LiveTile a i := by
    unfold LiveTile nvw
    rw [ha]; exact hm1
  have hpr : (p.val : ℤ) < trI a i := by
    have e := IntOp.cmpi_slt.1 hm2
    rw [small_toInt _ p.isLt] at e
    unfold trI
    rw [ha]; exact e
  have h2 : 128 * y.val + l.val < 1024 := by show 128 * (R.val % 8) + l.val < 1024; omega
  have h1 : 8192 * i.val + (8 * p.val + y.val) < 262144 := by show 8192 * (R.val / 8192) + (8 * (R.val / 8 % 1024) + R.val % 8) < 262144; omega
  have k := result_rows m a r h i hl p hpr y l h1 h2
  have eR : (⟨8192 * i.val + (8 * p.val + y.val), h1⟩ : Fin 262144) = R := Fin.ext (by show 8192 * (R.val / 8192) + (8 * (R.val / 8 % 1024) + R.val % 8) = R.val; omega)
  rw [eR] at k
  refine k.trans ?_
  have eT : 8 * (tok i p).val + y.val = R.val := by show 8 * (1024 * (R.val / 8192) + R.val / 8 % 1024) + R.val % 8 = R.val; omega
  have hte : ((a.1 0 : IVec S32 32) (ix1 i)).toNat < 8 := te_word hp _
  have ei : (⟨(tok i p).val / 1024, by have := (tok i p).isLt; omega⟩ : Fin 32) = i := Fin.ext (by show (1024 * (R.val / 8192) + R.val / 8 % 1024) / 1024 = R.val / 8192; omega)
  have o := Cert.ExpertThreeRefIdeal.Hand.out_apply (m (((0 : Dev nD).tc : Thread nD τ).loc main_arg0)) (argX m 0) (argG m 0) (argD m 0) (tok i p) y l (teF a i)
    (by
      rw [ei]
      show ((m (((0 : Dev nD).tc : Thread nD τ).loc main_arg0) : IVec S32 32) (ix1 i)).toNat = ((a.1 0 : IVec S32 32) (ix1 i)).toNat % 8
      rw [Nat.mod_eq_of_lt hte, ha]
      rfl) (by omega) h2
  have eR' : (⟨8 * (tok i p).val + y.val, by omega⟩ : Fin 262144) = R := Fin.ext eT
  rw [eR'] at o
  exact o.symm

end Cert.ExpertThreeIdeal.Hand

namespace Cert.Proof

open Cert.KernelIdeal.Hand (tabs plan_facts PlanFacts)
open Idealize.ShloMosaic Idealize.SL.Sem Cert.ExpertThreeIdeal.Hand

theorem reference3_congr {x0 y0 : (⟨Cert.ExpertThreeRefIdeal.S32, .i32⟩ : BufTy).Contents (Elt Ideal)} {x3 y3 : (⟨Cert.ExpertThreeRefIdeal.S262144x128, .f32⟩ : BufTy).Contents (Elt Ideal)}
    {x4 y4 : (⟨Cert.ExpertThreeRefIdeal.S2x8x1024x7168, .f32⟩ : BufTy).Contents (Elt Ideal)} {x5 y5 : (⟨Cert.ExpertThreeRefIdeal.S2x8x3584x1024, .f32⟩ : BufTy).Contents (Elt Ideal)}
    (h0 : x0 = y0) (h3 : x3 = y3) (h4 : x4 = y4) (h5 : x5 = y5) :
    Cert.ExpertThreeRefIdeal.Read.val_main_v109 (F := Ideal) x0 x3 x4 x5 = Cert.ExpertThreeRefIdeal.Read.val_main_v109 (F := Ideal) y0 y3 y4 y5 := by
  rw [h0, h3, h4, h5]

/-- The routed experts: on every row that holds a token, the kernel and the reference agree. -/
theorem expert3_algebraic : Cert.algebraic_ExpertThreeIdeal_ExpertThreeRefIdeal_on_token_rows := fun m ρ m' ρ' hP hm => by
  have hp : PlanFacts (tabs m 0) (tabs m 1) (tabs m 2) := plan_facts _ _ _ _ _ _ (hP 0)
  have hok := ok_of_plan (tabs m) hp
  refine ⟨fun c => Cert.ExpertThreeRefIdeal.Read.val_main_v109 (F := Ideal) (m ((c.tc : Thread _ _).loc Cert.ExpertThreeIdeal.main_arg0)) (m ((c.tc : Thread _ _).loc Cert.ExpertThreeIdeal.main_arg3))
    (m ((c.tc : Thread _ _).loc Cert.ExpertThreeIdeal.main_arg4)) (m ((c.tc : Thread _ _).loc Cert.ExpertThreeIdeal.main_arg5)), ?_, ?_⟩
  · refine (θ_run Cert.ExpertThreeIdeal.defs _ _).mono (fun r h c => ?_)
      (launch m ρ (adm m hok) (invV m (adm m hok)) (outV m (adm m hok)) (keepsV m (adm m hok) hp) (fun _ _ i hi h0 => absurd rfl h0) rfl)
    refine ⟨fun i hi => ?_, args_kept m (adm m hok) _ _ r h.1 c⟩
    obtain rfl : c = 0 := Subsingleton.elim c 0
    obtain ⟨R, l, rfl⟩ : ∃ (R : Fin 262144) (l : Fin 128), i = ix2 R l := ⟨i 0, i 1, eq_ix2 i⟩
    exact result_token m (adm m hok) rfl hp r h.1 R l hi
  · refine (θ_run Cert.ExpertThreeRefIdeal.defs _ _).mono (fun _ h c => ⟨fun i _ => ?_, (h c).2⟩) (Cert.ExpertThreeRefIdeal.Value.run (F := Ideal) m' ρ')
    refine congrFun ((h c).1.trans ?_) i
    rw [Cert.ExpertThreeRefIdeal.Read.val_main_v109_eq]
    exact reference3_congr (hm c).1 (hm c).2.2.2.1 (hm c).2.2.2.2.1 (hm c).2.2.2.2.2

end Cert.Proof
-- ==== Proof.ProjValue.lean ====
/- The output projection's result array after its run: each grid point writes 1024 rows, and together they are the whole
   array. The first four points take the prompt's attention, the others the samples'. -/
module

public import proofs.«01_k».proof.Proof.Swiglu
public import proofs.«01_k».proof.Proof.Gen.ProjIdeal.Value
public import Idealize.ShloMosaic.Lib.Pointwise

@[expose] public section

set_option maxRecDepth 16384

noncomputable section

namespace Cert.Math

open scoped BigOperators
open Idealize.ShloMosaic

/-- The attention's output at token `r`: the prompt's tokens come first, then the samples'. -/
def attnRow (oc : (⟨2, ![4096, 1024]⟩ : Shape).Idx → EReal) (ol : (⟨2, ![8192, 1024]⟩ : Shape).Idx → EReal) (r : Fin 12288)
    (k : Fin 1024) : EReal :=
  if h : r.val < 4096 then oc (ix2 ⟨r.val, h⟩ k) else ol (ix2 ⟨r.val - 4096, by omega⟩ k)

/-- The gated residual of the output projection at token `r`, channel `n`. -/
def projOut (x : (⟨2, ![12288, 1024]⟩ : Shape).Idx → EReal) (oc : (⟨2, ![4096, 1024]⟩ : Shape).Idx → EReal)
    (ol : (⟨2, ![8192, 1024]⟩ : Shape).Idx → EReal) (md : (⟨3, ![4, 16, 6144]⟩ : Shape).Idx → EReal)
    (w : (⟨3, ![1, 1024, 1024]⟩ : Shape).Idx → EReal) (r : Fin 12288) (q : Fin 16) (n : Fin 1024) : EReal :=
  x (ix2 r n) + md (ix3 2 q ⟨2048 + n.val, by omega⟩) * ∑ k, attnRow oc ol r k * w (ix3 0 k n)

end Cert.Math

namespace Cert.ProjIdeal.Hand

open scoped BigOperators
open Cert.ProjIdeal Cert.ProjIdeal.Gen Idealize.ShloMosaic Idealize.ShloMosaic.TcCoe Idealize.SL.Sem Cert.Math
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the host part prepares -/

theorem V_mod (c : Dev nD) (a : Fin 4) (q : Fin 16) (k : Fin 6144) :
    V m c main_v0 (ix4 a q 0 k) = m ((c : Thread nD τ).loc main_arg3) (ix3 a q k) := by
  show StableHlo.after hostOps0 _ (main_v0 : DevRef τ sig) _ = _
  after_results
  pointwise []

theorem V_w (c : Dev nD) (k n : Fin 1024) :
    V m c main_v2 (ix2 k n) = m ((c : Thread nD τ).loc main_arg4) (ix3 0 k n) := by
  show StableHlo.after hostOps0 _ (main_v2 : DevRef τ sig) _ = _
  after_results
  pointwise []

/-! ## The blocks of the windows -/

theorem idx0 : ∀ t : Fin grid0.N, win0_0.index t 0 = t.val ∧ win0_0.index t 1 = 0 := by decide +kernel
theorem idx1 : ∀ t : Fin grid0.N, win0_1.index t 0 = min t.val 3 ∧ win0_1.index t 1 = 0 := by decide +kernel
theorem idx2 : ∀ t : Fin grid0.N, win0_2.index t 0 = t.val - 4 ∧ win0_2.index t 1 = 0 := by decide +kernel
theorem idx3 : ∀ t : Fin grid0.N, win0_3.index t 0 = 2 ∧ win0_3.index t 1 = modRow (1024 * t.val) ∧ win0_3.index t 2 = 0
    ∧ win0_3.index t 3 = 0 := by unfold modRow; decide +kernel
theorem idx4 : ∀ t : Fin grid0.N, win0_4.index t 0 = 0 ∧ win0_4.index t 1 = 0 := by decide +kernel
theorem idx5 : ∀ t : Fin grid0.N, win0_5.index t 0 = t.val ∧ win0_5.index t 1 = 0 := by decide +kernel

/-- Whether a point's rows are the prompt's. -/
theorem prompt_point : ∀ t : Fin grid0.N,
    Scalar.cmpi .slt (BitVec.ofNat 32 (grid0.coords t 0).val) 4#32 = if t.val < 4 then 1#1 else 0#1 := by decide +kernel

/-- Token row `r` of point `t`'s block. -/
def tok (t : Fin cfg0.N) (r : Fin 1024) : Fin 12288 :=
  ⟨1024 * t.val + r.val, by have : t.val < 12 := t.isLt; omega⟩

theorem modRow_tok (t : Fin cfg0.N) (r : Fin 1024) : modRow (tok t r).val = modRow (1024 * t.val) := by
  unfold modRow tok; dsimp only; split <;> split <;> omega

theorem iblk0 (c : Dev nD) (t : Fin cfg0.N) (r k : Fin 1024) :
    iblk m c 0 t (ix2 r k) = m ((c : Thread nD τ).loc main_arg0) (ix2 (tok t r) k) := by
  unfold iblk
  rw [View.read_apply]
  refine Eq.trans ?_ (congrFun (V_main_arg0 m c) _)
  show V m c main_arg0 _ = _
  congr 1; funext a; apply Fin.ext
  match a with
  | ⟨0, _⟩ => show win0_0.index t 0 * 1024 + 1 * r.val = 1024 * t.val + r.val; rw [(idx0 t).1]; omega
  | ⟨1, _⟩ => show win0_0.index t 1 * 1024 + 1 * k.val = k.val; rw [(idx0 t).2]; omega

theorem iblk1 (c : Dev nD) (t : Fin cfg0.N) (ht : t.val < 4) (r k : Fin 1024) :
    iblk m c 1 t (ix2 r k) = m ((c : Thread nD τ).loc main_arg1) (ix2 ⟨(tok t r).val, by unfold tok; dsimp only; omega⟩ k) := by
  unfold iblk
  rw [View.read_apply]
  refine Eq.trans ?_ (congrFun (V_main_arg1 m c) _)
  show V m c main_arg1 _ = _
  congr 1; funext a; apply Fin.ext
  match a with
  | ⟨0, _⟩ => show win0_1.index t 0 * 1024 + 1 * r.val = 1024 * t.val + r.val; rw [(idx1 t).1]; omega
  | ⟨1, _⟩ => show win0_1.index t 1 * 1024 + 1 * k.val = k.val; rw [(idx1 t).2]; omega

theorem iblk2 (c : Dev nD) (t : Fin cfg0.N) (ht : ¬ t.val < 4) (r k : Fin 1024) :
    iblk m c 2 t (ix2 r k) = m ((c : Thread nD τ).loc main_arg2) (ix2 ⟨(tok t r).val - 4096, by have := (tok t r).isLt; omega⟩ k) := by
  unfold iblk
  rw [View.read_apply]
  refine Eq.trans ?_ (congrFun (V_main_arg2 m c) _)
  show V m c main_arg2 _ = _
  congr 1; funext a; apply Fin.ext
  match a with
  | ⟨0, _⟩ => show win0_2.index t 0 * 1024 + 1 * r.val = 1024 * t.val + r.val - 4096; rw [(idx2 t).1]; omega
  | ⟨1, _⟩ => show win0_2.index t 1 * 1024 + 1 * k.val = k.val; rw [(idx2 t).2]; omega

theorem iblk3 (c : Dev nD) (t : Fin cfg0.N) (r : Fin 1024) (k : Fin 6144) :
    iblk m c 3 t (ix4 0 0 0 k)
      = m ((c : Thread nD τ).loc main_arg3) (ix3 2 ⟨modRow (tok t r).val, modRow_lt (tok t r).isLt⟩ k) := by
  unfold iblk
  rw [View.read_apply]
  refine Eq.trans ?_ (V_mod m c _ _ _)
  show V m c main_v0 _ = _
  congr 1; funext a; apply Fin.ext
  match a with
  | ⟨0, _⟩ => show win0_3.index t 0 * 1 + 1 * 0 = 2; rw [(idx3 t).1]
  | ⟨1, _⟩ => show win0_3.index t 1 * 1 + 1 * 0 = modRow (tok t r).val; rw [(idx3 t).2.1, modRow_tok]; omega
  | ⟨2, _⟩ => show win0_3.index t 2 * 1 + 1 * 0 = 0; rw [(idx3 t).2.2.1]
  | ⟨3, _⟩ => show win0_3.index t 3 * 6144 + 1 * k.val = k.val; rw [(idx3 t).2.2.2]; omega

theorem iblk4 (c : Dev nD) (t : Fin cfg0.N) (k n : Fin 1024) :
    iblk m c 4 t (ix2 k n) = m ((c : Thread nD τ).loc main_arg4) (ix3 0 k n) := by
  unfold iblk
  rw [View.read_apply]
  refine Eq.trans ?_ (V_w m c k n)
  show V m c main_v2 _ = _
  congr 1; funext a; apply Fin.ext
  match a with
  | ⟨0, _⟩ => show win0_4.index t 0 * 1024 + 1 * k.val = k.val; rw [(idx4 t).1]; omega
  | ⟨1, _⟩ => show win0_4.index t 1 * 1024 + 1 * n.val = n.val; rw [(idx4 t).2]; omega

/-! ## What a point writes back -/

/-- The result array as a function of the arguments. -/
def result (c : Dev nD) : Buf (Elt Ideal) ((c : Thread nD τ).loc main_v3) := fun i =>
  projOut (m ((c : Thread nD τ).loc main_arg0)) (m ((c : Thread nD τ).loc main_arg1)) (m ((c : Thread nD τ).loc main_arg2))
    (m ((c : Thread nD τ).loc main_arg3)) (m ((c : Thread nD τ).loc main_arg4)) (i 0)
    ⟨modRow (i 0).val, modRow_lt (i 0).isLt⟩ (i 1)

/-- The payload with the choice between the two groups already made. -/
theorem pay1_apply (t : Fin grid0.N) (v0 : Vec Ideal S1x1x1x1024 .f32) (v3 v4 : Vec Ideal S1024x1024 .bf16)
    (v6 : Vec Ideal S1024x1024 .f32) (v7 : Vec Ideal S1024x1024 .bf16) (r n : Fin 1024) :
    k0_pay1 (grid0.coords t) v0 v3 v4 v6 v7 (ix2 r n)
      = v6 (ix2 r n) + v0 (ix4 0 0 0 n) * ∑ k, (if t.val < 4 then v3 (ix2 r k) else v4 (ix2 r k)) * v7 (ix2 k n) := by
  unfold k0_pay1
  dsimp only
  rw [prompt_point]
  split
  · have e : Scalar.select (1#1) v3 v4 = v3 := rfl
    rw [e]
    pointwise []
  · have e : Scalar.select (0#1) v3 v4 = v4 := rfl
    rw [e]
    pointwise []

theorem out_apply (t : Fin grid0.N) (x0 : Vec Ideal S1024x1024 .f32) (x1 x2 : Vec Ideal S1024x1024 .bf16)
    (x3 : Vec Ideal S1x1x1x6144 .f32) (x4 : Vec Ideal S1024x1024 .bf16) (r n : Fin 1024) :
    out0_5 (grid0.coords t) x0 x1 x2 x3 x4 (ix2 r n) = x0 (ix2 r n) + x3 (ix4 0 0 0 ⟨2048 + n.val, by omega⟩)
      * ∑ k, (if t.val < 4 then x1 (ix2 r k) else x2 (ix2 r k)) * x4 (ix2 k n) := by
  unfold out0_5
  rw [View.canon_unit_zero hz]
  simp only [View.ld_unit_zero (S := S1024x1024) hz]
  rw [pay1_apply]
  pointwise []

theorem flushed_eq (c : Dev nD) (t : Fin cfg0.N) :
    (dats m 0 c).flushed 5 t = ((cfg0.win 5).blk t).view.read (Elt Ideal) (result m c) := by
  rw [Value.flushed5]
  show out0_5 (grid0.coords t) _ _ _ _ _ = _
  funext j
  obtain ⟨r, n, rfl⟩ : ∃ (r : Fin 1024) (n : Fin 1024), j = ix2 r n := ⟨j 0, j 1, eq_ix2 j⟩
  have e : ((cfg0.win 5).blk t).view.read (Elt Ideal) (result m c) (ix2 r n) = result m c (ix2 (tok t r) n) := by
    rw [View.read_apply]
    show result m c _ = _
    congr 1; funext a; apply Fin.ext
    match a with
    | ⟨0, _⟩ => show win0_5.index t 0 * 1024 + 1 * r.val = 1024 * t.val + r.val; rw [(idx5 t).1]; omega
    | ⟨1, _⟩ => show win0_5.index t 1 * 1024 + 1 * n.val = n.val; rw [(idx5 t).2]; omega
  refine Eq.trans ?_ e.symm
  rw [out_apply t]
  simp only [iblk0, iblk3 m c t r, iblk4]
  have ht : (tok t r).val = 1024 * t.val + r.val := rfl
  have hrow : ∀ k, (if t.val < 4 then iblk m c 1 t (ix2 r k) else iblk m c 2 t (ix2 r k))
      = attnRow (m ((c : Thread nD τ).loc main_arg1)) (m ((c : Thread nD τ).loc main_arg2)) (tok t r) k := fun k => by
    unfold attnRow
    by_cases h : t.val < 4
    · rw [if_pos h, dif_pos (by omega), iblk1 m c t h]
    · rw [if_neg h, dif_neg (by omega), iblk2 m c t h]
  simp only [hrow]
  rfl

theorem cover (i : S12288x1024.Idx) : ∃ t : Fin cfg0.N, (cfg0.win 5).flush t = true ∧ i ∈ ((cfg0.win 5).blk t).view.set := by
  have h0 : (i 0 : ℕ) < 12288 := (i 0).isLt
  have h1 : (i 1 : ℕ) < 1024 := (i 1).isLt
  obtain ⟨t, ht⟩ : ∃ t : Fin grid0.N, t.val = (i 0 : ℕ) / 1024 := ⟨⟨(i 0 : ℕ) / 1024, by show _ < 12; omega⟩, rfl⟩
  refine ⟨t, flush0_5 t, ?_⟩
  show i ∈ ((View.whole main_v3).slice (win0_5.rect t)).set
  rw [View.set_slice_whole, Rect.mem_set_unit]
  intro a
  match a with
  | ⟨0, _⟩ =>
    show win0_5.index t 0 * 1024 ≤ (i 0 : ℕ) ∧ (i 0 : ℕ) < win0_5.index t 0 * 1024 + 1024
    rw [(idx5 t).1, ht]; omega
  | ⟨1, _⟩ =>
    show win0_5.index t 1 * 1024 ≤ (i 1 : ℕ) ∧ (i 1 : ℕ) < win0_5.index t 1 * 1024 + 1024
    rw [(idx5 t).2]; omega

theorem final (c : Dev nD) : (dats m 0 c).arrAt 5 cfg0.N = result m c :=
  (dats m 0 c).arrAt_eq_of_cover 5 (result m c) (fun t _ => flushed_eq m c t) cover

end Cert.ProjIdeal.Hand

end
-- ==== Proof.ProjRef.lean ====
/- The output projection's reference, read at one element. -/
module

public import proofs.«01_k».proof.Proof.ProjValue
public import proofs.«01_k».proof.Proof.Gen.ProjRefIdeal.Run
public import proofs.«01_k».proof.Proof.Gen.ProjRefIdeal.Read

@[expose] public section

set_option maxRecDepth 16384

noncomputable section

namespace Cert.ProjRefIdeal.Hand

open scoped BigOperators
open Cert.ProjRefIdeal Cert.ProjRefIdeal.Read Idealize.ShloMosaic Idealize.ShloMosaic.TcCoe Idealize.SL.Sem Cert.Math

variable (x0 : (⟨S12288x1024, .f32⟩ : BufTy).Contents (Elt Ideal)) (x1 : (⟨S4096x1024, .bf16⟩ : BufTy).Contents (Elt Ideal))
  (x2 : (⟨S8192x1024, .bf16⟩ : BufTy).Contents (Elt Ideal)) (x3 : (⟨S4x16x6144, .f32⟩ : BufTy).Contents (Elt Ideal))
  (x4 : (⟨S1x1024x1024, .f32⟩ : BufTy).Contents (Elt Ideal))

theorem prompt_sum (s : Fin 16) (t : Fin 256) (n : Fin 1024) :
    val_main_v21 (F := Ideal) x0 x1 x3 x4 (ix3 s t n) = x0 (ix2 ⟨s.val * 256 + t.val, by omega⟩ n)
      + x3 (ix3 2 0 ⟨2048 + n.val, by omega⟩) * ∑ k, x1 (ix2 ⟨s.val * 256 + t.val, by omega⟩ k) * x4 (ix3 0 k n) := by
  pointwise [val_main_v0, val_main_v1, val_main_v4, val_main_v5, val_main_v8, val_main_v9, val_main_v10, val_main_v11,
    val_main_v14, val_main_v18, val_main_v19, val_main_v20, val_main_v21]

theorem sample_sum (s : Fin 8) (t : Fin 1024) (n : Fin 1024) :
    val_main_v35 (F := Ideal) x0 x2 x3 x4 (ix3 s t n) = x0 (ix2 ⟨4096 + (s.val * 1024 + t.val), by omega⟩ n)
      + x3 (ix3 2 ⟨8 + s.val, by omega⟩ ⟨2048 + n.val, by omega⟩)
        * ∑ k, x2 (ix2 ⟨s.val * 1024 + t.val, by omega⟩ k) * x4 (ix3 0 k n) := by
  pointwise [val_main_v2, val_main_v3, val_main_v6, val_main_v7, val_main_v22, val_main_v23, val_main_v24, val_main_v25,
    val_main_v28, val_main_v32, val_main_v33, val_main_v34, val_main_v35]

theorem prompt_out (s : Fin 16) (t : Fin 256) (n : Fin 1024) :
    val_main_v21 (F := Ideal) x0 x1 x3 x4 (ix3 s t n) = projOut x0 x1 x2 x3 x4 ⟨s.val * 256 + t.val, by omega⟩ 0 n := by
  rw [prompt_sum]
  unfold projOut
  have h : ∀ k, attnRow x1 x2 ⟨s.val * 256 + t.val, by omega⟩ k = x1 (ix2 ⟨s.val * 256 + t.val, by omega⟩ k) := fun k =>
    dif_pos (by dsimp only; omega)
  simp only [h]

theorem sample_out (s : Fin 8) (t : Fin 1024) (n : Fin 1024) :
    val_main_v35 (F := Ideal) x0 x2 x3 x4 (ix3 s t n)
      = projOut x0 x1 x2 x3 x4 ⟨4096 + (s.val * 1024 + t.val), by omega⟩ ⟨8 + s.val, by omega⟩ n := by
  rw [sample_sum]
  unfold projOut
  have h : ∀ k, attnRow x1 x2 ⟨4096 + (s.val * 1024 + t.val), by omega⟩ k = x2 (ix2 ⟨s.val * 1024 + t.val, by omega⟩ k) := fun k => by
    refine (dif_neg (by dsimp only; omega)).trans ?_
    exact congrArg (fun a => x2 (ix2 a k)) (Fin.ext (by dsimp only; omega))
  simp only [h]

theorem projOut_congr {r r' : Fin 12288} {q q' : Fin 16} (h : r.val = r'.val) (h' : q.val = q'.val) (n : Fin 1024) :
    projOut x0 x1 x2 x3 x4 r q n = projOut x0 x1 x2 x3 x4 r' q' n := by
  rw [Fin.ext h, Fin.ext h']

theorem out_apply (r : Fin 12288) (n : Fin 1024) :
    val_main_v38 (F := Ideal) x0 x1 x2 x3 x4 (ix2 r n) = projOut x0 x1 x2 x3 x4 r ⟨modRow r.val, modRow_lt r.isLt⟩ n := by
  pointwise [val_main_v38, val_main_v37, val_main_v36]
  have hi : r.val < 12288 := r.isLt
  split
  · rename_i h
    rw [prompt_out x0 x1 x2 x3 x4]
    refine projOut_congr _ _ _ _ _ ?_ ?_ n
    · dsimp only; omega
    · simp only [modRow, if_pos h]; rfl
  · rename_i h
    rw [sample_out x0 x1 x2 x3 x4]
    refine projOut_congr _ _ _ _ _ ?_ ?_ n
    · dsimp only; omega
    · simp only [modRow, if_neg h]

end Cert.ProjRefIdeal.Hand

end
-- ==== Proof.QkvPay.lean ====
/- What the attention layer's projection call writes at one grid point, read at one element of each output block. -/
module

public import proofs.«01_k».proof.Proof.Swiglu
public import proofs.«01_k».proof.Proof.Gen.QkvIdeal.Frame
public import Idealize.ShloMosaic.Lib.Pointwise

@[expose] public section

noncomputable section

namespace Cert.Math

open scoped BigOperators
open Idealize.ShloMosaic

/-- Column `n` of the normalised and modulated prompt token `r` of the attention layer (layer 2) times the weights `w`. -/
def project {N : ℕ} (x : (⟨2, ![12288, 1024]⟩ : Shape).Idx → EReal) (md : (⟨3, ![4, 16, 6144]⟩ : Shape).Idx → EReal)
    (g : (⟨2, ![4, 1024]⟩ : Shape).Idx → EReal) (w : (⟨3, ![1, 1024, N]⟩ : Shape).Idx → EReal) (r : Fin 12288) (n : Fin N) : EReal :=
  ∑ k, normMod (fun k => x (ix2 r k)) (fun k => g (ix2 2 k)) (fun k => md (ix3 2 0 ⟨1024 + k.val, by omega⟩))
    (fun k => md (ix3 2 0 ⟨k.val, by omega⟩)) k * w (ix3 0 k n)

/-- The key column that query column `n` meets: four query heads share each head of keys. -/
def keyCol (n : Fin 1024) : Fin 512 := ⟨64 * (n.val / 256) + n.val % 64, by omega⟩

/-- The value column beside it. -/
def valCol (n : Fin 1024) : Fin 512 := ⟨256 + (64 * (n.val / 256) + n.val % 64), by omega⟩

end Cert.Math

namespace Cert.QkvIdeal.Hand

open scoped BigOperators
open Cert.QkvIdeal Cert.QkvIdeal.Gen Idealize.ShloMosaic Cert.Math

theorem hz : (![0, 0] : Fin 2 → Nat) = fun _ => 0 := funext fun a => by fin_cases a <;> rfl

theorem pay4_apply (v0 v2 : Vec Ideal S1x1x1x1024 .f32) (v4 : Vec Ideal S512x1024 .f32) (v5 : Vec Ideal S1x1024 .f32)
    (r : Fin 512) (k : Fin 1024) :
    k0_pay4 v0 v2 v4 v5 (ix2 r k) = normMod (fun k => v4 (ix2 r k)) (fun k => v5 (ix2 0 k))
      (fun k => v2 (ix4 0 0 0 k)) (fun k => v0 (ix4 0 0 0 k)) k := by
  pointwise [k0_pay4]
  rfl

variable (x0 : Vec Ideal S512x1024 .f32) (x1 : Vec Ideal S1x1x1x6144 .f32) (x2 : Vec Ideal S1x1024 .f32)
  (x3 x4 x5 : Vec Ideal S1024x1024 .bf16) (x6 : Vec Ideal S1024x512 .bf16)

/-- Row `r` of the block after normalisation and modulation. -/
def row (r : Fin 512) : Fin 1024 → EReal :=
  normMod (fun k => x0 (ix2 r k)) (fun k => x2 (ix2 0 k)) (fun k => x1 (ix4 0 0 0 ⟨1024 + k.val, by omega⟩))
    (fun k => x1 (ix4 0 0 0 ⟨k.val, by omega⟩))

theorem row_apply (r : Fin 512) (k : Fin 1024) :
    k0_pay4 (View.ld x1 r0_0) (View.ld x1 r0_1) (View.ld x0 r0_2) (View.ld x2 r0_3) (ix2 r k) = row x0 x1 x2 r k := by
  rw [View.ld_unit_zero (S := S512x1024) hz, View.ld_unit_zero (S := S1x1024) hz, pay4_apply]
  pointwise []
  rfl

theorem q_apply (r : Fin 512) (n : Fin 1024) :
    out0_7 x0 x1 x2 x3 x4 x5 x6 (ix2 r n) = ∑ k, row x0 x1 x2 r k * x3 (ix2 k n) := by
  unfold out0_7
  rw [View.canon_unit_zero hz, View.ld_unit_zero (S := S1024x1024) hz]
  pointwise [k0_pay5]
  simp only [row_apply]

theorem k_apply (r : Fin 512) (n : Fin 1024) :
    out0_8 x0 x1 x2 x3 x4 x5 x6 (ix2 r n) = ∑ k, row x0 x1 x2 r k * x4 (ix2 k n) := by
  unfold out0_8
  rw [View.canon_unit_zero hz, View.ld_unit_zero (S := S1024x1024) hz]
  pointwise [k0_pay1, k0_pay6]
  simp only [row_apply]

theorem v_apply (r : Fin 512) (n : Fin 1024) :
    out0_9 x0 x1 x2 x3 x4 x5 x6 (ix2 r n) = ∑ k, row x0 x1 x2 r k * x5 (ix2 k n) := by
  unfold out0_9
  rw [View.canon_unit_zero hz, View.ld_unit_zero (S := S1024x1024) hz]
  pointwise [k0_pay2, k0_pay7]
  simp only [row_apply]

theorem kv_apply (r : Fin 512) (n : Fin 512) :
    out0_10 x0 x1 x2 x3 x4 x5 x6 (ix2 r n) = ∑ k, row x0 x1 x2 r k * x6 (ix2 k n) := by
  unfold out0_10
  rw [View.canon_unit_zero hz, View.ld_unit_zero (S := S1024x512) hz]
  pointwise [k0_pay3, k0_pay7]
  simp only [row_apply]

end Cert.QkvIdeal.Hand

end
-- ==== Proof.QkvValue.lean ====
/- The projections' five results after their run: each grid point writes 512 rows of four arrays, together the whole of
   each, and the two cache arrays are the two halves of the fourth, cut after the region. -/
module

public import proofs.«01_k».proof.Proof.QkvPay
public import proofs.«01_k».proof.Proof.Gen.QkvIdeal.Frame

@[expose] public section

set_option maxRecDepth 16384

noncomputable section

namespace Cert.QkvIdeal.Hand

open scoped BigOperators
open Cert.QkvIdeal Cert.QkvIdeal.Gen Idealize.ShloMosaic Idealize.ShloMosaic.TcCoe Idealize.SL.Sem Cert.Math
open Idealize.ShloMosaic.Pipeline (Dat)

variable (m : (ℓ : Loc nD τ sig) → Buf (Elt Ideal) ℓ) (ρ : Dev nD → PrngReg)

/-! ## The arrays the host part prepares -/

theorem V_mod (c : Dev nD) (a : Fin 4) (q : Fin 16) (k : Fin 6144) :
    V m c main_v0 (ix4 a q 0 k) = m ((c : Thread nD τ).loc main_arg1) (ix3 a q k) := by
  show StableHlo.after hostOps0 _ (main_v0 : DevRef τ sig) _ = _
  after_results
  pointwise []

theorem V_g (c : Dev nD) (k : Fin 1024) :
    V m c main_v19 (ix2 0 k) = m ((c : Thread nD τ).loc main_arg2) (ix2 2 k) := by
  show StableHlo.after hostOps0 _ (main_v19 : DevRef τ sig) _ = _
  after_results
  pointwise []

theorem V_wq (c : Dev nD) (k n : Fin 1024) :
    V m c main_v12 (ix2 k n) = m ((c : Thread nD τ).loc main_arg3) (ix3 0 k n) := by
  show StableHlo.after hostOps0 _ (main_v12 : DevRef τ sig) _ = _
  after_results
  pointwise []

theorem V_wk (c : Dev nD) (k n : Fin 1024) :
    V m c main_v13 (ix2 k n) = m ((c : Thread nD τ).loc main_arg4) (ix3 0 k (keyCol n)) := by
  show StableHlo.after hostOps0 _ (main_v13 : DevRef τ sig) _ = _
  after_results
  pointwise []
  congr 1; funext a; apply Fin.ext
  match a with
  | ⟨0, _⟩ => rfl
  | ⟨1, _⟩ => rfl
  | ⟨2, _⟩ => show n.val / 256 * 64 + n.val % 64 = 64 * (n.val / 256) + n.val % 64; omega

theorem V_wv (c : Dev nD) (k n : Fin 1024) :
    V m c main_v14 (ix2 k n) = m ((c : Thread nD τ).loc main_arg4) (ix3 0 k (valCol n)) := by
  show StableHlo.after hostOps0 _ (main_v14 : DevRef τ sig) _ = _
  after_results
  pointwise []
  congr 1; funext a; apply Fin.ext
  match a with
  | ⟨0, _⟩ => rfl
  | ⟨1, _⟩ => rfl
  | ⟨2, _⟩ => show 256 + (n.val / 256 * 64 + n.val % 64) = 256 + (64 * (n.val / 256) + n.val % 64); omega

theorem V_wkv (c : Dev nD) (k : Fin 1024) (n : Fin 512) :
    V m c main_v18 (ix2 k n) = m ((c : Thread nD τ).loc main_arg4) (ix3 0 k n) := by
  show StableHlo.after hostOps0 _ (main_v18 : DevRef τ sig) _ = _
  after_results
  pointwise []

/-! ## The blocks of the windows -/

theorem idx1 : ∀ t : Fin grid0.N, win0_1.index t 0 = 2 ∧ win0_1.index t 1 = 0 ∧ win0_1.index t 2 = 0
    ∧ win0_1.index t 3 = 0 := by decide +kernel
theorem idx0 : ∀ t : Fin grid0.N, win0_0.index t 0 = t.val ∧ win0_0.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = t.val ∧ win0_7.index t 1 = 0 := by decide +kernel
theorem idx8 : ∀ t : Fin grid0.N, win0_8.index t 0 = t.val ∧ win0_8.index t 1 = 0 := by decide +kernel
theorem idx9 : ∀ t : Fin grid0.N, win0_9.index t 0 = t.val ∧ win0_9.index t 1 = 0 := by decide +kernel
theorem idx10 : ∀ t : Fin grid0.N, win0_10.index t 0 = t.val ∧ win0_10.index t 1 = 0 := by decide +kernel

/-- Prompt token of row `r` of point `t`'s block. -/
def tok (t : Fin cfg0.N) (r : Fin 512) : Fin 4096 :=
  ⟨512 * t.val + r.val, by have : t.val < 8 := t.isLt; omega⟩

/-- The same among all the tokens. -/
def tok' (r : Fin 4096) : Fin 12288 := ⟨r.val, by omega⟩

theorem iblk0 (c : Dev nD) (t : Fin cfg0.N) (r : Fin 512) (k : Fin 1024) :
    iblk m c 0 t (ix2 r k) = m ((c : Thread nD τ).loc main_arg0) (ix2 (tok' (tok t r)) k) := by
  unfold iblk
  rw [View.read_apply]
  refine Eq.trans ?_ (congrFun (V_main_arg0 m c) _)
  show V m c main_arg0 _ = _
  congr 1; funext a; apply Fin.ext
  match a with
  | ⟨0, _⟩ => show win0_0.index t 0 * 512 + 1 * r.val = 512 * t.val + r.val; rw [(idx0 t).1]; omega
  | ⟨1, _⟩ => show win0_0.index t 1 * 1024 + 1 * k.val = k.val; rw [(idx0 t).2]; omega

theorem iblk1 (c : Dev nD) (t : Fin cfg0.N) (k : Fin 6144) :
    iblk m c 1 t (ix4 0 0 0 k) = m ((c : Thread nD τ).loc main_arg1) (ix3 2 0 k) := by
  unfold iblk
  rw [View.read_apply]
  refine Eq.trans ?_ (V_mod m c _ _ _)
  show V m c main_v0 _ = _
  congr 1; funext a; apply Fin.ext
  match a with
  | ⟨0, _⟩ => show win0_1.index t 0 * 1 + 1 * 0 = 2; rw [(idx1 t).1]
  | ⟨1, _⟩ => show win0_1.index t 1 * 1 + 1 * 0 = 0; rw [(idx1 t).2.1]
  | ⟨2, _⟩ => show win0_1.index t 2 * 1 + 1 * 0 = 0; rw [(idx1 t).2.2.1]
  | ⟨3, _⟩ => show win0_1.index t 3 * 6144 + 1 * k.val = k.val; rw [(idx1 t).2.2.2]; omega

theorem iblk2 (c : Dev nD) (t : Fin cfg0.N) (k : Fin 1024) :
    iblk m c 2 t (ix2 0 k) = m ((c : Thread nD τ).loc main_arg2) (ix2 2 k) := by
  unfold iblk
  rw [View.read_apply]
  refine Eq.trans ?_ (V_g m c k)
  show V m c main_v19 _ = _
  congr 1; funext a; apply Fin.ext
  match a with
  | ⟨0, _⟩ => show win0_2.index t 0 * 1 + 1 * 0 = 0; rw [(idx2 t).1]
  | ⟨1, _⟩ => show win0_2.index t 1 * 1024 + 1 * k.val = k.val; rw [(idx2 t).2]; omega

theorem iblk3 (c : Dev nD) (t : Fin cfg0.N) (k : Fin 1024) (n : Fin 1024) :
    iblk m c 3 t (ix2 k n) = m ((c : Thread nD τ).loc main_arg3) (ix3 0 k n) := by
  unfold iblk
  rw [View.read_apply]
  refine Eq.trans ?_ (V_wq m c k n)
  show V m c main_v12 _ = _
  congr 1; funext a; apply Fin.ext
  match a with
  | ⟨0, _⟩ => show win0_3.index t 0 * 1024 + 1 * k.val = k.val; rw [(idx3 t).1]; omega
  | ⟨1, _⟩ => show win0_3.index t 1 * 1024 + 1 * n.val = n.val; rw [(idx3 t).2]; omega

theorem iblk4 (c : Dev nD) (t : Fin cfg0.N) (k : Fin 1024) (n : Fin 1024) :
    iblk m c 4 t (ix2 k n) = m ((c : Thread nD τ).loc main_arg4) (ix3 0 k (keyCol n)) := by
  unfold iblk
  rw [View.read_apply]
  refine Eq.trans ?_ (V_wk m c k n)
  show V m c main_v13 _ = _
  congr 1; funext a; apply Fin.ext
  match a with
  | ⟨0, _⟩ => show win0_4.index t 0 * 1024 + 1 * k.val = k.val; rw [(idx4 t).1]; omega
  | ⟨1, _⟩ => show win0_4.index t 1 * 1024 + 1 * n.val = n.val; rw [(idx4 t).2]; omega

theorem iblk5 (c : Dev nD) (t : Fin cfg0.N) (k : Fin 1024) (n : Fin 1024) :
    iblk m c 5 t (ix2 k n) = m ((c : Thread nD τ).loc main_arg4) (ix3 0 k (valCol n)) := by
  unfold iblk
  rw [View.read_apply]
  refine Eq.trans ?_ (V_wv m c k n)
  show V m c main_v14 _ = _
  congr 1; funext a; apply Fin.ext
  match a with
  | ⟨0, _⟩ => show win0_5.index t 0 * 1024 + 1 * k.val = k.val; rw [(idx5 t).1]; omega
  | ⟨1, _⟩ => show win0_5.index t 1 * 1024 + 1 * n.val = n.val; rw [(idx5 t).2]; omega

theorem iblk6 (c : Dev nD) (t : Fin cfg0.N) (k : Fin 1024) (n : Fin 512) :
    iblk m c 6 t (ix2 k n) = m ((c : Thread nD τ).loc main_arg4) (ix3 0 k n) := by
  unfold iblk
  rw [View.read_apply]
  refine Eq.trans ?_ (V_wkv m c k n)
  show V m c main_v18 _ = _
  congr 1; funext a; apply Fin.ext
  match a with
  | ⟨0, _⟩ => show win0_6.index t 0 * 1024 + 1 * k.val = k.val; rw [(idx6 t).1]; omega
  | ⟨1, _⟩ => show win0_6.index t 1 * 512 + 1 * n.val = n.val; rw [(idx6 t).2]; omega

/-! ## What a point writes back, and the whole of each array -/

/-- Column `n` of prompt token `r` times the weights in argument 3, -/
def prodQ (c : Dev nD) (r : Fin 4096) (n : Fin 1024) : EReal :=
  project (m ((c : Thread nD τ).loc main_arg0)) (m ((c : Thread nD τ).loc main_arg1)) (m ((c : Thread nD τ).loc main_arg2))
    (m ((c : Thread nD τ).loc main_arg3)) (tok' r) n

/-- and times those in argument 4. -/
def prodKv (c : Dev nD) (r : Fin 4096) (n : Fin 512) : EReal :=
  project (m ((c : Thread nD τ).loc main_arg0)) (m ((c : Thread nD τ).loc main_arg1)) (m ((c : Thread nD τ).loc main_arg2))
    (m ((c : Thread nD τ).loc main_arg4)) (tok' r) n

theorem row_iblk (c : Dev nD) (t : Fin cfg0.N) (r : Fin 512) (k : Fin 1024) :
    row (iblk m c 0 t) (iblk m c 1 t) (iblk m c 2 t) r k
      = normMod (fun k => m ((c : Thread nD τ).loc main_arg0) (ix2 (tok' (tok t r)) k))
        (fun k => m ((c : Thread nD τ).loc main_arg2) (ix2 2 k))
        (fun k => m ((c : Thread nD τ).loc main_arg1) (ix3 2 0 ⟨1024 + k.val, by omega⟩))
        (fun k => m ((c : Thread nD τ).loc main_arg1) (ix3 2 0 ⟨k.val, by omega⟩)) k := by
  unfold row
  simp only [iblk0, iblk1, iblk2]

/-- Output window 7's array as a function of the arguments. -/
def qResult (c : Dev nD) : Buf (Elt Ideal) ((c : Thread nD τ).loc main_v20_0) := fun i => prodQ m c (i 0) (i 1)

theorem flushed7 (c : Dev nD) (t : Fin cfg0.N) :
    (dats m 0 c).flushed 7 t = ((cfg0.win 7).blk t).view.read (Elt Ideal) (qResult m c) := by
  show (cfg0.win 7).cut (grid0.coords t) ((dats m 0 c).after 7 t) = _
  rw [after0_7]
  show out0_7 _ _ _ _ _ _ _ = _
  funext j
  obtain ⟨r, n, rfl⟩ : ∃ (r : Fin 512) (n : Fin 1024), j = ix2 r n := ⟨j 0, j 1, eq_ix2 j⟩
  have e : ((cfg0.win 7).blk t).view.read (Elt Ideal) (qResult m c) (ix2 r n) = qResult m c (ix2 (tok t r) n) := by
    rw [View.read_apply]
    show qResult m c _ = _
    congr 1; funext a; apply Fin.ext
    match a with
    | ⟨0, _⟩ => show win0_7.index t 0 * 512 + 1 * r.val = 512 * t.val + r.val; rw [(idx7 t).1]; omega
    | ⟨1, _⟩ => show win0_7.index t 1 * 1024 + 1 * n.val = n.val; rw [(idx7 t).2]; omega
  refine Eq.trans ?_ e.symm
  rw [q_apply]
  simp only [row_iblk, iblk3]
  rfl

theorem cover7 (i : S4096x1024.Idx) : ∃ t : Fin cfg0.N, (cfg0.win 7).flush t = true ∧ i ∈ ((cfg0.win 7).blk t).view.set := by
  have h0 : (i 0 : ℕ) < 4096 := (i 0).isLt
  have h1 : (i 1 : ℕ) < 1024 := (i 1).isLt
  obtain ⟨t, ht⟩ : ∃ t : Fin grid0.N, t.val = (i 0 : ℕ) / 512 := ⟨⟨(i 0 : ℕ) / 512, by show _ < 8; omega⟩, rfl⟩
  refine ⟨t, flush0_7 t, ?_⟩
  show i ∈ ((View.whole main_v20_0).slice (win0_7.rect t)).set
  rw [View.set_slice_whole, Rect.mem_set_unit]
  intro a
  match a with
  | ⟨0, _⟩ =>
    show win0_7.index t 0 * 512 ≤ (i 0 : ℕ) ∧ (i 0 : ℕ) < win0_7.index t 0 * 512 + 512
    rw [(idx7 t).1, ht]; omega
  | ⟨1, _⟩ =>
    show win0_7.index t 1 * 1024 ≤ (i 1 : ℕ) ∧ (i 1 : ℕ) < win0_7.index t 1 * 1024 + 1024
    rw [(idx7 t).2]; omega

theorem final7 (c : Dev nD) : (dats m 0 c).arrAt 7 cfg0.N = qResult m c :=
  (dats m 0 c).arrAt_eq_of_cover 7 (qResult m c) (fun t _ => flushed7 m c t) cover7

/-- Output window 8's array as a function of the arguments. -/
def kResult (c : Dev nD) : Buf (Elt Ideal) ((c : Thread nD τ).loc main_v20_1) := fun i => prodKv m c (i 0) (keyCol (i 1))

theorem flushed8 (c : Dev nD) (t : Fin cfg0.N) :
    (dats m 0 c).flushed 8 t = ((cfg0.win 8).blk t).view.read (Elt Ideal) (kResult m c) := by
  show (cfg0.win 8).cut (grid0.coords t) ((dats m 0 c).after 8 t) = _
  rw [after0_8]
  show out0_8 _ _ _ _ _ _ _ = _
  funext j
  obtain ⟨r, n, rfl⟩ : ∃ (r : Fin 512) (n : Fin 1024), j = ix2 r n := ⟨j 0, j 1, eq_ix2 j⟩
  have e : ((cfg0.win 8).blk t).view.read (Elt Ideal) (kResult m c) (ix2 r n) = kResult m c (ix2 (tok t r) n) := by
    rw [View.read_apply]
    show kResult m c _ = _
    congr 1; funext a; apply Fin.ext
    match a with
    | ⟨0, _⟩ => show win0_8.index t 0 * 512 + 1 * r.val = 512 * t.val + r.val; rw [(idx8 t).1]; omega
    | ⟨1, _⟩ => show win0_8.index t 1 * 1024 + 1 * n.val = n.val; rw [(idx8 t).2]; omega
  refine Eq.trans ?_ e.symm
  rw [k_apply]
  simp only [row_iblk, iblk4]
  rfl

theorem cover8 (i : S4096x1024.Idx) : ∃ t : Fin cfg0.N, (cfg0.win 8).flush t = true ∧ i ∈ ((cfg0.win 8).blk t).view.set := by
  have h0 : (i 0 : ℕ) < 4096 := (i 0).isLt
  have h1 : (i 1 : ℕ) < 1024 := (i 1).isLt
  obtain ⟨t, ht⟩ : ∃ t : Fin grid0.N, t.val = (i 0 : ℕ) / 512 := ⟨⟨(i 0 : ℕ) / 512, by show _ < 8; omega⟩, rfl⟩
  refine ⟨t, flush0_8 t, ?_⟩
  show i ∈ ((View.whole main_v20_1).slice (win0_8.rect t)).set
  rw [View.set_slice_whole, Rect.mem_set_unit]
  intro a
  match a with
  | ⟨0, _⟩ =>
    show win0_8.index t 0 * 512 ≤ (i 0 : ℕ) ∧ (i 0 : ℕ) < win0_8.index t 0 * 512 + 512
    rw [(idx8 t).1, ht]; omega
  | ⟨1, _⟩ =>
    show win0_8.index t 1 * 1024 ≤ (i 1 : ℕ) ∧ (i 1 : ℕ) < win0_8.index t 1 * 1024 + 1024
    rw [(idx8 t).2]; omega

theorem final8 (c : Dev nD) : (dats m 0 c).arrAt 8 cfg0.N = kResult m c :=
  (dats m 0 c).arrAt_eq_of_cover 8 (kResult m c) (fun t _ => flushed8 m c t) cover8

/-- Output window 9's array as a function of the arguments. -/
def vResult (c : Dev nD) : Buf (Elt Ideal) ((c : Thread nD τ).loc main_v20_2) := fun i => prodKv m c (i 0) (valCol (i 1))

theorem flushed9 (c : Dev nD) (t : Fin cfg0.N) :
    (dats m 0 c).flushed 9 t = ((cfg0.win 9).blk t).view.read (Elt Ideal) (vResult m c) := by
  show (cfg0.win 9).cut (grid0.coords t) ((dats m 0 c).after 9 t) = _
  rw [after0_9]
  show out0_9 _ _ _ _ _ _ _ = _
  funext j
  obtain ⟨r, n, rfl⟩ : ∃ (r : Fin 512) (n : Fin 1024), j = ix2 r n := ⟨j 0, j 1, eq_ix2 j⟩
  have e : ((cfg0.win 9).blk t).view.read (Elt Ideal) (vResult m c) (ix2 r n) = vResult m c (ix2 (tok t r) n) := by
    rw [View.read_apply]
    show vResult m c _ = _
    congr 1; funext a; apply Fin.ext
    match a with
    | ⟨0, _⟩ => show win0_9.index t 0 * 512 + 1 * r.val = 512 * t.val + r.val; rw [(idx9 t).1]; omega
    | ⟨1, _⟩ => show win0_9.index t 1 * 1024 + 1 * n.val = n.val; rw [(idx9 t).2]; omega
  refine Eq.trans ?_ e.symm
  rw [v_apply]
  simp only [row_iblk, iblk5]
  rfl

theorem cover9 (i : S4096x1024.Idx) : ∃ t : Fin cfg0.N, (cfg0.win 9).flush t = true ∧ i ∈ ((cfg0.win 9).blk t).view.set := by
  have h0 : (i 0 : ℕ) < 4096 := (i 0).isLt
  have h1 : (i 1 : ℕ) < 1024 := (i 1).isLt
  obtain ⟨t, ht⟩ : ∃ t : Fin grid0.N, t.val = (i 0 : ℕ) / 512 := ⟨⟨(i 0 : ℕ) / 512, by show _ < 8; omega⟩, rfl⟩
  refine ⟨t, flush0_9 t, ?_⟩
  show i ∈ ((View.whole main_v20_2).slice (win0_9.rect t)).set
  rw [View.set_slice_whole, Rect.mem_set_unit]
  intro a
  match a with
  | ⟨0, _⟩ =>
    show win0_9.index t 0 * 512 ≤ (i 0 : ℕ) ∧ (i 0 : ℕ) < win0_9.index t 0 * 512 + 512
    rw [(idx9 t).1, ht]; omega
  | ⟨1, _⟩ =>
    show win0_9.index t 1 * 1024 ≤ (i 1 : ℕ) ∧ (i 1 : ℕ) < win0_9.index t 1 * 1024 + 1024
    rw [(idx9 t).2]; omega

theorem final9 (c : Dev nD) : (dats m 0 c).arrAt 9 cfg0.N = vResult m c :=
  (dats m 0 c).arrAt_eq_of_cover 9 (vResult m c) (fun t _ => flushed9 m c t) cover9

/-- Output window 10's array as a function of the arguments. -/
def kvResult (c : Dev nD) : Buf (Elt Ideal) ((c : Thread nD τ).loc main_v20_3) := fun i => prodKv m c (i 0) (i 1)

theorem flushed10 (c : Dev nD) (t : Fin cfg0.N) :
    (dats m 0 c).flushed 10 t = ((cfg0.win 10).blk t).view.read (Elt Ideal) (kvResult m c) := by
  show (cfg0.win 10).cut (grid0.coords t) ((dats m 0 c).after 10 t) = _
  rw [after0_10]
  show out0_10 _ _ _ _ _ _ _ = _
  funext j
  obtain ⟨r, n, rfl⟩ : ∃ (r : Fin 512) (n : Fin 512), j = ix2 r n := ⟨j 0, j 1, eq_ix2 j⟩
  have e : ((cfg0.win 10).blk t).view.read (Elt Ideal) (kvResult m c) (ix2 r n) = kvResult m c (ix2 (tok t r) n) := by
    rw [View.read_apply]
    show kvResult m c _ = _
    congr 1; funext a; apply Fin.ext
    match a with
    | ⟨0, _⟩ => show win0_10.index t 0 * 512 + 1 * r.val = 512 * t.val + r.val; rw [(idx10 t).1]; omega
    | ⟨1, _⟩ => show win0_10.index t 1 * 512 + 1 * n.val = n.val; rw [(idx10 t).2]; omega
  refine Eq.trans ?_ e.symm
  rw [kv_apply]
  simp only [row_iblk, iblk6]
  rfl

theorem cover10 (i : S4096x512.Idx) : ∃ t : Fin cfg0.N, (cfg0.win 10).flush t = true ∧ i ∈ ((cfg0.win 10).blk t).view.set := by
  have h0 : (i 0 : ℕ) < 4096 := (i 0).isLt
  have h1 : (i 1 : ℕ) < 512 := (i 1).isLt
  obtain ⟨t, ht⟩ : ∃ t : Fin grid0.N, t.val = (i 0 : ℕ) / 512 := ⟨⟨(i 0 : ℕ) / 512, by show _ < 8; omega⟩, rfl⟩
  refine ⟨t, flush0_10 t, ?_⟩
  show i ∈ ((View.whole main_v20_3).slice (win0_10.rect t)).set
  rw [View.set_slice_whole, Rect.mem_set_unit]
  intro a
  match a with
  | ⟨0, _⟩ =>
    show win0_10.index t 0 * 512 ≤ (i 0 : ℕ) ∧ (i 0 : ℕ) < win0_10.index t 0 * 512 + 512
    rw [(idx10 t).1, ht]; omega
  | ⟨1, _⟩ =>
    show win0_10.index t 1 * 512 ≤ (i 1 : ℕ) ∧ (i 1 : ℕ) < win0_10.index t 1 * 512 + 512
    rw [(idx10 t).2]; omega

theorem final10 (c : Dev nD) : (dats m 0 c).arrAt 10 cfg0.N = kvResult m c :=
  (dats m 0 c).arrAt_eq_of_cover 10 (kvResult m c) (fun t _ => flushed10 m c t) cover10

/-! ## The two arrays cut after the region -/

/-- The keys' cache as a function of the arguments, -/
def newK (c : Dev nD) : Buf (Elt Ideal) ((c : Thread nD τ).loc main_v22) := fun i =>
  prodKv m c ⟨(i 0).val * 256 + (i 2).val, by have h : (i 0).val < 16 := (i 0).isLt; have h' : (i 2).val < 256 := (i 2).isLt; omega⟩
    ⟨(i 3).val * 64 + (i 4).val, by have h : (i 3).val < 4 := (i 3).isLt; have h' : (i 4).val < 64 := (i 4).isLt; omega⟩

/-- and the values'. -/
def newV (c : Dev nD) : Buf (Elt Ideal) ((c : Thread nD τ).loc main_v24) := fun i =>
  prodKv m c ⟨(i 0).val * 256 + (i 2).val, by have h : (i 0).val < 16 := (i 0).isLt; have h' : (i 2).val < 256 := (i 2).isLt; omega⟩
    ⟨256 + ((i 3).val * 64 + (i 4).val), by have h : (i 3).val < 4 := (i 3).isLt; have h' : (i 4).val < 64 := (i 4).isLt; omega⟩

theorem prodKv_congr (c : Dev nD) {r r' : Fin 4096} {n n' : Fin 512} (h : r.val = r'.val) (h' : n.val = n'.val) :
    prodKv m c r n = prodKv m c r' n' := by rw [Fin.ext h, Fin.ext h']

/-- What the lines after the region read at output window 10's array. -/
theorem after_kv (c : Dev nD) :
    Pipeline.withArrays (cfgs 0).spec c (V0 m c) (fun w => (dats m 0 c).arrAt w (cfgs 0).N) (Proc.devRef .tc main_v20_3)
      = kvResult m c :=
  (Pipeline.withArrays_arr spec0 launch0.win.arr_inj c (V0 m c) (fun w => (dats m 0 c).arrAt w (cfgs 0).N) 10).trans (final10 m c)

theorem tailK (c : Dev nD) : Pipeline.afterTail₀ cfgs (dats m) 0 (V0 m) [hostOps1] c main_v22 = newK m c := by
  unfold Pipeline.afterTail₀
  show StableHlo.after hostOps1 _ (main_v22 : DevRef τ sig) = _
  after_results
  rw [after_kv]
  funext i
  obtain ⟨s, u, t, h, d, rfl⟩ : ∃ (s : Fin 16) (u : Fin 1) (t : Fin 256) (h : Fin 4) (d : Fin 64), i = ix5 s u t h d :=
    ⟨i 0, i 1, i 2, i 3, i 4, eq_ix5 i⟩
  pointwise []
  refine prodKv_congr m c ?_ ?_ <;> dsimp <;> omega

theorem tailV (c : Dev nD) : Pipeline.afterTail₀ cfgs (dats m) 0 (V0 m) [hostOps1] c main_v24 = newV m c := by
  unfold Pipeline.afterTail₀
  show StableHlo.after hostOps1 _ (main_v24 : DevRef τ sig) = _
  after_results
  rw [after_kv]
  funext i
  obtain ⟨s, u, t, h, d, rfl⟩ : ∃ (s : Fin 16) (u : Fin 1) (t : Fin 256) (h : Fin 4) (d : Fin 64), i = ix5 s u t h d :=
    ⟨i 0, i 1, i 2, i 3, i 4, eq_ix5 i⟩
  pointwise []
  refine prodKv_congr m c ?_ ?_ <;> dsimp <;> omega

/-- The run, its five results named and its arguments unchanged. -/
theorem run : θ_run defs (onTc (τ := τ) (main (F := Ideal))) ⟨m, fun _ => 0, ρ⟩ fun r => ∀ c : Dev nD,
      r.2.mem ((c : Thread nD τ).loc main_v20_0) = qResult m c
      ∧ r.2.mem ((c : Thread nD τ).loc main_v20_1) = kResult m c
      ∧ r.2.mem ((c : Thread nD τ).loc main_v20_2) = vResult m c
      ∧ r.2.mem ((c : Thread nD τ).loc main_v22) = newK m c
      ∧ r.2.mem ((c : Thread nD τ).loc main_v24) = newV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 7).trans (final7 m c), ((h.1 c).1 8).trans (final8 m c),
      ((h.1 c).1 9).trans (final9 m c),
      ((h.1 c).2 main_v22 (Pipeline.mem_restRefs_of main_v22 (by decide) (by decide))).trans (tailK m c),
      ((h.1 c).2 main_v24 (Pipeline.mem_restRefs_of main_v24 (by decide) (by decide))).trans (tailV m c), h.2 c⟩)
    (θ_run_and (run_main m ρ) (unchanged m ρ))

end Cert.QkvIdeal.Hand

end
-- ==== Proof.QkvRef.lean ====
/- The projections' reference, read at one element of each of its five results. -/
module

public import proofs.«01_k».proof.Proof.QkvPay
public import proofs.«01_k».proof.Proof.Gen.QkvRefIdeal.Run
public import proofs.«01_k».proof.Proof.Gen.QkvRefIdeal.Read

@[expose] public section

set_option maxRecDepth 16384

noncomputable section

namespace Cert.QkvRefIdeal.Hand

open scoped BigOperators
open Cert.QkvRefIdeal Cert.QkvRefIdeal.Read Idealize.ShloMosaic Idealize.ShloMosaic.TcCoe Idealize.SL.Sem Cert.Math

variable (x0 : (⟨S12288x1024, .f32⟩ : BufTy).Contents (Elt Ideal)) (x1 : (⟨S4x16x6144, .f32⟩ : BufTy).Contents (Elt Ideal))
  (x2 : (⟨S4x1024, .f32⟩ : BufTy).Contents (Elt Ideal)) (x3 : (⟨S1x1024x1024, .f32⟩ : BufTy).Contents (Elt Ideal))
  (x4 : (⟨S1x1024x512, .f32⟩ : BufTy).Contents (Elt Ideal))

theorem hidden (s : Fin 16) (t : Fin 256) (k : Fin 1024) :
    val_main_v31 (F := Ideal) x0 x1 x2 (ix3 s t k)
      = normMod (fun k => x0 (ix2 ⟨s.val * 256 + t.val, by omega⟩ k)) (fun k => x2 (ix2 2 k))
        (fun k => x1 (ix3 2 0 ⟨1024 + k.val, by omega⟩)) (fun k => x1 (ix3 2 0 ⟨k.val, by omega⟩)) k := by
  pointwise [val_main_v0, val_main_v1, val_main_v2, val_main_v3, val_main_v4, val_main_v5, val_main_v6, val_main_v11, val_main_v12, val_main_v13, val_main_cst, val_main_v14, val_main_v15, val_main_cst_0, val_main_v16, val_main_v17, val_main_cst_1, val_main_v18, val_main_v19, val_main_v20, val_main_v21, val_main_v22, val_main_v23, val_main_v24, val_main_v25, val_main_cst_2, val_main_v26, val_main_v27, val_main_v28, val_main_v29, val_main_v30, val_main_v31]
  rfl

theorem project_congr {N : ℕ} (w : (⟨3, ![1, 1024, N]⟩ : Shape).Idx → EReal) {r r' : Fin 12288} {n n' : Fin N}
    (h : r.val = r'.val) (h' : n.val = n'.val) : project x0 x1 x2 w r n = project x0 x1 x2 w r' n' := by
  rw [Fin.ext h, Fin.ext h']

theorem queries (s : Fin 16) (t : Fin 256) (n : Fin 1024) :
    val_main_v33 (F := Ideal) x0 x1 x2 x3 (ix3 s t n) = project x0 x1 x2 x3 ⟨s.val * 256 + t.val, by omega⟩ n := by
  pointwise [val_main_v33, val_main_v32]
  simp only [hidden]
  rfl

theorem pairs (s : Fin 16) (t : Fin 256) (n : Fin 512) :
    val_main_v35 (F := Ideal) x0 x1 x2 x4 (ix3 s t n) = project x0 x1 x2 x4 ⟨s.val * 256 + t.val, by omega⟩ n := by
  pointwise [val_main_v35, val_main_v34]
  simp only [hidden]
  rfl

theorem keys (s : Fin 16) (t : Fin 256) (h : Fin 4) (d : Fin 64) :
    val_main_v38 (F := Ideal) x0 x1 x2 x4 (ix4 s t h d)
      = project x0 x1 x2 x4 ⟨s.val * 256 + t.val, by omega⟩ ⟨h.val * 64 + d.val, by omega⟩ := by
  pointwise [val_main_v38, val_main_v37, val_main_v36]
  rw [pairs]

theorem vals (s : Fin 16) (t : Fin 256) (h : Fin 4) (d : Fin 64) :
    val_main_v40 (F := Ideal) x0 x1 x2 x4 (ix4 s t h d)
      = project x0 x1 x2 x4 ⟨s.val * 256 + t.val, by omega⟩ ⟨256 + (h.val * 64 + d.val), by omega⟩ := by
  pointwise [val_main_v40, val_main_v39, val_main_v36]
  rw [pairs]
  refine project_congr _ _ _ _ ?_ ?_ <;> dsimp only <;> omega

theorem q_apply (r : Fin 4096) (n : Fin 1024) :
    val_main_v42 (F := Ideal) x0 x1 x2 x3 (ix2 r n) = project x0 x1 x2 x3 ⟨r.val, by omega⟩ n := by
  pointwise [val_main_v42, val_main_v41]
  rw [queries]
  refine project_congr _ _ _ _ ?_ ?_ <;> dsimp only <;> omega

theorem k_apply (r : Fin 4096) (n : Fin 1024) :
    val_main_v46 (F := Ideal) x0 x1 x2 x4 (ix2 r n) = project x0 x1 x2 x4 ⟨r.val, by omega⟩ (keyCol n) := by
  pointwise [val_main_v46, val_main_v45, val_main_v44, val_main_v43]
  rw [keys]
  refine project_congr _ _ _ _ ?_ ?_ <;> (try unfold keyCol) <;> dsimp only <;> omega

theorem v_apply (r : Fin 4096) (n : Fin 1024) :
    val_main_v50 (F := Ideal) x0 x1 x2 x4 (ix2 r n) = project x0 x1 x2 x4 ⟨r.val, by omega⟩ (valCol n) := by
  pointwise [val_main_v50, val_main_v49, val_main_v48, val_main_v47]
  rw [vals]
  refine project_congr _ _ _ _ ?_ ?_ <;> (try unfold valCol) <;> dsimp only <;> omega

theorem newK_apply (s : Fin 16) (t : Fin 256) (h : Fin 4) (d : Fin 64) :
    val_main_v51 (F := Ideal) x0 x1 x2 x4 (ix5 s 0 t h d)
      = project x0 x1 x2 x4 ⟨s.val * 256 + t.val, by omega⟩ ⟨h.val * 64 + d.val, by omega⟩ := by
  pointwise [val_main_v51]
  rw [keys]

theorem newV_apply (s : Fin 16) (t : Fin 256) (h : Fin 4) (d : Fin 64) :
    val_main_v52 (F := Ideal) x0 x1 x2 x4 (ix5 s 0 t h d)
      = project x0 x1 x2 x4 ⟨s.val * 256 + t.val, by omega⟩ ⟨256 + (h.val * 64 + d.val), by omega⟩ := by
  pointwise [val_main_v52]
  rw [vals]

end Cert.QkvRefIdeal.Hand

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.RefIdeal
public import proofs.«01_k».proof.Proof.Gen.RefIdeal.Run
public import proofs.«01_k».proof.Proof.Gen.RefIdeal.Read
public import proofs.«01_k».proof.Proof.Gen.Pre_plan
public import proofs.«01_k».proof.Proof.Gen.On_token_rows
public import proofs.«01_k».proof.Proof.ExpertFrame
public import proofs.«01_k».proof.Proof.ExpertPrinted
public import proofs.«01_k».proof.Proof.ExpertAlgebraic
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.FfnTwo
public import proofs.«01_k».proof.Proof.Gen.FfnTwo.Skeleton
public import proofs.«01_k».proof.Proof.Gen.FfnTwo.Launch
public import proofs.«01_k».proof.Proof.Gen.FfnTwo.Points
public import proofs.«01_k».proof.Proof.Gen.FfnTwo.Frame
public import proofs.«01_k».proof.Proof.Gen.FfnTwoIdeal
public import proofs.«01_k».proof.Proof.Gen.FfnTwoIdeal.Skeleton
public import proofs.«01_k».proof.Proof.Gen.FfnTwoIdeal.Launch
public import proofs.«01_k».proof.Proof.Gen.FfnTwoIdeal.Points
public import proofs.«01_k».proof.Proof.Gen.FfnTwoIdeal.Frame
public import proofs.«01_k».proof.Proof.Gen.FfnTwoIdeal.Value
public import proofs.«01_k».proof.Proof.Gen.FfnTwoRefIdeal
public import proofs.«01_k».proof.Proof.Gen.FfnTwoRefIdeal.Run
public import proofs.«01_k».proof.Proof.Gen.FfnTwoRefIdeal.Read
public import proofs.«01_k».proof.Proof.Gen.ExpertThree
public import proofs.«01_k».proof.Proof.Gen.ExpertThreeIdeal
public import proofs.«01_k».proof.Proof.Gen.ExpertThreeIdeal.Skeleton
public import proofs.«01_k».proof.Proof.Gen.ExpertThreeIdeal.Launch
public import proofs.«01_k».proof.Proof.Gen.ExpertThreeRefIdeal
public import proofs.«01_k».proof.Proof.Gen.ExpertThreeRefIdeal.Run
public import proofs.«01_k».proof.Proof.Gen.ExpertThreeRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.FfnValue
public import proofs.«01_k».proof.Proof.FfnRef
public import proofs.«01_k».proof.Proof.FfnTwoValue
public import proofs.«01_k».proof.Proof.FfnTwoRef
public import proofs.«01_k».proof.Proof.ExpertThreePrinted
public import proofs.«01_k».proof.Proof.ExpertThreeAlgebraic
public import proofs.«01_k».proof.Proof.ProjRef
public import proofs.«01_k».proof.Proof.QkvValue
public import proofs.«01_k».proof.Proof.QkvRef
public import Idealize.ShloMosaic.Lib.Quiescent
public import Idealize.ShloMosaic.Adequacy
public import Idealize.ShloMosaic.Init

@[expose] public section

noncomputable section

namespace Cert.Proof

open Idealize.ShloMosaic Idealize.SL.Sem

/-- The dense block: each program's run, its arguments unchanged and its counters back at zero, and the two results
    equal at every element. -/
theorem ffn_frame : Cert.quiescent_Ffn := fun m ρ _ => Cert.Ffn.Gen.frame (F := Bits) m ρ

theorem ffnIdeal_frame : Cert.quiescent_FfnIdeal := fun m ρ _ => Cert.FfnIdeal.Gen.frame (F := Ideal) m ρ

theorem ffnRef_frame : Cert.quiescent_FfnRefIdeal := fun m ρ _ =>
  (θ_run Cert.FfnRefIdeal.defs _ _).mono
    (fun r h => ⟨fun c => (h c).2, sem_eq_zero_of_no_sems rfl r.2⟩) (Cert.FfnRefIdeal.Value.run (F := Ideal) m ρ)

theorem ffn_algebraic : Cert.algebraic_FfnIdeal_FfnRefIdeal := fun m ρ m' ρ' _ hm =>
  ⟨Cert.FfnIdeal.Hand.result m,
    (θ_run Cert.FfnIdeal.defs _ _).mono
      (fun _ h c => ⟨(h c).1.trans (Cert.FfnIdeal.Hand.final m c), (h c).2⟩) (Cert.FfnIdeal.Value.run_blocks (F := Ideal) m ρ),
    (θ_run Cert.FfnRefIdeal.defs _ _).mono
      (fun _ h c => ⟨(h c).1.trans (by
        rw [Cert.FfnRefIdeal.Read.val_main_v92_eq, (hm c).1, (hm c).2.1, (hm c).2.2.1, (hm c).2.2.2.1, (hm c).2.2.2.2]
        funext i
        obtain ⟨r, n, rfl⟩ : ∃ (r : Fin 12288) (n : Fin 1024), i = ix2 r n := ⟨i 0, i 1, eq_ix2 i⟩
        exact Cert.FfnRefIdeal.Hand.out_apply _ _ _ _ _ r n), (h c).2⟩) (Cert.FfnRefIdeal.Value.run (F := Ideal) m' ρ')⟩

/-- The routed experts: the runs of the idealization and of the reference. -/
theorem expertIdeal_frame : Cert.quiescent_KernelIdeal := fun m ρ hP =>
  Cert.KernelIdeal.Hand.run_frame (F := Ideal) m ρ (Cert.KernelIdeal.Hand.ok_of_plan _ (Cert.KernelIdeal.Hand.plan_facts _ _ _ _ _ _ (hP 0)))

theorem expertRef_frame : Cert.quiescent_RefIdeal := fun m ρ _ =>
  (θ_run Cert.RefIdeal.defs _ _).mono
    (fun r h => ⟨fun c => (h c).2, sem_eq_zero_of_no_sems rfl r.2⟩) (Cert.RefIdeal.Value.run (F := Ideal) m ρ)

theorem expertRef_frame_plan : Cert.quiescent_RefIdeal_pre_plan := fun m ρ _ => expertRef_frame m ρ trivial

/-- The attention layer's projections: the runs, and the five results equal at every element. -/
theorem qkv_frame : Cert.quiescent_Qkv := fun m ρ _ => Cert.Qkv.Gen.frame (F := Bits) m ρ

theorem qkvIdeal_frame : Cert.quiescent_QkvIdeal := fun m ρ _ => Cert.QkvIdeal.Gen.frame (F := Ideal) m ρ

theorem qkvRef_frame : Cert.quiescent_QkvRefIdeal := fun m ρ _ =>
  (θ_run Cert.QkvRefIdeal.defs _ _).mono
    (fun r h => ⟨fun c => (h c).2.2.2.2.2, sem_eq_zero_of_no_sems rfl r.2⟩) (Cert.QkvRefIdeal.Value.run (F := Ideal) m ρ)

theorem qkv_algebraic : Cert.algebraic_QkvIdeal_QkvRefIdeal := fun m ρ m' ρ' _ hm =>
  ⟨Cert.QkvIdeal.Hand.qResult m, Cert.QkvIdeal.Hand.kResult m, Cert.QkvIdeal.Hand.vResult m, Cert.QkvIdeal.Hand.newK m,
    Cert.QkvIdeal.Hand.newV m, Cert.QkvIdeal.Hand.run m ρ,
    (θ_run Cert.QkvRefIdeal.defs _ _).mono
      (fun _ h c => ⟨(h c).1.trans (by
          rw [Cert.QkvRefIdeal.Read.val_main_v42_eq, (hm c).1, (hm c).2.1, (hm c).2.2.1, (hm c).2.2.2.1]
          funext i
          obtain ⟨r, n, rfl⟩ : ∃ (r : Fin 4096) (n : Fin 1024), i = ix2 r n := ⟨i 0, i 1, eq_ix2 i⟩
          exact Cert.QkvRefIdeal.Hand.q_apply _ _ _ _ r n),
        (h c).2.1.trans (by
          rw [Cert.QkvRefIdeal.Read.val_main_v46_eq, (hm c).1, (hm c).2.1, (hm c).2.2.1, (hm c).2.2.2.2]
          funext i
          obtain ⟨r, n, rfl⟩ : ∃ (r : Fin 4096) (n : Fin 1024), i = ix2 r n := ⟨i 0, i 1, eq_ix2 i⟩
          exact Cert.QkvRefIdeal.Hand.k_apply _ _ _ _ r n),
        (h c).2.2.1.trans (by
          rw [Cert.QkvRefIdeal.Read.val_main_v50_eq, (hm c).1, (hm c).2.1, (hm c).2.2.1, (hm c).2.2.2.2]
          funext i
          obtain ⟨r, n, rfl⟩ : ∃ (r : Fin 4096) (n : Fin 1024), i = ix2 r n := ⟨i 0, i 1, eq_ix2 i⟩
          exact Cert.QkvRefIdeal.Hand.v_apply _ _ _ _ r n),
        (h c).2.2.2.1.trans (by
          rw [Cert.QkvRefIdeal.Read.val_main_v51_eq, (hm c).1, (hm c).2.1, (hm c).2.2.1, (hm c).2.2.2.2]
          funext i
          obtain ⟨s, u, t, h, d, rfl⟩ : ∃ (s : Fin 16) (u : Fin 1) (t : Fin 256) (h : Fin 4) (d : Fin 64), i = ix5 s u t h d :=
            ⟨i 0, i 1, i 2, i 3, i 4, eq_ix5 i⟩
          obtain rfl : u = 0 := Subsingleton.elim _ _
          exact Cert.QkvRefIdeal.Hand.newK_apply _ _ _ _ s t h d),
        (h c).2.2.2.2.1.trans (by
          rw [Cert.QkvRefIdeal.Read.val_main_v52_eq, (hm c).1, (hm c).2.1, (hm c).2.2.1, (hm c).2.2.2.2]
          funext i
          obtain ⟨s, u, t, h, d, rfl⟩ : ∃ (s : Fin 16) (u : Fin 1) (t : Fin 256) (h : Fin 4) (d : Fin 64), i = ix5 s u t h d :=
            ⟨i 0, i 1, i 2, i 3, i 4, eq_ix5 i⟩
          obtain rfl : u = 0 := Subsingleton.elim _ _
          exact Cert.QkvRefIdeal.Hand.newV_apply _ _ _ _ s t h d), (h c).2.2.2.2.2⟩)
      (Cert.QkvRefIdeal.Value.run (F := Ideal) m' ρ')⟩

/-- Layer 2's dense block: each program's run, its arguments unchanged and its counters back at zero, and the two results
    equal at every element. -/
theorem ffn2_frame : Cert.quiescent_FfnTwo := fun m ρ _ => Cert.FfnTwo.Gen.frame (F := Bits) m ρ

theorem ffn2Ideal_frame : Cert.quiescent_FfnTwoIdeal := fun m ρ _ => Cert.FfnTwoIdeal.Gen.frame (F := Ideal) m ρ

theorem ffn2Ref_frame : Cert.quiescent_FfnTwoRefIdeal := fun m ρ _ =>
  (θ_run Cert.FfnTwoRefIdeal.defs _ _).mono
    (fun r h => ⟨fun c => (h c).2, sem_eq_zero_of_no_sems rfl r.2⟩) (Cert.FfnTwoRefIdeal.Value.run (F := Ideal) m ρ)

theorem ffn2_algebraic : Cert.algebraic_FfnTwoIdeal_FfnTwoRefIdeal := fun m ρ m' ρ' _ hm =>
  ⟨Cert.FfnTwoIdeal.Hand.result m,
    (θ_run Cert.FfnTwoIdeal.defs _ _).mono
      (fun _ h c => ⟨(h c).1.trans (Cert.FfnTwoIdeal.Hand.final m c), (h c).2⟩) (Cert.FfnTwoIdeal.Value.run_blocks (F := Ideal) m ρ),
    (θ_run Cert.FfnTwoRefIdeal.defs _ _).mono
      (fun _ h c => ⟨(h c).1.trans (by
        rw [Cert.FfnTwoRefIdeal.Read.val_main_v92_eq, (hm c).1, (hm c).2.1, (hm c).2.2.1, (hm c).2.2.2.1, (hm c).2.2.2.2]
        funext i
        obtain ⟨r, n, rfl⟩ : ∃ (r : Fin 12288) (n : Fin 1024), i = ix2 r n := ⟨i 0, i 1, eq_ix2 i⟩
        exact Cert.FfnTwoRefIdeal.Hand.out_apply _ _ _ _ _ r n), (h c).2⟩) (Cert.FfnTwoRefIdeal.Value.run (F := Ideal) m' ρ')⟩

/-- The last layer's routed experts: the runs of the idealization and of the reference. -/
theorem expert3Ideal_frame : Cert.quiescent_ExpertThreeIdeal := fun m ρ hP =>
  Cert.ExpertThreeIdeal.Hand.run_frame (F := Ideal) m ρ (Cert.ExpertThreeIdeal.Hand.ok_of_plan _ (Cert.KernelIdeal.Hand.plan_facts _ _ _ _ _ _ (hP 0)))

theorem expert3Ref_frame : Cert.quiescent_ExpertThreeRefIdeal := fun m ρ _ =>
  (θ_run Cert.ExpertThreeRefIdeal.defs _ _).mono
    (fun r h => ⟨fun c => (h c).2, sem_eq_zero_of_no_sems rfl r.2⟩) (Cert.ExpertThreeRefIdeal.Value.run (F := Ideal) m ρ)

theorem expert3Ref_frame_plan : Cert.quiescent_ExpertThreeRefIdeal_pre_plan := fun m ρ _ => expert3Ref_frame m ρ trivial

/-- The output projection of the attention layer: each program's run, its arguments unchanged and its counters back at zero, and the two results
    equal at every element. -/
theorem proj_frame : Cert.quiescent_Proj := fun m ρ _ => Cert.Proj.Gen.frame (F := Bits) m ρ

theorem projIdeal_frame : Cert.quiescent_ProjIdeal := fun m ρ _ => Cert.ProjIdeal.Gen.frame (F := Ideal) m ρ

theorem projRef_frame : Cert.quiescent_ProjRefIdeal := fun m ρ _ =>
  (θ_run Cert.ProjRefIdeal.defs _ _).mono
    (fun r h => ⟨fun c => (h c).2, sem_eq_zero_of_no_sems rfl r.2⟩) (Cert.ProjRefIdeal.Value.run (F := Ideal) m ρ)

theorem proj_algebraic : Cert.algebraic_ProjIdeal_ProjRefIdeal := fun m ρ m' ρ' _ hm =>
  ⟨Cert.ProjIdeal.Hand.result m,
    (θ_run Cert.ProjIdeal.defs _ _).mono
      (fun _ h c => ⟨(h c).1.trans (Cert.ProjIdeal.Hand.final m c), (h c).2⟩) (Cert.ProjIdeal.Value.run_blocks (F := Ideal) m ρ),
    (θ_run Cert.ProjRefIdeal.defs _ _).mono
      (fun _ h c => ⟨(h c).1.trans (by
        rw [Cert.ProjRefIdeal.Read.val_main_v38_eq, (hm c).1, (hm c).2.1, (hm c).2.2.1, (hm c).2.2.2.1, (hm c).2.2.2.2]
        funext i
        obtain ⟨r, n, rfl⟩ : ∃ (r : Fin 12288) (n : Fin 1024), i = ix2 r n := ⟨i 0, i 1, eq_ix2 i⟩
        exact Cert.ProjRefIdeal.Hand.out_apply _ _ _ _ _ r n), (h c).2⟩) (Cert.ProjRefIdeal.Value.run (F := Ideal) m' ρ')⟩

theorem claim : Cert.Claim := ⟨Cert.Kernel.Gen.facts, Cert.KernelIdeal.Gen.facts, Cert.RefIdeal.Gen.facts, Cert.Ffn.Gen.facts, Cert.FfnIdeal.Gen.facts, Cert.FfnRefIdeal.Gen.facts,
  Cert.Qkv.Gen.facts, Cert.QkvIdeal.Gen.facts, Cert.QkvRefIdeal.Gen.facts,
  Cert.FfnTwo.Gen.facts, Cert.FfnTwoIdeal.Gen.facts, Cert.FfnTwoRefIdeal.Gen.facts, Cert.ExpertThree.Gen.facts,
  Cert.ExpertThreeIdeal.Gen.facts, Cert.ExpertThreeRefIdeal.Gen.facts,
  Cert.Proj.Gen.facts, Cert.ProjIdeal.Gen.facts, Cert.ProjRefIdeal.Gen.facts,
  Cert.Pre_plan.Gen.facts, Cert.On_token_rows.Gen.facts,
  expert_frame, expertIdeal_frame, expertRef_frame, expertRef_frame_plan, ffn_frame, ffnIdeal_frame, ffnRef_frame,
  qkv_frame, qkvIdeal_frame, qkvRef_frame, ffn2_frame, ffn2Ideal_frame, ffn2Ref_frame, expert3_frame, expert3Ideal_frame, expert3Ref_frame,
  expert3Ref_frame_plan, proj_frame, projIdeal_frame, projRef_frame, trivial, expert_algebraic, trivial, ffn_algebraic, trivial, qkv_algebraic,
  trivial, ffn2_algebraic, trivial, expert3_algebraic, trivial, proj_algebraic⟩

end Cert.Proof

end
